-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_weights_finite [hPre_weights_finite : Cert.Pre_weights_finite.Facts] (m : (ℓ : Loc Cert.ProjIdeal.nD Cert.ProjIdeal.τ Cert.ProjIdeal.sig) → Buf (Elt Ideal) ℓ) : Prop :=
  ∀ c : Dev Cert.ProjIdeal.nD,
    (Cert.Pre_weights_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_weights_finite [hPre_weights_finite : Cert.Pre_weights_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_weights_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSIdeal_sample_weights_finite [hPre_sample_weights_finite : Cert.Pre_sample_weights_finite.Facts] (m : (ℓ : Loc Cert.ProjSIdeal.nD Cert.ProjSIdeal.τ Cert.ProjSIdeal.sig) → Buf (Elt Ideal) ℓ) : Prop :=
  ∀ c : Dev Cert.ProjSIdeal.nD,
    (Cert.Pre_sample_weights_finite.fn (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)) (m ((c.tc : Thread Cert.ProjSIdeal.nD Cert.ProjSIdeal.τ).loc Cert.ProjSIdeal.main_arg3)) (m ((c.tc : Thread Cert.ProjSIdeal.nD Cert.ProjSIdeal.τ).loc Cert.ProjSIdeal.main_arg4))) = (fun _ => 1#1)

def Pre_ProjSRefIdeal (m : (ℓ : Loc Cert.ProjSRefIdeal.nD Cert.ProjSRefIdeal.τ Cert.ProjSRefIdeal.sig) → Buf (Elt Ideal) ℓ) : Prop :=
  True

def Pre_ProjSRefIdeal_sample_weights_finite [hPre_sample_weights_finite : Cert.Pre_sample_weights_finite.Facts] (m : (ℓ : Loc Cert.ProjSRefIdeal.nD Cert.ProjSRefIdeal.τ Cert.ProjSRefIdeal.sig) → Buf (Elt Ideal) ℓ) : Prop :=
  ∀ c : Dev Cert.ProjSRefIdeal.nD,
    (Cert.Pre_sample_weights_finite.fn (F := Ideal) (m ((c.tc : Thread Cert.ProjSRefIdeal.nD Cert.ProjSRefIdeal.τ).loc Cert.ProjSRefIdeal.main_arg0)) (m ((c.tc : Thread Cert.ProjSRefIdeal.nD Cert.ProjSRefIdeal.τ).loc Cert.ProjSRefIdeal.main_arg1)) (m ((c.tc : Thread Cert.ProjSRefIdeal.nD Cert.ProjSRefIdeal.τ).loc Cert.ProjSRefIdeal.main_arg2)) (m ((c.tc : Thread Cert.ProjSRefIdeal.nD Cert.ProjSRefIdeal.τ).loc Cert.ProjSRefIdeal.main_arg3)) (m ((c.tc : Thread Cert.ProjSRefIdeal.nD Cert.ProjSRefIdeal.τ).loc Cert.ProjSRefIdeal.main_arg4))) = (fun _ => 1#1)

def Pre_ScanS (m : (ℓ : Loc Cert.ScanS.nD Cert.ScanS.τ Cert.ScanS.sig) → Buf (Elt Bits) ℓ) : Prop :=
  True

def Pre_ScanSIdeal (m : (ℓ : Loc Cert.ScanSIdeal.nD Cert.ScanSIdeal.τ Cert.ScanSIdeal.sig) → Buf (Elt Ideal) ℓ) : Prop :=
  True

def Pre_ScanSRefIdeal (m : (ℓ : Loc Cert.ScanSRefIdeal.nD Cert.ScanSRefIdeal.τ Cert.ScanSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_weights_finite [hProjIdeal : Cert.ProjIdeal.Facts] [hPre_weights_finite : Cert.Pre_weights_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_weights_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_weights_finite [hProjRefIdeal : Cert.ProjRefIdeal.Facts] [hPre_weights_finite : Cert.Pre_weights_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_weights_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ r.2.sem = fun _ => 0)

def quiescent_ProjSIdeal_pre_sample_weights_finite [hProjSIdeal : Cert.ProjSIdeal.Facts] [hPre_sample_weights_finite : Cert.Pre_sample_weights_finite.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal_sample_weights_finite m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4))
      ∧ r.2.sem = fun _ => 0)

def quiescent_ProjSRefIdeal_pre_sample_weights_finite [hProjSRefIdeal : Cert.ProjSRefIdeal.Facts] [hPre_sample_weights_finite : Cert.Pre_sample_weights_finite.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal_sample_weights_finite m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4))
      ∧ r.2.sem = fun _ => 0)

def quiescent_ScanS [hScanS : Cert.ScanS.Facts] : Prop :=
  ∀ (m : (ℓ : Loc Cert.ScanS.nD Cert.ScanS.τ Cert.ScanS.sig) → Buf (Elt Bits) ℓ) (g : Dev Cert.ScanS.nD → PrngReg), Pre_ScanS m →
    θ_run (Cert.ScanS.defs (F := Bits)) (onTc (τ := Cert.ScanS.τ) (Cert.ScanS.main (F := Bits))) ⟨m, fun _ => 0, g⟩ (fun r => (∀ c : Dev Cert.ScanS.nD,
      r.2.mem ((c.tc : Thread Cert.ScanS.nD Cert.ScanS.τ).loc Cert.ScanS.main_arg0) = m ((c.tc : Thread Cert.ScanS.nD Cert.ScanS.τ).loc Cert.ScanS.main_arg0)
      ∧ r.2.mem ((c.tc : Thread Cert.ScanS.nD Cert.ScanS.τ).loc Cert.ScanS.main_arg1) = m ((c.tc : Thread Cert.ScanS.nD Cert.ScanS.τ).loc Cert.ScanS.main_arg1)
      ∧ r.2.mem ((c.tc : Thread Cert.ScanS.nD Cert.ScanS.τ).loc Cert.ScanS.main_arg2) = m ((c.tc : Thread Cert.ScanS.nD Cert.ScanS.τ).loc Cert.ScanS.main_arg2)
      ∧ r.2.mem ((c.tc : Thread Cert.ScanS.nD Cert.ScanS.τ).loc Cert.ScanS.main_arg3) = m ((c.tc : Thread Cert.ScanS.nD Cert.ScanS.τ).loc Cert.ScanS.main_arg3)
      ∧ r.2.mem ((c.tc : Thread Cert.ScanS.nD Cert.ScanS.τ).loc Cert.ScanS.main_arg4) = m ((c.tc : Thread Cert.ScanS.nD Cert.ScanS.τ).loc Cert.ScanS.main_arg4)
      ∧ r.2.mem ((c.tc : Thread Cert.ScanS.nD Cert.ScanS.τ).loc Cert.ScanS.main_arg5) = m ((c.tc : Thread Cert.ScanS.nD Cert.ScanS.τ).loc Cert.ScanS.main_arg5)
      ∧ r.2.mem ((c.tc : Thread Cert.ScanS.nD Cert.ScanS.τ).loc Cert.ScanS.main_arg6) = m ((c.tc : Thread Cert.ScanS.nD Cert.ScanS.τ).loc Cert.ScanS.main_arg6)
      ∧ r.2.mem ((c.tc : Thread Cert.ScanS.nD Cert.ScanS.τ).loc Cert.ScanS.main_arg7) = m ((c.tc : Thread Cert.ScanS.nD Cert.ScanS.τ).loc Cert.ScanS.main_arg7)
      ∧ r.2.mem ((c.tc : Thread Cert.ScanS.nD Cert.ScanS.τ).loc Cert.ScanS.main_arg8) = m ((c.tc : Thread Cert.ScanS.nD Cert.ScanS.τ).loc Cert.ScanS.main_arg8)
      ∧ r.2.mem ((c.tc : Thread Cert.ScanS.nD Cert.ScanS.τ).loc Cert.ScanS.main_arg9) = m ((c.tc : Thread Cert.ScanS.nD Cert.ScanS.τ).loc Cert.ScanS.main_arg9)
      ∧ r.2.mem ((c.tc : Thread Cert.ScanS.nD Cert.ScanS.τ).loc Cert.ScanS.main_arg10) = m ((c.tc : Thread Cert.ScanS.nD Cert.ScanS.τ).loc Cert.ScanS.main_arg10)
      ∧ r.2.mem ((c.tc : Thread Cert.ScanS.nD Cert.ScanS.τ).loc Cert.ScanS.main_arg11) = m ((c.tc : Thread Cert.ScanS.nD Cert.ScanS.τ).loc Cert.ScanS.main_arg11)
      ∧ r.2.mem ((c.tc : Thread Cert.ScanS.nD Cert.ScanS.τ).loc Cert.ScanS.main_arg12) = m ((c.tc : Thread Cert.ScanS.nD Cert.ScanS.τ).loc Cert.ScanS.main_arg12))
      ∧ r.2.sem = fun _ => 0)

def quiescent_ScanSIdeal [hScanSIdeal : Cert.ScanSIdeal.Facts] : Prop :=
  ∀ (m : (ℓ : Loc Cert.ScanSIdeal.nD Cert.ScanSIdeal.τ Cert.ScanSIdeal.sig) → Buf (Elt Ideal) ℓ) (g : Dev Cert.ScanSIdeal.nD → PrngReg), Pre_ScanSIdeal m →
    θ_run (Cert.ScanSIdeal.defs (F := Ideal)) (onTc (τ := Cert.ScanSIdeal.τ) (Cert.ScanSIdeal.main (F := Ideal))) ⟨m, fun _ => 0, g⟩ (fun r => (∀ c : Dev Cert.ScanSIdeal.nD,
      r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
      ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
      ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2)
      ∧ r.2.mem ((c.tc : Thread Cert.ScanSIdeal.nD Cert.ScanSIdeal.τ).loc Cert.ScanSIdeal.main_arg3) = m ((c.tc : Thread Cert.ScanSIdeal.nD Cert.ScanSIdeal.τ).loc Cert.ScanSIdeal.main_arg3)
      ∧ r.2.mem ((c.tc : Thread Cert.ScanSIdeal.nD Cert.ScanSIdeal.τ).loc Cert.ScanSIdeal.main_arg4) = m ((c.tc : Thread Cert.ScanSIdeal.nD Cert.ScanSIdeal.τ).loc Cert.ScanSIdeal.main_arg4)
      ∧ r.2.mem ((c.tc : Thread Cert.ScanSIdeal.nD Cert.ScanSIdeal.τ).loc Cert.ScanSIdeal.main_arg5) = m ((c.tc : Thread Cert.ScanSIdeal.nD Cert.ScanSIdeal.τ).loc Cert.ScanSIdeal.main_arg5)
      ∧ r.2.mem ((c.tc : Thread Cert.ScanSIdeal.nD Cert.ScanSIdeal.τ).loc Cert.ScanSIdeal.main_arg6) = m ((c.tc : Thread Cert.ScanSIdeal.nD Cert.ScanSIdeal.τ).loc Cert.ScanSIdeal.main_arg6)
      ∧ r.2.mem ((c.tc : Thread Cert.ScanSIdeal.nD Cert.ScanSIdeal.τ).loc Cert.ScanSIdeal.main_arg7) = m ((c.tc : Thread Cert.ScanSIdeal.nD Cert.ScanSIdeal.τ).loc Cert.ScanSIdeal.main_arg7)
      ∧ r.2.mem ((c.tc : Thread Cert.ScanSIdeal.nD Cert.ScanSIdeal.τ).loc Cert.ScanSIdeal.main_arg8) = m ((c.tc : Thread Cert.ScanSIdeal.nD Cert.ScanSIdeal.τ).loc Cert.ScanSIdeal.main_arg8)
      ∧ r.2.mem ((c.tc : Thread Cert.ScanSIdeal.nD Cert.ScanSIdeal.τ).loc Cert.ScanSIdeal.main_arg9) = m ((c.tc : Thread Cert.ScanSIdeal.nD Cert.ScanSIdeal.τ).loc Cert.ScanSIdeal.main_arg9)
      ∧ r.2.mem ((c.tc : Thread Cert.ScanSIdeal.nD Cert.ScanSIdeal.τ).loc Cert.ScanSIdeal.main_arg10) = m ((c.tc : Thread Cert.ScanSIdeal.nD Cert.ScanSIdeal.τ).loc Cert.ScanSIdeal.main_arg10)
      ∧ r.2.mem ((c.tc : Thread Cert.ScanSIdeal.nD Cert.ScanSIdeal.τ).loc Cert.ScanSIdeal.main_arg11) = m ((c.tc : Thread Cert.ScanSIdeal.nD Cert.ScanSIdeal.τ).loc Cert.ScanSIdeal.main_arg11)
      ∧ r.2.mem ((c.tc : Thread Cert.ScanSIdeal.nD Cert.ScanSIdeal.τ).loc Cert.ScanSIdeal.main_arg12) = m ((c.tc : Thread Cert.ScanSIdeal.nD Cert.ScanSIdeal.τ).loc Cert.ScanSIdeal.main_arg12))
      ∧ r.2.sem = fun _ => 0)

def quiescent_ScanSRefIdeal [hScanSRefIdeal : Cert.ScanSRefIdeal.Facts] : Prop :=
  ∀ (m : (ℓ : Loc Cert.ScanSRefIdeal.nD Cert.ScanSRefIdeal.τ Cert.ScanSRefIdeal.sig) → Buf (Elt Ideal) ℓ) (g : Dev Cert.ScanSRefIdeal.nD → PrngReg), Pre_ScanSRefIdeal m →
    θ_run (Cert.ScanSRefIdeal.defs (F := Ideal)) (onTc (τ := Cert.ScanSRefIdeal.τ) (Cert.ScanSRefIdeal.main (F := Ideal))) ⟨m, fun _ => 0, g⟩ (fun r => (∀ c : Dev Cert.ScanSRefIdeal.nD,
      r.2.mem ((c.tc : Thread Cert.ScanSRefIdeal.nD Cert.ScanSRefIdeal.τ).loc Cert.ScanSRefIdeal.main_arg0) = m ((c.tc : Thread Cert.ScanSRefIdeal.nD Cert.ScanSRefIdeal.τ).loc Cert.ScanSRefIdeal.main_arg0)
      ∧ r.2.mem ((c.tc : Thread Cert.ScanSRefIdeal.nD Cert.ScanSRefIdeal.τ).loc Cert.ScanSRefIdeal.main_arg1) = m ((c.tc : Thread Cert.ScanSRefIdeal.nD Cert.ScanSRefIdeal.τ).loc Cert.ScanSRefIdeal.main_arg1)
      ∧ r.2.mem ((c.tc : Thread Cert.ScanSRefIdeal.nD Cert.ScanSRefIdeal.τ).loc Cert.ScanSRefIdeal.main_arg2) = m ((c.tc : Thread Cert.ScanSRefIdeal.nD Cert.ScanSRefIdeal.τ).loc Cert.ScanSRefIdeal.main_arg2)
      ∧ r.2.mem ((c.tc : Thread Cert.ScanSRefIdeal.nD Cert.ScanSRefIdeal.τ).loc Cert.ScanSRefIdeal.main_arg3) = m ((c.tc : Thread Cert.ScanSRefIdeal.nD Cert.ScanSRefIdeal.τ).loc Cert.ScanSRefIdeal.main_arg3)
      ∧ r.2.mem ((c.tc : Thread Cert.ScanSRefIdeal.nD Cert.ScanSRefIdeal.τ).loc Cert.ScanSRefIdeal.main_arg4) = m ((c.tc : Thread Cert.ScanSRefIdeal.nD Cert.ScanSRefIdeal.τ).loc Cert.ScanSRefIdeal.main_arg4)
      ∧ r.2.mem ((c.tc : Thread Cert.ScanSRefIdeal.nD Cert.ScanSRefIdeal.τ).loc Cert.ScanSRefIdeal.main_arg5) = m ((c.tc : Thread Cert.ScanSRefIdeal.nD Cert.ScanSRefIdeal.τ).loc Cert.ScanSRefIdeal.main_arg5)
      ∧ r.2.mem ((c.tc : Thread Cert.ScanSRefIdeal.nD Cert.ScanSRefIdeal.τ).loc Cert.ScanSRefIdeal.main_arg6) = m ((c.tc : Thread Cert.ScanSRefIdeal.nD Cert.ScanSRefIdeal.τ).loc Cert.ScanSRefIdeal.main_arg6)
      ∧ r.2.mem ((c.tc : Thread Cert.ScanSRefIdeal.nD Cert.ScanSRefIdeal.τ).loc Cert.ScanSRefIdeal.main_arg7) = m ((c.tc : Thread Cert.ScanSRefIdeal.nD Cert.ScanSRefIdeal.τ).loc Cert.ScanSRefIdeal.main_arg7)
      ∧ r.2.mem ((c.tc : Thread Cert.ScanSRefIdeal.nD Cert.ScanSRefIdeal.τ).loc Cert.ScanSRefIdeal.main_arg8) = m ((c.tc : Thread Cert.ScanSRefIdeal.nD Cert.ScanSRefIdeal.τ).loc Cert.ScanSRefIdeal.main_arg8)
      ∧ r.2.mem ((c.tc : Thread Cert.ScanSRefIdeal.nD Cert.ScanSRefIdeal.τ).loc Cert.ScanSRefIdeal.main_arg9) = m ((c.tc : Thread Cert.ScanSRefIdeal.nD Cert.ScanSRefIdeal.τ).loc Cert.ScanSRefIdeal.main_arg9)
      ∧ r.2.mem ((c.tc : Thread Cert.ScanSRefIdeal.nD Cert.ScanSRefIdeal.τ).loc Cert.ScanSRefIdeal.main_arg10) = m ((c.tc : Thread Cert.ScanSRefIdeal.nD Cert.ScanSRefIdeal.τ).loc Cert.ScanSRefIdeal.main_arg10)
      ∧ r.2.mem ((c.tc : Thread Cert.ScanSRefIdeal.nD Cert.ScanSRefIdeal.τ).loc Cert.ScanSRefIdeal.main_arg11) = m ((c.tc : Thread Cert.ScanSRefIdeal.nD Cert.ScanSRefIdeal.τ).loc Cert.ScanSRefIdeal.main_arg11)
      ∧ r.2.mem ((c.tc : Thread Cert.ScanSRefIdeal.nD Cert.ScanSRefIdeal.τ).loc Cert.ScanSRefIdeal.main_arg12) = m ((c.tc : Thread Cert.ScanSRefIdeal.nD Cert.ScanSRefIdeal.τ).loc Cert.ScanSRefIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)) (v2 : (c : Dev Cert.KernelIdeal.nD) → Buf (Elt Ideal) ((c.tc : Thread Cert.KernelIdeal.nD Cert.KernelIdeal.τ).loc Cert.KernelIdeal.main_v91_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_v91_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Proj_ProjIdeal : Prop :=
  True

def algebraic_ProjIdeal_ProjRefIdeal_pre_weights_finite [hProjIdeal : Cert.ProjIdeal.Facts] [hProjRefIdeal : Cert.ProjRefIdeal.Facts] [hPre_weights_finite : Cert.Pre_weights_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_weights_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v24_0)) (v1 : (c : Dev Cert.ProjIdeal.nD) → Buf (Elt Ideal) ((c.tc : Thread Cert.ProjIdeal.nD Cert.ProjIdeal.τ).loc Cert.ProjIdeal.main_v24_1)) (v2 : (c : Dev Cert.ProjIdeal.nD) → Buf (Elt Ideal) ((c.tc : Thread Cert.ProjIdeal.nD Cert.ProjIdeal.τ).loc Cert.ProjIdeal.main_v24_2)) (v3 : (c : Dev Cert.ProjIdeal.nD) → Buf (Elt Ideal) ((c.tc : Thread Cert.ProjIdeal.nD Cert.ProjIdeal.τ).loc Cert.ProjIdeal.main_v24_3)) (v4 : (c : Dev Cert.ProjIdeal.nD) → Buf (Elt Ideal) ((c.tc : Thread Cert.ProjIdeal.nD Cert.ProjIdeal.τ).loc Cert.ProjIdeal.main_v24_4)) (v5 : (c : Dev Cert.ProjIdeal.nD) → Buf (Elt Ideal) ((c.tc : Thread Cert.ProjIdeal.nD Cert.ProjIdeal.τ).loc Cert.ProjIdeal.main_v24_5)) (v6 : (c : Dev Cert.ProjIdeal.nD) → Buf (Elt Ideal) ((c.tc : Thread Cert.ProjIdeal.nD Cert.ProjIdeal.τ).loc Cert.ProjIdeal.main_v24_6)) (v7 : (c : Dev Cert.ProjIdeal.nD) → Buf (Elt Ideal) ((c.tc : Thread Cert.ProjIdeal.nD Cert.ProjIdeal.τ).loc Cert.ProjIdeal.main_v24_7)) (v8 : (c : Dev Cert.ProjIdeal.nD) → Buf (Elt Ideal) ((c.tc : Thread Cert.ProjIdeal.nD Cert.ProjIdeal.τ).loc Cert.ProjIdeal.main_v24_8)) (v9 : (c : Dev Cert.ProjIdeal.nD) → Buf (Elt Ideal) ((c.tc : Thread Cert.ProjIdeal.nD Cert.ProjIdeal.τ).loc Cert.ProjIdeal.main_v24_9)) (v10 : (c : Dev Cert.ProjIdeal.nD) → Buf (Elt Ideal) ((c.tc : Thread Cert.ProjIdeal.nD Cert.ProjIdeal.τ).loc Cert.ProjIdeal.main_v24_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24_0) = v0 c
          ∧ r.2.mem ((c.tc : Thread Cert.ProjIdeal.nD Cert.ProjIdeal.τ).loc Cert.ProjIdeal.main_v24_1) = v1 c
          ∧ r.2.mem ((c.tc : Thread Cert.ProjIdeal.nD Cert.ProjIdeal.τ).loc Cert.ProjIdeal.main_v24_2) = v2 c
          ∧ r.2.mem ((c.tc : Thread Cert.ProjIdeal.nD Cert.ProjIdeal.τ).loc Cert.ProjIdeal.main_v24_3) = v3 c
          ∧ r.2.mem ((c.tc : Thread Cert.ProjIdeal.nD Cert.ProjIdeal.τ).loc Cert.ProjIdeal.main_v24_4) = v4 c
          ∧ r.2.mem ((c.tc : Thread Cert.ProjIdeal.nD Cert.ProjIdeal.τ).loc Cert.ProjIdeal.main_v24_5) = v5 c
          ∧ r.2.mem ((c.tc : Thread Cert.ProjIdeal.nD Cert.ProjIdeal.τ).loc Cert.ProjIdeal.main_v24_6) = v6 c
          ∧ r.2.mem ((c.tc : Thread Cert.ProjIdeal.nD Cert.ProjIdeal.τ).loc Cert.ProjIdeal.main_v24_7) = v7 c
          ∧ r.2.mem ((c.tc : Thread Cert.ProjIdeal.nD Cert.ProjIdeal.τ).loc Cert.ProjIdeal.main_v24_8) = v8 c
          ∧ r.2.mem ((c.tc : Thread Cert.ProjIdeal.nD Cert.ProjIdeal.τ).loc Cert.ProjIdeal.main_v24_9) = v9 c
          ∧ r.2.mem ((c.tc : Thread Cert.ProjIdeal.nD Cert.ProjIdeal.τ).loc Cert.ProjIdeal.main_v24_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v53) = v0 c
          ∧ r.2.mem ((c.tc : Thread Cert.ProjRefIdeal.nD Cert.ProjRefIdeal.τ).loc Cert.ProjRefIdeal.main_v54) = v1 c
          ∧ r.2.mem ((c.tc : Thread Cert.ProjRefIdeal.nD Cert.ProjRefIdeal.τ).loc Cert.ProjRefIdeal.main_v55) = v2 c
          ∧ r.2.mem ((c.tc : Thread Cert.ProjRefIdeal.nD Cert.ProjRefIdeal.τ).loc Cert.ProjRefIdeal.main_v56) = v3 c
          ∧ r.2.mem ((c.tc : Thread Cert.ProjRefIdeal.nD Cert.ProjRefIdeal.τ).loc Cert.ProjRefIdeal.main_v57) = v4 c
          ∧ r.2.mem ((c.tc : Thread Cert.ProjRefIdeal.nD Cert.ProjRefIdeal.τ).loc Cert.ProjRefIdeal.main_v58) = v5 c
          ∧ r.2.mem ((c.tc : Thread Cert.ProjRefIdeal.nD Cert.ProjRefIdeal.τ).loc Cert.ProjRefIdeal.main_v62) = v6 c
          ∧ r.2.mem ((c.tc : Thread Cert.ProjRefIdeal.nD Cert.ProjRefIdeal.τ).loc Cert.ProjRefIdeal.main_v64) = v7 c
          ∧ r.2.mem ((c.tc : Thread Cert.ProjRefIdeal.nD Cert.ProjRefIdeal.τ).loc Cert.ProjRefIdeal.main_v66) = v8 c
          ∧ r.2.mem ((c.tc : Thread Cert.ProjRefIdeal.nD Cert.ProjRefIdeal.τ).loc Cert.ProjRefIdeal.main_v70) = v9 c
          ∧ r.2.mem ((c.tc : Thread Cert.ProjRefIdeal.nD Cert.ProjRefIdeal.τ).loc Cert.ProjRefIdeal.main_v72) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v7) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)) →
    ∃ (v0 : (c : Dev Cert.MergeSIdeal.nD) → Buf (Elt Ideal) ((c.tc : Thread Cert.MergeSIdeal.nD Cert.MergeSIdeal.τ).loc Cert.MergeSIdeal.main_v9)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v9) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v7) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5))

def preserves_ProjS_ProjSIdeal : Prop :=
  True

def algebraic_ProjSIdeal_ProjSRefIdeal_pre_sample_weights_finite [hProjSIdeal : Cert.ProjSIdeal.Facts] [hProjSRefIdeal : Cert.ProjSRefIdeal.Facts] [hPre_sample_weights_finite : Cert.Pre_sample_weights_finite.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal_sample_weights_finite m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)) →
    ∃ (v0 : (c : Dev Cert.ProjSIdeal.nD) → Buf (Elt Ideal) ((c.tc : Thread Cert.ProjSIdeal.nD Cert.ProjSIdeal.τ).loc Cert.ProjSIdeal.main_v27_0)) (v1 : (c : Dev Cert.ProjSIdeal.nD) → Buf (Elt Ideal) ((c.tc : Thread Cert.ProjSIdeal.nD Cert.ProjSIdeal.τ).loc Cert.ProjSIdeal.main_v27_1)) (v2 : (c : Dev Cert.ProjSIdeal.nD) → Buf (Elt Ideal) ((c.tc : Thread Cert.ProjSIdeal.nD Cert.ProjSIdeal.τ).loc Cert.ProjSIdeal.main_v27_2)) (v3 : (c : Dev Cert.ProjSIdeal.nD) → Buf (Elt Ideal) ((c.tc : Thread Cert.ProjSIdeal.nD Cert.ProjSIdeal.τ).loc Cert.ProjSIdeal.main_v27_3)) (v4 : (c : Dev Cert.ProjSIdeal.nD) → Buf (Elt Ideal) ((c.tc : Thread Cert.ProjSIdeal.nD Cert.ProjSIdeal.τ).loc Cert.ProjSIdeal.main_v27_4)) (v5 : (c : Dev Cert.ProjSIdeal.nD) → Buf (Elt Ideal) ((c.tc : Thread Cert.ProjSIdeal.nD Cert.ProjSIdeal.τ).loc Cert.ProjSIdeal.main_v27_5)) (v6 : (c : Dev Cert.ProjSIdeal.nD) → Buf (Elt Ideal) ((c.tc : Thread Cert.ProjSIdeal.nD Cert.ProjSIdeal.τ).loc Cert.ProjSIdeal.main_v27_6)) (v7 : (c : Dev Cert.ProjSIdeal.nD) → Buf (Elt Ideal) ((c.tc : Thread Cert.ProjSIdeal.nD Cert.ProjSIdeal.τ).loc Cert.ProjSIdeal.main_v27_7)) (v8 : (c : Dev Cert.ProjSIdeal.nD) → Buf (Elt Ideal) ((c.tc : Thread Cert.ProjSIdeal.nD Cert.ProjSIdeal.τ).loc Cert.ProjSIdeal.main_v27_8)) (v9 : (c : Dev Cert.ProjSIdeal.nD) → Buf (Elt Ideal) ((c.tc : Thread Cert.ProjSIdeal.nD Cert.ProjSIdeal.τ).loc Cert.ProjSIdeal.main_v27_9)) (v10 : (c : Dev Cert.ProjSIdeal.nD) → Buf (Elt Ideal) ((c.tc : Thread Cert.ProjSIdeal.nD Cert.ProjSIdeal.τ).loc Cert.ProjSIdeal.main_v27_10)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v27_0) = v0 c
          ∧ r.2.mem ((c.tc : Thread Cert.ProjSIdeal.nD Cert.ProjSIdeal.τ).loc Cert.ProjSIdeal.main_v27_1) = v1 c
          ∧ r.2.mem ((c.tc : Thread Cert.ProjSIdeal.nD Cert.ProjSIdeal.τ).loc Cert.ProjSIdeal.main_v27_2) = v2 c
          ∧ r.2.mem ((c.tc : Thread Cert.ProjSIdeal.nD Cert.ProjSIdeal.τ).loc Cert.ProjSIdeal.main_v27_3) = v3 c
          ∧ r.2.mem ((c.tc : Thread Cert.ProjSIdeal.nD Cert.ProjSIdeal.τ).loc Cert.ProjSIdeal.main_v27_4) = v4 c
          ∧ r.2.mem ((c.tc : Thread Cert.ProjSIdeal.nD Cert.ProjSIdeal.τ).loc Cert.ProjSIdeal.main_v27_5) = v5 c
          ∧ r.2.mem ((c.tc : Thread Cert.ProjSIdeal.nD Cert.ProjSIdeal.τ).loc Cert.ProjSIdeal.main_v27_6) = v6 c
          ∧ r.2.mem ((c.tc : Thread Cert.ProjSIdeal.nD Cert.ProjSIdeal.τ).loc Cert.ProjSIdeal.main_v27_7) = v7 c
          ∧ r.2.mem ((c.tc : Thread Cert.ProjSIdeal.nD Cert.ProjSIdeal.τ).loc Cert.ProjSIdeal.main_v27_8) = v8 c
          ∧ r.2.mem ((c.tc : Thread Cert.ProjSIdeal.nD Cert.ProjSIdeal.τ).loc Cert.ProjSIdeal.main_v27_9) = v9 c
          ∧ r.2.mem ((c.tc : Thread Cert.ProjSIdeal.nD Cert.ProjSIdeal.τ).loc Cert.ProjSIdeal.main_v27_10) = v10 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v53) = v0 c
          ∧ r.2.mem ((c.tc : Thread Cert.ProjSRefIdeal.nD Cert.ProjSRefIdeal.τ).loc Cert.ProjSRefIdeal.main_v54) = v1 c
          ∧ r.2.mem ((c.tc : Thread Cert.ProjSRefIdeal.nD Cert.ProjSRefIdeal.τ).loc Cert.ProjSRefIdeal.main_v55) = v2 c
          ∧ r.2.mem ((c.tc : Thread Cert.ProjSRefIdeal.nD Cert.ProjSRefIdeal.τ).loc Cert.ProjSRefIdeal.main_v56) = v3 c
          ∧ r.2.mem ((c.tc : Thread Cert.ProjSRefIdeal.nD Cert.ProjSRefIdeal.τ).loc Cert.ProjSRefIdeal.main_v57) = v4 c
          ∧ r.2.mem ((c.tc : Thread Cert.ProjSRefIdeal.nD Cert.ProjSRefIdeal.τ).loc Cert.ProjSRefIdeal.main_v58) = v5 c
          ∧ r.2.mem ((c.tc : Thread Cert.ProjSRefIdeal.nD Cert.ProjSRefIdeal.τ).loc Cert.ProjSRefIdeal.main_v62) = v6 c
          ∧ r.2.mem ((c.tc : Thread Cert.ProjSRefIdeal.nD Cert.ProjSRefIdeal.τ).loc Cert.ProjSRefIdeal.main_v64) = v7 c
          ∧ r.2.mem ((c.tc : Thread Cert.ProjSRefIdeal.nD Cert.ProjSRefIdeal.τ).loc Cert.ProjSRefIdeal.main_v66) = v8 c
          ∧ r.2.mem ((c.tc : Thread Cert.ProjSRefIdeal.nD Cert.ProjSRefIdeal.τ).loc Cert.ProjSRefIdeal.main_v70) = v9 c
          ∧ r.2.mem ((c.tc : Thread Cert.ProjSRefIdeal.nD Cert.ProjSRefIdeal.τ).loc Cert.ProjSRefIdeal.main_v72) = v10 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4))

def preserves_ScanS_ScanSIdeal : Prop :=
  True

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMergeS : Cert.MergeS.Facts) (hMergeSIdeal : Cert.MergeSIdeal.Facts) (hMergeSRefIdeal : Cert.MergeSRefIdeal.Facts) (hProjS : Cert.ProjS.Facts) (hProjSIdeal : Cert.ProjSIdeal.Facts) (hProjSRefIdeal : Cert.ProjSRefIdeal.Facts) (hScanS : Cert.ScanS.Facts) (hScanSIdeal : Cert.ScanSIdeal.Facts) (hScanSRefIdeal : Cert.ScanSRefIdeal.Facts) (hPre_weights_finite : Cert.Pre_weights_finite.Facts) (hPre_sample_weights_finite : Cert.Pre_sample_weights_finite.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjIdeal_pre_weights_finite (hProjIdeal := hProjIdeal) (hPre_weights_finite := hPre_weights_finite)
    ∧ quiescent_ProjRefIdeal (hProjRefIdeal := hProjRefIdeal)
    ∧ quiescent_ProjRefIdeal_pre_weights_finite (hProjRefIdeal := hProjRefIdeal) (hPre_weights_finite := hPre_weights_finite)
    ∧ quiescent_Merge (hMerge := hMerge)
    ∧ quiescent_MergeIdeal (hMergeIdeal := hMergeIdeal)
    ∧ quiescent_MergeRefIdeal (hMergeRefIdeal := hMergeRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_ProjS (hProjS := hProjS)
    ∧ quiescent_ProjSIdeal (hProjSIdeal := hProjSIdeal)
    ∧ quiescent_ProjSIdeal_pre_sample_weights_finite (hProjSIdeal := hProjSIdeal) (hPre_sample_weights_finite := hPre_sample_weights_finite)
    ∧ quiescent_ProjSRefIdeal (hProjSRefIdeal := hProjSRefIdeal)
    ∧ quiescent_ProjSRefIdeal_pre_sample_weights_finite (hProjSRefIdeal := hProjSRefIdeal) (hPre_sample_weights_finite := hPre_sample_weights_finite)
    ∧ quiescent_ScanS (hScanS := hScanS)
    ∧ quiescent_ScanSIdeal (hScanSIdeal := hScanSIdeal)
    ∧ quiescent_ScanSRefIdeal (hScanSRefIdeal := hScanSRefIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal_pre_weights_finite (hProjIdeal := hProjIdeal) (hProjRefIdeal := hProjRefIdeal) (hPre_weights_finite := hPre_weights_finite)
    ∧ preserves_Merge_MergeIdeal
    ∧ algebraic_MergeIdeal_MergeRefIdeal (hMergeIdeal := hMergeIdeal) (hMergeRefIdeal := hMergeRefIdeal)
    ∧ preserves_MergeS_MergeSIdeal
    ∧ algebraic_MergeSIdeal_MergeSRefIdeal (hMergeSIdeal := hMergeSIdeal) (hMergeSRefIdeal := hMergeSRefIdeal)
    ∧ preserves_ProjS_ProjSIdeal
    ∧ algebraic_ProjSIdeal_ProjSRefIdeal_pre_sample_weights_finite (hProjSIdeal := hProjSIdeal) (hProjSRefIdeal := hProjSRefIdeal) (hPre_sample_weights_finite := hPre_sample_weights_finite)
    ∧ preserves_ScanS_ScanSIdeal
-- ==== Pre_sample_weights_finite.lean ====
abbrev S128x8x1024 : Shape := ⟨3, ![128, 8, 1024]⟩
abbrev S1024 : Shape := ⟨1, ![1024]⟩
abbrev S1024x3396 : Shape := ⟨2, ![1024, 3396]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3396 : S_.BroadcastsInDim S1024x3396 (![] : Fin 0 → Fin S1024x3396.rank)
  reducesTo_S1024x3396_S_d0_1 : S1024x3396.ReducesTo [0, 1] S_

variable [Facts]

def fn {F : FTy → Type} [FloatOps F] (main_arg0 : FVec F S128x8x1024 .f32) (main_arg1 : FVec F S1024 .f32) (main_arg2 : FVec F S1024x3396 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3396 .f32 := Host.absf main_arg2
  let main_cst_0 : FVec F S_ .f32 := constant S_ .f32 0x7F800000#32
  let main_v5 : FVec F S1024x3396 .f32 := broadcastInDim S1024x3396 ![] bcast_S_S1024x3396 main_cst_0
  let main_v6 : IVec S1024x3396 1 := cmpf .olt main_v4 main_v5
  let main_c_1 : IVec S_ 1 := constantI S_ 1 1#1
  let main_v7 : IVec S_ 1 := (fun x v => Host.reduce IntOp.andi x v reducesTo_S1024x3396_S_d0_1 h_S_) main_v6 main_c_1
  let main_v8 : IVec S_ 1 := andi main_v3 main_v7
  main_v8
-- ==== Pre_weights_finite.lean ====
abbrev S8x8192x1024 : Shape := ⟨3, ![8, 8192, 1024]⟩
abbrev S1024 : Shape := ⟨1, ![1024]⟩
abbrev S1024x3396 : Shape := ⟨2, ![1024, 3396]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3396 : S_.BroadcastsInDim S1024x3396 (![] : Fin 0 → Fin S1024x3396.rank)
  reducesTo_S1024x3396_S_d0_1 : S1024x3396.ReducesTo [0, 1] S_

variable [Facts]

def fn {F : FTy → Type} [FloatOps F] (main_arg0 : FVec F S8x8192x1024 .f32) (main_arg1 : FVec F S1024 .f32) (main_arg2 : FVec F S1024x3396 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3396 .f32 := Host.absf main_arg2
  let main_cst_0 : FVec F S_ .f32 := constant S_ .f32 0x7F800000#32
  let main_v5 : FVec F S1024x3396 .f32 := broadcastInDim S1024x3396 ![] bcast_S_S1024x3396 main_cst_0
  let main_v6 : IVec S1024x3396 1 := cmpf .olt main_v4 main_v5
  let main_c_1 : IVec S_ 1 := constantI S_ 1 1#1
  let main_v7 : IVec S_ 1 := (fun x v => Host.reduce IntOp.andi x v reducesTo_S1024x3396_S_d0_1 h_S_) main_v6 main_c_1
  let main_v8 : IVec S_ 1 := andi main_v3 main_v7
  main_v8
-- ==== Kernel.lean ====
abbrev S8x8192x512 : Shape := ⟨3, ![8, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S32x1 : Shape := ⟨2, ![32, 1]⟩
abbrev S_ : Shape := ⟨0, ![]⟩
abbrev S32x64x1 : Shape := ⟨3, ![32, 64, 1]⟩
abbrev S8x8 : Shape := ⟨2, ![8, 8]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x2048 : Shape := ⟨2, ![1, 2048]⟩
abbrev S1x512 : Shape := ⟨2, ![1, 512]⟩
abbrev S8192x8x512 : Shape := ⟨3, ![8192, 8, 512]⟩
abbrev S8x2048 : Shape := ⟨2, ![8, 2048]⟩
abbrev S64x8x512 : Shape := ⟨3, ![64, 8, 512]⟩
abbrev S64x8x2048 : Shape := ⟨3, ![64, 8, 2048]⟩
abbrev S512x128 : Shape := ⟨2, ![512, 128]⟩
abbrev S1x128x512 : Shape := ⟨3, ![1, 128, 512]⟩
abbrev S128x512 : Shape := ⟨2, ![128, 512]⟩
abbrev S1x1024 : Shape := ⟨2, ![1, 1024]⟩
abbrev S8x1024 : Shape := ⟨2, ![8, 1024]⟩
abbrev S1x8x1024 : Shape := ⟨3, ![1, 8, 1024]⟩
abbrev S512x2048 : Shape := ⟨2, ![512, 2048]⟩
abbrev S1x512x128 : Shape := ⟨3, ![1, 512, 128]⟩

abbrev nBuf : Space → Nat
  | .hbm => 109
  | .vmem => 19
  | .smem => 0
  | _ => 0

abbrev bufTy : (tb : Table) → Fin (tcTables nBuf tb) → BufTy
  | .hbm, ⟨0, _⟩ => ⟨S8x8192x512, .f32⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x16, .f32⟩
  | .hbm, ⟨9, _⟩ => ⟨S512x512, .f32⟩
  | .hbm, ⟨10, _⟩ => ⟨S512, .f32⟩
  | .hbm, ⟨11, _⟩ => ⟨S32, .f32⟩
  | .hbm, ⟨12, _⟩ => ⟨S32x1, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S_, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64x1, .f32⟩
  | .hbm, ⟨42, _⟩ => ⟨S32x64x16, .f32⟩
  | .hbm, ⟨43, _⟩ => ⟨S32x64x16, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x16, .f32⟩
  | .hbm, ⟨48, _⟩ => ⟨S32x64x1, .f32⟩
  | .hbm, ⟨49, _⟩ => ⟨S32x64x16, .f32⟩
  | .hbm, ⟨50, _⟩ => ⟨S32x64x16, .f32⟩
  | .hbm, ⟨51, _⟩ => ⟨S32x64x1, .f32⟩
  | .hbm, ⟨52, _⟩ => ⟨S32x64x16, .f32⟩
  | .hbm, ⟨53, _⟩ => ⟨S32x64x16, .f32⟩
  | .hbm, ⟨54, _⟩ => ⟨S32x64x16, .f32⟩
  | .hbm, ⟨55, _⟩ => ⟨S8x8, .i32⟩
  | .hbm, ⟨56, _⟩ => ⟨S8x8, .i32⟩
  | .hbm, ⟨57, _⟩ => ⟨S_, .i32⟩
  | .hbm, ⟨58, _⟩ => ⟨S8x8, .i32⟩
  | .hbm, ⟨59, _⟩ => ⟨S8x8, .i32⟩
  | .hbm, ⟨60, _⟩ => ⟨S8x8, .i1⟩
  | .hbm, ⟨61, _⟩ => ⟨S8x8, .f32⟩
  | .hbm, ⟨62, _⟩ => ⟨S4x8x64x16, .f32⟩
  | .hbm, ⟨63, _⟩ => ⟨S4x8x16x64, .f32⟩
  | .hbm, ⟨64, _⟩ => ⟨S4x8x16x1x64, .f32⟩
  | .hbm, ⟨65, _⟩ => ⟨S1x8x1x8x1, .f32⟩
  | .hbm, ⟨66, _⟩ => ⟨S4x8x16x8x64, .f32⟩
  | .hbm, ⟨67, _⟩ => ⟨S4x8x16x8x64, .f32⟩
  | .hbm, ⟨68, _⟩ => ⟨S4x8x16x8x64, .f32⟩
  | .hbm, ⟨69, _⟩ => ⟨S4x128x512, .f32⟩
  | .hbm, ⟨70, _⟩ => ⟨S4x128x512, .bf16⟩
  | .hbm, ⟨71, _⟩ => ⟨S4x8x64x16, .f32⟩
  | .hbm, ⟨72, _⟩ => ⟨S4x8x16x64, .f32⟩
  | .hbm, ⟨73, _⟩ => ⟨S4x8x16x1x64, .f32⟩
  | .hbm, ⟨74, _⟩ => ⟨S1x8x1x8x1, .f32⟩
  | .hbm, ⟨75, _⟩ => ⟨S4x8x16x8x64, .f32⟩
  | .hbm, ⟨76, _⟩ => ⟨S4x8x16x8x64, .f32⟩
  | .hbm, ⟨77, _⟩ => ⟨S4x8x16x8x64, .f32⟩
  | .hbm, ⟨78, _⟩ => ⟨S4x128x512, .f32⟩
  | .hbm, ⟨79, _⟩ => ⟨S4x128x512, .bf16⟩
  | .hbm, ⟨80, _⟩ => ⟨S4x8x16x64, .f32⟩
  | .hbm, ⟨81, _⟩ => ⟨S4x8x64x16, .f32⟩
  | .hbm, ⟨82, _⟩ => ⟨S4x8x64x1x16, .f32⟩
  | .hbm, ⟨83, _⟩ => ⟨S1x8x1x8x1, .f32⟩
  | .hbm, ⟨84, _⟩ => ⟨S4x8x64x8x16, .f32⟩
  | .hbm, ⟨85, _⟩ => ⟨S4x8x64x8x16, .f32⟩
  | .hbm, ⟨86, _⟩ => ⟨S4x8x64x8x16, .f32⟩
  | .hbm, ⟨87, _⟩ => ⟨S4x512x128, .f32⟩
  | .hbm, ⟨88, _⟩ => ⟨S4x512x128, .bf16⟩
  | .hbm, ⟨89, _⟩ => ⟨S4x8x16x64, .f32⟩
  | .hbm, ⟨90, _⟩ => ⟨S4x8x64x16, .f32⟩
  | .hbm, ⟨91, _⟩ => ⟨S4x8x64x1x16, .f32⟩
  | .hbm, ⟨92, _⟩ => ⟨S1x8x1x8x1, .f32⟩
  | .hbm, ⟨93, _⟩ => ⟨S4x8x64x8x16, .f32⟩
  | .hbm, ⟨94, _⟩ => ⟨S4x8x64x8x16, .f32⟩
  | .hbm, ⟨95, _⟩ => ⟨S4x8x64x8x16, .f32⟩
  | .hbm, ⟨96, _⟩ => ⟨S4x512x128, .f32⟩
  | .hbm, ⟨97, _⟩ => ⟨S4x512x128, .bf16⟩
  | .hbm, ⟨98, _⟩ => ⟨S1x2048, .f32⟩
  | .hbm, ⟨99, _⟩ => ⟨S1x2048, .f32⟩
  | .hbm, ⟨100, _⟩ => ⟨S1x512, .f32⟩
  | .hbm, ⟨101, _⟩ => ⟨S512x512, .bf16⟩
  | .hbm, ⟨102, _⟩ => ⟨S1x512, .f32⟩
  | .hbm, ⟨103, _⟩ => ⟨S8192x8x512, .f32⟩
  | .hbm, ⟨104, _⟩ => ⟨S_, .f32⟩
  | .hbm, ⟨105, _⟩ => ⟨S8x2048, .f32⟩
  | .hbm, ⟨106, _⟩ => ⟨S8192x8x512, .f32⟩
  | .hbm, ⟨107, _⟩ => ⟨S8x2048, .f32⟩
  | .hbm, ⟨108, _⟩ => ⟨S8x2048, .f32⟩
  | .local _ .vmem, ⟨0, _⟩ => ⟨S64x8x512, .f32⟩
  | .local _ .vmem, ⟨1, _⟩ => ⟨S64x8x512, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S1x2048, .f32⟩
  | .local _ .vmem, ⟨6, _⟩ => ⟨S4x128x512, .bf16⟩
  | .local _ .vmem, ⟨7, _⟩ => ⟨S4x128x512, .bf16⟩
  | .local _ .vmem, ⟨8, _⟩ => ⟨S4x512x128, .bf16⟩
  | .local _ .vmem, ⟨9, _⟩ => ⟨S4x512x128, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S64x8x512, .f32⟩
  | .local _ .vmem, ⟨14, _⟩ => ⟨S64x8x512, .f32⟩
  | .local _ .vmem, ⟨15, _⟩ => ⟨S8x2048, .f32⟩
  | .local _ .vmem, ⟨16, _⟩ => ⟨S8x2048, .f32⟩
  | .local _ .vmem, ⟨17, _⟩ => ⟨S64x8x2048, .f32⟩
  | .local _ .vmem, ⟨18, _⟩ => ⟨S64x8x2048, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_1 : Ref sig .tc := ⟨.hbm, 104, rfl⟩
abbrev main_v90 : Ref sig .tc := ⟨.hbm, 105, rfl⟩
abbrev main_v91_0 : Ref sig .tc := ⟨.hbm, 106, rfl⟩
abbrev main_v91_1 : Ref sig .tc := ⟨.hbm, 107, rfl⟩
abbrev main_v91_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_60 : BitVec 32 := 0#32
  let c64_i32 : BitVec 32 := 64#32
  let v79 : BitVec 32 := Scalar.addi c0_i32_60 c64_i32
  let c1_i32 : BitVec 32 := 1#32
  ⟨c0_i32_60, v79, c1_i32⟩
def k0_off1 (k0_t1 : Fin k0_t1_loop.trips) : Fin 3 → Nat :=
  let c0_i32_60 : BitVec 32 := 0#32
  let c1_i32 : BitVec 32 := 1#32
  let arg18 : BitVec 32 := Scf.iv c0_i32_60 c1_i32 k0_t1
  let v181 : Index := Scalar.indexCast arg18
  let c0_134 : Index := 0#32
  let c0_135 : Index := 0#32
  ![v181.toNat, 0, 0]
@[reducible] def k0_t2_loop : Scf.Loop 32 :=
  let c0_i32_74 : BitVec 32 := 0#32
  let c64_i32_75 : BitVec 32 := 64#32
  let v95 : BitVec 32 := Scalar.addi c0_i32_74 c64_i32_75
  let c1_i32_76 : BitVec 32 := 1#32
  ⟨c0_i32_74, v95, c1_i32_76⟩
def k0_off2 (k0_t2 : Fin k0_t2_loop.trips) : Fin 3 → Nat :=
  let c0_i32_74 : BitVec 32 := 0#32
  let c1_i32_76 : BitVec 32 := 1#32
  let arg18 : BitVec 32 := Scf.iv c0_i32_74 c1_i32_76 k0_t2
  let v181 : Index := Scalar.indexCast arg18
  let c0_134 : Index := 0#32
  let c1024_135 : Index := 1024#32
  ![v181.toNat, 0, 1024]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8x8192x512 : Shape := ⟨3, ![8, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S8x8192x32x16 : Shape := ⟨4, ![8, 8192, 32, 16]⟩
abbrev S32x1 : Shape := ⟨2, ![32, 1]⟩
abbrev S_ : Shape := ⟨0, ![]⟩
abbrev S32x64x1 : Shape := ⟨3, ![32, 64, 1]⟩
abbrev S32x64x8x8192 : Shape := ⟨4, ![32, 64, 8, 8192]⟩
abbrev S8192x8x32x64 : Shape := ⟨4, ![8192, 8, 32, 64]⟩
abbrev S8x32x64 : Shape := ⟨3, ![8, 32, 64]⟩
abbrev S1x8x32x64 : Shape := ⟨4, ![1, 8, 32, 64]⟩
abbrev S1x32x64 : Shape := ⟨3, ![1, 32, 64]⟩
abbrev S32x16x8192x8 : Shape := ⟨4, ![32, 16, 8192, 8]⟩
abbrev S8192x8x32x16 : Shape := ⟨4, ![8192, 8, 32, 16]⟩
abbrev S8192x8x512 : Shape := ⟨3, ![8192, 8, 512]⟩
abbrev S1x1x32x16 : Shape := ⟨4, ![1, 1, 32, 16]⟩
abbrev S1x1x512 : Shape := ⟨3, ![1, 1, 512]⟩
abbrev S8x2048 : Shape := ⟨2, ![8, 2048]⟩

abbrev nBuf : Space → Nat
  | .hbm => 160
  | .vmem => 0
  | .smem => 0
  | _ => 0

abbrev hbmTy0_0 (i : Nat) : BufTy := match i % 128 with
  | 0 => ⟨S8x8192x512, .f32⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S512x512, .f32⟩
  | 10 => ⟨S512, .f32⟩
  | 11 => ⟨S8x8192x32x16, .f32⟩
  | 12 => ⟨S32, .f32⟩
  | 13 => ⟨S32x1, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S_, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64x1, .f32⟩
  | 43 => ⟨S32x64x16, .f32⟩
  | 44 => ⟨S32x64x16, .f32⟩
  | 45 => ⟨S32x64x1, .f32⟩
  | 46 => ⟨S32x64x16, .f32⟩
  | 47 => ⟨S32x64x16, .f32⟩
  | 48 => ⟨S32x64x16, .f32⟩
  | 49 => ⟨S32x64x1, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x8x8192, .f32⟩
  | 57 => ⟨S8192x8x32x64, .f32⟩
  | 58 => ⟨S32x64x8x8192, .f32⟩
  | 59 => ⟨S8192x8x32x64, .f32⟩
  | 60 => ⟨S_, .f32⟩
  | 61 => ⟨S8x32x64, .f32⟩
  | 62 => ⟨S_, .f32⟩
  | 63 => ⟨S8192x8x32x64, .f32⟩
  | 64 => ⟨S_, .f32⟩
  | 65 => ⟨S8192x8x32x64, .f32⟩
  | 66 => ⟨S_, .i32⟩
  | 67 => ⟨S8192x8x32x64, .f32⟩
  | 68 => ⟨S8192x8x32x64, .f32⟩
  | 69 => ⟨S32x64, .f32⟩
  | 70 => ⟨S32x64, .f32⟩
  | 71 => ⟨S_, .i32⟩
  | 72 => ⟨S8x32x64, .f32⟩
  | 73 => ⟨S8x32x64, .f32⟩
  | 74 => ⟨S8192x8x32x64, .f32⟩
  | 75 => ⟨S8192x8x32x64, .f32⟩
  | 76 => ⟨S_, .i32⟩
  | 77 => ⟨S_, .i1⟩
  | 78 => ⟨S_, .i32⟩
  | 79 => ⟨S_, .i32⟩
  | 80 => ⟨S_, .i32⟩
  | 81 => ⟨S1x8x32x64, .f32⟩
  | 82 => ⟨S8x32x64, .f32⟩
  | 83 => ⟨S_, .i32⟩
  | 84 => ⟨S_, .i32⟩
  | 85 => ⟨S_, .i32⟩
  | 86 => ⟨S1x8x32x64, .f32⟩
  | 87 => ⟨S8x32x64, .f32⟩
  | 88 => ⟨S1x32x64, .f32⟩
  | 89 => ⟨S8x32x64, .f32⟩
  | 90 => ⟨S8x32x64, .f32⟩
  | 91 => ⟨S1x32x64, .f32⟩
  | 92 => ⟨S8x32x64, .f32⟩
  | 93 => ⟨S8x32x64, .f32⟩
  | 94 => ⟨S8x32x64, .f32⟩
  | 95 => ⟨S8x32x64, .f32⟩
  | 96 => ⟨S1x32x64, .f32⟩
  | 97 => ⟨S8x32x64, .f32⟩
  | 98 => ⟨S8x32x64, .f32⟩
  | 99 => ⟨S1x32x64, .f32⟩
  | 100 => ⟨S8x32x64, .f32⟩
  | 101 => ⟨S8x32x64, .f32⟩
  | 102 => ⟨S8x32x64, .f32⟩
  | 103 => ⟨S8x32x64, .f32⟩
  | 104 => ⟨S1x8x32x64, .f32⟩
  | 105 => ⟨S_, .i32⟩
  | 106 => ⟨S_, .i32⟩
  | 107 => ⟨S_, .i32⟩
  | 108 => ⟨S8192x8x32x64, .f32⟩
  | 109 => ⟨S1x8x32x64, .f32⟩
  | 110 => ⟨S_, .i32⟩
  | 111 => ⟨S_, .i32⟩
  | 112 => ⟨S_, .i32⟩
  | 113 => ⟨S8192x8x32x64, .f32⟩
  | 114 => ⟨S_, .i32⟩
  | 115 => ⟨S_, .i32⟩
  | 116 => ⟨S32x16x8192x8, .f32⟩
  | 117 => ⟨S8192x8x32x16, .f32⟩
  | 118 => ⟨S32x16x8192x8, .f32⟩
  | 119 => ⟨S8192x8x32x16, .f32⟩
  | 120 => ⟨S8192x8x32x16, .f32⟩
  | 121 => ⟨S8192x8x512, .f32⟩
  | 122 => ⟨S8192x8x32x16, .f32⟩
  | 123 => ⟨S1x1x32x16, .f32⟩
  | 124 => ⟨S8192x8x32x16, .f32⟩
  | 125 => ⟨S8192x8x32x16, .f32⟩
  | 126 => ⟨S8192x8x32x16, .f32⟩
  | 127 => ⟨S8192x8x512, .f32⟩
  | _ => ⟨S8x8192x512, .f32⟩

abbrev hbmTy0_1 (i : Nat) : BufTy := match i % 128 with
  | 0 => ⟨S8192x8x512, .f32⟩
  | 1 => ⟨S8192x8x512, .f32⟩
  | 2 => ⟨S_, .f32⟩
  | 3 => ⟨S8192x8x512, .f32⟩
  | 4 => ⟨S8192x8x512, .f32⟩
  | 5 => ⟨S8192x8x512, .f32⟩
  | 6 => ⟨S_, .f32⟩
  | 7 => ⟨S8192x8x512, .f32⟩
  | 8 => ⟨S8192x8x512, .f32⟩
  | 9 => ⟨S8192x8x512, .f32⟩
  | 10 => ⟨S_, .f32⟩
  | 11 => ⟨S8192x8x512, .f32⟩
  | 12 => ⟨S8192x8x512, .f32⟩
  | 13 => ⟨S_, .f32⟩
  | 14 => ⟨S8192x8x512, .f32⟩
  | 15 => ⟨S8192x8x512, .f32⟩
  | 16 => ⟨S8192x8x512, .f32⟩
  | 17 => ⟨S8192x8x512, .f32⟩
  | 18 => ⟨S1x1x512, .f32⟩
  | 19 => ⟨S8192x8x512, .f32⟩
  | 20 => ⟨S8192x8x512, .f32⟩
  | 21 => ⟨S8192x8x512, .f32⟩
  | 22 => ⟨S8192x8x512, .f32⟩
  | 23 => ⟨S_, .f32⟩
  | 24 => ⟨S8192x8x512, .f32⟩
  | 25 => ⟨S8192x8x512, .f32⟩
  | 26 => ⟨S_, .f32⟩
  | 27 => ⟨S8192x8x512, .f32⟩
  | 28 => ⟨S8192x8x512, .f32⟩
  | 29 => ⟨S8192x8x512, .f32⟩
  | 30 => ⟨S8x2048, .f32⟩
  | 31 => ⟨S8x2048, .f32⟩
  | _ => ⟨S8x8192x512, .f32⟩

abbrev hbmTy (i : Nat) : BufTy := match i / 128 with
  | 0 => hbmTy0_0 i
  | 1 => hbmTy0_1 i
  | _ => ⟨S8x8192x512, .f32⟩

abbrev bufTy : (tb : Table) → Fin (tcTables nBuf tb) → BufTy
  | .hbm, ⟨i, _⟩ => hbmTy i
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_c : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v50_4 : Ref sig .tc := ⟨.hbm, 71, rfl⟩
abbrev main_v50_5 : Ref sig .tc := ⟨.hbm, 72, rfl⟩
abbrev main_v50_6 : Ref sig .tc := ⟨.hbm, 73, rfl⟩
abbrev main_v50_7 : Ref sig .tc := ⟨.hbm, 74, rfl⟩
abbrev main_v50_8 : Ref sig .tc := ⟨.hbm, 75, rfl⟩
abbrev main_while0c_c_18 : Ref sig .tc := ⟨.hbm, 76, rfl⟩
abbrev main_while0c_v89 : Ref sig .tc := ⟨.hbm, 77, rfl⟩
abbrev main_while0b_call0_c : Ref sig .tc := ⟨.hbm, 78, rfl⟩
abbrev main_while0b_call0_c_0 : Ref sig .tc := ⟨.hbm, 79, rfl⟩
abbrev main_while0b_call0_c_1 : Ref sig .tc := ⟨.hbm, 80, rfl⟩
abbrev main_while0b_call0_v0 : Ref sig .tc := ⟨.hbm, 81, rfl⟩
abbrev main_while0b_v89 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_v0 : Ref sig .tc := ⟨.hbm, 86, rfl⟩
abbrev main_while0b_v90 : Ref sig .tc := ⟨.hbm, 87, rfl⟩
abbrev main_while0b_v91 : Ref sig .tc := ⟨.hbm, 88, rfl⟩
abbrev main_while0b_v92 : Ref sig .tc := ⟨.hbm, 89, rfl⟩
abbrev main_while0b_v93 : Ref sig .tc := ⟨.hbm, 90, rfl⟩
abbrev main_while0b_v94 : Ref sig .tc := ⟨.hbm, 91, rfl⟩
abbrev main_while0b_v95 : Ref sig .tc := ⟨.hbm, 92, rfl⟩
abbrev main_while0b_v96 : Ref sig .tc := ⟨.hbm, 93, rfl⟩
abbrev main_while0b_v97 : Ref sig .tc := ⟨.hbm, 94, rfl⟩
abbrev main_while0b_v98 : Ref sig .tc := ⟨.hbm, 95, rfl⟩
abbrev main_while0b_v99 : Ref sig .tc := ⟨.hbm, 96, rfl⟩
abbrev main_while0b_v100 : Ref sig .tc := ⟨.hbm, 97, rfl⟩
abbrev main_while0b_v101 : Ref sig .tc := ⟨.hbm, 98, rfl⟩
abbrev main_while0b_v102 : Ref sig .tc := ⟨.hbm, 99, rfl⟩
abbrev main_while0b_v103 : Ref sig .tc := ⟨.hbm, 100, rfl⟩
abbrev main_while0b_v104 : Ref sig .tc := ⟨.hbm, 101, rfl⟩
abbrev main_while0b_v105 : Ref sig .tc := ⟨.hbm, 102, rfl⟩
abbrev main_while0b_v106 : Ref sig .tc := ⟨.hbm, 103, rfl⟩
abbrev main_while0b_call2_v0 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_v107 : Ref sig .tc := ⟨.hbm, 108, rfl⟩
abbrev main_while0b_call3_v0 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_v108 : Ref sig .tc := ⟨.hbm, 113, rfl⟩
abbrev main_while0b_c_18 : Ref sig .tc := ⟨.hbm, 114, rfl⟩
abbrev main_while0b_v109 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_cst_4 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_5 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_cst_6 : Ref sig .tc := ⟨.hbm, 138, rfl⟩
abbrev main_v71 : Ref sig .tc := ⟨.hbm, 139, rfl⟩
abbrev main_v72 : Ref sig .tc := ⟨.hbm, 140, rfl⟩
abbrev main_cst_7 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_8 : Ref sig .tc := ⟨.hbm, 151, rfl⟩
abbrev main_v82 : Ref sig .tc := ⟨.hbm, 152, rfl⟩
abbrev main_v83 : Ref sig .tc := ⟨.hbm, 153, rfl⟩
abbrev main_cst_9 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩

abbrev nD : Nat := 1
abbrev τ : Topo := Topo.v7x

variable {F : FTy → Type} [FloatOps F]

abbrev main_while0_count : Scf.Loop 32 := ⟨0#32, 8192#32, 1#32⟩
-- ==== Proj.lean ====
abbrev S8x8192x1024 : Shape := ⟨3, ![8, 8192, 1024]⟩
abbrev S1024 : Shape := ⟨1, ![1024]⟩
abbrev S1024x3396 : Shape := ⟨2, ![1024, 3396]⟩
abbrev S64 : Shape := ⟨1, ![64]⟩
abbrev S_ : Shape := ⟨0, ![]⟩
abbrev S1024x60 : Shape := ⟨2, ![1024, 60]⟩
abbrev S1024x2372 : Shape := ⟨2, ![1024, 2372]⟩
abbrev S1024x1024 : Shape := ⟨2, ![1024, 1024]⟩
abbrev S1024x3456 : Shape := ⟨2, ![1024, 3456]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S65536x1024 : Shape := ⟨2, ![65536, 1024]⟩
abbrev S65536x512 : Shape := ⟨2, ![65536, 512]⟩
abbrev S65536x128 : Shape := ⟨2, ![65536, 128]⟩
abbrev S65536x256 : Shape := ⟨2, ![65536, 256]⟩
abbrev S512x1024 : Shape := ⟨2, ![512, 1024]⟩
abbrev S512x128 : Shape := ⟨2, ![512, 128]⟩
abbrev S512x256 : Shape := ⟨2, ![512, 256]⟩
abbrev S512x1 : Shape := ⟨2, ![512, 1]⟩
abbrev S1024x512 : Shape := ⟨2, ![1024, 512]⟩
abbrev S1024x256 : Shape := ⟨2, ![1024, 256]⟩
abbrev S1024x128 : Shape := ⟨2, ![1024, 128]⟩

abbrev nBuf : Space → Nat
  | .hbm => 48
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3396, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S1024x60, .f32⟩
  | .hbm, ⟨7, _⟩ => ⟨S1024x2372, .f32⟩
  | .hbm, ⟨8, _⟩ => ⟨S1024x1024, .f32⟩
  | .hbm, ⟨9, _⟩ => ⟨S1024x3456, .f32⟩
  | .hbm, ⟨10, _⟩ => ⟨S1024x3456, .bf16⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S_, .f32⟩
  | .hbm, ⟨19, _⟩ => ⟨S64x64, .f32⟩
  | .hbm, ⟨20, _⟩ => ⟨S8x1x8x1, .f32⟩
  | .hbm, ⟨21, _⟩ => ⟨S1x64x1x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S1x1024, .f32⟩
  | .hbm, ⟨28, _⟩ => ⟨S1x64, .f32⟩
  | .hbm, ⟨29, _⟩ => ⟨S8x64, .f32⟩
  | .hbm, ⟨30, _⟩ => ⟨S512, .f32⟩
  | .hbm, ⟨31, _⟩ => ⟨S1x512, .f32⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S65536x1024, .f32⟩
  | .hbm, ⟨37, _⟩ => ⟨S65536x512, .f32⟩
  | .hbm, ⟨38, _⟩ => ⟨S65536x512, .f32⟩
  | .hbm, ⟨39, _⟩ => ⟨S65536x128, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .bf16⟩
  | .hbm, ⟨44, _⟩ => ⟨S65536x512, .bf16⟩
  | .hbm, ⟨45, _⟩ => ⟨S65536x512, .bf16⟩
  | .hbm, ⟨46, _⟩ => ⟨S65536x256, .bf16⟩
  | .hbm, ⟨47, _⟩ => ⟨S65536x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x256, .bf16⟩
  | .local _ .vmem, ⟨26, _⟩ => ⟨S512x256, .bf16⟩
  | .local _ .vmem, ⟨27, _⟩ => ⟨S512x128, .bf16⟩
  | .local _ .vmem, ⟨28, _⟩ => ⟨S512x128, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev main_v24_6 : Ref sig .tc := ⟨.hbm, 43, rfl⟩
abbrev main_v24_7 : Ref sig .tc := ⟨.hbm, 44, rfl⟩
abbrev main_v24_8 : Ref sig .tc := ⟨.hbm, 45, rfl⟩
abbrev main_v24_9 : Ref sig .tc := ⟨.hbm, 46, rfl⟩
abbrev main_v24_10 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjRefIdeal.lean ====
abbrev S8x8192x1024 : Shape := ⟨3, ![8, 8192, 1024]⟩
abbrev S1024 : Shape := ⟨1, ![1024]⟩
abbrev S1024x3396 : Shape := ⟨2, ![1024, 3396]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3396 : Shape := ⟨3, ![8, 8192, 3396]⟩
abbrev S8x8192x512 : Shape := ⟨3, ![8, 8192, 512]⟩
abbrev S8x8192x256 : Shape := ⟨3, ![8, 8192, 256]⟩
abbrev S8x8192x64 : Shape := ⟨3, ![8, 8192, 64]⟩
abbrev S8x8192x4 : Shape := ⟨3, ![8, 8192, 4]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x60 : Shape := ⟨3, ![8, 8192, 60]⟩
abbrev S8x8192x128 : Shape := ⟨3, ![8, 8192, 128]⟩
abbrev S65536x512 : Shape := ⟨2, ![65536, 512]⟩
abbrev S65536x128 : Shape := ⟨2, ![65536, 128]⟩
abbrev S65536x256 : Shape := ⟨2, ![65536, 256]⟩

abbrev nBuf : Space → Nat
  | .hbm => 90
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3396, .f32⟩
  | .hbm, ⟨3, _⟩ => ⟨S64, .f32⟩
  | .hbm, ⟨4, _⟩ => ⟨S64, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x3396, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x256, .f32⟩
  | .hbm, ⟨27, _⟩ => ⟨S8x8192x64, .f32⟩
  | .hbm, ⟨28, _⟩ => ⟨S8x8192x4, .f32⟩
  | .hbm, ⟨29, _⟩ => ⟨S8x8192x512, .f32⟩
  | .hbm, ⟨30, _⟩ => ⟨S8x8192x512, .f32⟩
  | .hbm, ⟨31, _⟩ => ⟨S8x8192x8x64, .f32⟩
  | .hbm, ⟨32, _⟩ => ⟨S8x8192x8x64, .f32⟩
  | .hbm, ⟨33, _⟩ => ⟨S_, .f32⟩
  | .hbm, ⟨34, _⟩ => ⟨S8x8192x8, .f32⟩
  | .hbm, ⟨35, _⟩ => ⟨S8x8192x8x1, .f32⟩
  | .hbm, ⟨36, _⟩ => ⟨S_, .f32⟩
  | .hbm, ⟨37, _⟩ => ⟨S8x8192x8x1, .f32⟩
  | .hbm, ⟨38, _⟩ => ⟨S8x8192x8x1, .f32⟩
  | .hbm, ⟨39, _⟩ => ⟨S_, .f32⟩
  | .hbm, ⟨40, _⟩ => ⟨S8x8192x8x1, .f32⟩
  | .hbm, ⟨41, _⟩ => ⟨S8x8192x8x1, .f32⟩
  | .hbm, ⟨42, _⟩ => ⟨S8x8192x8x1, .f32⟩
  | .hbm, ⟨43, _⟩ => ⟨S8x8192x8x64, .f32⟩
  | .hbm, ⟨44, _⟩ => ⟨S8x8192x8x64, .f32⟩
  | .hbm, ⟨45, _⟩ => ⟨S1x1x1x64, .f32⟩
  | .hbm, ⟨46, _⟩ => ⟨S8x8192x8x64, .f32⟩
  | .hbm, ⟨47, _⟩ => ⟨S8x8192x8x64, .f32⟩
  | .hbm, ⟨48, _⟩ => ⟨S8x8192x8x64, .f32⟩
  | .hbm, ⟨49, _⟩ => ⟨S8x8192x8x64, .f32⟩
  | .hbm, ⟨50, _⟩ => ⟨S_, .f32⟩
  | .hbm, ⟨51, _⟩ => ⟨S8x8192x8, .f32⟩
  | .hbm, ⟨52, _⟩ => ⟨S8x8192x8x1, .f32⟩
  | .hbm, ⟨53, _⟩ => ⟨S_, .f32⟩
  | .hbm, ⟨54, _⟩ => ⟨S8x8192x8x1, .f32⟩
  | .hbm, ⟨55, _⟩ => ⟨S8x8192x8x1, .f32⟩
  | .hbm, ⟨56, _⟩ => ⟨S_, .f32⟩
  | .hbm, ⟨57, _⟩ => ⟨S8x8192x8x1, .f32⟩
  | .hbm, ⟨58, _⟩ => ⟨S8x8192x8x1, .f32⟩
  | .hbm, ⟨59, _⟩ => ⟨S8x8192x8x1, .f32⟩
  | .hbm, ⟨60, _⟩ => ⟨S8x8192x8x64, .f32⟩
  | .hbm, ⟨61, _⟩ => ⟨S8x8192x8x64, .f32⟩
  | .hbm, ⟨62, _⟩ => ⟨S1x1x1x64, .f32⟩
  | .hbm, ⟨63, _⟩ => ⟨S8x8192x8x64, .f32⟩
  | .hbm, ⟨64, _⟩ => ⟨S8x8192x8x64, .f32⟩
  | .hbm, ⟨65, _⟩ => ⟨S_, .f32⟩
  | .hbm, ⟨66, _⟩ => ⟨S8x8192x60, .f32⟩
  | .hbm, ⟨67, _⟩ => ⟨S8x8192x128, .f32⟩
  | .hbm, ⟨68, _⟩ => ⟨S65536x512, .f32⟩
  | .hbm, ⟨69, _⟩ => ⟨S65536x512, .f32⟩
  | .hbm, ⟨70, _⟩ => ⟨S65536x128, .f32⟩
  | .hbm, ⟨71, _⟩ => ⟨S65536x512, .f32⟩
  | .hbm, ⟨72, _⟩ => ⟨S65536x512, .f32⟩
  | .hbm, ⟨73, _⟩ => ⟨S65536x512, .f32⟩
  | .hbm, ⟨74, _⟩ => ⟨S_, .f32⟩
  | .hbm, ⟨75, _⟩ => ⟨S8x8192x8x64, .f32⟩
  | .hbm, ⟨76, _⟩ => ⟨S8x8192x8x64, .f32⟩
  | .hbm, ⟨77, _⟩ => ⟨S65536x512, .f32⟩
  | .hbm, ⟨78, _⟩ => ⟨S65536x512, .bf16⟩
  | .hbm, ⟨79, _⟩ => ⟨S65536x512, .f32⟩
  | .hbm, ⟨80, _⟩ => ⟨S65536x512, .bf16⟩
  | .hbm, ⟨81, _⟩ => ⟨S65536x512, .f32⟩
  | .hbm, ⟨82, _⟩ => ⟨S65536x512, .bf16⟩
  | .hbm, ⟨83, _⟩ => ⟨S_, .f32⟩
  | .hbm, ⟨84, _⟩ => ⟨S8x8192x256, .f32⟩
  | .hbm, ⟨85, _⟩ => ⟨S8x8192x256, .f32⟩
  | .hbm, ⟨86, _⟩ => ⟨S65536x256, .f32⟩
  | .hbm, ⟨87, _⟩ => ⟨S65536x256, .bf16⟩
  | .hbm, ⟨88, _⟩ => ⟨S65536x128, .f32⟩
  | .hbm, ⟨89, _⟩ => ⟨S65536x128, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Merge.lean ====
abbrev S8x8192x1024 : Shape := ⟨3, ![8, 8192, 1024]⟩
abbrev S8x8192x512 : Shape := ⟨3, ![8, 8192, 512]⟩
abbrev S1024x1024 : Shape := ⟨2, ![1024, 1024]⟩
abbrev S512x1024 : Shape := ⟨2, ![512, 1024]⟩
abbrev S65536x1024 : Shape := ⟨2, ![65536, 1024]⟩
abbrev S65536x512 : Shape := ⟨2, ![65536, 512]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S1024x1024, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S65536x1024, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S_ : Shape := ⟨0, ![]⟩
abbrev S65536x1024 : Shape := ⟨2, ![65536, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S1024x1024, .f32⟩
  | .hbm, ⟨6, _⟩ => ⟨S8x8192x512, .f32⟩
  | .hbm, ⟨7, _⟩ => ⟨S8x8192x512, .f32⟩
  | .hbm, ⟨8, _⟩ => ⟨S_, .f32⟩
  | .hbm, ⟨9, _⟩ => ⟨S8x8192x512, .f32⟩
  | .hbm, ⟨10, _⟩ => ⟨S8x8192x512, .f32⟩
  | .hbm, ⟨11, _⟩ => ⟨S_, .f32⟩
  | .hbm, ⟨12, _⟩ => ⟨S8x8192x512, .f32⟩
  | .hbm, ⟨13, _⟩ => ⟨S8x8192x512, .f32⟩
  | .hbm, ⟨14, _⟩ => ⟨S8x8192x512, .f32⟩
  | .hbm, ⟨15, _⟩ => ⟨S8x8192x512, .f32⟩
  | .hbm, ⟨16, _⟩ => ⟨S8x8192x512, .f32⟩
  | .hbm, ⟨17, _⟩ => ⟨S8x8192x512, .f32⟩
  | .hbm, ⟨18, _⟩ => ⟨S_, .f32⟩
  | .hbm, ⟨19, _⟩ => ⟨S8x8192x512, .f32⟩
  | .hbm, ⟨20, _⟩ => ⟨S8x8192x512, .f32⟩
  | .hbm, ⟨21, _⟩ => ⟨S_, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩

abbrev nD : Nat := 1
abbrev τ : Topo := Topo.v7x

variable {F : FTy → Type} [FloatOps F]
-- ==== MergeS.lean ====
abbrev S128x8x1024 : Shape := ⟨3, ![128, 8, 1024]⟩
abbrev S128x8x512 : Shape := ⟨3, ![128, 8, 512]⟩
abbrev S1024x1024 : Shape := ⟨2, ![1024, 1024]⟩
abbrev S512x1024 : Shape := ⟨2, ![512, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 16
  | .vmem => 14
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x512, .f32⟩
  | .hbm, ⟨5, _⟩ => ⟨S1024x1024, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S1024x1024, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x1024, .bf16⟩
  | .local _ .vmem, ⟨11, _⟩ => ⟨S512x1024, .bf16⟩
  | .local _ .vmem, ⟨12, _⟩ => ⟨S256x1024, .f32⟩
  | .local _ .vmem, ⟨13, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeSRefIdeal.lean ====
abbrev S128x8x1024 : Shape := ⟨3, ![128, 8, 1024]⟩
abbrev S128x8x512 : Shape := ⟨3, ![128, 8, 512]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x512, .f32⟩
  | .hbm, ⟨5, _⟩ => ⟨S1024x1024, .f32⟩
  | .hbm, ⟨6, _⟩ => ⟨S128x8x512, .f32⟩
  | .hbm, ⟨7, _⟩ => ⟨S128x8x512, .f32⟩
  | .hbm, ⟨8, _⟩ => ⟨S_, .f32⟩
  | .hbm, ⟨9, _⟩ => ⟨S128x8x512, .f32⟩
  | .hbm, ⟨10, _⟩ => ⟨S128x8x512, .f32⟩
  | .hbm, ⟨11, _⟩ => ⟨S_, .f32⟩
  | .hbm, ⟨12, _⟩ => ⟨S128x8x512, .f32⟩
  | .hbm, ⟨13, _⟩ => ⟨S128x8x512, .f32⟩
  | .hbm, ⟨14, _⟩ => ⟨S128x8x512, .f32⟩
  | .hbm, ⟨15, _⟩ => ⟨S128x8x512, .f32⟩
  | .hbm, ⟨16, _⟩ => ⟨S128x8x512, .f32⟩
  | .hbm, ⟨17, _⟩ => ⟨S128x8x512, .f32⟩
  | .hbm, ⟨18, _⟩ => ⟨S_, .f32⟩
  | .hbm, ⟨19, _⟩ => ⟨S128x8x512, .f32⟩
  | .hbm, ⟨20, _⟩ => ⟨S128x8x512, .f32⟩
  | .hbm, ⟨21, _⟩ => ⟨S_, .f32⟩
  | .hbm, ⟨22, _⟩ => ⟨S128x8x512, .f32⟩
  | .hbm, ⟨23, _⟩ => ⟨S128x8x512, .f32⟩
  | .hbm, ⟨24, _⟩ => ⟨S128x8x512, .f32⟩
  | .hbm, ⟨25, _⟩ => ⟨S128x8x512, .f32⟩
  | .hbm, ⟨26, _⟩ => ⟨S128x8x1024, .f32⟩
  | .hbm, ⟨27, _⟩ => ⟨S128x8x1024, .f32⟩
  | .hbm, ⟨28, _⟩ => ⟨S128x8x1024, .f32⟩
  | .hbm, ⟨29, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩

abbrev nD : Nat := 1
abbrev τ : Topo := Topo.v7x

variable {F : FTy → Type} [FloatOps F]
-- ==== ProjS.lean ====
abbrev S128x8x1024 : Shape := ⟨3, ![128, 8, 1024]⟩
abbrev S1024 : Shape := ⟨1, ![1024]⟩
abbrev S1024x3396 : Shape := ⟨2, ![1024, 3396]⟩
abbrev S64 : Shape := ⟨1, ![64]⟩
abbrev S_ : Shape := ⟨0, ![]⟩
abbrev S1024x60 : Shape := ⟨2, ![1024, 60]⟩
abbrev S1024x2372 : Shape := ⟨2, ![1024, 2372]⟩
abbrev S1024x1024 : Shape := ⟨2, ![1024, 1024]⟩
abbrev S1024x3456 : Shape := ⟨2, ![1024, 3456]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1024x512 : Shape := ⟨2, ![1024, 512]⟩
abbrev S1024x128 : Shape := ⟨2, ![1024, 128]⟩
abbrev S1024x256 : Shape := ⟨2, ![1024, 256]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 51
  | .vmem => 30
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3396, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S1024x60, .f32⟩
  | .hbm, ⟨7, _⟩ => ⟨S1024x2372, .f32⟩
  | .hbm, ⟨8, _⟩ => ⟨S1024x1024, .f32⟩
  | .hbm, ⟨9, _⟩ => ⟨S1024x3456, .f32⟩
  | .hbm, ⟨10, _⟩ => ⟨S1024x3456, .bf16⟩
  | .hbm, ⟨11, _⟩ => ⟨S1024x3456, .f32⟩
  | .hbm, ⟨12, _⟩ => ⟨S1024x3456, .f32⟩
  | .hbm, ⟨13, _⟩ => ⟨S1024x3456, .bf16⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S_, .f32⟩
  | .hbm, ⟨22, _⟩ => ⟨S64x64, .f32⟩
  | .hbm, ⟨23, _⟩ => ⟨S8x1x8x1, .f32⟩
  | .hbm, ⟨24, _⟩ => ⟨S1x64x1x64, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S512x512, .f32⟩
  | .hbm, ⟨29, _⟩ => ⟨S512x512, .bf16⟩
  | .hbm, ⟨30, _⟩ => ⟨S1x1024, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x512, .f32⟩
  | .hbm, ⟨39, _⟩ => ⟨S1024x1024, .f32⟩
  | .hbm, ⟨40, _⟩ => ⟨S1024x512, .f32⟩
  | .hbm, ⟨41, _⟩ => ⟨S1024x512, .f32⟩
  | .hbm, ⟨42, _⟩ => ⟨S1024x128, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1024x512, .bf16⟩
  | .hbm, ⟨47, _⟩ => ⟨S1024x512, .bf16⟩
  | .hbm, ⟨48, _⟩ => ⟨S1024x512, .bf16⟩
  | .hbm, ⟨49, _⟩ => ⟨S1024x256, .bf16⟩
  | .hbm, ⟨50, _⟩ => ⟨S1024x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1024x3456, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x256, .bf16⟩
  | .local _ .vmem, ⟨27, _⟩ => ⟨S256x256, .bf16⟩
  | .local _ .vmem, ⟨28, _⟩ => ⟨S256x128, .bf16⟩
  | .local _ .vmem, ⟨29, _⟩ => ⟨S256x128, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_v27_6 : Ref sig .tc := ⟨.hbm, 46, rfl⟩
abbrev main_v27_7 : Ref sig .tc := ⟨.hbm, 47, rfl⟩
abbrev main_v27_8 : Ref sig .tc := ⟨.hbm, 48, rfl⟩
abbrev main_v27_9 : Ref sig .tc := ⟨.hbm, 49, rfl⟩
abbrev main_v27_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjSRefIdeal.lean ====
abbrev S128x8x1024 : Shape := ⟨3, ![128, 8, 1024]⟩
abbrev S1024 : Shape := ⟨1, ![1024]⟩
abbrev S1024x3396 : Shape := ⟨2, ![1024, 3396]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x3396 : Shape := ⟨3, ![128, 8, 3396]⟩
abbrev S128x8x512 : Shape := ⟨3, ![128, 8, 512]⟩
abbrev S128x8x256 : Shape := ⟨3, ![128, 8, 256]⟩
abbrev S128x8x64 : Shape := ⟨3, ![128, 8, 64]⟩
abbrev S128x8x4 : Shape := ⟨3, ![128, 8, 4]⟩
abbrev S128x8x8x64 : Shape := ⟨4, ![128, 8, 8, 64]⟩
abbrev S128x8x8 : Shape := ⟨3, ![128, 8, 8]⟩
abbrev S128x8x8x1 : Shape := ⟨4, ![128, 8, 8, 1]⟩
abbrev S1x1x1x64 : Shape := ⟨4, ![1, 1, 1, 64]⟩
abbrev S128x8x60 : Shape := ⟨3, ![128, 8, 60]⟩
abbrev S128x8x128 : Shape := ⟨3, ![128, 8, 128]⟩
abbrev S1024x512 : Shape := ⟨2, ![1024, 512]⟩
abbrev S1024x128 : Shape := ⟨2, ![1024, 128]⟩
abbrev S1024x256 : Shape := ⟨2, ![1024, 256]⟩

abbrev nBuf : Space → Nat
  | .hbm => 90
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3396, .f32⟩
  | .hbm, ⟨3, _⟩ => ⟨S64, .f32⟩
  | .hbm, ⟨4, _⟩ => ⟨S64, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x8x3396, .f32⟩
  | .hbm, ⟨22, _⟩ => ⟨S128x8x512, .f32⟩
  | .hbm, ⟨23, _⟩ => ⟨S128x8x512, .f32⟩
  | .hbm, ⟨24, _⟩ => ⟨S128x8x512, .f32⟩
  | .hbm, ⟨25, _⟩ => ⟨S128x8x512, .f32⟩
  | .hbm, ⟨26, _⟩ => ⟨S128x8x256, .f32⟩
  | .hbm, ⟨27, _⟩ => ⟨S128x8x64, .f32⟩
  | .hbm, ⟨28, _⟩ => ⟨S128x8x4, .f32⟩
  | .hbm, ⟨29, _⟩ => ⟨S128x8x512, .f32⟩
  | .hbm, ⟨30, _⟩ => ⟨S128x8x512, .f32⟩
  | .hbm, ⟨31, _⟩ => ⟨S128x8x8x64, .f32⟩
  | .hbm, ⟨32, _⟩ => ⟨S128x8x8x64, .f32⟩
  | .hbm, ⟨33, _⟩ => ⟨S_, .f32⟩
  | .hbm, ⟨34, _⟩ => ⟨S128x8x8, .f32⟩
  | .hbm, ⟨35, _⟩ => ⟨S128x8x8x1, .f32⟩
  | .hbm, ⟨36, _⟩ => ⟨S_, .f32⟩
  | .hbm, ⟨37, _⟩ => ⟨S128x8x8x1, .f32⟩
  | .hbm, ⟨38, _⟩ => ⟨S128x8x8x1, .f32⟩
  | .hbm, ⟨39, _⟩ => ⟨S_, .f32⟩
  | .hbm, ⟨40, _⟩ => ⟨S128x8x8x1, .f32⟩
  | .hbm, ⟨41, _⟩ => ⟨S128x8x8x1, .f32⟩
  | .hbm, ⟨42, _⟩ => ⟨S128x8x8x1, .f32⟩
  | .hbm, ⟨43, _⟩ => ⟨S128x8x8x64, .f32⟩
  | .hbm, ⟨44, _⟩ => ⟨S128x8x8x64, .f32⟩
  | .hbm, ⟨45, _⟩ => ⟨S1x1x1x64, .f32⟩
  | .hbm, ⟨46, _⟩ => ⟨S128x8x8x64, .f32⟩
  | .hbm, ⟨47, _⟩ => ⟨S128x8x8x64, .f32⟩
  | .hbm, ⟨48, _⟩ => ⟨S128x8x8x64, .f32⟩
  | .hbm, ⟨49, _⟩ => ⟨S128x8x8x64, .f32⟩
  | .hbm, ⟨50, _⟩ => ⟨S_, .f32⟩
  | .hbm, ⟨51, _⟩ => ⟨S128x8x8, .f32⟩
  | .hbm, ⟨52, _⟩ => ⟨S128x8x8x1, .f32⟩
  | .hbm, ⟨53, _⟩ => ⟨S_, .f32⟩
  | .hbm, ⟨54, _⟩ => ⟨S128x8x8x1, .f32⟩
  | .hbm, ⟨55, _⟩ => ⟨S128x8x8x1, .f32⟩
  | .hbm, ⟨56, _⟩ => ⟨S_, .f32⟩
  | .hbm, ⟨57, _⟩ => ⟨S128x8x8x1, .f32⟩
  | .hbm, ⟨58, _⟩ => ⟨S128x8x8x1, .f32⟩
  | .hbm, ⟨59, _⟩ => ⟨S128x8x8x1, .f32⟩
  | .hbm, ⟨60, _⟩ => ⟨S128x8x8x64, .f32⟩
  | .hbm, ⟨61, _⟩ => ⟨S128x8x8x64, .f32⟩
  | .hbm, ⟨62, _⟩ => ⟨S1x1x1x64, .f32⟩
  | .hbm, ⟨63, _⟩ => ⟨S128x8x8x64, .f32⟩
  | .hbm, ⟨64, _⟩ => ⟨S128x8x8x64, .f32⟩
  | .hbm, ⟨65, _⟩ => ⟨S_, .f32⟩
  | .hbm, ⟨66, _⟩ => ⟨S128x8x60, .f32⟩
  | .hbm, ⟨67, _⟩ => ⟨S128x8x128, .f32⟩
  | .hbm, ⟨68, _⟩ => ⟨S1024x512, .f32⟩
  | .hbm, ⟨69, _⟩ => ⟨S1024x512, .f32⟩
  | .hbm, ⟨70, _⟩ => ⟨S1024x128, .f32⟩
  | .hbm, ⟨71, _⟩ => ⟨S1024x512, .f32⟩
  | .hbm, ⟨72, _⟩ => ⟨S1024x512, .f32⟩
  | .hbm, ⟨73, _⟩ => ⟨S1024x512, .f32⟩
  | .hbm, ⟨74, _⟩ => ⟨S_, .f32⟩
  | .hbm, ⟨75, _⟩ => ⟨S128x8x8x64, .f32⟩
  | .hbm, ⟨76, _⟩ => ⟨S128x8x8x64, .f32⟩
  | .hbm, ⟨77, _⟩ => ⟨S1024x512, .f32⟩
  | .hbm, ⟨78, _⟩ => ⟨S1024x512, .bf16⟩
  | .hbm, ⟨79, _⟩ => ⟨S1024x512, .f32⟩
  | .hbm, ⟨80, _⟩ => ⟨S1024x512, .bf16⟩
  | .hbm, ⟨81, _⟩ => ⟨S1024x512, .f32⟩
  | .hbm, ⟨82, _⟩ => ⟨S1024x512, .bf16⟩
  | .hbm, ⟨83, _⟩ => ⟨S_, .f32⟩
  | .hbm, ⟨84, _⟩ => ⟨S128x8x256, .f32⟩
  | .hbm, ⟨85, _⟩ => ⟨S128x8x256, .f32⟩
  | .hbm, ⟨86, _⟩ => ⟨S1024x256, .f32⟩
  | .hbm, ⟨87, _⟩ => ⟨S1024x256, .bf16⟩
  | .hbm, ⟨88, _⟩ => ⟨S1024x128, .f32⟩
  | .hbm, ⟨89, _⟩ => ⟨S1024x128, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== ScanS.lean ====
abbrev S128x8x512 : Shape := ⟨3, ![128, 8, 512]⟩
abbrev S128x32x64 : Shape := ⟨3, ![128, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S32x1 : Shape := ⟨2, ![32, 1]⟩
abbrev S_ : Shape := ⟨0, ![]⟩
abbrev S32x64x1 : Shape := ⟨3, ![32, 64, 1]⟩
abbrev S8x8 : Shape := ⟨2, ![8, 8]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x2048 : Shape := ⟨2, ![1, 2048]⟩
abbrev S1x512 : Shape := ⟨2, ![1, 512]⟩
abbrev S8x128x512 : Shape := ⟨3, ![8, 128, 512]⟩
abbrev S128x2048 : Shape := ⟨2, ![128, 2048]⟩
abbrev S8x128x2048 : Shape := ⟨3, ![8, 128, 2048]⟩
abbrev S1024x512 : Shape := ⟨2, ![1024, 512]⟩
abbrev S1024x128 : Shape := ⟨2, ![1024, 128]⟩
abbrev S1x128x512 : Shape := ⟨3, ![1, 128, 512]⟩
abbrev S128x512 : Shape := ⟨2, ![128, 512]⟩
abbrev S1x128 : Shape := ⟨2, ![1, 128]⟩
abbrev S128x128 : Shape := ⟨2, ![128, 128]⟩
abbrev S1x128x128 : Shape := ⟨3, ![1, 128, 128]⟩
abbrev S1024x2048 : Shape := ⟨2, ![1024, 2048]⟩
abbrev S1x512x128 : Shape := ⟨3, ![1, 512, 128]⟩
abbrev S512x128 : Shape := ⟨2, ![512, 128]⟩

abbrev nBuf : Space → Nat
  | .hbm => 123
  | .vmem => 21
  | .smem => 0
  | _ => 0

abbrev bufTy : (tb : Table) → Fin (tcTables nBuf tb) → BufTy
  | .hbm, ⟨0, _⟩ => ⟨S128x8x512, .f32⟩
  | .hbm, ⟨1, _⟩ => ⟨S128x32x64, .f32⟩
  | .hbm, ⟨2, _⟩ => ⟨S128x32x64, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x64x16, .f32⟩
  | .hbm, ⟨7, _⟩ => ⟨S32x64x16, .f32⟩
  | .hbm, ⟨8, _⟩ => ⟨S32x16x64, .f32⟩
  | .hbm, ⟨9, _⟩ => ⟨S32x16x64, .f32⟩
  | .hbm, ⟨10, _⟩ => ⟨S32x16, .f32⟩
  | .hbm, ⟨11, _⟩ => ⟨S512x512, .f32⟩
  | .hbm, ⟨12, _⟩ => ⟨S512, .f32⟩
  | .hbm, ⟨13, _⟩ => ⟨S32, .f32⟩
  | .hbm, ⟨14, _⟩ => ⟨S32x1, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S_, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x1, .f32⟩
  | .hbm, ⟨47, _⟩ => ⟨S32x64x16, .f32⟩
  | .hbm, ⟨48, _⟩ => ⟨S32x64x16, .f32⟩
  | .hbm, ⟨49, _⟩ => ⟨S32x64x16, .f32⟩
  | .hbm, ⟨50, _⟩ => ⟨S32x64x1, .f32⟩
  | .hbm, ⟨51, _⟩ => ⟨S32x64x16, .f32⟩
  | .hbm, ⟨52, _⟩ => ⟨S32x64x16, .f32⟩
  | .hbm, ⟨53, _⟩ => ⟨S32x64x1, .f32⟩
  | .hbm, ⟨54, _⟩ => ⟨S32x64x16, .f32⟩
  | .hbm, ⟨55, _⟩ => ⟨S32x64x16, .f32⟩
  | .hbm, ⟨56, _⟩ => ⟨S32x64x16, .f32⟩
  | .hbm, ⟨57, _⟩ => ⟨S8x8, .i32⟩
  | .hbm, ⟨58, _⟩ => ⟨S8x8, .i32⟩
  | .hbm, ⟨59, _⟩ => ⟨S_, .i32⟩
  | .hbm, ⟨60, _⟩ => ⟨S8x8, .i32⟩
  | .hbm, ⟨61, _⟩ => ⟨S8x8, .i32⟩
  | .hbm, ⟨62, _⟩ => ⟨S8x8, .i1⟩
  | .hbm, ⟨63, _⟩ => ⟨S8x8, .f32⟩
  | .hbm, ⟨64, _⟩ => ⟨S4x8x64x16, .f32⟩
  | .hbm, ⟨65, _⟩ => ⟨S4x8x16x64, .f32⟩
  | .hbm, ⟨66, _⟩ => ⟨S4x8x16x1x64, .f32⟩
  | .hbm, ⟨67, _⟩ => ⟨S1x8x1x8x1, .f32⟩
  | .hbm, ⟨68, _⟩ => ⟨S4x8x16x8x64, .f32⟩
  | .hbm, ⟨69, _⟩ => ⟨S4x8x16x8x64, .f32⟩
  | .hbm, ⟨70, _⟩ => ⟨S4x8x16x8x64, .f32⟩
  | .hbm, ⟨71, _⟩ => ⟨S4x128x512, .f32⟩
  | .hbm, ⟨72, _⟩ => ⟨S4x128x512, .bf16⟩
  | .hbm, ⟨73, _⟩ => ⟨S4x128x512, .f32⟩
  | .hbm, ⟨74, _⟩ => ⟨S4x128x512, .f32⟩
  | .hbm, ⟨75, _⟩ => ⟨S4x128x512, .bf16⟩
  | .hbm, ⟨76, _⟩ => ⟨S4x8x64x16, .f32⟩
  | .hbm, ⟨77, _⟩ => ⟨S4x8x16x64, .f32⟩
  | .hbm, ⟨78, _⟩ => ⟨S4x8x16x1x64, .f32⟩
  | .hbm, ⟨79, _⟩ => ⟨S1x8x1x8x1, .f32⟩
  | .hbm, ⟨80, _⟩ => ⟨S4x8x16x8x64, .f32⟩
  | .hbm, ⟨81, _⟩ => ⟨S4x8x16x8x64, .f32⟩
  | .hbm, ⟨82, _⟩ => ⟨S4x8x16x8x64, .f32⟩
  | .hbm, ⟨83, _⟩ => ⟨S4x128x512, .f32⟩
  | .hbm, ⟨84, _⟩ => ⟨S4x128x512, .bf16⟩
  | .hbm, ⟨85, _⟩ => ⟨S4x128x512, .f32⟩
  | .hbm, ⟨86, _⟩ => ⟨S4x128x512, .f32⟩
  | .hbm, ⟨87, _⟩ => ⟨S4x128x512, .bf16⟩
  | .hbm, ⟨88, _⟩ => ⟨S4x8x16x64, .f32⟩
  | .hbm, ⟨89, _⟩ => ⟨S4x8x64x16, .f32⟩
  | .hbm, ⟨90, _⟩ => ⟨S4x8x64x1x16, .f32⟩
  | .hbm, ⟨91, _⟩ => ⟨S1x8x1x8x1, .f32⟩
  | .hbm, ⟨92, _⟩ => ⟨S4x8x64x8x16, .f32⟩
  | .hbm, ⟨93, _⟩ => ⟨S4x8x64x8x16, .f32⟩
  | .hbm, ⟨94, _⟩ => ⟨S4x8x64x8x16, .f32⟩
  | .hbm, ⟨95, _⟩ => ⟨S4x512x128, .f32⟩
  | .hbm, ⟨96, _⟩ => ⟨S4x512x128, .bf16⟩
  | .hbm, ⟨97, _⟩ => ⟨S4x512x128, .f32⟩
  | .hbm, ⟨98, _⟩ => ⟨S4x512x128, .f32⟩
  | .hbm, ⟨99, _⟩ => ⟨S4x512x128, .bf16⟩
  | .hbm, ⟨100, _⟩ => ⟨S4x8x16x64, .f32⟩
  | .hbm, ⟨101, _⟩ => ⟨S4x8x64x16, .f32⟩
  | .hbm, ⟨102, _⟩ => ⟨S4x8x64x1x16, .f32⟩
  | .hbm, ⟨103, _⟩ => ⟨S1x8x1x8x1, .f32⟩
  | .hbm, ⟨104, _⟩ => ⟨S4x8x64x8x16, .f32⟩
  | .hbm, ⟨105, _⟩ => ⟨S4x8x64x8x16, .f32⟩
  | .hbm, ⟨106, _⟩ => ⟨S4x8x64x8x16, .f32⟩
  | .hbm, ⟨107, _⟩ => ⟨S4x512x128, .f32⟩
  | .hbm, ⟨108, _⟩ => ⟨S4x512x128, .bf16⟩
  | .hbm, ⟨109, _⟩ => ⟨S4x512x128, .f32⟩
  | .hbm, ⟨110, _⟩ => ⟨S4x512x128, .f32⟩
  | .hbm, ⟨111, _⟩ => ⟨S4x512x128, .bf16⟩
  | .hbm, ⟨112, _⟩ => ⟨S1x2048, .f32⟩
  | .hbm, ⟨113, _⟩ => ⟨S1x2048, .f32⟩
  | .hbm, ⟨114, _⟩ => ⟨S1x512, .f32⟩
  | .hbm, ⟨115, _⟩ => ⟨S512x512, .bf16⟩
  | .hbm, ⟨116, _⟩ => ⟨S1x512, .f32⟩
  | .hbm, ⟨117, _⟩ => ⟨S8x128x512, .f32⟩
  | .hbm, ⟨118, _⟩ => ⟨S128x2048, .f32⟩
  | .hbm, ⟨119, _⟩ => ⟨S128x2048, .f32⟩
  | .hbm, ⟨120, _⟩ => ⟨S8x128x512, .f32⟩
  | .hbm, ⟨121, _⟩ => ⟨S128x2048, .f32⟩
  | .hbm, ⟨122, _⟩ => ⟨S128x2048, .f32⟩
  | .local _ .vmem, ⟨0, _⟩ => ⟨S8x128x512, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S4x128x512, .bf16⟩
  | .local _ .vmem, ⟨6, _⟩ => ⟨S4x128x512, .bf16⟩
  | .local _ .vmem, ⟨7, _⟩ => ⟨S4x128x512, .bf16⟩
  | .local _ .vmem, ⟨8, _⟩ => ⟨S4x128x512, .bf16⟩
  | .local _ .vmem, ⟨9, _⟩ => ⟨S4x512x128, .bf16⟩
  | .local _ .vmem, ⟨10, _⟩ => ⟨S4x512x128, .bf16⟩
  | .local _ .vmem, ⟨11, _⟩ => ⟨S4x512x128, .bf16⟩
  | .local _ .vmem, ⟨12, _⟩ => ⟨S4x512x128, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S8x128x512, .f32⟩
  | .local _ .vmem, ⟨17, _⟩ => ⟨S128x2048, .f32⟩
  | .local _ .vmem, ⟨18, _⟩ => ⟨S128x2048, .f32⟩
  | .local _ .vmem, ⟨19, _⟩ => ⟨S8x128x2048, .f32⟩
  | .local _ .vmem, ⟨20, _⟩ => ⟨S8x128x2048, .f32⟩
  | _, _ => ⟨S128x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104_0 : Ref sig .tc := ⟨.hbm, 120, rfl⟩
abbrev main_v104_1 : Ref sig .tc := ⟨.hbm, 121, rfl⟩
abbrev main_v104_2 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_124 : BitVec 32 := 0#32
  let c8_i32 : BitVec 32 := 8#32
  let v150 : BitVec 32 := Scalar.addi c0_i32_124 c8_i32
  let c1_i32 : BitVec 32 := 1#32
  ⟨c0_i32_124, v150, c1_i32⟩
def k0_off1 (k0_t1 : Fin k0_t1_loop.trips) : Fin 3 → Nat :=
  let c0_i32_124 : BitVec 32 := 0#32
  let c1_i32 : BitVec 32 := 1#32
  let arg22 : BitVec 32 := Scf.iv c0_i32_124 c1_i32 k0_t1
  let v564 : Index := Scalar.indexCast arg22
  let c0_474 : Index := 0#32
  let c0_475 : Index := 0#32
  ![v564.toNat, 0, 0]
@[reducible] def k0_t2_loop : Scf.Loop 32 :=
  let c0_i32_137 : BitVec 32 := 0#32
  let c8_i32_138 : BitVec 32 := 8#32
  let v166 : BitVec 32 := Scalar.addi c0_i32_137 c8_i32_138
  let c1_i32_139 : BitVec 32 := 1#32
  ⟨c0_i32_137, v166, c1_i32_139⟩
def k0_off2 (k0_t2 : Fin k0_t2_loop.trips) : Fin 3 → Nat :=
  let c0_i32_137 : BitVec 32 := 0#32
  let c1_i32_139 : BitVec 32 := 1#32
  let arg22 : BitVec 32 := Scf.iv c0_i32_137 c1_i32_139 k0_t2
  let v564 : Index := Scalar.indexCast arg22
  let c0_474 : Index := 0#32
  let c128_475 : Index := 128#32
  ![v564.toNat, 0, 128]
@[reducible] def k0_t3_loop : Scf.Loop 32 :=
  let c0_i32_152 : BitVec 32 := 0#32
  let c8_i32_153 : BitVec 32 := 8#32
  let v182 : BitVec 32 := Scalar.addi c0_i32_152 c8_i32_153
  let c1_i32_154 : BitVec 32 := 1#32
  ⟨c0_i32_152, v182, c1_i32_154⟩
def k0_off3 (k0_t3 : Fin k0_t3_loop.trips) : Fin 3 → Nat :=
  let c0_i32_152 : BitVec 32 := 0#32
  let c1_i32_154 : BitVec 32 := 1#32
  let arg22 : BitVec 32 := Scf.iv c0_i32_152 c1_i32_154 k0_t3
  let v564 : Index := Scalar.indexCast arg22
  let c0_474 : Index := 0#32
  let c256_475 : Index := 256#32
  ![v564.toNat, 0, 256]
@[reducible] def k0_t4_loop : Scf.Loop 32 :=
  let c0_i32_167 : BitVec 32 := 0#32
  let c8_i32_168 : BitVec 32 := 8#32
  let v198 : BitVec 32 := Scalar.addi c0_i32_167 c8_i32_168
  let c1_i32_169 : BitVec 32 := 1#32
  ⟨c0_i32_167, v198, c1_i32_169⟩
def k0_off4 (k0_t4 : Fin k0_t4_loop.trips) : Fin 3 → Nat :=
  let c0_i32_167 : BitVec 32 := 0#32
  let c1_i32_169 : BitVec 32 := 1#32
  let arg22 : BitVec 32 := Scf.iv c0_i32_167 c1_i32_169 k0_t4
  let v564 : Index := Scalar.indexCast arg22
  let c0_474 : Index := 0#32
  let c384_475 : Index := 384#32
  ![v564.toNat, 0, 384]
@[reducible] def k0_t5_loop : Scf.Loop 32 :=
  let c0_i32_183 : BitVec 32 := 0#32
  let c8_i32_184 : BitVec 32 := 8#32
  let v214 : BitVec 32 := Scalar.addi c0_i32_183 c8_i32_184
  let c1_i32_185 : BitVec 32 := 1#32
  ⟨c0_i32_183, v214, c1_i32_185⟩
def k0_off5 (k0_t5 : Fin k0_t5_loop.trips) : Fin 3 → Nat :=
  let c0_i32_183 : BitVec 32 := 0#32
  let c1_i32_185 : BitVec 32 := 1#32
  let arg22 : BitVec 32 := Scf.iv c0_i32_183 c1_i32_185 k0_t5
  let v564 : Index := Scalar.indexCast arg22
  let c0_474 : Index := 0#32
  let c512_475 : Index := 512#32
  ![v564.toNat, 0, 512]
@[reducible] def k0_t6_loop : Scf.Loop 32 :=
  let c0_i32_198 : BitVec 32 := 0#32
  let c8_i32_199 : BitVec 32 := 8#32
  let v230 : BitVec 32 := Scalar.addi c0_i32_198 c8_i32_199
  let c1_i32_200 : BitVec 32 := 1#32
  ⟨c0_i32_198, v230, c1_i32_200⟩
def k0_off6 (k0_t6 : Fin k0_t6_loop.trips) : Fin 3 → Nat :=
  let c0_i32_198 : BitVec 32 := 0#32
  let c1_i32_200 : BitVec 32 := 1#32
  let arg22 : BitVec 32 := Scf.iv c0_i32_198 c1_i32_200 k0_t6
  let v564 : Index := Scalar.indexCast arg22
  let c0_474 : Index := 0#32
  let c640_475 : Index := 640#32
  ![v564.toNat, 0, 640]
@[reducible] def k0_t7_loop : Scf.Loop 32 :=
  let c0_i32_213 : BitVec 32 := 0#32
  let c8_i32_214 : BitVec 32 := 8#32
  let v246 : BitVec 32 := Scalar.addi c0_i32_213 c8_i32_214
  let c1_i32_215 : BitVec 32 := 1#32
  ⟨c0_i32_213, v246, c1_i32_215⟩
def k0_off7 (k0_t7 : Fin k0_t7_loop.trips) : Fin 3 → Nat :=
  let c0_i32_213 : BitVec 32 := 0#32
  let c1_i32_215 : BitVec 32 := 1#32
  let arg22 : BitVec 32 := Scf.iv c0_i32_213 c1_i32_215 k0_t7
  let v564 : Index := Scalar.indexCast arg22
  let c0_474 : Index := 0#32
  let c768_475 : Index := 768#32
  ![v564.toNat, 0, 768]
@[reducible] def k0_t8_loop : Scf.Loop 32 :=
  let c0_i32_228 : BitVec 32 := 0#32
  let c8_i32_229 : BitVec 32 := 8#32
  let v262 : BitVec 32 := Scalar.addi c0_i32_228 c8_i32_229
  let c1_i32_230 : BitVec 32 := 1#32
  ⟨c0_i32_228, v262, c1_i32_230⟩
def k0_off8 (k0_t8 : Fin k0_t8_loop.trips) : Fin 3 → Nat :=
  let c0_i32_228 : BitVec 32 := 0#32
  let c1_i32_230 : BitVec 32 := 1#32
  let arg22 : BitVec 32 := Scf.iv c0_i32_228 c1_i32_230 k0_t8
  let v564 : Index := Scalar.indexCast arg22
  let c0_474 : Index := 0#32
  let c896_475 : Index := 896#32
  ![v564.toNat, 0, 896]
@[reducible] def k0_t9_loop : Scf.Loop 32 :=
  let c0_i32_244 : BitVec 32 := 0#32
  let c8_i32_245 : BitVec 32 := 8#32
  let v278 : BitVec 32 := Scalar.addi c0_i32_244 c8_i32_245
  let c1_i32_246 : BitVec 32 := 1#32
  ⟨c0_i32_244, v278, c1_i32_246⟩
def k0_off9 (k0_t9 : Fin k0_t9_loop.trips) : Fin 3 → Nat :=
  let c0_i32_244 : BitVec 32 := 0#32
  let c1_i32_246 : BitVec 32 := 1#32
  let arg22 : BitVec 32 := Scf.iv c0_i32_244 c1_i32_246 k0_t9
  let v564 : Index := Scalar.indexCast arg22
  let c0_474 : Index := 0#32
  let c1024_475 : Index := 1024#32
  ![v564.toNat, 0, 1024]
@[reducible] def k0_t10_loop : Scf.Loop 32 :=
  let c0_i32_259 : BitVec 32 := 0#32
  let c8_i32_260 : BitVec 32 := 8#32
  let v294 : BitVec 32 := Scalar.addi c0_i32_259 c8_i32_260
  let c1_i32_261 : BitVec 32 := 1#32
  ⟨c0_i32_259, v294, c1_i32_261⟩
def k0_off10 (k0_t10 : Fin k0_t10_loop.trips) : Fin 3 → Nat :=
  let c0_i32_259 : BitVec 32 := 0#32
  let c1_i32_261 : BitVec 32 := 1#32
  let arg22 : BitVec 32 := Scf.iv c0_i32_259 c1_i32_261 k0_t10
  let v564 : Index := Scalar.indexCast arg22
  let c0_474 : Index := 0#32
  let c1152_475 : Index := 1152#32
  ![v564.toNat, 0, 1152]
@[reducible] def k0_t11_loop : Scf.Loop 32 :=
  let c0_i32_274 : BitVec 32 := 0#32
  let c8_i32_275 : BitVec 32 := 8#32
  let v310 : BitVec 32 := Scalar.addi c0_i32_274 c8_i32_275
  let c1_i32_276 : BitVec 32 := 1#32
  ⟨c0_i32_274, v310, c1_i32_276⟩
def k0_off11 (k0_t11 : Fin k0_t11_loop.trips) : Fin 3 → Nat :=
  let c0_i32_274 : BitVec 32 := 0#32
  let c1_i32_276 : BitVec 32 := 1#32
  let arg22 : BitVec 32 := Scf.iv c0_i32_274 c1_i32_276 k0_t11
  let v564 : Index := Scalar.indexCast arg22
  let c0_474 : Index := 0#32
  let c1280_475 : Index := 1280#32
  ![v564.toNat, 0, 1280]
@[reducible] def k0_t12_loop : Scf.Loop 32 :=
  let c0_i32_289 : BitVec 32 := 0#32
  let c8_i32_290 : BitVec 32 := 8#32
  let v326 : BitVec 32 := Scalar.addi c0_i32_289 c8_i32_290
  let c1_i32_291 : BitVec 32 := 1#32
  ⟨c0_i32_289, v326, c1_i32_291⟩
def k0_off12 (k0_t12 : Fin k0_t12_loop.trips) : Fin 3 → Nat :=
  let c0_i32_289 : BitVec 32 := 0#32
  let c1_i32_291 : BitVec 32 := 1#32
  let arg22 : BitVec 32 := Scf.iv c0_i32_289 c1_i32_291 k0_t12
  let v564 : Index := Scalar.indexCast arg22
  let c0_474 : Index := 0#32
  let c1408_475 : Index := 1408#32
  ![v564.toNat, 0, 1408]
@[reducible] def k0_t13_loop : Scf.Loop 32 :=
  let c0_i32_305 : BitVec 32 := 0#32
  let c8_i32_306 : BitVec 32 := 8#32
  let v342 : BitVec 32 := Scalar.addi c0_i32_305 c8_i32_306
  let c1_i32_307 : BitVec 32 := 1#32
  ⟨c0_i32_305, v342, c1_i32_307⟩
def k0_off13 (k0_t13 : Fin k0_t13_loop.trips) : Fin 3 → Nat :=
  let c0_i32_305 : BitVec 32 := 0#32
  let c1_i32_307 : BitVec 32 := 1#32
  let arg22 : BitVec 32 := Scf.iv c0_i32_305 c1_i32_307 k0_t13
  let v564 : Index := Scalar.indexCast arg22
  let c0_474 : Index := 0#32
  let c1536_475 : Index := 1536#32
  ![v564.toNat, 0, 1536]
@[reducible] def k0_t14_loop : Scf.Loop 32 :=
  let c0_i32_320 : BitVec 32 := 0#32
  let c8_i32_321 : BitVec 32 := 8#32
  let v358 : BitVec 32 := Scalar.addi c0_i32_320 c8_i32_321
  let c1_i32_322 : BitVec 32 := 1#32
  ⟨c0_i32_320, v358, c1_i32_322⟩
def k0_off14 (k0_t14 : Fin k0_t14_loop.trips) : Fin 3 → Nat :=
  let c0_i32_320 : BitVec 32 := 0#32
  let c1_i32_322 : BitVec 32 := 1#32
  let arg22 : BitVec 32 := Scf.iv c0_i32_320 c1_i32_322 k0_t14
  let v564 : Index := Scalar.indexCast arg22
  let c0_474 : Index := 0#32
  let c1664_475 : Index := 1664#32
  ![v564.toNat, 0, 1664]
@[reducible] def k0_t15_loop : Scf.Loop 32 :=
  let c0_i32_335 : BitVec 32 := 0#32
  let c8_i32_336 : BitVec 32 := 8#32
  let v374 : BitVec 32 := Scalar.addi c0_i32_335 c8_i32_336
  let c1_i32_337 : BitVec 32 := 1#32
  ⟨c0_i32_335, v374, c1_i32_337⟩
def k0_off15 (k0_t15 : Fin k0_t15_loop.trips) : Fin 3 → Nat :=
  let c0_i32_335 : BitVec 32 := 0#32
  let c1_i32_337 : BitVec 32 := 1#32
  let arg22 : BitVec 32 := Scf.iv c0_i32_335 c1_i32_337 k0_t15
  let v564 : Index := Scalar.indexCast arg22
  let c0_474 : Index := 0#32
  let c1792_475 : Index := 1792#32
  ![v564.toNat, 0, 1792]
@[reducible] def k0_t16_loop : Scf.Loop 32 :=
  let c0_i32_350 : BitVec 32 := 0#32
  let c8_i32_351 : BitVec 32 := 8#32
  let v390 : BitVec 32 := Scalar.addi c0_i32_350 c8_i32_351
  let c1_i32_352 : BitVec 32 := 1#32
  ⟨c0_i32_350, v390, c1_i32_352⟩
def k0_off16 (k0_t16 : Fin k0_t16_loop.trips) : Fin 3 → Nat :=
  let c0_i32_350 : BitVec 32 := 0#32
  let c1_i32_352 : BitVec 32 := 1#32
  let arg22 : BitVec 32 := Scf.iv c0_i32_350 c1_i32_352 k0_t16
  let v564 : Index := Scalar.indexCast arg22
  let c0_474 : Index := 0#32
  let c1920_475 : Index := 1920#32
  ![v564.toNat, 0, 1920]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ScanSRefIdeal.lean ====
abbrev S128x8x512 : Shape := ⟨3, ![128, 8, 512]⟩
abbrev S128x32x64 : Shape := ⟨3, ![128, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S128x8x32x16 : Shape := ⟨4, ![128, 8, 32, 16]⟩
abbrev S32x1 : Shape := ⟨2, ![32, 1]⟩
abbrev S_ : Shape := ⟨0, ![]⟩
abbrev S32x64x1 : Shape := ⟨3, ![32, 64, 1]⟩
abbrev S32x64x128x8 : Shape := ⟨4, ![32, 64, 128, 8]⟩
abbrev S8x128x32x64 : Shape := ⟨4, ![8, 128, 32, 64]⟩
abbrev S1x128x32x64 : Shape := ⟨4, ![1, 128, 32, 64]⟩
abbrev S1x32x64 : Shape := ⟨3, ![1, 32, 64]⟩
abbrev S128x2048 : Shape := ⟨2, ![128, 2048]⟩

abbrev nBuf : Space → Nat
  | .hbm => 102
  | .vmem => 0
  | .smem => 0
  | _ => 0

abbrev bufTy : (tb : Table) → Fin (tcTables nBuf tb) → BufTy
  | .hbm, ⟨0, _⟩ => ⟨S128x8x512, .f32⟩
  | .hbm, ⟨1, _⟩ => ⟨S128x32x64, .f32⟩
  | .hbm, ⟨2, _⟩ => ⟨S128x32x64, .f32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S32x64x16, .f32⟩
  | .hbm, ⟨7, _⟩ => ⟨S32x64x16, .f32⟩
  | .hbm, ⟨8, _⟩ => ⟨S32x16x64, .f32⟩
  | .hbm, ⟨9, _⟩ => ⟨S32x16x64, .f32⟩
  | .hbm, ⟨10, _⟩ => ⟨S32x16, .f32⟩
  | .hbm, ⟨11, _⟩ => ⟨S512x512, .f32⟩
  | .hbm, ⟨12, _⟩ => ⟨S512, .f32⟩
  | .hbm, ⟨13, _⟩ => ⟨S128x8x32x16, .f32⟩
  | .hbm, ⟨14, _⟩ => ⟨S32, .f32⟩
  | .hbm, ⟨15, _⟩ => ⟨S32x1, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64x1, .f32⟩
  | .hbm, ⟨45, _⟩ => ⟨S32x64x16, .f32⟩
  | .hbm, ⟨46, _⟩ => ⟨S32x64x16, .f32⟩
  | .hbm, ⟨47, _⟩ => ⟨S32x64x1, .f32⟩
  | .hbm, ⟨48, _⟩ => ⟨S32x64x16, .f32⟩
  | .hbm, ⟨49, _⟩ => ⟨S32x64x16, .f32⟩
  | .hbm, ⟨50, _⟩ => ⟨S32x64x16, .f32⟩
  | .hbm, ⟨51, _⟩ => ⟨S32x64x1, .f32⟩
  | .hbm, ⟨52, _⟩ => ⟨S32x64x16, .f32⟩
  | .hbm, ⟨53, _⟩ => ⟨S32x64x16, .f32⟩
  | .hbm, ⟨54, _⟩ => ⟨S32x64x1, .f32⟩
  | .hbm, ⟨55, _⟩ => ⟨S32x64x16, .f32⟩
  | .hbm, ⟨56, _⟩ => ⟨S32x64x16, .f32⟩
  | .hbm, ⟨57, _⟩ => ⟨S32x64x16, .f32⟩
  | .hbm, ⟨58, _⟩ => ⟨S32x64x128x8, .f32⟩
  | .hbm, ⟨59, _⟩ => ⟨S8x128x32x64, .f32⟩
  | .hbm, ⟨60, _⟩ => ⟨S32x64x128x8, .f32⟩
  | .hbm, ⟨61, _⟩ => ⟨S8x128x32x64, .f32⟩
  | .hbm, ⟨62, _⟩ => ⟨S_, .i32⟩
  | .hbm, ⟨63, _⟩ => ⟨S8x128x32x64, .f32⟩
  | .hbm, ⟨64, _⟩ => ⟨S8x128x32x64, .f32⟩
  | .hbm, ⟨65, _⟩ => ⟨S32x64, .f32⟩
  | .hbm, ⟨66, _⟩ => ⟨S32x64, .f32⟩
  | .hbm, ⟨67, _⟩ => ⟨S_, .i32⟩
  | .hbm, ⟨68, _⟩ => ⟨S128x32x64, .f32⟩
  | .hbm, ⟨69, _⟩ => ⟨S128x32x64, .f32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x128x32x64, .f32⟩
  | .hbm, ⟨76, _⟩ => ⟨S128x32x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x128x32x64, .f32⟩
  | .hbm, ⟨81, _⟩ => ⟨S128x32x64, .f32⟩
  | .hbm, ⟨82, _⟩ => ⟨S1x32x64, .f32⟩
  | .hbm, ⟨83, _⟩ => ⟨S128x32x64, .f32⟩
  | .hbm, ⟨84, _⟩ => ⟨S128x32x64, .f32⟩
  | .hbm, ⟨85, _⟩ => ⟨S1x32x64, .f32⟩
  | .hbm, ⟨86, _⟩ => ⟨S128x32x64, .f32⟩
  | .hbm, ⟨87, _⟩ => ⟨S128x32x64, .f32⟩
  | .hbm, ⟨88, _⟩ => ⟨S128x32x64, .f32⟩
  | .hbm, ⟨89, _⟩ => ⟨S128x32x64, .f32⟩
  | .hbm, ⟨90, _⟩ => ⟨S1x32x64, .f32⟩
  | .hbm, ⟨91, _⟩ => ⟨S128x32x64, .f32⟩
  | .hbm, ⟨92, _⟩ => ⟨S128x32x64, .f32⟩
  | .hbm, ⟨93, _⟩ => ⟨S1x32x64, .f32⟩
  | .hbm, ⟨94, _⟩ => ⟨S128x32x64, .f32⟩
  | .hbm, ⟨95, _⟩ => ⟨S128x32x64, .f32⟩
  | .hbm, ⟨96, _⟩ => ⟨S128x32x64, .f32⟩
  | .hbm, ⟨97, _⟩ => ⟨S128x32x64, .f32⟩
  | .hbm, ⟨98, _⟩ => ⟨S_, .i32⟩
  | .hbm, ⟨99, _⟩ => ⟨S_, .i32⟩
  | .hbm, ⟨100, _⟩ => ⟨S128x2048, .f32⟩
  | .hbm, ⟨101, _⟩ => ⟨S128x2048, .f32⟩
  | _, _ => ⟨S128x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47_0 : Ref sig .tc := ⟨.hbm, 63, rfl⟩
abbrev main_v47_1 : Ref sig .tc := ⟨.hbm, 64, rfl⟩
abbrev main_v47_2 : Ref sig .tc := ⟨.hbm, 65, rfl⟩
abbrev main_v47_3 : Ref sig .tc := ⟨.hbm, 66, rfl⟩
abbrev main_v47_4 : Ref sig .tc := ⟨.hbm, 67, rfl⟩
abbrev main_v47_5 : Ref sig .tc := ⟨.hbm, 68, rfl⟩
abbrev main_v47_6 : Ref sig .tc := ⟨.hbm, 69, rfl⟩
abbrev main_while0c_c_7 : Ref sig .tc := ⟨.hbm, 70, rfl⟩
abbrev main_while0c_v50 : Ref sig .tc := ⟨.hbm, 71, rfl⟩
abbrev main_while0b_call0_c : Ref sig .tc := ⟨.hbm, 72, rfl⟩
abbrev main_while0b_call0_c_0 : Ref sig .tc := ⟨.hbm, 73, rfl⟩
abbrev main_while0b_call0_c_1 : Ref sig .tc := ⟨.hbm, 74, rfl⟩
abbrev main_while0b_call0_v0 : Ref sig .tc := ⟨.hbm, 75, rfl⟩
abbrev main_while0b_v50 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_v0 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_c_7 : Ref sig .tc := ⟨.hbm, 98, rfl⟩
abbrev main_while0b_v68 : Ref sig .tc := ⟨.hbm, 99, rfl⟩
abbrev main_v48 : Ref sig .tc := ⟨.hbm, 100, rfl⟩
abbrev main_v49 : Ref sig .tc := ⟨.hbm, 101, rfl⟩

abbrev nD : Nat := 1
abbrev τ : Topo := Topo.v7x

variable {F : FTy → Type} [FloatOps F]

abbrev main_while0_count : Scf.Loop 32 := ⟨0#32, 8#32, 1#32⟩
-- ==== Proof.ScanMath.lean ====
/- The scalar recurrence of one state of one group: what one step makes of the state, the states after `n` steps, and
   how a run of `m + n` steps is a run of `m` followed by a run of `n`. -/
module

public import Idealize.ShloMosaic.Lib.Pointwise
public import Idealize.ShloMosaic.Lib.Pipeline.ValueKit

@[expose] public section

set_option maxRecDepth 16384

noncomputable section

namespace Cert.Scan

open Idealize.ShloMosaic Idealize.ShloMosaic.TcCoe

/-- One step: the state times the complex factor `a + b i`, plus the input. -/
def stepC (a b : EReal) (h x : EReal × EReal) : EReal × EReal :=
  (a * h.1 - b * h.2 + x.1, a * h.2 + b * h.1 + x.2)

/-- The state after `n` steps from `h` on the inputs `x 0`, `x 1`, …. -/
def runC (a b : EReal) (x : ℕ → EReal × EReal) (h : EReal × EReal) : ℕ → EReal × EReal
  | 0 => h
  | n + 1 => stepC a b (runC a b x h n) (x n)

theorem runC_zero (a b : EReal) (x : ℕ → EReal × EReal) (h : EReal × EReal) : runC a b x h 0 = h := rfl

theorem runC_succ (a b : EReal) (x : ℕ → EReal × EReal) (h : EReal × EReal) (n : ℕ) :
    runC a b x h (n + 1) = stepC a b (runC a b x h n) (x n) := rfl

/-- A run of `m + n` steps is a run of `m`, then one of `n` on the inputs from `m` on. -/
theorem runC_add (a b : EReal) (x : ℕ → EReal × EReal) (h : EReal × EReal) (m n : ℕ) :
    runC a b x h (m + n) = runC a b (fun k => x (m + k)) (runC a b x h m) n := by
  induction n with
  | zero => rfl
  | succ n ih => rw [← Nat.add_assoc, runC_succ, ih, runC_succ]

/-- A run reads only the inputs before its end. -/
theorem runC_congr (a b : EReal) (x y : ℕ → EReal × EReal) (h : EReal × EReal) (n : ℕ) (hxy : ∀ k, k < n → x k = y k) :
    runC a b x h n = runC a b y h n := by
  induction n with
  | zero => rfl
  | succ n ih =>
    rw [runC_succ, runC_succ, ih fun k hk => hxy k (Nat.lt_succ_of_lt hk), hxy n (Nat.lt_succ_self n)]

end Cert.Scan
-- ==== Proof.ScanLoop.lean ====
/- The two counted loops of the kernel's body: each steps half of the columns through the 64 rows of a block. Before trip
   `k` the carried vectors are the states after `k` steps, rows before `k` of the two work arrays hold the states after
   their own step, and everything else is as the loop found it. -/
module

public import proofs.«01_k».proof.Proof.ScanMath
public import proofs.«01_k».proof.Proof.Gen.KernelIdeal.Value
public import Idealize.ShloMosaic.Lib.WritesUnit

@[expose] public section

set_option maxRecDepth 16384

noncomputable section

namespace Cert.KernelIdeal.Own

open Idealize.ShloMosaic Idealize.ShloMosaic.TcCoe Cert.KernelIdeal Cert.KernelIdeal.Gen Cert.Scan

/-- What one loop carries: the two vectors of the state and the pieces stored so far into the two work arrays. -/
abbrev LoopSt : Type := (FVec Ideal S8x1024 .f32 × FVec Ideal S8x1024 .f32) ×
  List (View.Piece (Elt Ideal) S64x8x2048 .f32) × List (View.Piece (Elt Ideal) S64x8x2048 .f32)

/-- The input of column `c0 + j` of batch row `b` that a work array holds at row `t` (nothing past its end). -/
def inp (R I : FVec Ideal S64x8x2048 .f32) (b : Fin 8) (q : Fin 2048) (t : ℕ) : EReal × EReal :=
  if h : t < 64 then (R (ix3 ⟨t, h⟩ b q), I (ix3 ⟨t, h⟩ b q)) else (0, 0)

theorem inp_of_lt (R I : FVec Ideal S64x8x2048 .f32) (b : Fin 8) (q : Fin 2048) (t : Fin 64) :
    inp R I b q t.val = (R (ix3 t b q), I (ix3 t b q)) := by
  unfold inp; rw [dif_pos t.isLt]

/-- THE LOOP: from one trip's equations to the state before every trip. -/
theorem loop_run (v v' : View sig .tc .vmem S64x8x2048 .f32) (f : v.ty.Contents (Elt Ideal)) (f' : v'.ty.Contents (Elt Ideal))
    (c0 : ℕ) (hc : c0 + 1024 ≤ 2048) (a a' : Fin 1024 → EReal) (st : ℕ → LoopSt)
    (h0 : (st 0).2.1 = [] ∧ (st 0).2.2 = [])
    (hs : ∀ k : Fin 64, ∃ (off : Fin 3 → ℕ) (inb : ∀ x, off x + S1x8x1024.size x ≤ S64x8x2048.size x)
      (w w' : FVec Ideal S1x8x1024 .f32), off = ![k.val, 0, c0] ∧
      (st (k.val + 1)).2.1 = ⟨Rect.unit (s := S64x8x2048) off S1x8x1024.size inb, w⟩ :: (st k.val).2.1 ∧
      (st (k.val + 1)).2.2 = ⟨Rect.unit (s := S64x8x2048) off S1x8x1024.size inb, w'⟩ :: (st k.val).2.2 ∧
      ∀ (b : Fin 8) (j : Fin 1024), w (ix3 0 b j) = (st (k.val + 1)).1.1 (ix2 b j) ∧ w' (ix3 0 b j) = (st (k.val + 1)).1.2 (ix2 b j) ∧
        ((st (k.val + 1)).1.1 (ix2 b j), (st (k.val + 1)).1.2 (ix2 b j))
          = stepC (a j) (a' j) ((st k.val).1.1 (ix2 b j), (st k.val).1.2 (ix2 b j))
              ((show FVec Ideal S64x8x2048 .f32 from v.read (Elt Ideal) (v.writes (Elt Ideal) f (st k.val).2.1)) (ix3 k b ⟨c0 + j.val, by omega⟩),
               (show FVec Ideal S64x8x2048 .f32 from v'.read (Elt Ideal) (v'.writes (Elt Ideal) f' (st k.val).2.2)) (ix3 k b ⟨c0 + j.val, by omega⟩)))
    (k : ℕ) (hk : k ≤ 64) :
    (∀ (b : Fin 8) (j : Fin 1024), ((st k).1.1 (ix2 b j), (st k).1.2 (ix2 b j))
        = runC (a j) (a' j) (inp (v.read (Elt Ideal) f) (v'.read (Elt Ideal) f') b ⟨c0 + j.val, by omega⟩) ((st 0).1.1 (ix2 b j), (st 0).1.2 (ix2 b j)) k) ∧
    (∀ (t : Fin 64) (b : Fin 8) (j : Fin 1024), t.val < k →
        ((show FVec Ideal S64x8x2048 .f32 from v.read (Elt Ideal) (v.writes (Elt Ideal) f (st k).2.1)) (ix3 t b ⟨c0 + j.val, by omega⟩),
         (show FVec Ideal S64x8x2048 .f32 from v'.read (Elt Ideal) (v'.writes (Elt Ideal) f' (st k).2.2)) (ix3 t b ⟨c0 + j.val, by omega⟩))
        = runC (a j) (a' j) (inp (v.read (Elt Ideal) f) (v'.read (Elt Ideal) f') b ⟨c0 + j.val, by omega⟩) ((st 0).1.1 (ix2 b j), (st 0).1.2 (ix2 b j)) (t.val + 1)) ∧
    (∀ (t : Fin 64) (b : Fin 8) (q : Fin 2048), (k ≤ t.val ∨ q.val < c0 ∨ c0 + 1024 ≤ q.val) →
        v.read (Elt Ideal) (v.writes (Elt Ideal) f (st k).2.1) (ix3 t b q) = v.read (Elt Ideal) f (ix3 t b q) ∧
        v'.read (Elt Ideal) (v'.writes (Elt Ideal) f' (st k).2.2) (ix3 t b q) = v'.read (Elt Ideal) f' (ix3 t b q)) := by
  induction k with
  | zero =>
    refine ⟨fun b j => rfl, fun t b j ht => absurd ht (Nat.not_lt_zero _), fun t b q _ => ?_⟩
    rw [h0.1, h0.2]; exact ⟨rfl, rfl⟩
  | succ k ih =>
    obtain ⟨ih1, ih2, ih3⟩ := ih (by omega)
    obtain ⟨off, inb, w, w', hoff, hL, hL', hw⟩ := hs ⟨k, by omega⟩
    have hstep : ∀ (b : Fin 8) (j : Fin 1024), ((st (k + 1)).1.1 (ix2 b j), (st (k + 1)).1.2 (ix2 b j))
        = runC (a j) (a' j) (inp (v.read (Elt Ideal) f) (v'.read (Elt Ideal) f') b ⟨c0 + j.val, by omega⟩) ((st 0).1.1 (ix2 b j), (st 0).1.2 (ix2 b j)) (k + 1) := by
      intro b j
      have h3 := ih3 ⟨k, by omega⟩ b ⟨c0 + j.val, by omega⟩ (Or.inl (le_refl _))
      rw [runC_succ, ← ih1 b j, (hw b j).2.2]
      refine congrArg _ ?_
      rw [show inp (v.read (Elt Ideal) f) (v'.read (Elt Ideal) f') b ⟨c0 + j.val, by omega⟩ k = _ from
        inp_of_lt (v.read (Elt Ideal) f) (v'.read (Elt Ideal) f') b ⟨c0 + j.val, by omega⟩ ⟨k, by omega⟩]
      exact Prod.ext h3.1 h3.2
    refine ⟨hstep, fun t b j ht => ?_, fun t b q hq => ?_⟩
    · rw [hL, hL']
      by_cases htk : t.val = k
      · have hx : ∀ x : Fin 3, ((ix3 t b ⟨c0 + j.val, by omega⟩ : S64x8x2048.Idx) x).val = (![k, 0, c0] : Fin 3 → ℕ) x + ((ix3 0 b j : S1x8x1024.Idx) x).val := by
          intro x; fin_cases x
          · show t.val = k + 0; omega
          · show b.val = 0 + b.val; omega
          · rfl
        have e1 := View.read_writes_cons_unit_of_mem v f inb w (st k).2.1 (ix3 t b ⟨c0 + j.val, by omega⟩) (ix3 0 b j) hoff hx
        have e2 := View.read_writes_cons_unit_of_mem v' f' inb w' (st k).2.2 (ix3 t b ⟨c0 + j.val, by omega⟩) (ix3 0 b j) hoff hx
        refine (Prod.ext e1 e2 : _ = (w (ix3 0 b j), w' (ix3 0 b j))).trans ?_
        rw [(hw b j).1, (hw b j).2.1, hstep b j, htk]
      · have e1 := View.read_writes_cons_unit_of_not_mem v f inb w (st k).2.1 (ix3 t b ⟨c0 + j.val, by omega⟩) hoff 0 (Or.inl (by show t.val < k; omega))
        have e2 := View.read_writes_cons_unit_of_not_mem v' f' inb w' (st k).2.2 (ix3 t b ⟨c0 + j.val, by omega⟩) hoff 0 (Or.inl (by show t.val < k; omega))
        exact (Prod.ext e1 e2).trans (ih2 t b j (by omega))
    · rw [hL, hL']
      have hne : ∃ x : Fin 3, ((ix3 t b q : S64x8x2048.Idx) x).val < (![k, 0, c0] : Fin 3 → ℕ) x ∨ (![k, 0, c0] : Fin 3 → ℕ) x + S1x8x1024.size x ≤ ((ix3 t b q : S64x8x2048.Idx) x).val := by
        rcases hq with h | h | h
        · exact ⟨0, Or.inr (by show k + 1 ≤ t.val; omega)⟩
        · exact ⟨2, Or.inl (by show q.val < c0; omega)⟩
        · exact ⟨2, Or.inr (by show c0 + 1024 ≤ q.val; omega)⟩
      obtain ⟨x, hx⟩ := hne
      rw [View.read_writes_cons_unit_of_not_mem v f inb w (st k).2.1 (ix3 t b q) hoff x hx,
        View.read_writes_cons_unit_of_not_mem v' f' inb w' (st k).2.2 (ix3 t b q) hoff x hx]
      exact ih3 t b q (by omega)

end Cert.KernelIdeal.Own
-- ==== Proof.ScanTrip.lean ====
/- One trip of each loop, and the two loops run to the end: the carried vectors are the states after 64 steps, the columns
   of the loop's half of the two work arrays hold the states after every step, and the other half is untouched. -/
module

public import proofs.«01_k».proof.Proof.ScanLoop

@[expose] public section

set_option maxRecDepth 16384

noncomputable section

namespace Cert.KernelIdeal.Own

open Idealize.ShloMosaic Idealize.ShloMosaic.TcCoe Cert.KernelIdeal Cert.KernelIdeal.Gen Cert.Scan

variable (c : Dev nD) (i : grid0.Coords)
variable (arg1 : Memref sig .tc .vmem S64x8x512 .f32) (harg1 : arg1.IsWhole)
variable (arg2 : Memref sig .tc .vmem S8x2048 .f32) (harg2 : arg2.IsWhole)
variable (arg3 : Memref sig .tc .vmem S8x2048 .f32) (harg3 : arg3.IsWhole)
variable (arg4 : Memref sig .tc .vmem S1x2048 .f32) (harg4 : arg4.IsWhole)
variable (arg5 : Memref sig .tc .vmem S1x2048 .f32) (harg5 : arg5.IsWhole)
variable (arg6 : Memref sig .tc .vmem S4x128x512 .bf16) (harg6 : arg6.IsWhole)
variable (arg7 : Memref sig .tc .vmem S4x128x512 .bf16) (harg7 : arg7.IsWhole)
variable (arg8 : Memref sig .tc .vmem S4x512x128 .bf16) (harg8 : arg8.IsWhole)
variable (arg9 : Memref sig .tc .vmem S4x512x128 .bf16) (harg9 : arg9.IsWhole)
variable (arg10 : Memref sig .tc .vmem S1x512 .f32) (harg10 : arg10.IsWhole)
variable (arg11 : Memref sig .tc .vmem S512x512 .bf16) (harg11 : arg11.IsWhole)
variable (arg12 : Memref sig .tc .vmem S1x512 .f32) (harg12 : arg12.IsWhole)
variable (arg13 : Memref sig .tc .vmem S64x8x512 .f32) (harg13 : arg13.IsWhole)
variable (arg14 : Memref sig .tc .vmem S8x2048 .f32) (harg14 : arg14.IsWhole)
variable (arg15 : Memref sig .tc .vmem S8x2048 .f32) (harg15 : arg15.IsWhole)
variable (arg16 : Memref sig .tc .vmem S64x8x2048 .f32) (harg16 : arg16.IsWhole)
variable (arg17 : Memref sig .tc .vmem S64x8x2048 .f32) (harg17 : arg17.IsWhole)

theorem trips1 : k0_t1_loop.trips = 64 := by decide
theorem trips2 : k0_t2_loop.trips = 64 := by decide

/-- What a trip of the first loop carries on. -/
theorem trip1_fst (v52 : FVec Ideal S512x128 .bf16) (v55 : FVec Ideal S512x512 .f32) (v57 : FVec Ideal S128x512 .bf16) (v67 v71 : Vec Ideal S1x1024 .f32) (k : Fin k0_t1_loop.trips)
    (acc : FVec Ideal S8x1024 .f32 × FVec Ideal S8x1024 .f32) (f : BufTy.Contents (Elt Ideal) arg16.view.ty) (f' : BufTy.Contents (Elt Ideal) arg17.view.ty) :
    tripR_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v52 v55 v57 v67 v71 k acc f f'
      = (k0_pay26 v67 v71 acc.1 acc.2 (View.readAt (Elt Ideal) arg16.view (Rect.unit (s := S64x8x2048) (k0_off1 k) S1x8x1024.size (k0_off1_inb k)).toLoadRect f),
         k0_pay27 v67 v71 acc.1 acc.2 (View.readAt (Elt Ideal) arg17.view (Rect.unit (s := S64x8x2048) (k0_off1 k) S1x8x1024.size (k0_off1_inb k)).toLoadRect f')) := by
  unfold tripR_k0_t1 trip_k0_t1; rfl

/-- What a trip of the first loop stores. -/
theorem trip1_snd (v52 : FVec Ideal S512x128 .bf16) (v55 : FVec Ideal S512x512 .f32) (v57 : FVec Ideal S128x512 .bf16) (v67 v71 : Vec Ideal S1x1024 .f32) (k : Fin k0_t1_loop.trips)
    (acc : FVec Ideal S8x1024 .f32 × FVec Ideal S8x1024 .f32) (f : BufTy.Contents (Elt Ideal) arg16.view.ty) (f' : BufTy.Contents (Elt Ideal) arg17.view.ty) :
    tripL_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v52 v55 v57 v67 v71 k acc f f'
      = ([⟨Rect.unit (s := S64x8x2048) (k0_off1 k) S1x8x1024.size (k0_off1_inb k), k0_pay28 v67 v71 acc.1 acc.2 (View.readAt (Elt Ideal) arg16.view (Rect.unit (s := S64x8x2048) (k0_off1 k) S1x8x1024.size (k0_off1_inb k)).toLoadRect f)⟩],
         [⟨Rect.unit (s := S64x8x2048) (k0_off1 k) S1x8x1024.size (k0_off1_inb k), k0_pay29 v67 v71 acc.1 acc.2 (View.readAt (Elt Ideal) arg17.view (Rect.unit (s := S64x8x2048) (k0_off1 k) S1x8x1024.size (k0_off1_inb k)).toLoadRect f')⟩]) := by
  unfold tripL_k0_t1 trip_k0_t1; rfl

/-- What a trip of the second loop carries on. -/
theorem trip2_fst (v86 : FVec Ideal S8x1024 .f32) (v87 : Vec Ideal S1x1024 .f32) (k : Fin k0_t2_loop.trips)
    (acc : FVec Ideal S8x1024 .f32 × FVec Ideal S8x1024 .f32) (f : BufTy.Contents (Elt Ideal) arg16.view.ty) (f' : BufTy.Contents (Elt Ideal) arg17.view.ty) :
    tripR_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v86 v87 k acc f f'
      = (k0_pay34 v86 v87 acc.1 acc.2 (View.readAt (Elt Ideal) arg16.view (Rect.unit (s := S64x8x2048) (k0_off2 k) S1x8x1024.size (k0_off2_inb k)).toLoadRect f),
         k0_pay35 v86 v87 acc.1 acc.2 (View.readAt (Elt Ideal) arg17.view (Rect.unit (s := S64x8x2048) (k0_off2 k) S1x8x1024.size (k0_off2_inb k)).toLoadRect f')) := by
  unfold tripR_k0_t2 trip_k0_t2; rfl

/-- What a trip of the second loop stores. -/
theorem trip2_snd (v86 : FVec Ideal S8x1024 .f32) (v87 : Vec Ideal S1x1024 .f32) (k : Fin k0_t2_loop.trips)
    (acc : FVec Ideal S8x1024 .f32 × FVec Ideal S8x1024 .f32) (f : BufTy.Contents (Elt Ideal) arg16.view.ty) (f' : BufTy.Contents (Elt Ideal) arg17.view.ty) :
    tripL_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v86 v87 k acc f f'
      = ([⟨Rect.unit (s := S64x8x2048) (k0_off2 k) S1x8x1024.size (k0_off2_inb k), k0_pay36 v86 v87 acc.1 acc.2 (View.readAt (Elt Ideal) arg16.view (Rect.unit (s := S64x8x2048) (k0_off2 k) S1x8x1024.size (k0_off2_inb k)).toLoadRect f)⟩],
         [⟨Rect.unit (s := S64x8x2048) (k0_off2 k) S1x8x1024.size (k0_off2_inb k), k0_pay37 v86 v87 acc.1 acc.2 (View.readAt (Elt Ideal) arg17.view (Rect.unit (s := S64x8x2048) (k0_off2 k) S1x8x1024.size (k0_off2_inb k)).toLoadRect f')⟩]) := by
  unfold tripL_k0_t2 trip_k0_t2; rfl

/-- One entry of the first loop's step. -/
theorem pay26_ix (a a' : Vec Ideal S1x1024 .f32) (h h' : FVec Ideal S8x1024 .f32) (r r' : Vec Ideal S1x8x1024 .f32) (b : Fin 8) (j : Fin 1024) :
    (k0_pay26 a a' h h' r (ix2 b j), k0_pay27 a a' h h' r' (ix2 b j))
      = stepC (a (ix2 0 j)) (a' (ix2 0 j)) (h (ix2 b j), h' (ix2 b j)) (r (ix3 0 b j), r' (ix3 0 b j)) := by
  refine Prod.ext ?_ ?_
  · show k0_pay26 a a' h h' r (ix2 b j) = _
    unfold k0_pay26 k0_pay22 k0_pay23
    pointwise
    rfl
  · show k0_pay27 a a' h h' r' (ix2 b j) = _
    unfold k0_pay27 k0_pay22 k0_pay23
    pointwise
    rfl

theorem pay28_ix (a a' : Vec Ideal S1x1024 .f32) (h h' : FVec Ideal S8x1024 .f32) (r : Vec Ideal S1x8x1024 .f32) (b : Fin 8) (j : Fin 1024) :
    k0_pay28 a a' h h' r (ix3 0 b j) = k0_pay26 a a' h h' r (ix2 b j) := by
  unfold k0_pay28; generalize k0_pay26 a a' h h' r = z; pointwise

theorem pay29_ix (a a' : Vec Ideal S1x1024 .f32) (h h' : FVec Ideal S8x1024 .f32) (r : Vec Ideal S1x8x1024 .f32) (b : Fin 8) (j : Fin 1024) :
    k0_pay29 a a' h h' r (ix3 0 b j) = k0_pay27 a a' h h' r (ix2 b j) := by
  unfold k0_pay29; generalize k0_pay27 a a' h h' r = z; pointwise

/-- One entry of the second loop's step. -/
theorem pay34_ix (e a' : Vec Ideal S1x1024 .f32) (h h' : FVec Ideal S8x1024 .f32) (r r' : Vec Ideal S1x8x1024 .f32) (b : Fin 8) (j : Fin 1024) :
    (k0_pay34 (k0_pay30 e) a' h h' r (ix2 b j), k0_pay35 (k0_pay30 e) a' h h' r' (ix2 b j))
      = stepC (e (ix2 0 j)) (a' (ix2 0 j)) (h (ix2 b j), h' (ix2 b j)) (r (ix3 0 b j), r' (ix3 0 b j)) := by
  refine Prod.ext ?_ ?_
  · show k0_pay34 (k0_pay30 e) a' h h' r (ix2 b j) = _
    unfold k0_pay34 k0_pay30 k0_pay31
    pointwise
    rfl
  · show k0_pay35 (k0_pay30 e) a' h h' r' (ix2 b j) = _
    unfold k0_pay35 k0_pay30 k0_pay31
    pointwise
    rfl

theorem pay36_ix (e : FVec Ideal S8x1024 .f32) (a' : Vec Ideal S1x1024 .f32) (h h' : FVec Ideal S8x1024 .f32) (r : Vec Ideal S1x8x1024 .f32) (b : Fin 8) (j : Fin 1024) :
    k0_pay36 e a' h h' r (ix3 0 b j) = k0_pay34 e a' h h' r (ix2 b j) := by
  unfold k0_pay36; generalize k0_pay34 e a' h h' r = z; pointwise

theorem pay37_ix (e : FVec Ideal S8x1024 .f32) (a' : Vec Ideal S1x1024 .f32) (h h' : FVec Ideal S8x1024 .f32) (r : Vec Ideal S1x8x1024 .f32) (b : Fin 8) (j : Fin 1024) :
    k0_pay37 e a' h h' r (ix3 0 b j) = k0_pay35 e a' h h' r (ix2 b j) := by
  unfold k0_pay37; generalize k0_pay35 e a' h h' r = z; pointwise

/-- A row read out of a work array is the array's row. -/
theorem read_row (v : View sig .tc .vmem S64x8x2048 .f32) (f : v.ty.Contents (Elt Ideal)) (off : Fin 3 → ℕ)
    (inb : ∀ x, off x + S1x8x1024.size x ≤ S64x8x2048.size x) (k : Fin 64) (c0 : ℕ) (hc : c0 + 1024 ≤ 2048) (hoff : off = ![k.val, 0, c0]) (b : Fin 8) (j : Fin 1024) :
    (show FVec Ideal S1x8x1024 .f32 from View.readAt (Elt Ideal) v (Rect.unit (s := S64x8x2048) off S1x8x1024.size inb).toLoadRect f) (ix3 0 b j)
      = (show FVec Ideal S64x8x2048 .f32 from v.read (Elt Ideal) f) (ix3 k b ⟨c0 + j.val, by omega⟩) := by
  subst hoff
  refine congrArg (v.read (Elt Ideal) f) (funext fun x => Fin.ext ?_)
  fin_cases x
  · show k.val + 1 * 0 = k.val; omega
  · show 0 + 1 * b.val = b.val; omega
  · show c0 + 1 * j.val = c0 + j.val; omega

/-- How a loop over columns `c0 + j` ends, from the work arrays' contents `f`, `f'` and the vectors `h`, `h'`: the carried
vectors are the states after 64 steps, the loop's columns of the work arrays hold the state after every row's step, the
other columns are as they were. -/
def LoopEnd (v v' : View sig .tc .vmem S64x8x2048 .f32) (f : v.ty.Contents (Elt Ideal)) (f' : v'.ty.Contents (Elt Ideal))
    (c0 : ℕ) (hc : c0 + 1024 ≤ 2048) (a a' : Fin 1024 → EReal) (h h' : FVec Ideal S8x1024 .f32) (s : LoopSt) : Prop :=
  (∀ (b : Fin 8) (j : Fin 1024), (s.1.1 (ix2 b j), s.1.2 (ix2 b j))
      = runC (a j) (a' j) (inp (v.read (Elt Ideal) f) (v'.read (Elt Ideal) f') b ⟨c0 + j.val, by omega⟩) (h (ix2 b j), h' (ix2 b j)) 64) ∧
  (∀ (t : Fin 64) (b : Fin 8) (j : Fin 1024),
      ((show FVec Ideal S64x8x2048 .f32 from v.read (Elt Ideal) (v.writes (Elt Ideal) f s.2.1)) (ix3 t b ⟨c0 + j.val, by omega⟩),
       (show FVec Ideal S64x8x2048 .f32 from v'.read (Elt Ideal) (v'.writes (Elt Ideal) f' s.2.2)) (ix3 t b ⟨c0 + j.val, by omega⟩))
      = runC (a j) (a' j) (inp (v.read (Elt Ideal) f) (v'.read (Elt Ideal) f') b ⟨c0 + j.val, by omega⟩) (h (ix2 b j), h' (ix2 b j)) (t.val + 1)) ∧
  (∀ (t : Fin 64) (b : Fin 8) (q : Fin 2048), (q.val < c0 ∨ c0 + 1024 ≤ q.val) →
      v.read (Elt Ideal) (v.writes (Elt Ideal) f s.2.1) (ix3 t b q) = v.read (Elt Ideal) f (ix3 t b q) ∧
      v'.read (Elt Ideal) (v'.writes (Elt Ideal) f' s.2.2) (ix3 t b q) = v'.read (Elt Ideal) f' (ix3 t b q))

/-- Loop 1 run to its end. -/
theorem loop1_run (v52 : FVec Ideal S512x128 .bf16) (v55 : FVec Ideal S512x512 .f32) (v57 : FVec Ideal S128x512 .bf16) (v67 v71 : Vec Ideal S1x1024 .f32) (f : BufTy.Contents (Elt Ideal) arg16.view.ty) (f' : BufTy.Contents (Elt Ideal) arg17.view.ty)
    (init : FVec Ideal S8x1024 .f32 × FVec Ideal S8x1024 .f32) :
    LoopEnd arg16.view arg17.view f f' 0 (by decide) (fun j => v67 (ix2 0 j)) (fun j => v71 (ix2 0 j)) init.1 init.2
      (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v52 v55 v57 v67 v71 f f' init 64) := by
  have hs : ∀ k : Fin 64, _ := fun k => st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v52 v55 v57 v67 v71 f f' init ⟨k.val, lt_of_lt_of_eq k.isLt trips1.symm⟩
  have key := loop_run arg16.view arg17.view f f' 0 (by decide) (fun j => v67 (ix2 0 j)) (fun j => v71 (ix2 0 j))
    (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v52 v55 v57 v67 v71 f f' init) ⟨rfl, rfl⟩ ?_ 64 (le_refl _)
  · exact ⟨key.1, fun t b j => key.2.1 t b j t.isLt, fun t b q hq => key.2.2 t b q (Or.inr hq)⟩
  · intro k
    have e := hs k
    rw [trip1_fst, trip1_snd] at e
    refine ⟨_, k0_off1_inb ⟨k.val, lt_of_lt_of_eq k.isLt trips1.symm⟩, _, _, k0_off1_eq _, congrArg (fun z => z.2.1) e, congrArg (fun z => z.2.2) e, fun b j => ?_⟩
    rw [e]
    refine ⟨pay28_ix .., pay29_ix .., ?_⟩
    refine (pay26_ix ..).trans (congrArg _ (Prod.ext ?_ ?_))
    · exact read_row arg16.view _ _ _ k 0 (by decide) (k0_off1_eq _) b j
    · exact read_row arg17.view _ _ _ k 0 (by decide) (k0_off1_eq _) b j

/-- Loop 2 run to its end. -/
theorem loop2_run (e v87 : Vec Ideal S1x1024 .f32) (f : BufTy.Contents (Elt Ideal) arg16.view.ty) (f' : BufTy.Contents (Elt Ideal) arg17.view.ty)
    (init : FVec Ideal S8x1024 .f32 × FVec Ideal S8x1024 .f32) :
    LoopEnd arg16.view arg17.view f f' 1024 (by decide) (fun j => e (ix2 0 j)) (fun j => v87 (ix2 0 j)) init.1 init.2
      (st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay30 e) v87 f f' init 64) := by
  have hs : ∀ k : Fin 64, _ := fun k => st_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay30 e) v87 f f' init ⟨k.val, lt_of_lt_of_eq k.isLt trips2.symm⟩
  have key := loop_run arg16.view arg17.view f f' 1024 (by decide) (fun j => e (ix2 0 j)) (fun j => v87 (ix2 0 j))
    (st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay30 e) v87 f f' init) ⟨rfl, rfl⟩ ?_ 64 (le_refl _)
  · exact ⟨key.1, fun t b j => key.2.1 t b j t.isLt, fun t b q hq => key.2.2 t b q (Or.inr hq)⟩
  · intro k
    have e := hs k
    rw [trip2_fst, trip2_snd] at e
    refine ⟨_, k0_off2_inb ⟨k.val, lt_of_lt_of_eq k.isLt trips2.symm⟩, _, _, k0_off2_eq _, congrArg (fun z => z.2.1) e, congrArg (fun z => z.2.2) e, fun b j => ?_⟩
    rw [e]
    refine ⟨pay36_ix .., pay37_ix .., ?_⟩
    refine (pay34_ix ..).trans (congrArg _ (Prod.ext ?_ ?_))
    · exact read_row arg16.view _ _ _ k 1024 (by decide) (k0_off2_eq _) b j
    · exact read_row arg17.view _ _ _ k 1024 (by decide) (k0_off2_eq _) b j

end Cert.KernelIdeal.Own
-- ==== Proof.ScanPay.lean ====
/- What the body's values are at an index: the input products of the four chunks as the two work arrays hold them, the
   outputs' products, the gate. -/
module

public import proofs.«01_k».proof.Proof.ScanTrip

@[expose] public section

set_option maxRecDepth 16384

noncomputable section

namespace Cert.KernelIdeal.Own

open Idealize.ShloMosaic Idealize.ShloMosaic.TcCoe Cert.KernelIdeal Cert.KernelIdeal.Gen Cert.Scan

/-- The input product of column `q` of batch row `b` at row `t`: 128 features against the 128 rows of the column's chunk. -/
def xin (x : Vec Ideal S64x8x512 .f32) (w : Vec Ideal S4x128x512 .bf16) (t : Fin 64) (b : Fin 8) (q : Fin 2048) : EReal :=
  ∑ k : Fin 128, x (ix3 t b ⟨128 * (q.val / 512) + k.val, by omega⟩) * w (ix3 ⟨q.val / 512, by omega⟩ k ⟨q.val % 512, by omega⟩)

/-- Feature `e` of the output before the gate, from the states of its chunk. -/
def yv (x : Vec Ideal S64x8x512 .f32) (R I : Fin 2048 → EReal) (C D : Vec Ideal S4x512x128 .bf16) (d : Vec Ideal S1x512 .f32)
    (t : Fin 64) (b : Fin 8) (e : Fin 512) : EReal :=
  (∑ k : Fin 512, R ⟨512 * (e.val / 128) + k.val, by omega⟩ * C (ix3 ⟨e.val / 128, by omega⟩ k ⟨e.val % 128, by omega⟩))
    - (∑ k : Fin 512, I ⟨512 * (e.val / 128) + k.val, by omega⟩ * D (ix3 ⟨e.val / 128, by omega⟩ k ⟨e.val % 128, by omega⟩))
    + d (ix2 0 e) * x (ix3 t b e)

/-- The activation of one entry. -/
def gl (v : EReal) : EReal :=
  v * (Ideal.ofBits .f32 1056964608#32 * (1 + Ideal.tanh (Ideal.ofBits .f32 1061962282#32 *
    (v + Ideal.ofBits .f32 1027024659#32 * (v * (v * v))))))

/-- One row through the activation and the gate. -/
def gate (v : Fin 512 → EReal) (w : Vec Ideal S512x512 .bf16) (bb : Vec Ideal S1x512 .f32) (e : Fin 512) : EReal :=
  gl (v e) * Ideal.logistic ((∑ k : Fin 512, gl (v k) * w (ix2 k e)) + bb (ix2 0 e))

theorem pay7_ix (x : Vec Ideal S64x8x512 .f32) (w : Vec Ideal S1x128x512 .bf16) (t : Fin 64) (b : Fin 8) (l : Fin 512) :
    k0_pay7 x w (ix3 t b l) = ∑ k : Fin 128, x (ix3 t b ⟨k.val, by omega⟩) * w (ix3 0 k l) := by
  pointwise [k0_pay7, k0_pay6, k0_pay5, k0_pay4]
theorem pay8_ix (x : Vec Ideal S64x8x512 .f32) (w : Vec Ideal S1x128x512 .bf16) (t : Fin 64) (b : Fin 8) (l : Fin 512) :
    k0_pay8 x w (ix3 t b l) = ∑ k : Fin 128, x (ix3 t b ⟨k.val, by omega⟩) * w (ix3 0 k l) := by
  pointwise [k0_pay8, k0_pay6, k0_pay5, k0_pay4]
theorem pay12_ix (x : Vec Ideal S64x8x512 .f32) (w : Vec Ideal S1x128x512 .bf16) (t : Fin 64) (b : Fin 8) (l : Fin 512) :
    k0_pay12 (k0_pay10 x w) (ix3 t b l) = ∑ k : Fin 128, x (ix3 t b ⟨128 + k.val, by omega⟩) * w (ix3 0 k l) := by
  pointwise [k0_pay12, k0_pay10, k0_pay9, k0_pay5, k0_pay4]
theorem pay13_ix (x : Vec Ideal S64x8x512 .f32) (w : Vec Ideal S1x128x512 .bf16) (t : Fin 64) (b : Fin 8) (l : Fin 512) :
    k0_pay13 (k0_pay11 x w) (ix3 t b l) = ∑ k : Fin 128, x (ix3 t b ⟨128 + k.val, by omega⟩) * w (ix3 0 k l) := by
  pointwise [k0_pay13, k0_pay11, k0_pay9, k0_pay5, k0_pay4]
theorem pay15_ix (x : Vec Ideal S64x8x512 .f32) (w : Vec Ideal S1x128x512 .bf16) (t : Fin 64) (b : Fin 8) (l : Fin 512) :
    k0_pay15 (k0_pay5 x) w (ix3 t b l) = ∑ k : Fin 128, x (ix3 t b ⟨256 + k.val, by omega⟩) * w (ix3 0 k l) := by
  pointwise [k0_pay15, k0_pay14, k0_pay5, k0_pay4]
theorem pay16_ix (x : Vec Ideal S64x8x512 .f32) (w : Vec Ideal S1x128x512 .bf16) (t : Fin 64) (b : Fin 8) (l : Fin 512) :
    k0_pay16 (k0_pay5 x) w (ix3 t b l) = ∑ k : Fin 128, x (ix3 t b ⟨256 + k.val, by omega⟩) * w (ix3 0 k l) := by
  pointwise [k0_pay16, k0_pay14, k0_pay5, k0_pay4]
theorem pay20_ix (x : Vec Ideal S64x8x512 .f32) (w : Vec Ideal S1x128x512 .bf16) (t : Fin 64) (b : Fin 8) (l : Fin 512) :
    k0_pay20 (k0_pay18 (k0_pay5 x) w) (ix3 t b l) = ∑ k : Fin 128, x (ix3 t b ⟨384 + k.val, by omega⟩) * w (ix3 0 k l) := by
  pointwise [k0_pay20, k0_pay18, k0_pay17, k0_pay5, k0_pay4]
theorem pay21_ix (x : Vec Ideal S64x8x512 .f32) (w : Vec Ideal S1x128x512 .bf16) (t : Fin 64) (b : Fin 8) (l : Fin 512) :
    k0_pay21 (k0_pay17 (k0_pay5 x)) (k0_pay19 w) (ix3 t b l) = ∑ k : Fin 128, x (ix3 t b ⟨384 + k.val, by omega⟩) * w (ix3 0 k l) := by
  pointwise [k0_pay21, k0_pay17, k0_pay19, k0_pay5, k0_pay4]

/-- The gate of the kernel's body. -/
theorem pay1_ix (v : FVec Ideal S512x512 .f32) (w : Vec Ideal S512x512 .bf16) (bb : Vec Ideal S1x512 .f32) (t : Fin 64) (b : Fin 8) (e : Fin 512) :
    k0_pay1 v w bb (ix3 t b e) = gate (fun k => v (ix2 ⟨t.val * 8 + b.val, by omega⟩ k)) w bb e := by
  pointwise [k0_pay1]
  rfl

/-- The outputs before the gate: each chunk's states against the chunk's columns, and the skip. -/
theorem pay43_ix (x : Vec Ideal S64x8x512 .f32) (R I : Vec Ideal S64x8x2048 .f32) (C D : Vec Ideal S4x512x128 .bf16)
    (c0 c1 c2 c3 d0 d1 d2 d3 : Vec Ideal S1x512x128 .bf16) (d : Vec Ideal S1x512 .f32)
    (hc0 : ∀ k l, c0 (ix3 0 k l) = C (ix3 0 k l)) (hc1 : ∀ k l, c1 (ix3 0 k l) = C (ix3 1 k l))
    (hc2 : ∀ k l, c2 (ix3 0 k l) = C (ix3 2 k l)) (hc3 : ∀ k l, c3 (ix3 0 k l) = C (ix3 3 k l))
    (hd0 : ∀ k l, d0 (ix3 0 k l) = D (ix3 0 k l)) (hd1 : ∀ k l, d1 (ix3 0 k l) = D (ix3 1 k l))
    (hd2 : ∀ k l, d2 (ix3 0 k l) = D (ix3 2 k l)) (hd3 : ∀ k l, d3 (ix3 0 k l) = D (ix3 3 k l)) (t : Fin 64) (b : Fin 8) (e : Fin 512) :
    k0_pay43 (k0_pay4 x) (k0_pay38 R) (k0_pay39 I) (k0_pay40 R I c0 d0) (k0_pay41 I) (k0_pay42 R) c1 d1 c2 d2 c3 d3 d (ix2 ⟨t.val * 8 + b.val, by omega⟩ e)
      = yv x (fun q => R (ix3 t b q)) (fun q => I (ix3 t b q)) C D d t b e := by
  have ht : ∀ h, (⟨(t.val * 8 + b.val) / 8, h⟩ : Fin 64) = t := fun h => Fin.ext (by show (t.val * 8 + b.val) / 8 = t.val; omega)
  have hb : ∀ h, (⟨(t.val * 8 + b.val) % 8, h⟩ : Fin 8) = b := fun h => Fin.ext (by show (t.val * 8 + b.val) % 8 = b.val; omega)
  pointwise [k0_pay43, k0_pay4, k0_pay38, k0_pay39, k0_pay40, k0_pay41, k0_pay42]
  simp only [ht, hb, hc0, hc1, hc2, hc3, hd0, hd1, hd2, hd3]
  unfold yv
  have key : ∀ (m : Fin 4) (o o' : ℕ) (ho : o = 512 * m.val) (ho' : o' = 128 * m.val) (hm : e.val / 128 = m.val) (hq : ∀ k : Fin 512, o + k.val < 2048) (hl : e.val - o' < 128)
      (S : Fin 2048 → EReal) (G : Vec Ideal S4x512x128 .bf16),
      (∑ k : Fin 512, S ⟨o + k.val, hq k⟩ * G (ix3 m k ⟨e.val - o', hl⟩))
        = ∑ k : Fin 512, S ⟨512 * (e.val / 128) + k.val, by omega⟩ * G (ix3 ⟨e.val / 128, by omega⟩ k ⟨e.val % 128, by omega⟩) := by
    intro m o o' ho ho' hm hq hl S G
    refine Finset.sum_congr rfl fun k _ => ?_
    have e1 : (⟨o + k.val, hq k⟩ : Fin 2048) = ⟨512 * (e.val / 128) + k.val, by omega⟩ := Fin.ext (by show o + k.val = 512 * (e.val / 128) + k.val; omega)
    have e2 : m = (⟨e.val / 128, by omega⟩ : Fin 4) := Fin.ext hm.symm
    have e3 : (⟨e.val - o', hl⟩ : Fin 128) = ⟨e.val % 128, by omega⟩ := Fin.ext (by show e.val - o' = e.val % 128; omega)
    rw [e1, e3]; exact congrArg _ (congrArg (fun m => G (ix3 m k _)) e2)
  refine congrArg (· + _) ?_
  by_cases h1 : e.val < 128
  · have := key 0 0 0 rfl rfl (by show e.val / 128 = 0; omega) (by omega) (by omega)
    simp only [Nat.zero_add, Nat.sub_zero] at this
    rw [dif_pos h1]
    exact congrArg₂ (fun a b : EReal => a - b) (this (fun q => R (ix3 t b q)) C) (this (fun q => I (ix3 t b q)) D)
  rw [dif_neg h1]
  by_cases h2 : e.val - 128 < 128
  · have := key 1 512 128 rfl rfl (by show e.val / 128 = 1; omega) (by omega) (by omega)
    rw [dif_pos h2]
    exact congrArg₂ (fun a b : EReal => a - b) (this (fun q => R (ix3 t b q)) C) (this (fun q => I (ix3 t b q)) D)
  rw [dif_neg h2]
  by_cases h3 : e.val - 128 - 128 < 128
  · have := key 2 1024 256 rfl rfl (by show e.val / 128 = 2; omega) (by omega) (by omega)
    rw [dif_pos h3]
    exact congrArg₂ (fun a b : EReal => a - b) (this (fun q => R (ix3 t b q)) C) (this (fun q => I (ix3 t b q)) D)
  rw [dif_neg h3]
  have := key 3 1536 384 rfl rfl (by show e.val / 128 = 3; omega) (by omega) (by omega)
  exact congrArg₂ (fun a b : EReal => a - b) (this (fun q => R (ix3 t b q)) C) (this (fun q => I (ix3 t b q)) D)

/-- Four chunks' products stored one after the other into a work array: it holds the input product of every column. -/
theorem chunks_read (v : View sig .tc .vmem S64x8x2048 .f32) (f : v.ty.Contents (Elt Ideal)) (x : Vec Ideal S64x8x512 .f32) (w : Vec Ideal S4x128x512 .bf16)
    (w0 w1 w2 w3 : FVec Ideal S64x8x512 .f32)
    (h0 : ∀ t b l, w0 (ix3 t b l) = ∑ k : Fin 128, x (ix3 t b ⟨k.val, by omega⟩) * w (ix3 0 k l))
    (h1 : ∀ t b l, w1 (ix3 t b l) = ∑ k : Fin 128, x (ix3 t b ⟨128 + k.val, by omega⟩) * w (ix3 1 k l))
    (h2 : ∀ t b l, w2 (ix3 t b l) = ∑ k : Fin 128, x (ix3 t b ⟨256 + k.val, by omega⟩) * w (ix3 2 k l))
    (h3 : ∀ t b l, w3 (ix3 t b l) = ∑ k : Fin 128, x (ix3 t b ⟨384 + k.val, by omega⟩) * w (ix3 3 k l))
    (t : Fin 64) (b : Fin 8) (q : Fin 2048) :
    (show FVec Ideal S64x8x2048 .f32 from v.read (Elt Ideal) (v.writes (Elt Ideal) f
      [⟨Rect.unit (s := S64x8x2048) ![0, 0, 1536] S64x8x512.size inb_S64x8x2048_S64x8x512_0_0_1536, w3⟩,
       ⟨Rect.unit (s := S64x8x2048) ![0, 0, 1024] S64x8x512.size inb_S64x8x2048_S64x8x512_0_0_1024, w2⟩,
       ⟨Rect.unit (s := S64x8x2048) ![0, 0, 512] S64x8x512.size inb_S64x8x2048_S64x8x512_0_0_512, w1⟩,
       ⟨Rect.unit (s := S64x8x2048) ![0, 0, 0] S64x8x512.size inb_S64x8x2048_S64x8x512_0_0_0, w0⟩])) (ix3 t b q) = xin x w t b q := by
  have hmem : ∀ (o : ℕ) (ho : o ≤ q.val ∧ q.val < o + 512) (a : Fin 3),
      ((ix3 t b q : S64x8x2048.Idx) a).val = (![0, 0, o] : Fin 3 → ℕ) a + ((ix3 t b ⟨q.val - o, by omega⟩ : S64x8x512.Idx) a).val := by
    intro o ho a; fin_cases a
    · exact (Nat.zero_add _).symm
    · exact (Nat.zero_add _).symm
    · show q.val = o + (q.val - o); omega
  have key : ∀ (m : Fin 4) (o o' : ℕ) (ho : o = 512 * m.val) (ho' : o' = 128 * m.val) (hm : q.val / 512 = m.val) (hq : ∀ k : Fin 128, o' + k.val < 512) (hl : q.val - o < 512),
      (∑ k : Fin 128, x (ix3 t b ⟨o' + k.val, hq k⟩) * w (ix3 m k ⟨q.val - o, hl⟩)) = xin x w t b q := by
    intro m o o' ho ho' hm hq hl
    refine Finset.sum_congr rfl fun k _ => ?_
    have e1 : (⟨o' + k.val, hq k⟩ : Fin 512) = ⟨128 * (q.val / 512) + k.val, by omega⟩ := Fin.ext (by show o' + k.val = 128 * (q.val / 512) + k.val; omega)
    have e2 : m = (⟨q.val / 512, by omega⟩ : Fin 4) := Fin.ext hm.symm
    have e3 : (⟨q.val - o, hl⟩ : Fin 512) = ⟨q.val % 512, by omega⟩ := Fin.ext (by show q.val - o = q.val % 512; omega)
    rw [e1, e3]; exact congrArg _ (congrArg (fun m => w (ix3 m k _)) e2)
  by_cases c3 : 1536 ≤ q.val
  · refine (View.read_writes_cons_unit_of_mem v f _ _ _ _ _ rfl (hmem 1536 (by omega))).trans ((h3 _ _ _).trans ?_)
    exact key 3 1536 384 rfl rfl (by show q.val / 512 = 3; omega) (by omega) (by omega)
  refine (View.read_writes_cons_unit_of_not_mem v f _ _ _ _ rfl 2 (Or.inl (by show q.val < 1536; omega))).trans ?_
  by_cases c2 : 1024 ≤ q.val
  · refine (View.read_writes_cons_unit_of_mem v f _ _ _ _ _ rfl (hmem 1024 (by omega))).trans ((h2 _ _ _).trans ?_)
    exact key 2 1024 256 rfl rfl (by show q.val / 512 = 2; omega) (by omega) (by omega)
  refine (View.read_writes_cons_unit_of_not_mem v f _ _ _ _ rfl 2 (Or.inl (by show q.val < 1024; omega))).trans ?_
  by_cases c1 : 512 ≤ q.val
  · refine (View.read_writes_cons_unit_of_mem v f _ _ _ _ _ rfl (hmem 512 (by omega))).trans ((h1 _ _ _).trans ?_)
    exact key 1 512 128 rfl rfl (by show q.val / 512 = 1; omega) (by omega) (by omega)
  refine (View.read_writes_cons_unit_of_not_mem v f _ _ _ _ rfl 2 (Or.inl (by show q.val < 512; omega))).trans ?_
  refine (View.read_writes_cons_unit_of_mem v f _ _ _ _ _ rfl (hmem 0 (by omega))).trans ((h0 _ _ _).trans ?_)
  have := key 0 0 0 rfl rfl (by show q.val / 512 = 0; omega) (by omega) (by omega)
  simp only [Nat.zero_add] at this
  exact this

end Cert.KernelIdeal.Own
-- ==== Proof.ScanBlock.lean ====
/- What one block's body does: the states after 64 steps from the states it starts from, and the two work arrays holding
   the state after every step. -/
module

public import proofs.«01_k».proof.Proof.ScanPay

@[expose] public section

set_option maxRecDepth 16384

noncomputable section

namespace Cert.KernelIdeal.Own

open Idealize.ShloMosaic Idealize.ShloMosaic.TcCoe Cert.KernelIdeal Cert.KernelIdeal.Gen Cert.Scan

/-- The inputs of column `q` of batch row `b` over a block's rows. -/
def xseq (x : Vec Ideal S64x8x512 .f32) (w w' : Vec Ideal S4x128x512 .bf16) (b : Fin 8) (q : Fin 2048) (t : ℕ) : EReal × EReal :=
  if h : t < 64 then (xin x w ⟨t, h⟩ b q, xin x w' ⟨t, h⟩ b q) else (0, 0)

/-- The state of column `q` of batch row `b` after `n` of a block's steps. -/
def bst (x : Vec Ideal S64x8x512 .f32) (a a' : Vec Ideal S1x2048 .f32) (w w' : Vec Ideal S4x128x512 .bf16) (h h' : Vec Ideal S8x2048 .f32)
    (b : Fin 8) (q : Fin 2048) (n : ℕ) : EReal × EReal :=
  runC (a (ix2 0 q)) (a' (ix2 0 q)) (xseq x w w' b q) (h (ix2 b q), h' (ix2 b q)) n

theorem inp_eq_xseq (R I : FVec Ideal S64x8x2048 .f32) (x : Vec Ideal S64x8x512 .f32) (w w' : Vec Ideal S4x128x512 .bf16) (b : Fin 8) (q : Fin 2048)
    (hR : ∀ t, R (ix3 t b q) = xin x w t b q) (hI : ∀ t, I (ix3 t b q) = xin x w' t b q) : inp R I b q = xseq x w w' b q := by
  funext t; unfold inp xseq
  by_cases h : t < 64
  · rw [dif_pos h, dif_pos h, hR, hI]
  · rw [dif_neg h, dif_neg h]

/-- How both loops end: the carried vectors are the states after the block's 64 steps, the work arrays hold the state after
every step. -/
def HalvesEnd (v v' : View sig .tc .vmem S64x8x2048 .f32) (f : v.ty.Contents (Elt Ideal)) (f' : v'.ty.Contents (Elt Ideal))
    (x : Vec Ideal S64x8x512 .f32) (a a' : Vec Ideal S1x2048 .f32) (w w' : Vec Ideal S4x128x512 .bf16) (h h' : Vec Ideal S8x2048 .f32) (s1 s2 : LoopSt) : Prop :=
    (∀ (b : Fin 8) (j : Fin 1024), (s1.1.1 (ix2 b j), s1.1.2 (ix2 b j)) = bst x a a' w w' h h' b ⟨j.val, by omega⟩ 64) ∧
    (∀ (b : Fin 8) (j : Fin 1024), (s2.1.1 (ix2 b j), s2.1.2 (ix2 b j)) = bst x a a' w w' h h' b ⟨1024 + j.val, by omega⟩ 64) ∧
    (∀ (t : Fin 64) (b : Fin 8) (q : Fin 2048),
      ((show FVec Ideal S64x8x2048 .f32 from v.read (Elt Ideal) (v.writes (Elt Ideal) (v.writes (Elt Ideal) f s1.2.1) s2.2.1)) (ix3 t b q),
       (show FVec Ideal S64x8x2048 .f32 from v'.read (Elt Ideal) (v'.writes (Elt Ideal) (v'.writes (Elt Ideal) f' s1.2.2) s2.2.2)) (ix3 t b q))
        = bst x a a' w w' h h' b q (t.val + 1))

/-- The two loops one after the other, each on its half of the columns. -/
theorem halves_end (v v' : View sig .tc .vmem S64x8x2048 .f32) (f : v.ty.Contents (Elt Ideal)) (f' : v'.ty.Contents (Elt Ideal))
    (x : Vec Ideal S64x8x512 .f32) (a a' : Vec Ideal S1x2048 .f32) (w w' : Vec Ideal S4x128x512 .bf16) (h h' : Vec Ideal S8x2048 .f32)
    (hf : ∀ t b q, (show FVec Ideal S64x8x2048 .f32 from v.read (Elt Ideal) f) (ix3 t b q) = xin x w t b q)
    (hf' : ∀ t b q, (show FVec Ideal S64x8x2048 .f32 from v'.read (Elt Ideal) f') (ix3 t b q) = xin x w' t b q)
    (a1 b1 a2 b2 : Fin 1024 → EReal) (h1 h1' h2 h2' : FVec Ideal S8x1024 .f32)
    (ha1 : ∀ j : Fin 1024, a1 j = a (ix2 0 ⟨j.val, by omega⟩)) (hb1 : ∀ j : Fin 1024, b1 j = a' (ix2 0 ⟨j.val, by omega⟩))
    (ha2 : ∀ j : Fin 1024, a2 j = a (ix2 0 ⟨1024 + j.val, by omega⟩)) (hb2 : ∀ j : Fin 1024, b2 j = a' (ix2 0 ⟨1024 + j.val, by omega⟩))
    (hh1 : ∀ b (j : Fin 1024), h1 (ix2 b j) = h (ix2 b ⟨j.val, by omega⟩)) (hh1' : ∀ b (j : Fin 1024), h1' (ix2 b j) = h' (ix2 b ⟨j.val, by omega⟩))
    (hh2 : ∀ b (j : Fin 1024), h2 (ix2 b j) = h (ix2 b ⟨1024 + j.val, by omega⟩)) (hh2' : ∀ b (j : Fin 1024), h2' (ix2 b j) = h' (ix2 b ⟨1024 + j.val, by omega⟩))
    (s1 s2 : LoopSt) (e1 : LoopEnd v v' f f' 0 (by decide) a1 b1 h1 h1' s1)
    (e2 : LoopEnd v v' (v.writes (Elt Ideal) f s1.2.1) (v'.writes (Elt Ideal) f' s1.2.2) 1024 (by decide) a2 b2 h2 h2' s2) :
    HalvesEnd v v' f f' x a a' w w' h h' s1 s2 := by
  have z : ∀ j : Fin 1024, (⟨0 + j.val, by omega⟩ : Fin 2048) = ⟨j.val, by omega⟩ := fun j => Fin.ext (Nat.zero_add _)
  have i1 : ∀ b (q : Fin 2048), inp (v.read (Elt Ideal) f) (v'.read (Elt Ideal) f') b q = xseq x w w' b q :=
    fun b q => inp_eq_xseq _ _ x w w' b q (fun t => hf t b q) (fun t => hf' t b q)
  have i2 : ∀ b (j : Fin 1024), inp (v.read (Elt Ideal) (v.writes (Elt Ideal) f s1.2.1)) (v'.read (Elt Ideal) (v'.writes (Elt Ideal) f' s1.2.2)) b ⟨1024 + j.val, by omega⟩
      = xseq x w w' b ⟨1024 + j.val, by omega⟩ :=
    fun b j => inp_eq_xseq _ _ x w w' b _
      (fun t => (e1.2.2 t b ⟨1024 + j.val, by omega⟩ (Or.inr (by show 0 + 1024 ≤ 1024 + j.val; omega))).1.trans (hf t b _))
      (fun t => (e1.2.2 t b ⟨1024 + j.val, by omega⟩ (Or.inr (by show 0 + 1024 ≤ 1024 + j.val; omega))).2.trans (hf' t b _))
  refine ⟨fun b j => ?_, fun b j => ?_, fun t b q => ?_⟩
  · rw [e1.1 b j, i1, ha1, hb1, hh1, hh1', z]; rfl
  · rw [e2.1 b j, i2, ha2, hb2, hh2, hh2']; rfl
  · by_cases hq : q.val < 1024
    · have o := e2.2.2 t b q (Or.inl hq)
      have m := e1.2.1 t b ⟨q.val, hq⟩
      rw [i1, ha1, hb1, hh1, hh1', z] at m
      exact (Prod.ext o.1 o.2).trans m
    · have m := e2.2.1 t b ⟨q.val - 1024, by omega⟩
      have hqe : (⟨1024 + (q.val - 1024), by omega⟩ : Fin 2048) = q := Fin.ext (by show 1024 + (q.val - 1024) = q.val; omega)
      rw [i2, ha2, hb2, hh2, hh2'] at m
      rw [hqe] at m
      exact m

end Cert.KernelIdeal.Own
-- ==== Proof.ScanCase.lean ====
/- The body's outputs at one grid point, as functions of the blocks it reads: at the first point from the states given, at
   every later point from the states the point before left. -/
module

public import proofs.«01_k».proof.Proof.ScanBlock

@[expose] public section

set_option maxRecDepth 16384

noncomputable section

namespace Cert.KernelIdeal.Own

open Idealize.ShloMosaic Idealize.ShloMosaic.TcCoe Cert.KernelIdeal Cert.KernelIdeal.Gen Cert.Scan

/-- A load from a whole buffer reads the element at the load's offset. -/
theorem rd_ix {s : Shape} {e : EltTy} (m : Memref sig .tc .vmem s e) (hm : m.IsWhole) (x : s.Idx → Elt Ideal e) (off size : Fin s.rank → ℕ)
    (inb : ∀ a, off a + size a ≤ s.size a) (j : (Rect.unit off size inb).toLoadRect.shape.Idx) (k : s.Idx) (h : ∀ a, (k a).val = off a + (j a).val) :
    View.readAt (Elt Ideal) m.view (Rect.unit off size inb).toLoadRect (hm.unread x) j = x k := by
  refine (congrArg (m.view.read (Elt Ideal) (hm.unread x)) (funext fun a => Fin.ext ?_)).trans (congrFun (hm.read_unread x) k)
  show off a + 1 * (j a).val = (k a).val
  rw [h a, Nat.one_mul]

variable (c : Dev nD) (i : grid0.Coords)
variable (arg1 : Memref sig .tc .vmem S64x8x512 .f32) (harg1 : arg1.IsWhole)
variable (arg2 : Memref sig .tc .vmem S8x2048 .f32) (harg2 : arg2.IsWhole)
variable (arg3 : Memref sig .tc .vmem S8x2048 .f32) (harg3 : arg3.IsWhole)
variable (arg4 : Memref sig .tc .vmem S1x2048 .f32) (harg4 : arg4.IsWhole)
variable (arg5 : Memref sig .tc .vmem S1x2048 .f32) (harg5 : arg5.IsWhole)
variable (arg6 : Memref sig .tc .vmem S4x128x512 .bf16) (harg6 : arg6.IsWhole)
variable (arg7 : Memref sig .tc .vmem S4x128x512 .bf16) (harg7 : arg7.IsWhole)
variable (arg8 : Memref sig .tc .vmem S4x512x128 .bf16) (harg8 : arg8.IsWhole)
variable (arg9 : Memref sig .tc .vmem S4x512x128 .bf16) (harg9 : arg9.IsWhole)
variable (arg10 : Memref sig .tc .vmem S1x512 .f32) (harg10 : arg10.IsWhole)
variable (arg11 : Memref sig .tc .vmem S512x512 .bf16) (harg11 : arg11.IsWhole)
variable (arg12 : Memref sig .tc .vmem S1x512 .f32) (harg12 : arg12.IsWhole)
variable (arg13 : Memref sig .tc .vmem S64x8x512 .f32) (harg13 : arg13.IsWhole)
variable (arg14 : Memref sig .tc .vmem S8x2048 .f32) (harg14 : arg14.IsWhole)
variable (arg15 : Memref sig .tc .vmem S8x2048 .f32) (harg15 : arg15.IsWhole)
variable (arg16 : Memref sig .tc .vmem S64x8x2048 .f32) (harg16 : arg16.IsWhole)
variable (arg17 : Memref sig .tc .vmem S64x8x2048 .f32) (harg17 : arg17.IsWhole)
variable (x0 : Vec Ideal S64x8x512 .f32) (x1 : Vec Ideal S8x2048 .f32) (x2 : Vec Ideal S8x2048 .f32) (x3 : Vec Ideal S1x2048 .f32) (x4 : Vec Ideal S1x2048 .f32) (x5 : Vec Ideal S4x128x512 .bf16) (x6 : Vec Ideal S4x128x512 .bf16) (x7 : Vec Ideal S4x512x128 .bf16) (x8 : Vec Ideal S4x512x128 .bf16) (x9 : Vec Ideal S1x512 .f32) (x10 : Vec Ideal S512x512 .bf16) (x11 : Vec Ideal S1x512 .f32)

theorem ncount : Scf.trips k0_t1_loop.lb k0_t1_loop.ub k0_t1_loop.st = 64 := by decide

/-- Work array 0 before the loops of the first point: the input products. -/
theorem chunks16_A (t : Fin 64) (b : Fin 8) (q : Fin 2048) :
    (show FVec Ideal S64x8x2048 .f32 from arg16.view.read (Elt Ideal) (arg16.view.writes (Elt Ideal) arg16.view.junk
      (kernelRun0_A.sl.HS0_4 c arg1 harg1 arg6 harg6 x0 x5))) (ix3 t b q) = xin x0 x5 t b q := by
  refine chunks_read arg16.view arg16.view.junk x0 x5 _ _ _ _ (fun t b l => ?_) (fun t b l => ?_) (fun t b l => ?_) (fun t b l => ?_) t b q
  · refine (pay7_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)
  · refine (pay12_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)
  · refine (pay15_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)
  · refine (pay20_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)

/-- Work array 1 before the loops of the first point: the input products. -/
theorem chunks17_A (t : Fin 64) (b : Fin 8) (q : Fin 2048) :
    (show FVec Ideal S64x8x2048 .f32 from arg17.view.read (Elt Ideal) (arg17.view.writes (Elt Ideal) arg17.view.junk
      (kernelRun0_A.sl.HS1_4 c arg1 harg1 arg7 harg7 x0 x6))) (ix3 t b q) = xin x0 x6 t b q := by
  refine chunks_read arg17.view arg17.view.junk x0 x6 _ _ _ _ (fun t b l => ?_) (fun t b l => ?_) (fun t b l => ?_) (fun t b l => ?_) t b q
  · refine (pay8_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)
  · refine (pay13_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)
  · refine (pay16_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)
  · refine (pay21_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)

/-- Work array 0 before the loops: the input products. -/
theorem chunks16_B (t : Fin 64) (b : Fin 8) (q : Fin 2048) :
    (show FVec Ideal S64x8x2048 .f32 from arg16.view.read (Elt Ideal) (arg16.view.writes (Elt Ideal) arg16.view.junk
      (kernelRun0_B.sl.HS0_4 c arg1 harg1 arg6 harg6 x0 x5))) (ix3 t b q) = xin x0 x5 t b q := by
  refine chunks_read arg16.view arg16.view.junk x0 x5 _ _ _ _ (fun t b l => ?_) (fun t b l => ?_) (fun t b l => ?_) (fun t b l => ?_) t b q
  · refine (pay7_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)
  · refine (pay12_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)
  · refine (pay15_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)
  · refine (pay20_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg6 harg6 x5 _ _ _ _ _ (fun a => by fin_cases a; exact rfl; exact (Nat.zero_add _).symm; exact (Nat.zero_add _).symm)

/-- Work array 1 before the loops: the input products. -/
theorem chunks17_B (t : Fin 64) (b : Fin 8) (q : Fin 2048) :
    (show FVec Ideal S64x8x2048 .f32 from arg17.view.read (Elt Ideal) (arg17.view.writes (Elt Ideal) arg17.view.junk
      (kernelRun0_B.sl.HS1_4 c arg1 harg1 arg7 harg7 x0 x6))) (ix3 t b q) = xin x0 x6 t b q := by
  refine chunks_read arg17.view arg17.view.junk x0 x6 _ _ _ _ (fun t b l => ?_) (fun t b l => ?_) (fun t b l => ?_) (fun t b l => ?_) t b q
  · refine (pay8_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)
  · refine (pay13_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)
  · refine (pay16_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)
  · refine (pay21_ix _ _ t b l).trans (Finset.sum_congr rfl fun k _ => congrArg₂ (fun a b : EReal => a * b) ?_ ?_)
    · exact rd_ix arg1 harg1 x0 _ _ _ _ _ (fun a => by fin_cases a <;> exact (Nat.zero_add _).symm)
    · exact rd_ix arg7 harg7 x6 _ _ _ _ _ (fun a => by fin_cases a; exact rfl; exact (Nat.zero_add _).symm; exact (Nat.zero_add _).symm)

theorem pay24_eq (x : Vec Ideal S8x1024 .f32) : k0_pay24 x = x := by
  unfold k0_pay24; exact shapeCast_self _ _

theorem pay25_eq (x : Vec Ideal S8x1024 .f32) : k0_pay25 x = x := by
  unfold k0_pay25; exact shapeCast_self _ _

theorem pay32_eq (x : Vec Ideal S8x1024 .f32) : k0_pay32 x = x := by
  unfold k0_pay32; exact shapeCast_self _ _

theorem pay33_eq (x : Vec Ideal S8x1024 .f32) : k0_pay33 x = x := by
  unfold k0_pay33; exact shapeCast_self _ _

theorem pay2_eq (x : Vec Ideal S8x2048 .f32) : k0_pay2 x = x := by
  unfold k0_pay2; exact shapeCast_self _ _

theorem pay3_eq (x : Vec Ideal S8x2048 .f32) : k0_pay3 x = x := by
  unfold k0_pay3; exact shapeCast_self _ _

/-- The first loop's end at the first point. -/
def fstA  : LoopSt := (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_4 c arg1 harg1 x0) (kernelRun0_A.sl.r_5 c arg1 harg1 arg6 harg6 x0 x5) (kernelRun0_A.sl.r_6 c arg7 harg7 x6) (View.readAt (Elt Ideal) arg4.view (Rect.unit (s := S1x2048) ![0, 0] S1x1024.size inb_S1x2048_S1x1024_0_0).toLoadRect (harg4.unread x3)) (View.readAt (Elt Ideal) arg5.view (Rect.unit (s := S1x2048) ![0, 0] S1x1024.size inb_S1x2048_S1x1024_0_0).toLoadRect (harg5.unread x4)) (arg16.view.writes (Elt Ideal) arg16.view.junk (kernelRun0_A.sl.HS0_4 c arg1 harg1 arg6 harg6 x0 x5)) (arg17.view.writes (Elt Ideal) arg17.view.junk (kernelRun0_A.sl.HS1_4 c arg1 harg1 arg7 harg7 x0 x6)) (k0_pay24 (kernelRun0_A.sl.v75 c arg2 harg2 arg14 x1), k0_pay25 (kernelRun0_A.sl.v77 c arg3 harg3 arg15 x2)) 64)

/-- The second loop's end at the first point. -/
def sndA  : LoopSt :=
  st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay30 (View.readAt (Elt Ideal) arg4.view (Rect.unit (s := S1x2048) ![0, 1024] S1x1024.size inb_S1x2048_S1x1024_0_1024).toLoadRect (harg4.unread x3))) (View.readAt (Elt Ideal) arg5.view (Rect.unit (s := S1x2048) ![0, 1024] S1x1024.size inb_S1x2048_S1x1024_0_1024).toLoadRect (harg5.unread x4))
    (arg16.view.writes (Elt Ideal) (arg16.view.writes (Elt Ideal) arg16.view.junk (kernelRun0_A.sl.HS0_4 c arg1 harg1 arg6 harg6 x0 x5)) (fstA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1) (arg17.view.writes (Elt Ideal) (arg17.view.writes (Elt Ideal) arg17.view.junk (kernelRun0_A.sl.HS1_4 c arg1 harg1 arg7 harg7 x0 x6)) (fstA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2) (k0_pay32 (kernelRun0_A.sl.v91 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6), k0_pay33 (kernelRun0_A.sl.v93 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)) 64

theorem v75_A (b : Fin 8) (j : Fin 1024) : kernelRun0_A.sl.v75 c arg2 harg2 arg14 x1 (ix2 b j) = x1 (ix2 b ⟨j.val, by omega⟩) := by
  have e : kernelRun0_A.sl.v75 c arg2 harg2 arg14 x1 (ix2 b j)
      = arg14.view.read (Elt Ideal) (arg14.view.writes (Elt Ideal) arg14.view.junk (kernelRun0_A.sl.H13_1 c arg2 harg2 x1)) (ix2 b ⟨j.val, by omega⟩) := by
    refine congrArg (arg14.view.read (Elt Ideal) (arg14.view.writes (Elt Ideal) arg14.view.junk (kernelRun0_A.sl.H13_1 c arg2 harg2 x1))) (funext fun a => Fin.ext ?_)
    fin_cases a
    · show 0 + 1 * b.val = b.val; omega
    · show 0 + 1 * j.val = j.val; omega
  refine e.trans ((View.read_writes_cons_unit_of_mem arg14.view arg14.view.junk _ _ [] _ (ix2 b ⟨j.val, by omega⟩) rfl
    (fun a => by fin_cases a <;> exact (Nat.zero_add _).symm)).trans ?_)
  refine (congrFun (pay2_eq _) _).trans ?_
  exact rd_ix arg2 harg2 x1 _ _ _ _ _ (fun a => by fin_cases a <;> exact (Nat.zero_add _).symm)

theorem v91_A (b : Fin 8) (j : Fin 1024) : kernelRun0_A.sl.v91 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 b j) = x1 (ix2 b ⟨1024 + j.val, by omega⟩) := by
  have e : kernelRun0_A.sl.v91 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 b j)
      = arg14.view.read (Elt Ideal) (arg14.view.writes (Elt Ideal) arg14.view.junk (kernelRun0_A.sl.H13_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)) (ix2 b ⟨1024 + j.val, by omega⟩) := by
    refine congrArg (arg14.view.read (Elt Ideal) (arg14.view.writes (Elt Ideal) arg14.view.junk (kernelRun0_A.sl.H13_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6))) (funext fun a => Fin.ext ?_)
    fin_cases a
    · show 0 + 1 * b.val = b.val; omega
    · show 1024 + 1 * j.val = 1024 + j.val; omega
  refine e.trans ((View.read_writes_cons_unit_of_not_mem arg14.view arg14.view.junk _ _ (kernelRun0_A.sl.H13_1 c arg2 harg2 x1) _ rfl 1
    (Or.inr (by show 0 + 1024 ≤ 1024 + j.val; omega))).trans ?_)
  refine (View.read_writes_cons_unit_of_mem arg14.view arg14.view.junk _ _ [] _ (ix2 b ⟨1024 + j.val, by omega⟩) rfl
    (fun a => by fin_cases a <;> exact (Nat.zero_add _).symm)).trans ?_
  refine (congrFun (pay2_eq _) _).trans ?_
  exact rd_ix arg2 harg2 x1 _ _ _ _ _ (fun a => by fin_cases a <;> exact (Nat.zero_add _).symm)

theorem v77_A (b : Fin 8) (j : Fin 1024) : kernelRun0_A.sl.v77 c arg3 harg3 arg15 x2 (ix2 b j) = x2 (ix2 b ⟨j.val, by omega⟩) := by
  have e : kernelRun0_A.sl.v77 c arg3 harg3 arg15 x2 (ix2 b j)
      = arg15.view.read (Elt Ideal) (arg15.view.writes (Elt Ideal) arg15.view.junk (kernelRun0_A.sl.H14_1 c arg3 harg3 x2)) (ix2 b ⟨j.val, by omega⟩) := by
    refine congrArg (arg15.view.read (Elt Ideal) (arg15.view.writes (Elt Ideal) arg15.view.junk (kernelRun0_A.sl.H14_1 c arg3 harg3 x2))) (funext fun a => Fin.ext ?_)
    fin_cases a
    · show 0 + 1 * b.val = b.val; omega
    · show 0 + 1 * j.val = j.val; omega
  refine e.trans ((View.read_writes_cons_unit_of_mem arg15.view arg15.view.junk _ _ [] _ (ix2 b ⟨j.val, by omega⟩) rfl
    (fun a => by fin_cases a <;> exact (Nat.zero_add _).symm)).trans ?_)
  refine (congrFun (pay3_eq _) _).trans ?_
  exact rd_ix arg3 harg3 x2 _ _ _ _ _ (fun a => by fin_cases a <;> exact (Nat.zero_add _).symm)

theorem v93_A (b : Fin 8) (j : Fin 1024) : kernelRun0_A.sl.v93 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 b j) = x2 (ix2 b ⟨1024 + j.val, by omega⟩) := by
  have e : kernelRun0_A.sl.v93 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 b j)
      = arg15.view.read (Elt Ideal) (arg15.view.writes (Elt Ideal) arg15.view.junk (kernelRun0_A.sl.H14_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)) (ix2 b ⟨1024 + j.val, by omega⟩) := by
    refine congrArg (arg15.view.read (Elt Ideal) (arg15.view.writes (Elt Ideal) arg15.view.junk (kernelRun0_A.sl.H14_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6))) (funext fun a => Fin.ext ?_)
    fin_cases a
    · show 0 + 1 * b.val = b.val; omega
    · show 1024 + 1 * j.val = 1024 + j.val; omega
  refine e.trans ((View.read_writes_cons_unit_of_not_mem arg15.view arg15.view.junk _ _ (kernelRun0_A.sl.H14_1 c arg3 harg3 x2) _ rfl 1
    (Or.inr (by show 0 + 1024 ≤ 1024 + j.val; omega))).trans ?_)
  refine (View.read_writes_cons_unit_of_mem arg15.view arg15.view.junk _ _ [] _ (ix2 b ⟨1024 + j.val, by omega⟩) rfl
    (fun a => by fin_cases a <;> exact (Nat.zero_add _).symm)).trans ?_
  refine (congrFun (pay3_eq _) _).trans ?_
  exact rd_ix arg3 harg3 x2 _ _ _ _ _ (fun a => by fin_cases a <;> exact (Nat.zero_add _).symm)

/-- Both loops at the first point, from the states given. -/
theorem endsA  : HalvesEnd arg16.view arg17.view (arg16.view.writes (Elt Ideal) arg16.view.junk (kernelRun0_A.sl.HS0_4 c arg1 harg1 arg6 harg6 x0 x5)) (arg17.view.writes (Elt Ideal) arg17.view.junk (kernelRun0_A.sl.HS1_4 c arg1 harg1 arg7 harg7 x0 x6)) x0 x3 x4 x5 x6 x1 x2 (fstA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (sndA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) :=
  halves_end arg16.view arg17.view (arg16.view.writes (Elt Ideal) arg16.view.junk (kernelRun0_A.sl.HS0_4 c arg1 harg1 arg6 harg6 x0 x5)) (arg17.view.writes (Elt Ideal) arg17.view.junk (kernelRun0_A.sl.HS1_4 c arg1 harg1 arg7 harg7 x0 x6)) x0 x3 x4 x5 x6 x1 x2
    (chunks16_A (c := c) (arg1 := arg1) (harg1 := harg1) (arg6 := arg6) (harg6 := harg6) (arg16 := arg16) (x0 := x0) (x5 := x5))
    (chunks17_A (c := c) (arg1 := arg1) (harg1 := harg1) (arg7 := arg7) (harg7 := harg7) (arg17 := arg17) (x0 := x0) (x6 := x6))
    _ _ _ _ _ _ _ _
    (fun j => rd_ix arg4 harg4 x3 _ _ _ _ _ (fun a => by fin_cases a; exact (Nat.zero_add _).symm; exact (Nat.zero_add _).symm))
    (fun j => rd_ix arg5 harg5 x4 _ _ _ _ _ (fun a => by fin_cases a; exact (Nat.zero_add _).symm; exact (Nat.zero_add _).symm))
    (fun j => rd_ix arg4 harg4 x3 _ _ _ _ _ (fun a => by fin_cases a; exact (Nat.zero_add _).symm; exact rfl))
    (fun j => rd_ix arg5 harg5 x4 _ _ _ _ _ (fun a => by fin_cases a; exact (Nat.zero_add _).symm; exact rfl))
    (fun b j => (congrFun (pay24_eq _) _).trans (v75_A (b := b) (j := j) ..))
    (fun b j => (congrFun (pay25_eq _) _).trans (v77_A (b := b) (j := j) ..))
    (fun b j => (congrFun (pay32_eq _) _).trans (v91_A (b := b) (j := j) ..))
    (fun b j => (congrFun (pay33_eq _) _).trans (v93_A (b := b) (j := j) ..))
    (fstA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (sndA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)
    (loop1_run ..) (loop2_run ..)

/-- The first loop's end at a later point. -/
def fstB (p17 p18 : Vec Ideal S8x2048 .f32) : LoopSt := (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (kernelRun0_B.sl.r_4 c arg1 harg1 x0) (kernelRun0_B.sl.r_5 c arg1 harg1 arg6 harg6 x0 x5) (kernelRun0_B.sl.r_6 c arg7 harg7 x6) (View.readAt (Elt Ideal) arg4.view (Rect.unit (s := S1x2048) ![0, 0] S1x1024.size inb_S1x2048_S1x1024_0_0).toLoadRect (harg4.unread x3)) (View.readAt (Elt Ideal) arg5.view (Rect.unit (s := S1x2048) ![0, 0] S1x1024.size inb_S1x2048_S1x1024_0_0).toLoadRect (harg5.unread x4)) (arg16.view.writes (Elt Ideal) arg16.view.junk (kernelRun0_B.sl.HS0_4 c arg1 harg1 arg6 harg6 x0 x5)) (arg17.view.writes (Elt Ideal) arg17.view.junk (kernelRun0_B.sl.HS1_4 c arg1 harg1 arg7 harg7 x0 x6)) (k0_pay24 (View.readAt (Elt Ideal) arg14.view (Rect.unit (s := S8x2048) ![0, 0] S8x1024.size inb_S8x2048_S8x1024_0_0).toLoadRect (harg14.unread p17)), k0_pay25 (View.readAt (Elt Ideal) arg15.view (Rect.unit (s := S8x2048) ![0, 0] S8x1024.size inb_S8x2048_S8x1024_0_0).toLoadRect (harg15.unread p18))) 64)

/-- The second loop's end at a later point. -/
def sndB (p17 p18 : Vec Ideal S8x2048 .f32) : LoopSt :=
  st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay30 (View.readAt (Elt Ideal) arg4.view (Rect.unit (s := S1x2048) ![0, 1024] S1x1024.size inb_S1x2048_S1x1024_0_1024).toLoadRect (harg4.unread x3))) (View.readAt (Elt Ideal) arg5.view (Rect.unit (s := S1x2048) ![0, 1024] S1x1024.size inb_S1x2048_S1x1024_0_1024).toLoadRect (harg5.unread x4))
    (arg16.view.writes (Elt Ideal) (arg16.view.writes (Elt Ideal) arg16.view.junk (kernelRun0_B.sl.HS0_4 c arg1 harg1 arg6 harg6 x0 x5)) (fstB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18).2.1) (arg17.view.writes (Elt Ideal) (arg17.view.writes (Elt Ideal) arg17.view.junk (kernelRun0_B.sl.HS1_4 c arg1 harg1 arg7 harg7 x0 x6)) (fstB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18).2.2) (k0_pay32 (View.readAt (Elt Ideal) arg14.view (Rect.unit (s := S8x2048) ![0, 1024] S8x1024.size inb_S8x2048_S8x1024_0_1024).toLoadRect (harg14.unread p17)), k0_pay33 (View.readAt (Elt Ideal) arg15.view (Rect.unit (s := S8x2048) ![0, 1024] S8x1024.size inb_S8x2048_S8x1024_0_1024).toLoadRect (harg15.unread p18))) 64

/-- Both loops at a later point, from the states left. -/
theorem endsB (p17 p18 : Vec Ideal S8x2048 .f32) : HalvesEnd arg16.view arg17.view (arg16.view.writes (Elt Ideal) arg16.view.junk (kernelRun0_B.sl.HS0_4 c arg1 harg1 arg6 harg6 x0 x5)) (arg17.view.writes (Elt Ideal) arg17.view.junk (kernelRun0_B.sl.HS1_4 c arg1 harg1 arg7 harg7 x0 x6)) x0 x3 x4 x5 x6 p17 p18 (fstB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18) (sndB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18) :=
  halves_end arg16.view arg17.view (arg16.view.writes (Elt Ideal) arg16.view.junk (kernelRun0_B.sl.HS0_4 c arg1 harg1 arg6 harg6 x0 x5)) (arg17.view.writes (Elt Ideal) arg17.view.junk (kernelRun0_B.sl.HS1_4 c arg1 harg1 arg7 harg7 x0 x6)) x0 x3 x4 x5 x6 p17 p18
    (chunks16_B (c := c) (arg1 := arg1) (harg1 := harg1) (arg6 := arg6) (harg6 := harg6) (arg16 := arg16) (x0 := x0) (x5 := x5))
    (chunks17_B (c := c) (arg1 := arg1) (harg1 := harg1) (arg7 := arg7) (harg7 := harg7) (arg17 := arg17) (x0 := x0) (x6 := x6))
    _ _ _ _ _ _ _ _
    (fun j => rd_ix arg4 harg4 x3 _ _ _ _ _ (fun a => by fin_cases a; exact (Nat.zero_add _).symm; exact (Nat.zero_add _).symm))
    (fun j => rd_ix arg5 harg5 x4 _ _ _ _ _ (fun a => by fin_cases a; exact (Nat.zero_add _).symm; exact (Nat.zero_add _).symm))
    (fun j => rd_ix arg4 harg4 x3 _ _ _ _ _ (fun a => by fin_cases a; exact (Nat.zero_add _).symm; exact rfl))
    (fun j => rd_ix arg5 harg5 x4 _ _ _ _ _ (fun a => by fin_cases a; exact (Nat.zero_add _).symm; exact rfl))
    (fun b j => (congrFun (pay24_eq _) _).trans (rd_ix arg14 harg14 p17 _ _ _ _ _ (fun a => by fin_cases a; exact (Nat.zero_add _).symm; exact (Nat.zero_add _).symm)))
    (fun b j => (congrFun (pay25_eq _) _).trans (rd_ix arg15 harg15 p18 _ _ _ _ _ (fun a => by fin_cases a; exact (Nat.zero_add _).symm; exact (Nat.zero_add _).symm)))
    (fun b j => (congrFun (pay32_eq _) _).trans (rd_ix arg14 harg14 p17 _ _ _ _ _ (fun a => by fin_cases a; exact (Nat.zero_add _).symm; exact rfl)))
    (fun b j => (congrFun (pay33_eq _) _).trans (rd_ix arg15 harg15 p18 _ _ _ _ _ (fun a => by fin_cases a; exact (Nat.zero_add _).symm; exact rfl)))
    (fstB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18) (sndB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18)
    (loop1_run ..) (loop2_run ..)

end Cert.KernelIdeal.Own
-- ==== Proof.ScanOut.lean ====
/- The three outputs of one grid point: the states after the block's steps, and the gated outputs of its rows. -/
module

public import proofs.«01_k».proof.Proof.ScanCase

@[expose] public section

set_option maxRecDepth 16384

noncomputable section

namespace Cert.KernelIdeal.Own

open Idealize.ShloMosaic Idealize.ShloMosaic.TcCoe Cert.KernelIdeal Cert.KernelIdeal.Gen Cert.Scan

variable (c : Dev nD) (i : grid0.Coords)
variable (arg1 : Memref sig .tc .vmem S64x8x512 .f32) (harg1 : arg1.IsWhole)
variable (arg2 : Memref sig .tc .vmem S8x2048 .f32) (harg2 : arg2.IsWhole)
variable (arg3 : Memref sig .tc .vmem S8x2048 .f32) (harg3 : arg3.IsWhole)
variable (arg4 : Memref sig .tc .vmem S1x2048 .f32) (harg4 : arg4.IsWhole)
variable (arg5 : Memref sig .tc .vmem S1x2048 .f32) (harg5 : arg5.IsWhole)
variable (arg6 : Memref sig .tc .vmem S4x128x512 .bf16) (harg6 : arg6.IsWhole)
variable (arg7 : Memref sig .tc .vmem S4x128x512 .bf16) (harg7 : arg7.IsWhole)
variable (arg8 : Memref sig .tc .vmem S4x512x128 .bf16) (harg8 : arg8.IsWhole)
variable (arg9 : Memref sig .tc .vmem S4x512x128 .bf16) (harg9 : arg9.IsWhole)
variable (arg10 : Memref sig .tc .vmem S1x512 .f32) (harg10 : arg10.IsWhole)
variable (arg11 : Memref sig .tc .vmem S512x512 .bf16) (harg11 : arg11.IsWhole)
variable (arg12 : Memref sig .tc .vmem S1x512 .f32) (harg12 : arg12.IsWhole)
variable (arg13 : Memref sig .tc .vmem S64x8x512 .f32) (harg13 : arg13.IsWhole)
variable (arg14 : Memref sig .tc .vmem S8x2048 .f32) (harg14 : arg14.IsWhole)
variable (arg15 : Memref sig .tc .vmem S8x2048 .f32) (harg15 : arg15.IsWhole)
variable (arg16 : Memref sig .tc .vmem S64x8x2048 .f32) (harg16 : arg16.IsWhole)
variable (arg17 : Memref sig .tc .vmem S64x8x2048 .f32) (harg17 : arg17.IsWhole)
variable (x0 : Vec Ideal S64x8x512 .f32) (x1 : Vec Ideal S8x2048 .f32) (x2 : Vec Ideal S8x2048 .f32) (x3 : Vec Ideal S1x2048 .f32) (x4 : Vec Ideal S1x2048 .f32) (x5 : Vec Ideal S4x128x512 .bf16) (x6 : Vec Ideal S4x128x512 .bf16) (x7 : Vec Ideal S4x512x128 .bf16) (x8 : Vec Ideal S4x512x128 .bf16) (x9 : Vec Ideal S1x512 .f32) (x10 : Vec Ideal S512x512 .bf16) (x11 : Vec Ideal S1x512 .f32)

/-- The gate reads only the entries it names. -/
theorem gate_congr (v v' : Fin 512 → EReal) (w w' : Vec Ideal S512x512 .bf16) (d d' : Vec Ideal S1x512 .f32) (e : Fin 512)
    (hv : ∀ k, v k = v' k) (hw : ∀ k l, w (ix2 k l) = w' (ix2 k l)) (hd : ∀ l, d (ix2 0 l) = d' (ix2 0 l)) : gate v w d e = gate v' w' d' e := by
  unfold gate; simp only [hv, hw, hd]

/-- So do the outputs before it. -/
theorem yv_congr (x x' : Vec Ideal S64x8x512 .f32) (R R' I I' : Fin 2048 → EReal) (C D : Vec Ideal S4x512x128 .bf16) (d d' : Vec Ideal S1x512 .f32) (t : Fin 64) (b : Fin 8) (e : Fin 512)
    (hx : x (ix3 t b e) = x' (ix3 t b e)) (hR : ∀ q, (R q, I q) = (R' q, I' q)) (hd : d (ix2 0 e) = d' (ix2 0 e)) :
    yv x R I C D d t b e = yv x' R' I' C D d' t b e := by
  have h1 : ∀ q, R q = R' q := fun q => congrArg Prod.fst (hR q)
  have h2 : ∀ q, I q = I' q := fun q => congrArg Prod.snd (hR q)
  unfold yv; simp only [hx, h1, h2, hd]

/-- A load of a whole work array. -/
theorem rdw_ix (v : View sig .tc .vmem S64x8x2048 .f32) (f : v.ty.Contents (Elt Ideal)) (inb : ∀ a, (![0, 0, 0] : Fin 3 → ℕ) a + S64x8x2048.size a ≤ S64x8x2048.size a) (t : Fin 64) (b : Fin 8) (q : Fin 2048) :
    (show FVec Ideal S64x8x2048 .f32 from View.readAt (Elt Ideal) v (Rect.unit (s := S64x8x2048) ![0, 0, 0] S64x8x2048.size inb).toLoadRect f) (ix3 t b q)
      = (show FVec Ideal S64x8x2048 .f32 from v.read (Elt Ideal) f) (ix3 t b q) := by
  refine congrArg (v.read (Elt Ideal) f) (funext fun a => Fin.ext ?_)
  fin_cases a
  · show 0 + 1 * t.val = t.val; omega
  · show 0 + 1 * b.val = b.val; omega
  · show 0 + 1 * q.val = q.val; omega

theorem count64 : Scf.trips (0#32) (Scalar.addi 0#32 64#32) 1#32 = 64 := by decide

theorem out13_A (hc0 : cond0_0 i) (b : Fin 8) (q : Fin 2048) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 b q) = (bst x0 x3 x4 x5 x6 x1 x2 b q 64).1 := by
  have E := endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
  unfold out0_A_13 kernelRun0_A
  dsimp only
  unfold kernelRun0_A.sl.H13_2
  simp only [View.writes_append, count64, ncount]
  by_cases hq : 1024 ≤ q.val
  · have hqe : (⟨1024 + (q.val - 1024), by omega⟩ : Fin 2048) = q := Fin.ext (by show 1024 + (q.val - 1024) = q.val; omega)
    have e := E.2.1 b ⟨q.val - 1024, by omega⟩
    rw [hqe] at e
    refine (View.read_writes_cons_unit_of_mem VO0_13 VO0_13.junk _ _ _ _ (ix2 b ⟨q.val - 1024, by omega⟩) rfl (fun a => ?_)).trans ?_
    · fin_cases a
      · exact (Nat.zero_add _).symm
      · show q.val = 1024 + (q.val - 1024); omega
    · exact congrArg (fun z => z.1) e
  · have e := E.1 b ⟨q.val, by omega⟩
    refine (View.read_writes_cons_unit_of_not_mem VO0_13 VO0_13.junk _ _ _ _ rfl 1 (Or.inl (by show q.val < 1024; omega))).trans ?_
    refine (View.read_writes_cons_unit_of_mem VO0_13 VO0_13.junk _ _ _ _ (ix2 b ⟨q.val, by omega⟩) rfl (fun a => ?_)).trans ?_
    · fin_cases a <;> exact (Nat.zero_add _).symm
    · exact congrArg (fun z => z.1) e

theorem out14_A (hc0 : cond0_0 i) (b : Fin 8) (q : Fin 2048) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 b q) = (bst x0 x3 x4 x5 x6 x1 x2 b q 64).2 := by
  have E := endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
  unfold out0_A_14 kernelRun0_A
  dsimp only
  unfold kernelRun0_A.sl.H14_2
  simp only [View.writes_append, count64, ncount]
  by_cases hq : 1024 ≤ q.val
  · have hqe : (⟨1024 + (q.val - 1024), by omega⟩ : Fin 2048) = q := Fin.ext (by show 1024 + (q.val - 1024) = q.val; omega)
    have e := E.2.1 b ⟨q.val - 1024, by omega⟩
    rw [hqe] at e
    refine (View.read_writes_cons_unit_of_mem VO0_14 VO0_14.junk _ _ _ _ (ix2 b ⟨q.val - 1024, by omega⟩) rfl (fun a => ?_)).trans ?_
    · fin_cases a
      · exact (Nat.zero_add _).symm
      · show q.val = 1024 + (q.val - 1024); omega
    · exact congrArg (fun z => z.2) e
  · have e := E.1 b ⟨q.val, by omega⟩
    refine (View.read_writes_cons_unit_of_not_mem VO0_14 VO0_14.junk _ _ _ _ rfl 1 (Or.inl (by show q.val < 1024; omega))).trans ?_
    refine (View.read_writes_cons_unit_of_mem VO0_14 VO0_14.junk _ _ _ _ (ix2 b ⟨q.val, by omega⟩) rfl (fun a => ?_)).trans ?_
    · fin_cases a <;> exact (Nat.zero_add _).symm
    · exact congrArg (fun z => z.2) e

theorem out12_A (hc0 : cond0_0 i) (t : Fin 64) (b : Fin 8) (e : Fin 512) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix3 t b e)
      = gate (fun k => yv x0 (fun q => (bst x0 x3 x4 x5 x6 x1 x2 b q (t.val + 1)).1) (fun q => (bst x0 x3 x4 x5 x6 x1 x2 b q (t.val + 1)).2) x7 x8 x9 t b k) x10 x11 e := by
  have E := endsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
  unfold out0_A_12 kernelRun0_A
  dsimp only
  refine (View.read_writes_cons_unit_of_mem VO0_12 VO0_12.junk _ _ [] _ (ix3 t b e) rfl (fun a => by fin_cases a <;> exact (Nat.zero_add _).symm)).trans ?_
  refine (pay1_ix _ _ _ t b e).trans (gate_congr _ _ _ _ _ _ _ (fun k => ?_) (fun k l => ?_) (fun l => ?_))
  · refine (pay43_ix _ _ _ x7 x8 _ _ _ _ _ _ _ _ _ ?_ ?_ ?_ ?_ ?_ ?_ ?_ ?_ t b k).trans (yv_congr _ _ _ _ _ _ _ _ _ _ _ _ _ ?_ (fun q => ?_) ?_)
    · exact fun k l => rd_ix arg8 harg8 x7 _ _ _ _ _ (fun a => by fin_cases a; exact rfl; exact (Nat.zero_add _).symm; exact (Nat.zero_add _).symm)
    · exact fun k l => rd_ix arg8 harg8 x7 _ _ _ _ _ (fun a => by fin_cases a; exact rfl; exact (Nat.zero_add _).symm; exact (Nat.zero_add _).symm)
    · exact fun k l => rd_ix arg8 harg8 x7 _ _ _ _ _ (fun a => by fin_cases a; exact rfl; exact (Nat.zero_add _).symm; exact (Nat.zero_add _).symm)
    · exact fun k l => rd_ix arg8 harg8 x7 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact rd_ix arg1 harg1 x0 _ _ _ _ _ (fun a => by fin_cases a <;> exact (Nat.zero_add _).symm)
    · refine Eq.trans ?_ (E.2.2 t b q)
      sl_unfold_words
      simp only [View.writes_append, count64, ncount]
      exact Prod.ext (rdw_ix ..) (rdw_ix ..)
    · exact rd_ix arg10 harg10 x9 _ _ _ _ _ (fun a => by fin_cases a <;> exact (Nat.zero_add _).symm)
  · exact rd_ix arg11 harg11 x10 _ _ _ _ _ (fun a => by fin_cases a <;> exact (Nat.zero_add _).symm)
  · exact rd_ix arg12 harg12 x11 _ _ _ _ _ (fun a => by fin_cases a <;> exact (Nat.zero_add _).symm)

theorem out13_B (hc0 : ¬cond0_0 i) (p17 p18 : Vec Ideal S8x2048 .f32) (b : Fin 8) (q : Fin 2048) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 p17 p18 (ix2 b q) = (bst x0 x3 x4 x5 x6 p17 p18 b q 64).1 := by
  have E := endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18
  unfold out0_B_13 kernelRun0_B
  dsimp only
  simp only [View.writes_append, count64, ncount]
  by_cases hq : 1024 ≤ q.val
  · have hqe : (⟨1024 + (q.val - 1024), by omega⟩ : Fin 2048) = q := Fin.ext (by show 1024 + (q.val - 1024) = q.val; omega)
    have e := E.2.1 b ⟨q.val - 1024, by omega⟩
    rw [hqe] at e
    refine (View.read_writes_cons_unit_of_mem VO0_13 VO0_13.junk _ _ _ _ (ix2 b ⟨q.val - 1024, by omega⟩) rfl (fun a => ?_)).trans ?_
    · fin_cases a
      · exact (Nat.zero_add _).symm
      · show q.val = 1024 + (q.val - 1024); omega
    · exact congrArg (fun z => z.1) e
  · have e := E.1 b ⟨q.val, by omega⟩
    refine (View.read_writes_cons_unit_of_not_mem VO0_13 VO0_13.junk _ _ _ _ rfl 1 (Or.inl (by show q.val < 1024; omega))).trans ?_
    refine (View.read_writes_cons_unit_of_mem VO0_13 VO0_13.junk _ _ _ _ (ix2 b ⟨q.val, by omega⟩) rfl (fun a => ?_)).trans ?_
    · fin_cases a <;> exact (Nat.zero_add _).symm
    · exact congrArg (fun z => z.1) e

theorem out14_B (hc0 : ¬cond0_0 i) (p17 p18 : Vec Ideal S8x2048 .f32) (b : Fin 8) (q : Fin 2048) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 p17 p18 (ix2 b q) = (bst x0 x3 x4 x5 x6 p17 p18 b q 64).2 := by
  have E := endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18
  unfold out0_B_14 kernelRun0_B
  dsimp only
  simp only [View.writes_append, count64, ncount]
  by_cases hq : 1024 ≤ q.val
  · have hqe : (⟨1024 + (q.val - 1024), by omega⟩ : Fin 2048) = q := Fin.ext (by show 1024 + (q.val - 1024) = q.val; omega)
    have e := E.2.1 b ⟨q.val - 1024, by omega⟩
    rw [hqe] at e
    refine (View.read_writes_cons_unit_of_mem VO0_14 VO0_14.junk _ _ _ _ (ix2 b ⟨q.val - 1024, by omega⟩) rfl (fun a => ?_)).trans ?_
    · fin_cases a
      · exact (Nat.zero_add _).symm
      · show q.val = 1024 + (q.val - 1024); omega
    · exact congrArg (fun z => z.2) e
  · have e := E.1 b ⟨q.val, by omega⟩
    refine (View.read_writes_cons_unit_of_not_mem VO0_14 VO0_14.junk _ _ _ _ rfl 1 (Or.inl (by show q.val < 1024; omega))).trans ?_
    refine (View.read_writes_cons_unit_of_mem VO0_14 VO0_14.junk _ _ _ _ (ix2 b ⟨q.val, by omega⟩) rfl (fun a => ?_)).trans ?_
    · fin_cases a <;> exact (Nat.zero_add _).symm
    · exact congrArg (fun z => z.2) e

theorem out12_B (hc0 : ¬cond0_0 i) (p17 p18 : Vec Ideal S8x2048 .f32) (t : Fin 64) (b : Fin 8) (e : Fin 512) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 p17 p18 (ix3 t b e)
      = gate (fun k => yv x0 (fun q => (bst x0 x3 x4 x5 x6 p17 p18 b q (t.val + 1)).1) (fun q => (bst x0 x3 x4 x5 x6 p17 p18 b q (t.val + 1)).2) x7 x8 x9 t b k) x10 x11 e := by
  have E := endsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x4 x5 x6 p17 p18
  unfold out0_B_12 kernelRun0_B
  dsimp only
  refine (View.read_writes_cons_unit_of_mem VO0_12 VO0_12.junk _ _ [] _ (ix3 t b e) rfl (fun a => by fin_cases a <;> exact (Nat.zero_add _).symm)).trans ?_
  refine (pay1_ix _ _ _ t b e).trans (gate_congr _ _ _ _ _ _ _ (fun k => ?_) (fun k l => ?_) (fun l => ?_))
  · refine (pay43_ix _ _ _ x7 x8 _ _ _ _ _ _ _ _ _ ?_ ?_ ?_ ?_ ?_ ?_ ?_ ?_ t b k).trans (yv_congr _ _ _ _ _ _ _ _ _ _ _ _ _ ?_ (fun q => ?_) ?_)
    · exact fun k l => rd_ix arg8 harg8 x7 _ _ _ _ _ (fun a => by fin_cases a; exact rfl; exact (Nat.zero_add _).symm; exact (Nat.zero_add _).symm)
    · exact fun k l => rd_ix arg8 harg8 x7 _ _ _ _ _ (fun a => by fin_cases a; exact rfl; exact (Nat.zero_add _).symm; exact (Nat.zero_add _).symm)
    · exact fun k l => rd_ix arg8 harg8 x7 _ _ _ _ _ (fun a => by fin_cases a; exact rfl; exact (Nat.zero_add _).symm; exact (Nat.zero_add _).symm)
    · exact fun k l => rd_ix arg8 harg8 x7 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact fun k l => rd_ix arg9 harg9 x8 _ _ _ _ _ (fun a => by fin_cases a; exact rfl; exact (Nat.zero_add _).symm; exact (Nat.zero_add _).symm)
    · exact rd_ix arg1 harg1 x0 _ _ _ _ _ (fun a => by fin_cases a <;> exact (Nat.zero_add _).symm)
    · refine Eq.trans ?_ (E.2.2 t b q)
      sl_unfold_words
      simp only [View.writes_append, count64, ncount]
      exact Prod.ext (rdw_ix ..) (rdw_ix ..)
    · exact rd_ix arg10 harg10 x9 _ _ _ _ _ (fun a => by fin_cases a <;> exact (Nat.zero_add _).symm)
  · exact rd_ix arg11 harg11 x10 _ _ _ _ _ (fun a => by fin_cases a <;> exact (Nat.zero_add _).symm)
  · exact rd_ix arg12 harg12 x11 _ _ _ _ _ (fun a => by fin_cases a <;> exact (Nat.zero_add _).symm)

end Cert.KernelIdeal.Own
-- ==== Proof.ScanArr.lean ====
/- What the three result arrays hold after the run: the states after every step, and the gated outputs of every row. -/
module

public import proofs.«01_k».proof.Proof.ScanOut
public import proofs.«01_k».proof.Proof.Gen.KernelIdeal.Value

@[expose] public section

set_option maxRecDepth 16384

noncomputable section

namespace Cert.KernelIdeal.Own

open Idealize.ShloMosaic Idealize.ShloMosaic.TcCoe Cert.KernelIdeal Cert.KernelIdeal.Gen Cert.Scan

variable (m : (ℓ : Loc nD τ sig) → Buf (Elt Ideal) ℓ) (c : Dev nD)

/-- The input rows as the kernel's call finds them. -/
def vU : Vec Ideal S8192x8x512 .f32 := V m c main_v89
/-- The zero state the call starts from. -/
def vZ : Vec Ideal S8x2048 .f32 := V m c main_v90
/-- The factor's real part. -/
def vA : Vec Ideal S1x2048 .f32 := V m c main_v84
/-- The factor's imaginary part. -/
def vA' : Vec Ideal S1x2048 .f32 := V m c main_v85
/-- The packed input matrix, real part. -/
def vB : Vec Ideal S4x128x512 .bf16 := V m c main_v56
/-- The packed input matrix, imaginary part. -/
def vB' : Vec Ideal S4x128x512 .bf16 := V m c main_v65
/-- The packed output matrix, real part. -/
def vC : Vec Ideal S4x512x128 .bf16 := V m c main_v74
/-- The packed output matrix, imaginary part. -/
def vC' : Vec Ideal S4x512x128 .bf16 := V m c main_v83
/-- The skip weights. -/
def vD : Vec Ideal S1x512 .f32 := V m c main_v86
/-- The gate's matrix. -/
def vG : Vec Ideal S512x512 .bf16 := V m c main_v87
/-- The gate's bias. -/
def vH : Vec Ideal S1x512 .f32 := V m c main_v88

/-- Row `n`'s input to column `q` of batch row `b`. -/
def gin (U : Vec Ideal S8192x8x512 .f32) (w : Vec Ideal S4x128x512 .bf16) (n : Fin 8192) (b : Fin 8) (q : Fin 2048) : EReal :=
  ∑ k : Fin 128, U (ix3 n b ⟨128 * (q.val / 512) + k.val, by omega⟩) * w (ix3 ⟨q.val / 512, by omega⟩ k ⟨q.val % 512, by omega⟩)

/-- The inputs of column `q` of batch row `b`, row after row. -/
def gseq (U : Vec Ideal S8192x8x512 .f32) (w w' : Vec Ideal S4x128x512 .bf16) (b : Fin 8) (q : Fin 2048) (n : ℕ) : EReal × EReal :=
  if h : n < 8192 then (gin U w ⟨n, h⟩ b q, gin U w' ⟨n, h⟩ b q) else (0, 0)

/-- The state of column `q` of batch row `b` after the first `n` rows. -/
def gst (b : Fin 8) (q : Fin 2048) (n : ℕ) : EReal × EReal :=
  runC (vA m c (ix2 0 q)) (vA' m c (ix2 0 q)) (gseq (vU m c) (vB m c) (vB' m c) b q) (vZ m c (ix2 b q), vZ m c (ix2 b q)) n

/-- Feature `e` of row `n`'s output before the gate. -/
def gy (R I : Fin 2048 → EReal) (U : Vec Ideal S8192x8x512 .f32) (C D : Vec Ideal S4x512x128 .bf16) (d : Vec Ideal S1x512 .f32)
    (n : Fin 8192) (b : Fin 8) (e : Fin 512) : EReal :=
  (∑ k : Fin 512, R ⟨512 * (e.val / 128) + k.val, by omega⟩ * C (ix3 ⟨e.val / 128, by omega⟩ k ⟨e.val % 128, by omega⟩))
    - (∑ k : Fin 512, I ⟨512 * (e.val / 128) + k.val, by omega⟩ * D (ix3 ⟨e.val / 128, by omega⟩ k ⟨e.val % 128, by omega⟩))
    + d (ix2 0 e) * U (ix3 n b e)

/-- The gated output of row `n`. -/
def gout (n : Fin 8192) (b : Fin 8) (e : Fin 512) : EReal :=
  gate (fun k => gy (fun q => (gst m c b q (n.val + 1)).1) (fun q => (gst m c b q (n.val + 1)).2) (vU m c) (vC m c) (vC' m c) (vD m c) n b k) (vG m c) (vH m c) e

theorem idx0 : ∀ t : Fin cfg0.N, win0_0.index t = ![t.val, 0, 0] := (by decide +kernel : ∀ t : Fin grid0.N, _)
theorem idx12 : ∀ t : Fin cfg0.N, win0_12.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

theorem row_lt (t : Fin cfg0.N) (r : Fin 64) : 64 * t.val + r.val < 8192 := by
  have := t.isLt; have hN : cfg0.N = 128 := N_0; omega

/-- Point `t`'s block of the input rows is rows `64 t …`. -/
theorem blk0 (t : Fin cfg0.N) (r : Fin 64) (b : Fin 8) (e : Fin 512) :
    (iblk m c 0 t : Vec Ideal S64x8x512 .f32) (ix3 r b e) = vU m c (ix3 ⟨64 * t.val + r.val, row_lt t r⟩ b e) := by
  have hi := idx0 t
  unfold iblk vU
  rw [View.read_apply]
  refine congrArg (V m c main_v89) (funext fun a => Fin.ext ?_)
  fin_cases a
  · show win0_0.index t 0 * 64 + 1 * r.val = 64 * t.val + r.val; rw [hi]; show t.val * 64 + 1 * r.val = _; omega
  · show win0_0.index t 1 * 8 + 1 * b.val = b.val; rw [hi]; show 0 * 8 + 1 * b.val = _; omega
  · show win0_0.index t 2 * 512 + 1 * e.val = e.val; rw [hi]; show 0 * 512 + 1 * e.val = _; omega

/-- Window 1's block is its whole array, at every point. -/
theorem blk1 (t : Fin cfg0.N) : (iblk m c 1 t : Vec Ideal S8x2048 .f32) = vZ m c := by
  have hi := idx1 t
  unfold iblk vZ
  funext j
  rw [View.read_apply]
  refine congrArg (V m c main_v90) (funext fun a => Fin.ext ?_)
  fin_cases a
  · show win0_1.index t 0 * 8 + 1 * (j 0).val = (j 0).val; rw [hi]; show 0 * 8 + 1 * (j 0).val = _; omega
  · show win0_1.index t 1 * 2048 + 1 * (j 1).val = (j 1).val; rw [hi]; show 0 * 2048 + 1 * (j 1).val = _; omega

/-- Window 2's block is its whole array, at every point. -/
theorem blk2 (t : Fin cfg0.N) : (iblk m c 2 t : Vec Ideal S8x2048 .f32) = vZ m c := by
  have hi := idx2 t
  unfold iblk vZ
  funext j
  rw [View.read_apply]
  refine congrArg (V m c main_v90) (funext fun a => Fin.ext ?_)
  fin_cases a
  · show win0_2.index t 0 * 8 + 1 * (j 0).val = (j 0).val; rw [hi]; show 0 * 8 + 1 * (j 0).val = _; omega
  · show win0_2.index t 1 * 2048 + 1 * (j 1).val = (j 1).val; rw [hi]; show 0 * 2048 + 1 * (j 1).val = _; omega

/-- Window 3's block is its whole array, at every point. -/
theorem blk3 (t : Fin cfg0.N) : (iblk m c 3 t : Vec Ideal S1x2048 .f32) = vA m c := by
  have hi := idx3 t
  unfold iblk vA
  funext j
  rw [View.read_apply]
  refine congrArg (V m c main_v84) (funext fun a => Fin.ext ?_)
  fin_cases a
  · show win0_3.index t 0 * 1 + 1 * (j 0).val = (j 0).val; rw [hi]; show 0 * 1 + 1 * (j 0).val = _; omega
  · show win0_3.index t 1 * 2048 + 1 * (j 1).val = (j 1).val; rw [hi]; show 0 * 2048 + 1 * (j 1).val = _; omega

/-- Window 4's block is its whole array, at every point. -/
theorem blk4 (t : Fin cfg0.N) : (iblk m c 4 t : Vec Ideal S1x2048 .f32) = vA' m c := by
  have hi := idx4 t
  unfold iblk vA'
  funext j
  rw [View.read_apply]
  refine congrArg (V m c main_v85) (funext fun a => Fin.ext ?_)
  fin_cases a
  · show win0_4.index t 0 * 1 + 1 * (j 0).val = (j 0).val; rw [hi]; show 0 * 1 + 1 * (j 0).val = _; omega
  · show win0_4.index t 1 * 2048 + 1 * (j 1).val = (j 1).val; rw [hi]; show 0 * 2048 + 1 * (j 1).val = _; omega

/-- Window 5's block is its whole array, at every point. -/
theorem blk5 (t : Fin cfg0.N) : (iblk m c 5 t : Vec Ideal S4x128x512 .bf16) = vB m c := by
  have hi := idx5 t
  unfold iblk vB
  funext j
  rw [View.read_apply]
  refine congrArg (V m c main_v56) (funext fun a => Fin.ext ?_)
  fin_cases a
  · show win0_5.index t 0 * 4 + 1 * (j 0).val = (j 0).val; rw [hi]; show 0 * 4 + 1 * (j 0).val = _; omega
  · show win0_5.index t 1 * 128 + 1 * (j 1).val = (j 1).val; rw [hi]; show 0 * 128 + 1 * (j 1).val = _; omega
  · show win0_5.index t 2 * 512 + 1 * (j 2).val = (j 2).val; rw [hi]; show 0 * 512 + 1 * (j 2).val = _; omega

/-- Window 6's block is its whole array, at every point. -/
theorem blk6 (t : Fin cfg0.N) : (iblk m c 6 t : Vec Ideal S4x128x512 .bf16) = vB' m c := by
  have hi := idx6 t
  unfold iblk vB'
  funext j
  rw [View.read_apply]
  refine congrArg (V m c main_v65) (funext fun a => Fin.ext ?_)
  fin_cases a
  · show win0_6.index t 0 * 4 + 1 * (j 0).val = (j 0).val; rw [hi]; show 0 * 4 + 1 * (j 0).val = _; omega
  · show win0_6.index t 1 * 128 + 1 * (j 1).val = (j 1).val; rw [hi]; show 0 * 128 + 1 * (j 1).val = _; omega
  · show win0_6.index t 2 * 512 + 1 * (j 2).val = (j 2).val; rw [hi]; show 0 * 512 + 1 * (j 2).val = _; omega

/-- Window 7's block is its whole array, at every point. -/
theorem blk7 (t : Fin cfg0.N) : (iblk m c 7 t : Vec Ideal S4x512x128 .bf16) = vC m c := by
  have hi := idx7 t
  unfold iblk vC
  funext j
  rw [View.read_apply]
  refine congrArg (V m c main_v74) (funext fun a => Fin.ext ?_)
  fin_cases a
  · show win0_7.index t 0 * 4 + 1 * (j 0).val = (j 0).val; rw [hi]; show 0 * 4 + 1 * (j 0).val = _; omega
  · show win0_7.index t 1 * 512 + 1 * (j 1).val = (j 1).val; rw [hi]; show 0 * 512 + 1 * (j 1).val = _; omega
  · show win0_7.index t 2 * 128 + 1 * (j 2).val = (j 2).val; rw [hi]; show 0 * 128 + 1 * (j 2).val = _; omega

/-- Window 8's block is its whole array, at every point. -/
theorem blk8 (t : Fin cfg0.N) : (iblk m c 8 t : Vec Ideal S4x512x128 .bf16) = vC' m c := by
  have hi := idx8 t
  unfold iblk vC'
  funext j
  rw [View.read_apply]
  refine congrArg (V m c main_v83) (funext fun a => Fin.ext ?_)
  fin_cases a
  · show win0_8.index t 0 * 4 + 1 * (j 0).val = (j 0).val; rw [hi]; show 0 * 4 + 1 * (j 0).val = _; omega
  · show win0_8.index t 1 * 512 + 1 * (j 1).val = (j 1).val; rw [hi]; show 0 * 512 + 1 * (j 1).val = _; omega
  · show win0_8.index t 2 * 128 + 1 * (j 2).val = (j 2).val; rw [hi]; show 0 * 128 + 1 * (j 2).val = _; omega

/-- Window 9's block is its whole array, at every point. -/
theorem blk9 (t : Fin cfg0.N) : (iblk m c 9 t : Vec Ideal S1x512 .f32) = vD m c := by
  have hi := idx9 t
  unfold iblk vD
  funext j
  rw [View.read_apply]
  refine congrArg (V m c main_v86) (funext fun a => Fin.ext ?_)
  fin_cases a
  · show win0_9.index t 0 * 1 + 1 * (j 0).val = (j 0).val; rw [hi]; show 0 * 1 + 1 * (j 0).val = _; omega
  · show win0_9.index t 1 * 512 + 1 * (j 1).val = (j 1).val; rw [hi]; show 0 * 512 + 1 * (j 1).val = _; omega

/-- Window 10's block is its whole array, at every point. -/
theorem blk10 (t : Fin cfg0.N) : (iblk m c 10 t : Vec Ideal S512x512 .bf16) = vG m c := by
  have hi := idx10 t
  unfold iblk vG
  funext j
  rw [View.read_apply]
  refine congrArg (V m c main_v87) (funext fun a => Fin.ext ?_)
  fin_cases a
  · show win0_10.index t 0 * 512 + 1 * (j 0).val = (j 0).val; rw [hi]; show 0 * 512 + 1 * (j 0).val = _; omega
  · show win0_10.index t 1 * 512 + 1 * (j 1).val = (j 1).val; rw [hi]; show 0 * 512 + 1 * (j 1).val = _; omega

/-- Window 11's block is its whole array, at every point. -/
theorem blk11 (t : Fin cfg0.N) : (iblk m c 11 t : Vec Ideal S1x512 .f32) = vH m c := by
  have hi := idx11 t
  unfold iblk vH
  funext j
  rw [View.read_apply]
  refine congrArg (V m c main_v88) (funext fun a => Fin.ext ?_)
  fin_cases a
  · show win0_11.index t 0 * 1 + 1 * (j 0).val = (j 0).val; rw [hi]; show 0 * 1 + 1 * (j 0).val = _; omega
  · show win0_11.index t 1 * 512 + 1 * (j 1).val = (j 1).val; rw [hi]; show 0 * 512 + 1 * (j 1).val = _; omega

/-- The block's run from the state after `64 t` rows is the whole run's continuation. -/
theorem bst_gst (t : Fin cfg0.N) (h h' : Vec Ideal S8x2048 .f32) (b : Fin 8) (q : Fin 2048)
    (hh : (h (ix2 b q), h' (ix2 b q)) = gst m c b q (64 * t.val)) (n : ℕ) (hn : n ≤ 64) :
    bst (iblk m c 0 t : Vec Ideal S64x8x512 .f32) (vA m c) (vA' m c) (vB m c) (vB' m c) h h' b q n = gst m c b q (64 * t.val + n) := by
  unfold bst
  rw [hh]
  unfold gst
  rw [runC_add]
  refine runC_congr _ _ _ _ _ _ fun k hk => ?_
  have h64 : k < 64 := by omega
  have hr := row_lt t ⟨k, h64⟩
  unfold xseq gseq
  rw [dif_pos h64, dif_pos hr]
  unfold xin gin
  exact congrArg₂ Prod.mk
    (Finset.sum_congr rfl fun l _ => congrArg (fun z : EReal => z * vB m c (ix3 ⟨q.val / 512, by omega⟩ l ⟨q.val % 512, by omega⟩)) (blk0 m c t ⟨k, h64⟩ b ⟨128 * (q.val / 512) + l.val, by omega⟩))
    (Finset.sum_congr rfl fun l _ => congrArg (fun z : EReal => z * vB' m c (ix3 ⟨q.val / 512, by omega⟩ l ⟨q.val % 512, by omega⟩)) (blk0 m c t ⟨k, h64⟩ b ⟨128 * (q.val / 512) + l.val, by omega⟩))

/-- So the gated output of a block's row is the whole array's. -/
theorem gate_pt (t : Fin cfg0.N) (h h' : Vec Ideal S8x2048 .f32) (b : Fin 8)
    (hh : ∀ q : Fin 2048, (h (ix2 b q), h' (ix2 b q)) = gst m c b q (64 * t.val)) (r : Fin 64) (e : Fin 512) :
    gate (fun k => yv (iblk m c 0 t : Vec Ideal S64x8x512 .f32)
        (fun q => (bst (iblk m c 0 t : Vec Ideal S64x8x512 .f32) (vA m c) (vA' m c) (vB m c) (vB' m c) h h' b q (r.val + 1)).1)
        (fun q => (bst (iblk m c 0 t : Vec Ideal S64x8x512 .f32) (vA m c) (vA' m c) (vB m c) (vB' m c) h h' b q (r.val + 1)).2) (vC m c) (vC' m c) (vD m c) r b k) (vG m c) (vH m c) e
      = gout m c ⟨64 * t.val + r.val, row_lt t r⟩ b e := by
  have hb : ∀ q : Fin 2048, bst (iblk m c 0 t : Vec Ideal S64x8x512 .f32) (vA m c) (vA' m c) (vB m c) (vB' m c) h h' b q (r.val + 1) = gst m c b q (64 * t.val + r.val + 1) :=
    fun q => bst_gst m c t h h' b q (hh q) (r.val + 1) (by omega)
  unfold gout
  refine gate_congr _ _ _ _ _ _ _ (fun k => ?_) (fun _ _ => rfl) (fun _ => rfl)
  unfold yv gy
  refine congrArg₂ (fun x y : EReal => x + y) (congrArg₂ (fun x y : EReal => x - y) (Finset.sum_congr rfl fun l _ => ?_) (Finset.sum_congr rfl fun l _ => ?_))
    (congrArg (fun z : EReal => vD m c (ix2 0 k) * z) (blk0 m c t r b k))
  · exact congrArg (fun z : EReal × EReal => z.1 * vC m c (ix3 ⟨k.val / 128, by omega⟩ l ⟨k.val % 128, by omega⟩)) (hb ⟨512 * (k.val / 128) + l.val, by omega⟩)
  · exact congrArg (fun z : EReal × EReal => z.2 * vC' m c (ix3 ⟨k.val / 128, by omega⟩ l ⟨k.val % 128, by omega⟩)) (hb ⟨512 * (k.val / 128) + l.val, by omega⟩)

/-- The first point's states, of its blocks. -/
theorem stA (t : Fin cfg0.N) (h0 : t.val % 128 = 0) (b : Fin 8) (q : Fin 2048) :
    ((outsAt0 m c t.val t.isLt).2.1 (ix2 b q), (outsAt0 m c t.val t.isLt).2.2 (ix2 b q))
      = bst (iblk m c 0 t : Vec Ideal S64x8x512 .f32) (vA m c) (vA' m c) (vB m c) (vB' m c) (vZ m c) (vZ m c) b q 64 := by
  rw [outsAt0_A m c t h0]
  dsimp only
  rw [out13_A, out14_A, blk1, blk2, blk3, blk4, blk5, blk6]

/-- A later point's states, of its blocks and the states before it. -/
theorem stB (t : Fin cfg0.N) (h0 : ¬ t.val % 128 = 0) (b : Fin 8) (q : Fin 2048) :
    ((outsAt0 m c t.val t.isLt).2.1 (ix2 b q), (outsAt0 m c t.val t.isLt).2.2 (ix2 b q))
      = bst (iblk m c 0 t : Vec Ideal S64x8x512 .f32) (vA m c) (vA' m c) (vB m c) (vB' m c)
          (outsAt0 m c (t.val - 1) (Nat.lt_of_le_of_lt (Nat.sub_le _ _) t.isLt)).2.1 (outsAt0 m c (t.val - 1) (Nat.lt_of_le_of_lt (Nat.sub_le _ _) t.isLt)).2.2 b q 64 := by
  rw [outsAt0_B m c t h0]
  dsimp only
  rw [out13_B, out14_B, blk3, blk4, blk5, blk6]

/-- The states the point leaves are the run's after its rows. -/
theorem st_eq (n : ℕ) : ∀ (hn : n < cfg0.N) (b : Fin 8) (q : Fin 2048),
    ((outsAt0 m c n hn).2.1 (ix2 b q), (outsAt0 m c n hn).2.2 (ix2 b q)) = gst m c b q (64 * n + 64) := by
  induction n with
  | zero => exact fun hn b q => (stA m c ⟨0, hn⟩ rfl b q).trans (bst_gst m c ⟨0, hn⟩ (vZ m c) (vZ m c) b q rfl 64 le_rfl)
  | succ n ih =>
    intro hn b q
    have hN : cfg0.N = 128 := N_0
    have hB : ¬(⟨n + 1, hn⟩ : Fin cfg0.N).val % 128 = 0 := by dsimp only; omega
    exact (stB m c ⟨n + 1, hn⟩ hB b q).trans (bst_gst m c ⟨n + 1, hn⟩ _ _ b q (ih (by omega) b q) 64 le_rfl)

/-- The gated outputs the point leaves are its rows of the whole result. -/
theorem out_eq (t : Fin cfg0.N) (r : Fin 64) (b : Fin 8) (e : Fin 512) :
    (outsAt0 m c t.val t.isLt).1 (ix3 r b e) = gout m c ⟨64 * t.val + r.val, row_lt t r⟩ b e := by
  by_cases h0 : t.val % 128 = 0
  · have hz : t.val = 0 := by have := t.isLt; have hN : cfg0.N = 128 := N_0; omega
    rw [outsAt0_A m c t h0]
    dsimp only
    rw [out12_A, blk1, blk2, blk3, blk4, blk5, blk6, blk7, blk8, blk9, blk10, blk11]
    exact gate_pt m c t (vZ m c) (vZ m c) b (fun q => by rw [hz]; rfl) r e
  · rw [outsAt0_B m c t h0]
    dsimp only
    rw [out12_B, blk3, blk4, blk5, blk6, blk7, blk8, blk9, blk10, blk11]
    refine gate_pt m c t _ _ b (fun q => (st_eq m c (t.val - 1) _ b q).trans (congrArg (gst m c b q) ?_)) r e
    have : t.val ≠ 0 := fun h => h0 (by rw [h])
    omega

/-- The result of the gated outputs, as contents of its array. -/
def res12 : Vec Ideal S8192x8x512 .f32 := fun i => gout m c (i 0) (i 1) (i 2)
/-- The last states' real parts. -/
def res13 : Vec Ideal S8x2048 .f32 := fun i => (gst m c (i 0) (i 1) 8192).1
/-- The last states' imaginary parts. -/
def res14 : Vec Ideal S8x2048 .f32 := fun i => (gst m c (i 0) (i 1) 8192).2

theorem fin12 : (dats m 0 c).arrAt 12 cfg0.N = res12 m c := by
  refine (dats m 0 c).arrAt_eq_of_covers 12 _ (by decide +kernel) fun t hf y => ?_
  blk_simp
  rw [after0_12]
  obtain ⟨r, b, e, rfl⟩ : ∃ (r : Fin 64) (b : Fin 8) (e : Fin 512), y = ix3 r b e := ⟨y 0, y 1, y 2, eq_ix3 y⟩
  refine (out_eq m c t r b e).trans ?_
  unfold res12
  have hi := idx12 t
  congr 1 <;> apply Fin.ext
  · show _ = win0_12.index t 0 * 64 + 1 * r.val; rw [hi]; show 64 * t.val + r.val = t.val * 64 + 1 * r.val; omega
  · show _ = win0_12.index t 1 * 8 + 1 * b.val; rw [hi]; show b.val = 0 * 8 + 1 * b.val; omega
  · show _ = win0_12.index t 2 * 512 + 1 * e.val; rw [hi]; show e.val = 0 * 512 + 1 * e.val; omega

theorem fin13 : (dats m 0 c).arrAt 13 cfg0.N = res13 m c := by
  refine (dats m 0 c).arrAt_eq_of_covers 13 _ (by decide +kernel) fun t hf y => ?_
  have h127 := (flush0_13 t).mp hf
  have hN : cfg0.N = 128 := N_0
  have ht : 64 * t.val + 64 = 8192 := by have := t.isLt; omega
  blk_simp
  rw [after0_13]
  obtain ⟨b, q, rfl⟩ : ∃ (b : Fin 8) (q : Fin 2048), y = ix2 b q := ⟨y 0, y 1, eq_ix2 y⟩
  have h := st_eq m c t.val t.isLt b q
  rw [ht] at h
  refine (congrArg Prod.fst h).trans ?_
  unfold res13
  have hi := idx13 t
  refine congrArg (fun z => z.1) (congrArg₂ (fun x y => gst m c x y 8192) (Fin.ext ?_) (Fin.ext ?_))
  · show _ = win0_13.index t 0 * 8 + 1 * b.val; rw [hi]; show b.val = 0 * 8 + 1 * b.val; omega
  · show _ = win0_13.index t 1 * 2048 + 1 * q.val; rw [hi]; show q.val = 0 * 2048 + 1 * q.val; omega

theorem fin14 : (dats m 0 c).arrAt 14 cfg0.N = res14 m c := by
  refine (dats m 0 c).arrAt_eq_of_covers 14 _ (by decide +kernel) fun t hf y => ?_
  have h127 := (flush0_14 t).mp hf
  have hN : cfg0.N = 128 := N_0
  have ht : 64 * t.val + 64 = 8192 := by have := t.isLt; omega
  blk_simp
  rw [after0_14]
  obtain ⟨b, q, rfl⟩ : ∃ (b : Fin 8) (q : Fin 2048), y = ix2 b q := ⟨y 0, y 1, eq_ix2 y⟩
  have h := st_eq m c t.val t.isLt b q
  rw [ht] at h
  refine (congrArg Prod.snd h).trans ?_
  unfold res14
  have hi := idx14 t
  refine congrArg (fun z => z.2) (congrArg₂ (fun x y => gst m c x y 8192) (Fin.ext ?_) (Fin.ext ?_))
  · show _ = win0_14.index t 0 * 8 + 1 * b.val; rw [hi]; show b.val = 0 * 8 + 1 * b.val; omega
  · show _ = win0_14.index t 1 * 2048 + 1 * q.val; rw [hi]; show q.val = 0 * 2048 + 1 * q.val; omega

end Cert.KernelIdeal.Own
-- ==== Proof.RefScan.lean ====
/- The plain scan of the reference: the state it carries and the states it stacks, after any number of steps. -/
module

public import proofs.«01_k».proof.Proof.ScanArr
public import proofs.«01_k».proof.Proof.Gen.ReferenceIdeal.Run
public import proofs.«01_k».proof.Proof.Gen.ReferenceIdeal.Step
public import Idealize.ShloMosaic.Lib.DynamicIndex

@[expose] public section

set_option maxRecDepth 16384

noncomputable section

namespace Cert.ReferenceIdeal.Own

open Idealize.ShloMosaic Idealize.ShloMosaic.TcCoe Idealize.ShloMosaic.StableHlo Cert.ReferenceIdeal Cert.ReferenceIdeal.Gen Cert.ReferenceIdeal.Value Cert.Scan

/-- One row read at a counter inside the array. -/
theorem ds_ix (x : S8192x8x32x64.Idx → EReal) (start : Fin 4 → Int) (h : S8192x8x32x64.Slices (fun _ => 0) S1x8x32x64) (j : ℕ) (hj : j < 8192)
    (hs : ∀ a, start a = ((![j, 0, 0, 0] : Fin 4 → ℕ) a : Int)) (b : Fin 8) (g : Fin 32) (p : Fin 64) :
    Host.dynamicSlice S1x8x32x64 x start h (ix4 0 b g p) = x (ix4 ⟨j, hj⟩ b g p) := by
  have hoff : S8192x8x32x64.Slices (![j, 0, 0, 0] : Fin 4 → ℕ) S1x8x32x64 := by
    refine ⟨rfl, fun a => ?_⟩
    fin_cases a
    · show j + 1 ≤ 8192; omega
    · show 0 + 8 ≤ 8; omega
    · show 0 + 32 ≤ 32; omega
    · show 0 + 64 ≤ 64; omega
  rw [Host.dynamicSlice_eq_extractStridedSlice _ x start _ h hoff hs]
  unfold extractStridedSlice
  refine congrArg x (funext fun a => Fin.ext ?_)
  fin_cases a
  · show j + 0 = j; omega
  · show 0 + b.val = b.val; omega
  · show 0 + g.val = g.val; omega
  · show 0 + p.val = p.val; omega

/-- One row written at a counter inside the array. -/
theorem dus_ix (x : S8192x8x32x64.Idx → EReal) (u : S1x8x32x64.Idx → EReal) (start : Fin 4 → Int) (h : S8192x8x32x64.Slices (fun _ => 0) S1x8x32x64) (j : ℕ) (hj : j < 8192)
    (hs : ∀ a, start a = ((![j, 0, 0, 0] : Fin 4 → ℕ) a : Int)) (n : Fin 8192) (b : Fin 8) (g : Fin 32) (p : Fin 64) :
    Host.dynamicUpdateSlice x u start h (ix4 n b g p) = if n.val = j then u (ix4 0 b g p) else x (ix4 n b g p) := by
  have hc : ∀ a : Fin 4, Host.clampedStart S8192x8x32x64 S1x8x32x64 h.1 start a = (![j, 0, 0, 0] : Fin 4 → ℕ) a := by
    intro a
    refine Host.clampedStart_of_le h.1 start a _ (hs a) ?_
    fin_cases a
    · show j + 1 ≤ 8192; omega
    · show 0 + 8 ≤ 8; omega
    · show 0 + 32 ≤ 32; omega
    · show 0 + 64 ≤ 64; omega
  rw [Host.dynamicUpdateSlice_apply]
  by_cases hn : n.val = j
  · rw [if_pos hn, dif_pos]
    · refine congrArg u (funext fun a => Fin.ext ?_)
      fin_cases a
      · show n.val - Host.clampedStart S8192x8x32x64 S1x8x32x64 h.1 start 0 = 0; rw [hc 0]; show n.val - j = 0; omega
      · show b.val - Host.clampedStart S8192x8x32x64 S1x8x32x64 h.1 start 1 = b.val; rw [hc 1]; show b.val - 0 = b.val; omega
      · show g.val - Host.clampedStart S8192x8x32x64 S1x8x32x64 h.1 start 2 = g.val; rw [hc 2]; show g.val - 0 = g.val; omega
      · show p.val - Host.clampedStart S8192x8x32x64 S1x8x32x64 h.1 start 3 = p.val; rw [hc 3]; show p.val - 0 = p.val; omega
    · intro a
      rw [hc a]
      fin_cases a
      · show j ≤ n.val ∧ n.val < j + 1; omega
      · show 0 ≤ b.val ∧ b.val < 0 + 8; omega
      · show 0 ≤ g.val ∧ g.val < 0 + 32; omega
      · show 0 ≤ p.val ∧ p.val < 0 + 64; omega
  · rw [if_neg hn, dif_neg]
    intro hall
    have h0 := hall 0
    rw [hc 0] at h0
    exact hn (by have h1 : j ≤ n.val := h0.1
                 have h2 : n.val < j + 1 := h0.2
                 omega)

variable (V : Valuation τ sig (Elt Ideal))

/-- The stacked inputs, real parts. -/
def wX : Vec Ideal S8192x8x32x64 .f32 := V (Proc.devRef .tc main_v50_0)
/-- The stacked inputs, imaginary parts. -/
def wY : Vec Ideal S8192x8x32x64 .f32 := V (Proc.devRef .tc main_v50_1)
/-- The factor, real part. -/
def wA : Vec Ideal S32x64 .f32 := V (Proc.devRef .tc main_v50_2)
/-- The factor, imaginary part. -/
def wB : Vec Ideal S32x64 .f32 := V (Proc.devRef .tc main_v50_3)
/-- The counter. -/
def wK : IVec S_ 32 := V (Proc.devRef .tc main_v50_4)
/-- The state, real part. -/
def wR : Vec Ideal S8x32x64 .f32 := V (Proc.devRef .tc main_v50_5)
/-- The state, imaginary part. -/
def wI : Vec Ideal S8x32x64 .f32 := V (Proc.devRef .tc main_v50_6)
/-- The stacked states, real parts. -/
def wS : Vec Ideal S8192x8x32x64 .f32 := V (Proc.devRef .tc main_v50_7)
/-- The stacked states, imaginary parts. -/
def wT : Vec Ideal S8192x8x32x64 .f32 := V (Proc.devRef .tc main_v50_8)

/-- The starts of a slice at the counter. -/
theorem starts (j : ℕ) (hj : j < 8192) (hk : wK V = fun _ => BitVec.ofNat 32 j) (a : Fin 4) :
    (((![V (Proc.devRef .tc main_v50_4), constantI S_ 32 0#32, constantI S_ 32 0#32, constantI S_ 32 0#32] : Fin 4 → (⟨S_, .i32⟩ : BufTy).Contents (Elt Ideal)) a (Shape.Idx.first h_S_)).toInt : Int)
      = ((![j, 0, 0, 0] : Fin 4 → ℕ) a : Int) := by
  fin_cases a
  · show (wK V (Shape.Idx.first h_S_)).toInt = (j : Int)
    rw [hk]; exact toInt_ofNat_of_lt (by omega)
  · rfl
  · rfl
  · rfl

/-- Row `n`'s input of column `(g, p)`. -/
def rseq (X Y : Vec Ideal S8192x8x32x64 .f32) (b : Fin 8) (g : Fin 32) (p : Fin 64) (n : ℕ) : EReal × EReal :=
  if h : n < 8192 then (X (ix4 ⟨n, h⟩ b g p), Y (ix4 ⟨n, h⟩ b g p)) else (0, 0)

/-- One trip's new state, real part. -/
theorem v98_ix (j : ℕ) (hj : j < 8192) (hk : wK V = fun _ => BitVec.ofNat 32 j) (b : Fin 8) (g : Fin 32) (p : Fin 64) :
    (res_main_while0b_v98 V : Vec Ideal S8x32x64 .f32) (ix3 b g p)
      = (stepC (wA V (ix2 g p)) (wB V (ix2 g p)) (wR V (ix3 b g p), wI V (ix3 b g p)) (rseq (wX V) (wY V) b g p j)).1 := by
  unfold res_main_while0b_v98 rseq
  rw [dif_pos hj]
  refine congrArg₂ (fun x y : EReal => x + y) (congrArg₂ (fun x y : EReal => x - y) (congrArg₂ (fun x y : EReal => x * y) ?_ rfl) (congrArg₂ (fun x y : EReal => x * y) ?_ rfl)) ?_
  · pointwise; rfl
  · pointwise; rfl
  · refine Eq.trans ?_ (ds_ix (wX V) _ sliceFits_S8192x8x32x64_S1x8x32x64 j hj (starts V j hj hk) b g p)
    pointwise; rfl

/-- One trip's new state, imaginary part. -/
theorem v106_ix (j : ℕ) (hj : j < 8192) (hk : wK V = fun _ => BitVec.ofNat 32 j) (b : Fin 8) (g : Fin 32) (p : Fin 64) :
    (res_main_while0b_v106 V : Vec Ideal S8x32x64 .f32) (ix3 b g p)
      = (stepC (wA V (ix2 g p)) (wB V (ix2 g p)) (wR V (ix3 b g p), wI V (ix3 b g p)) (rseq (wX V) (wY V) b g p j)).2 := by
  unfold res_main_while0b_v106 rseq
  rw [dif_pos hj]
  refine congrArg₂ (fun x y : EReal => x + y) (congrArg₂ (fun x y : EReal => x + y) (congrArg₂ (fun x y : EReal => x * y) ?_ rfl) (congrArg₂ (fun x y : EReal => x * y) ?_ rfl)) ?_
  · pointwise; rfl
  · pointwise; rfl
  · refine Eq.trans ?_ (ds_ix (wY V) _ sliceFits_S8192x8x32x64_S1x8x32x64 j hj (starts V j hj hk) b g p)
    pointwise; rfl

/-- What a loop entry `V₀` becomes after `k` trips. -/
structure After (V₀ V : Valuation τ sig (Elt Ideal)) (k : ℕ) : Prop where
  ctr : wK V = fun _ => BitVec.ofNat 32 k
  hX : wX V = wX V₀
  hY : wY V = wY V₀
  hA : wA V = wA V₀
  hB : wB V = wB V₀
  st : ∀ b g p, (wR V (ix3 b g p), wI V (ix3 b g p)) = runC (wA V₀ (ix2 g p)) (wB V₀ (ix2 g p)) (rseq (wX V₀) (wY V₀) b g p) (0, 0) k
  stk : ∀ (n : Fin 8192) b g p, n.val < k → (wS V (ix4 n b g p), wT V (ix4 n b g p)) = runC (wA V₀ (ix2 g p)) (wB V₀ (ix2 g p)) (rseq (wX V₀) (wY V₀) b g p) (0, 0) (n.val + 1)

/-- One trip takes the state after `k` trips to the one after `k + 1`. -/
theorem after_step (V₀ V : Valuation τ sig (Elt Ideal)) (k : ℕ) (hk : k < 8192) (h : After V₀ V k) : After V₀ (STEP V) (k + 1) := by
  have hst : ∀ b g p, ((res_main_while0b_v98 V : Vec Ideal S8x32x64 .f32) (ix3 b g p), (res_main_while0b_v106 V : Vec Ideal S8x32x64 .f32) (ix3 b g p))
      = runC (wA V₀ (ix2 g p)) (wB V₀ (ix2 g p)) (rseq (wX V₀) (wY V₀) b g p) (0, 0) (k + 1) := by
    intro b g p
    rw [runC_succ, ← h.st b g p, v98_ix V k hk h.ctr, v106_ix V k hk h.ctr, h.hX, h.hY, h.hA, h.hB]
    rfl
  refine ⟨?_, ?_, ?_, ?_, ?_, ?_, ?_⟩
  · unfold wK
    rw [STEP_main_v50_4]
    unfold step_main_v50_4
    funext i
    show wK V i + 1#32 = BitVec.ofNat 32 (k + 1)
    rw [h.ctr]
    exact (BitVec.ofNat_add ..).symm
  · exact (STEP_main_v50_0 V).trans h.hX
  · exact (STEP_main_v50_1 V).trans h.hY
  · exact (STEP_main_v50_2 V).trans h.hA
  · exact (STEP_main_v50_3 V).trans h.hB
  · intro b g p
    refine Eq.trans ?_ (hst b g p)
    unfold wR wI
    rw [STEP_main_v50_5, STEP_main_v50_6]
    rfl
  · intro n b g p hn
    have e7 : wS (STEP V) (ix4 n b g p) = if n.val = k then (res_main_while0b_v98 V : Vec Ideal S8x32x64 .f32) (ix3 b g p) else wS V (ix4 n b g p) := by
      unfold wS
      rw [STEP_main_v50_7]
      refine (dus_ix _ _ _ updateFits_S8192x8x32x64_S1x8x32x64 k hk (starts V k hk h.ctr) n b g p).trans ?_
      refine if_congr Iff.rfl ?_ rfl
      pointwise
    have e8 : wT (STEP V) (ix4 n b g p) = if n.val = k then (res_main_while0b_v106 V : Vec Ideal S8x32x64 .f32) (ix3 b g p) else wT V (ix4 n b g p) := by
      unfold wT
      rw [STEP_main_v50_8]
      refine (dus_ix _ _ _ updateFits_S8192x8x32x64_S1x8x32x64 k hk (starts V k hk h.ctr) n b g p).trans ?_
      refine if_congr Iff.rfl ?_ rfl
      pointwise
    rw [e7, e8]
    by_cases hnk : n.val = k
    · rw [if_pos hnk, if_pos hnk, hnk]; exact hst b g p
    · rw [if_neg hnk, if_neg hnk]; exact h.stk n b g p (by omega)

/-- After all the trips. -/
theorem after_all (V₀ : Valuation τ sig (Elt Ideal)) (hK : wK V₀ = fun _ => 0#32) (hR : ∀ i, wR V₀ i = 0) (hI : ∀ i, wI V₀ i = 0) :
    ∀ k, k ≤ 8192 → After V₀ (STEP^[k] V₀) k := by
  intro k
  induction k with
  | zero => exact fun _ => ⟨hK, rfl, rfl, rfl, rfl, fun b g p => Prod.ext (hR _) (hI _), fun n b g p hn => absurd hn (Nat.not_lt_zero _)⟩
  | succ k ih =>
    intro hk
    rw [Function.iterate_succ_apply']
    exact after_step V₀ _ k (by omega) (ih (by omega))

end Cert.ReferenceIdeal.Own
-- ==== Proof.RefArr.lean ====
/- What the reference's three results are, entry by entry: of the argument arrays and of the scan's states. -/
module

public import proofs.«01_k».proof.Proof.RefScan

@[expose] public section

set_option maxRecDepth 65536

noncomputable section

namespace Cert.ReferenceIdeal.Own

open Idealize.ShloMosaic Idealize.ShloMosaic.TcCoe Idealize.ShloMosaic.StableHlo Cert.ReferenceIdeal Cert.ReferenceIdeal.Gen Cert.ReferenceIdeal.Value Cert.Scan

/-- The sum before the activation, as the reference writes it. -/
def refY (U : FVec Ideal S8x8192x512 .f32) (S T : FVec Ideal S8192x8x32x64 .f32) (C D : FVec Ideal S32x16x64 .f32) (d : FVec Ideal S32x16 .f32) : FVec Ideal S8192x8x512 .f32 :=
  shapeCast _ (addf (subf (transpose S8192x8x32x16 [2, 3, 0, 1] (Host.dotGeneral (F := Ideal) (φ₁ := .f32) (φ₂ := .f32) dot_S32x16x64_S8192x8x32x64_S32x16x8192x8_2_3_1_01_0_2 none C S) transposes_S32x16x8192x8_S8192x8x32x16_2_3_0_1) (transpose S8192x8x32x16 [2, 3, 0, 1] (Host.dotGeneral (F := Ideal) (φ₁ := .f32) (φ₂ := .f32) dot_S32x16x64_S8192x8x32x64_S32x16x8192x8_2_3_1_01_0_2 none D T) transposes_S32x16x8192x8_S8192x8x32x16_2_3_0_1)) (mulf (broadcastInDim S8192x8x32x16 ![0, 1, 2, 3] bcast_S1x1x32x16_S8192x8x32x16_0_1_2_3 (broadcastInDim S1x1x32x16 ![2, 3] bcast_S32x16_S1x1x32x16_2_3 d)) (shapeCast _ (transpose S8192x8x512 [1, 0, 2] U transposes_S8x8192x512_S8192x8x512_1_0_2) shapeCasts_S8192x8x512_S8192x8x32x16))) shapeCasts_S8192x8x32x16_S8192x8x512

/-- The activation, as the reference writes it. -/
def refG (Y : FVec Ideal S8192x8x512 .f32) : FVec Ideal S8192x8x512 .f32 :=
  mulf Y (mulf (broadcastInDim S8192x8x512 ![] bcast_S_S8192x8x512 (constant S_ .f32 0x3F000000#32)) (addf (broadcastInDim S8192x8x512 ![] bcast_S_S8192x8x512 (constant S_ .f32 0x3F800000#32)) (Host.tanh (mulf (broadcastInDim S8192x8x512 ![] bcast_S_S8192x8x512 (constant S_ .f32 0x3F4C422A#32)) (addf Y (mulf (broadcastInDim S8192x8x512 ![] bcast_S_S8192x8x512 (constant S_ .f32 0x3D372713#32)) (mulf (mulf Y Y) Y)))))))

/-- The gate, as the reference writes it. -/
def refO (G : FVec Ideal S8192x8x512 .f32) (W : FVec Ideal S512x512 .f32) (h : FVec Ideal S512 .f32) : FVec Ideal S8192x8x512 .f32 :=
  mulf G (Host.divf (broadcastInDim S8192x8x512 ![] bcast_S_S8192x8x512 (constant S_ .f32 0x3F800000#32)) (addf (broadcastInDim S8192x8x512 ![] bcast_S_S8192x8x512 (constant S_ .f32 0x3F800000#32)) (Host.exp (Host.negf (addf (Host.dotGeneral (F := Ideal) (φ₁ := .f32) (φ₂ := .f32) dot_S8192x8x512_S512x512_S8192x8x512_2_0_01_1_n_n none G W) (broadcastInDim S8192x8x512 ![0, 1, 2] bcast_S1x1x512_S8192x8x512_0_1_2 (broadcastInDim S1x1x512 ![2] bcast_S512_S1x1x512_2 h)))))))

/-- The first result is the gate of the activation of the sum. -/
theorem out86_eq (V : Valuation τ sig (Elt Ideal)) :
    out_main_v86 V = refO (refG (refY (V (Proc.devRef .tc main_arg0)) (wS V) (wT V) (V (Proc.devRef .tc main_arg6)) (V (Proc.devRef .tc main_arg7)) (V (Proc.devRef .tc main_arg8))))
      (V (Proc.devRef .tc main_arg9)) (V (Proc.devRef .tc main_arg10)) := rfl

/-- The second result is the last state's real part. -/
theorem out87_ix (V : Valuation τ sig (Elt Ideal)) (b : Fin 8) (q : Fin 2048) :
    (out_main_v87 V : FVec Ideal S8x2048 .f32) (ix2 b q) = wR V (ix3 b ⟨q.val / 64, by omega⟩ ⟨q.val % 64, by omega⟩) := by
  unfold out_main_v87 wR
  pointwise

/-- The third result is the last state's imaginary part. -/
theorem out88_ix (V : Valuation τ sig (Elt Ideal)) (b : Fin 8) (q : Fin 2048) :
    (out_main_v88 V : FVec Ideal S8x2048 .f32) (ix2 b q) = wI V (ix3 b ⟨q.val / 64, by omega⟩ ⟨q.val % 64, by omega⟩) := by
  unfold out_main_v88 wI
  pointwise

theorem refY_ix (U : FVec Ideal S8x8192x512 .f32) (S T : FVec Ideal S8192x8x32x64 .f32) (C D : FVec Ideal S32x16x64 .f32) (d : FVec Ideal S32x16 .f32)
    (n : Fin 8192) (b : Fin 8) (e : Fin 512) :
    refY U S T C D d (ix3 n b e)
      = (∑ p : Fin 64, C (ix3 ⟨e.val / 16, by omega⟩ ⟨e.val % 16, by omega⟩ p) * S (ix4 n b ⟨e.val / 16, by omega⟩ p))
        - (∑ p : Fin 64, D (ix3 ⟨e.val / 16, by omega⟩ ⟨e.val % 16, by omega⟩ p) * T (ix4 n b ⟨e.val / 16, by omega⟩ p))
        + d (ix2 ⟨e.val / 16, by omega⟩ ⟨e.val % 16, by omega⟩) * U (ix3 b n e) := by
  unfold refY
  pointwise

theorem refG_ix (Y : FVec Ideal S8192x8x512 .f32) (i : S8192x8x512.Idx) :
    refG Y i = Y i * (Ideal.ofBits .f32 1056964608#32 * (1 + Ideal.tanh (Ideal.ofBits .f32 1061962282#32 * (Y i + Ideal.ofBits .f32 1027024659#32 * (Y i * Y i * Y i))))) := by
  unfold refG
  pointwise

theorem refO_ix (G : FVec Ideal S8192x8x512 .f32) (W : FVec Ideal S512x512 .f32) (h : FVec Ideal S512 .f32) (n : Fin 8192) (b : Fin 8) (e : Fin 512) :
    refO G W h (ix3 n b e) = G (ix3 n b e) * Ideal.logistic ((∑ k : Fin 512, G (ix3 n b k) * W (ix2 k e)) + h (ix1 e)) := by
  unfold refO
  pointwise
  rfl

variable (m : (ℓ : Loc nD τ sig) → Buf (Elt Ideal) ℓ) (c : Dev nD)

/-- The scan's entry. -/
def ent : Valuation τ sig (Elt Ideal) := entryContents preI m c

set_option maxHeartbeats 800000 in
theorem ent_X : wX (ent m c) = Step.A_main_v44 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold wX ent
  simp only [entryContents, afterL_cons, afterL_nil]
  after_reads_simp
  rfl

set_option maxHeartbeats 800000 in
theorem ent_Y : wY (ent m c) = Step.A_main_v46 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold wY ent
  simp only [entryContents, afterL_cons, afterL_nil]
  after_reads_simp
  rfl

set_option maxHeartbeats 800000 in
theorem ent_A : wA (ent m c) = Step.A_main_v9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold wA ent
  simp only [entryContents, afterL_cons, afterL_nil]
  after_reads_simp
  rfl

set_option maxHeartbeats 800000 in
theorem ent_B : wB (ent m c) = Step.A_main_v13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold wB ent
  simp only [entryContents, afterL_cons, afterL_nil]
  after_reads_simp
  rfl

set_option maxHeartbeats 800000 in
theorem ent_R : wR (ent m c) = Step.K_main_v47 (F := Ideal) := by
  unfold wR ent
  simp only [entryContents, afterL_cons, afterL_nil]
  after_reads_simp
  rfl

set_option maxHeartbeats 800000 in
theorem ent_I : wI (ent m c) = Step.K_main_v47 (F := Ideal) := by
  unfold wI ent
  simp only [entryContents, afterL_cons, afterL_nil]
  after_reads_simp
  rfl

theorem zero47 (i : S8x32x64.Idx) : (Step.K_main_v47 (F := Ideal) : FVec Ideal S8x32x64 .f32) i = 0 := by
  unfold Step.K_main_v47 Step.K_main_cst_1
  pointwise

/-- Row `n`'s input of column `(g, p)`, real part: the row times the input matrix's row. -/
theorem A44_ix (a0 : FVec Ideal S8x8192x512 .f32) (a1 a2 : FVec Ideal S32x64 .f32) (a3 : FVec Ideal S32 .f32) (a4 a5 : FVec Ideal S32x64x16 .f32)
    (n : Fin 8192) (b : Fin 8) (g : Fin 32) (p : Fin 64) :
    (Step.A_main_v44 a0 a1 a2 a3 a4 a5 : Vec Ideal S8192x8x32x64 .f32) (ix4 n b g p)
      = ∑ k : Fin 16, (Step.A_main_v35 a0 a1 a2 a3 a4 a5 : Vec Ideal S32x64x16 .f32) (ix3 g p k) * a0 (ix3 b n ⟨g.val * 16 + k.val, by omega⟩) := by
  unfold Step.A_main_v44 Step.A_main_v43 Step.A_main_v0
  pointwise

/-- The same, imaginary part. -/
theorem A46_ix (a0 : FVec Ideal S8x8192x512 .f32) (a1 a2 : FVec Ideal S32x64 .f32) (a3 : FVec Ideal S32 .f32) (a4 a5 : FVec Ideal S32x64x16 .f32)
    (n : Fin 8192) (b : Fin 8) (g : Fin 32) (p : Fin 64) :
    (Step.A_main_v46 a0 a1 a2 a3 a4 a5 : Vec Ideal S8192x8x32x64 .f32) (ix4 n b g p)
      = ∑ k : Fin 16, (Step.A_main_v42 a0 a1 a2 a3 a4 a5 : Vec Ideal S32x64x16 .f32) (ix3 g p k) * a0 (ix3 b n ⟨g.val * 16 + k.val, by omega⟩) := by
  unfold Step.A_main_v46 Step.A_main_v45 Step.A_main_v0
  pointwise

end Cert.ReferenceIdeal.Own
-- ==== Proof.ScanHost.lean ====
/- What the host part before the call prepares, entry by entry: the packed matrices, the factors, the rows. -/
module

public import proofs.«01_k».proof.Proof.RefArr

@[expose] public section

set_option maxRecDepth 65536

noncomputable section

namespace Cert.KernelIdeal.Own

open Idealize.ShloMosaic Idealize.ShloMosaic.TcCoe Cert.KernelIdeal Cert.KernelIdeal.Gen Cert.Scan

/-- The identity matrix of the packing. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The packing of an input matrix. -/
def packB (X : FVec Ideal S32x64x16 .f32) : FVec Ideal S4x128x512 .bf16 :=
  truncf .bf16 (shapeCast S4x128x512 (mulf (broadcastInDim S4x8x16x8x64 ![0, 1, 2, 3, 4] bcast_S4x8x16x1x64_S4x8x16x8x64_0_1_2_3_4 (broadcastInDim S4x8x16x1x64 ![0, 1, 2, 4] bcast_S4x8x16x64_S4x8x16x1x64_0_1_2_4 (transpose S4x8x16x64 [0, 1, 3, 2] (shapeCast S4x8x64x16 X shapeCasts_S32x64x16_S4x8x64x16) transposes_S4x8x64x16_S4x8x16x64_0_1_3_2)))
    (broadcastInDim S4x8x16x8x64 ![0, 1, 2, 3, 4] bcast_S1x8x1x8x1_S4x8x16x8x64_0_1_2_3_4 (broadcastInDim S1x8x1x8x1 ![1, 3] bcast_S8x8_S1x8x1x8x1_1_3 eye))) shapeCasts_S4x8x16x8x64_S4x128x512) bitsLt_bf16_f32

/-- The packing of an output matrix. -/
def packC (X : FVec Ideal S32x16x64 .f32) : FVec Ideal S4x512x128 .bf16 :=
  truncf .bf16 (shapeCast S4x512x128 (mulf (broadcastInDim S4x8x64x8x16 ![0, 1, 2, 3, 4] bcast_S4x8x64x1x16_S4x8x64x8x16_0_1_2_3_4 (broadcastInDim S4x8x64x1x16 ![0, 1, 2, 4] bcast_S4x8x64x16_S4x8x64x1x16_0_1_2_4 (transpose S4x8x64x16 [0, 1, 3, 2] (shapeCast S4x8x16x64 X shapeCasts_S32x16x64_S4x8x16x64) transposes_S4x8x16x64_S4x8x64x16_0_1_3_2)))
    (broadcastInDim S4x8x64x8x16 ![0, 1, 2, 3, 4] bcast_S1x8x1x8x1_S4x8x64x8x16_0_1_2_3_4 (broadcastInDim S1x8x1x8x1 ![1, 3] bcast_S8x8_S1x8x1x8x1_1_3 eye))) shapeCasts_S4x8x64x8x16_S4x512x128) bitsLt_bf16_f32

theorem eye_ix (a b : Fin 8) : eye (ix2 a b) = if a = b then 1 else 0 := by
  unfold eye
  pointwise
  have h : ∀ a b : Fin 8, IntOp.cmpi CmpIPredicate.eq (IntOp.addi (BitVec.ofNat 32 a.val) 0#32) (BitVec.ofNat 32 b.val) = if a = b then 1#1 else 0#1 := by decide
  rw [h a b]
  split
  · show (((1#1 : BitVec 1).toNat : ℝ) : EReal) = 1
    simp
  · show (((0#1 : BitVec 1).toNat : ℝ) : EReal) = 0
    simp

theorem packB_ix (X : FVec Ideal S32x64x16 .f32) (ch : Fin 4) (k : Fin 128) (l : Fin 512) :
    packB X (ix3 ch k l) = X (ix3 ⟨ch.val * 8 + k.val / 16, by omega⟩ ⟨l.val % 64, by omega⟩ ⟨k.val % 16, by omega⟩) * eye (ix2 ⟨k.val / 16, by omega⟩ ⟨l.val / 64, by omega⟩) := by
  unfold packB
  pointwise

theorem packC_ix (X : FVec Ideal S32x16x64 .f32) (ch : Fin 4) (k : Fin 512) (l : Fin 128) :
    packC X (ix3 ch k l) = X (ix3 ⟨ch.val * 8 + k.val / 64, by omega⟩ ⟨l.val % 16, by omega⟩ ⟨k.val % 64, by omega⟩) * eye (ix2 ⟨k.val / 64, by omega⟩ ⟨l.val / 16, by omega⟩) := by
  unfold packC
  pointwise

variable (m : (ℓ : Loc nD τ sig) → Buf (Elt Ideal) ℓ) (c : Dev nD)

/-- The rows of the argument. -/
def a0 : FVec Ideal S8x8192x512 .f32 := m ((c.tc : Thread nD τ).loc main_arg0)
def a1 : FVec Ideal S32x64 .f32 := m ((c.tc : Thread nD τ).loc main_arg1)
def a2 : FVec Ideal S32x64 .f32 := m ((c.tc : Thread nD τ).loc main_arg2)
def a3 : FVec Ideal S32 .f32 := m ((c.tc : Thread nD τ).loc main_arg3)
def a4 : FVec Ideal S32x64x16 .f32 := m ((c.tc : Thread nD τ).loc main_arg4)
def a5 : FVec Ideal S32x64x16 .f32 := m ((c.tc : Thread nD τ).loc main_arg5)
def a6 : FVec Ideal S32x16x64 .f32 := m ((c.tc : Thread nD τ).loc main_arg6)
def a7 : FVec Ideal S32x16x64 .f32 := m ((c.tc : Thread nD τ).loc main_arg7)
def a8 : FVec Ideal S32x16 .f32 := m ((c.tc : Thread nD τ).loc main_arg8)
def a9 : FVec Ideal S512x512 .f32 := m ((c.tc : Thread nD τ).loc main_arg9)
def a10 : FVec Ideal S512 .f32 := m ((c.tc : Thread nD τ).loc main_arg10)
/-- The factor's real part, one value per group and state. -/
def fA : Vec Ideal S32x64 .f32 := Cert.ReferenceIdeal.Step.A_main_v9 (a0 m c) (a1 m c) (a2 m c) (a3 m c) (a4 m c) (a5 m c)
/-- The factor's imaginary part. -/
def fA' : Vec Ideal S32x64 .f32 := Cert.ReferenceIdeal.Step.A_main_v13 (a0 m c) (a1 m c) (a2 m c) (a3 m c) (a4 m c) (a5 m c)
/-- The discretised input matrix, real part. -/
def fB : Vec Ideal S32x64x16 .f32 := Cert.ReferenceIdeal.Step.A_main_v35 (a0 m c) (a1 m c) (a2 m c) (a3 m c) (a4 m c) (a5 m c)
/-- The discretised input matrix, imaginary part. -/
def fB' : Vec Ideal S32x64x16 .f32 := Cert.ReferenceIdeal.Step.A_main_v42 (a0 m c) (a1 m c) (a2 m c) (a3 m c) (a4 m c) (a5 m c)

set_option maxHeartbeats 1600000 in
theorem vB_eq : vB m c = packB (fB m c) := by
  show StableHlo.after hostOps0 (fun b => m (c, b)) main_v56 = _
  after_reads_simp
  rfl

set_option maxHeartbeats 1600000 in
theorem vB'_eq : vB' m c = packB (fB' m c) := by
  show StableHlo.after hostOps0 (fun b => m (c, b)) main_v65 = _
  after_reads_simp
  rfl

theorem vC_eq : vC m c = packC (a6 m c) := by
  show StableHlo.after hostOps0 (fun b => m (c, b)) main_v74 = _
  after_reads_simp
  rfl

theorem vC'_eq : vC' m c = packC (a7 m c) := by
  show StableHlo.after hostOps0 (fun b => m (c, b)) main_v83 = _
  after_reads_simp
  rfl

theorem vA_ix (q : Fin 2048) : vA m c (ix2 0 q) = (fA m c) (ix2 ⟨q.val / 64, by omega⟩ ⟨q.val % 64, by omega⟩) := by
  have h : vA m c = shapeCast S1x2048 (fA m c) shapeCasts_S32x64_S1x2048 := by
    show StableHlo.after hostOps0 (fun b => m (c, b)) main_v84 = _
    after_reads_simp
    rfl
  rw [h]
  pointwise

theorem vA'_ix (q : Fin 2048) : vA' m c (ix2 0 q) = (fA' m c) (ix2 ⟨q.val / 64, by omega⟩ ⟨q.val % 64, by omega⟩) := by
  have h : vA' m c = shapeCast S1x2048 (fA' m c) shapeCasts_S32x64_S1x2048 := by
    show StableHlo.after hostOps0 (fun b => m (c, b)) main_v85 = _
    after_reads_simp
    rfl
  rw [h]
  pointwise

theorem vD_ix (e : Fin 512) : vD m c (ix2 0 e) = a8 m c (ix2 ⟨e.val / 16, by omega⟩ ⟨e.val % 16, by omega⟩) := by
  have h : vD m c = shapeCast S1x512 (a8 m c) shapeCasts_S32x16_S1x512 := by
    show StableHlo.after hostOps0 (fun b => m (c, b)) main_v86 = _
    after_reads_simp
    rfl
  rw [h]
  pointwise

theorem vG_ix (i : S512x512.Idx) : vG m c i = a9 m c i := by
  have h : vG m c = truncf .bf16 (a9 m c) bitsLt_bf16_f32 := by
    show StableHlo.after hostOps0 (fun b => m (c, b)) main_v87 = _
    after_reads_simp
    rfl
  rw [h]
  rfl

theorem vH_ix (e : Fin 512) : vH m c (ix2 0 e) = a10 m c (ix1 e) := by
  have h : vH m c = shapeCast S1x512 (a10 m c) shapeCasts_S512_S1x512 := by
    show StableHlo.after hostOps0 (fun b => m (c, b)) main_v88 = _
    after_reads_simp
    rfl
  rw [h]
  pointwise

theorem vU_ix (n : Fin 8192) (b : Fin 8) (e : Fin 512) : vU m c (ix3 n b e) = a0 m c (ix3 b n e) := by
  have h : vU m c = transpose S8192x8x512 [1, 0, 2] (a0 m c) transposes_S8x8192x512_S8192x8x512_1_0_2 := by
    show StableHlo.after hostOps0 (fun b => m (c, b)) main_v89 = _
    after_reads_simp
    rfl
  rw [h]
  pointwise

theorem vZ_ix (i : S8x2048.Idx) : vZ m c i = 0 := by
  have h : vZ m c = broadcastInDim S8x2048 ![] bcast_S_S8x2048 (constant (F := Ideal) S_ .f32 0x00000000#32) := by
    show StableHlo.after hostOps0 (fun b => m (c, b)) main_v90 = _
    after_reads_simp
  rw [h]
  pointwise

end Cert.KernelIdeal.Own
-- ==== Proof.RefFin.lean ====
/- The layer written entry by entry, and that the reference's three results are it. -/
module

public import proofs.«01_k».proof.Proof.ScanHost

@[expose] public section

set_option maxRecDepth 16384

noncomputable section

namespace Cert.ReferenceIdeal.Own

open Idealize.ShloMosaic Idealize.ShloMosaic.TcCoe Idealize.ShloMosaic.StableHlo Cert.ReferenceIdeal Cert.ReferenceIdeal.Gen Cert.ReferenceIdeal.Value Cert.Scan

/-- The inputs of state `(g, p)` of batch row `b`, row after row. -/
def spIn (x0 : Vec Ideal S8x8192x512 .f32) (B B' : Vec Ideal S32x64x16 .f32) (b : Fin 8) (g : Fin 32) (p : Fin 64) (n : ℕ) : EReal × EReal :=
  if h : n < 8192 then (∑ k : Fin 16, B (ix3 g p k) * x0 (ix3 b ⟨n, h⟩ ⟨g.val * 16 + k.val, by omega⟩), ∑ k : Fin 16, B' (ix3 g p k) * x0 (ix3 b ⟨n, h⟩ ⟨g.val * 16 + k.val, by omega⟩))
  else (0, 0)

/-- State `(g, p)` of batch row `b` after the first `n` rows. -/
def spSt (x0 : Vec Ideal S8x8192x512 .f32) (A A' : Vec Ideal S32x64 .f32) (B B' : Vec Ideal S32x64x16 .f32) (b : Fin 8) (g : Fin 32) (p : Fin 64) (n : ℕ) : EReal × EReal :=
  runC (A (ix2 g p)) (A' (ix2 g p)) (spIn x0 B B' b g p) (0, 0) n

/-- Feature `e` of row `n` before the gate. -/
def spY (x0 : Vec Ideal S8x8192x512 .f32) (A A' : Vec Ideal S32x64 .f32) (B B' : Vec Ideal S32x64x16 .f32) (C C' : Vec Ideal S32x16x64 .f32) (d : Vec Ideal S32x16 .f32)
    (n : Fin 8192) (b : Fin 8) (e : Fin 512) : EReal :=
  (∑ p : Fin 64, C (ix3 ⟨e.val / 16, by omega⟩ ⟨e.val % 16, by omega⟩ p) * (spSt x0 A A' B B' b ⟨e.val / 16, by omega⟩ p (n.val + 1)).1)
    - (∑ p : Fin 64, C' (ix3 ⟨e.val / 16, by omega⟩ ⟨e.val % 16, by omega⟩ p) * (spSt x0 A A' B B' b ⟨e.val / 16, by omega⟩ p (n.val + 1)).2)
    + d (ix2 ⟨e.val / 16, by omega⟩ ⟨e.val % 16, by omega⟩) * x0 (ix3 b n e)

/-- The gate over any row of activations. -/
def spG (v : Fin 512 → EReal) (W : Vec Ideal S512x512 .f32) (h : Vec Ideal S512 .f32) (e : Fin 512) : EReal :=
  Cert.KernelIdeal.Own.gl (v e) * Ideal.logistic ((∑ k : Fin 512, Cert.KernelIdeal.Own.gl (v k) * W (ix2 k e)) + h (ix1 e))

/-- The activation at an entry is the one the kernel's rows use. -/
theorem refG_gl (Y : FVec Ideal S8192x8x512 .f32) (i : S8192x8x512.Idx) : refG Y i = Cert.KernelIdeal.Own.gl (Y i) := by
  rw [refG_ix]
  unfold Cert.KernelIdeal.Own.gl
  rw [mul_assoc (Y i) (Y i) (Y i)]

variable (m : (ℓ : Loc nD τ sig) → Buf (Elt Ideal) ℓ) (c : Dev nD)

/-- The factors of the recurrence and the discretised input matrices, of the arguments. -/
def pA : Vec Ideal S32x64 .f32 := Step.A_main_v9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
/-- The factor's imaginary part. -/
def pA' : Vec Ideal S32x64 .f32 := Step.A_main_v13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
/-- The discretised input matrix, real part. -/
def pB : Vec Ideal S32x64x16 .f32 := Step.A_main_v35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
/-- The discretised input matrix, imaginary part. -/
def pB' : Vec Ideal S32x64x16 .f32 := Step.A_main_v42 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The scan's end. -/
@[irreducible] def done : Valuation τ sig (Elt Ideal) := STEP^[8192] (ent m c)

/-- The scan's end, by its name. -/
theorem done_eq : STEP^[8192] (entryContents preI m c) = done m c := by
  unfold done
  rfl

/-- The scan's entry meets what the induction over its steps asks. -/
theorem after_end : After (ent m c) (done m c) 8192 := by
  unfold done
  exact after_all (ent m c) (ctr_entry m c)
    (fun i => (congrFun (ent_R m c) i).trans (zero47 i)) (fun i => (congrFun (ent_I m c) i).trans (zero47 i)) 8192 (le_refl _)

/-- The scan's run of states is the one written entry by entry. -/
theorem run_st (b : Fin 8) (g : Fin 32) (p : Fin 64) (n : ℕ) :
    runC (wA (ent m c) (ix2 g p)) (wB (ent m c) (ix2 g p)) (rseq (wX (ent m c)) (wY (ent m c)) b g p) (0, 0) n
      = spSt (m ((c.tc : Thread nD τ).loc main_arg0)) (pA m c) (pA' m c) (pB m c) (pB' m c) b g p n := by
  unfold spSt
  rw [ent_A, ent_B]
  refine runC_congr _ _ _ _ _ _ (fun k _ => ?_)
  unfold rseq spIn
  by_cases h : k < 8192
  · rw [dif_pos h, dif_pos h, ent_X, ent_Y]
    exact congrArg₂ Prod.mk (A44_ix _ _ _ _ _ _ _ _ _ _) (A46_ix _ _ _ _ _ _ _ _ _ _)
  · rw [dif_neg h, dif_neg h]

/-- The scan leaves the arguments as they were. -/
theorem keep0 : (done m c) (Proc.devRef .tc main_arg0) = m ((c.tc : Thread nD τ).loc main_arg0) := by
  unfold done
  exact iter_main_arg0 m c 8192
theorem keep6 : (done m c) (Proc.devRef .tc main_arg6) = m ((c.tc : Thread nD τ).loc main_arg6) := by
  unfold done
  exact iter_main_arg6 m c 8192
theorem keep7 : (done m c) (Proc.devRef .tc main_arg7) = m ((c.tc : Thread nD τ).loc main_arg7) := by
  unfold done
  exact iter_main_arg7 m c 8192
theorem keep8 : (done m c) (Proc.devRef .tc main_arg8) = m ((c.tc : Thread nD τ).loc main_arg8) := by
  unfold done
  exact iter_main_arg8 m c 8192
theorem keep9 : (done m c) (Proc.devRef .tc main_arg9) = m ((c.tc : Thread nD τ).loc main_arg9) := by
  unfold done
  exact iter_main_arg9 m c 8192
theorem keep10 : (done m c) (Proc.devRef .tc main_arg10) = m ((c.tc : Thread nD τ).loc main_arg10) := by
  unfold done
  exact iter_main_arg10 m c 8192

/-- The stacked states are those written entry by entry. -/
theorem stk_eq (n : Fin 8192) (b : Fin 8) (g : Fin 32) (p : Fin 64) :
    (wS (done m c) (ix4 n b g p), wT (done m c) (ix4 n b g p))
      = spSt (m ((c.tc : Thread nD τ).loc main_arg0)) (pA m c) (pA' m c) (pB m c) (pB' m c) b g p (n.val + 1) :=
  ((after_end m c).stk n b g p n.isLt).trans (run_st m c b g p (n.val + 1))

/-- The row before the activation. -/
theorem Y_eq (n : Fin 8192) (b : Fin 8) (e : Fin 512) :
    refY (m ((c.tc : Thread nD τ).loc main_arg0)) (wS (done m c)) (wT (done m c)) (m ((c.tc : Thread nD τ).loc main_arg6)) (m ((c.tc : Thread nD τ).loc main_arg7)) (m ((c.tc : Thread nD τ).loc main_arg8)) (ix3 n b e)
      = spY (m ((c.tc : Thread nD τ).loc main_arg0)) (pA m c) (pA' m c) (pB m c) (pB' m c) (m ((c.tc : Thread nD τ).loc main_arg6)) (m ((c.tc : Thread nD τ).loc main_arg7)) (m ((c.tc : Thread nD τ).loc main_arg8)) n b e := by
  rw [refY_ix]
  have h1 : ∀ g p, wS (done m c) (ix4 n b g p) = (spSt (m ((c.tc : Thread nD τ).loc main_arg0)) (pA m c) (pA' m c) (pB m c) (pB' m c) b g p (n.val + 1)).1 := fun g p => (Prod.mk.inj ((stk_eq m c n b g p).trans Prod.mk.eta.symm)).1
  have h2 : ∀ g p, wT (done m c) (ix4 n b g p) = (spSt (m ((c.tc : Thread nD τ).loc main_arg0)) (pA m c) (pA' m c) (pB m c) (pB' m c) b g p (n.val + 1)).2 := fun g p => (Prod.mk.inj ((stk_eq m c n b g p).trans Prod.mk.eta.symm)).2
  simp only [h1, h2]
  rfl

/-- The first result, at the end of the scan. -/
theorem fin86 (n : Fin 8192) (b : Fin 8) (e : Fin 512) :
    (out_main_v86 (done m c) : Vec Ideal S8192x8x512 .f32) (ix3 n b e)
      = spG (spY (m ((c.tc : Thread nD τ).loc main_arg0)) (pA m c) (pA' m c) (pB m c) (pB' m c) (m ((c.tc : Thread nD τ).loc main_arg6)) (m ((c.tc : Thread nD τ).loc main_arg7)) (m ((c.tc : Thread nD τ).loc main_arg8)) n b)
          (m ((c.tc : Thread nD τ).loc main_arg9)) (m ((c.tc : Thread nD τ).loc main_arg10)) e := by
  rw [out86_eq, refO_ix, keep0, keep6, keep7, keep8, keep9, keep10]
  simp only [refG_gl, Y_eq]
  rfl

/-- The second result. -/
theorem fin87 (b : Fin 8) (q : Fin 2048) :
    (out_main_v87 (done m c) : Vec Ideal S8x2048 .f32) (ix2 b q)
      = (spSt (m ((c.tc : Thread nD τ).loc main_arg0)) (pA m c) (pA' m c) (pB m c) (pB' m c) b ⟨q.val / 64, by omega⟩ ⟨q.val % 64, by omega⟩ 8192).1 :=
  (out87_ix _ b q).trans (Prod.mk.inj ((((after_end m c).st b ⟨q.val / 64, by omega⟩ ⟨q.val % 64, by omega⟩).trans (run_st m c b _ _ 8192)).trans Prod.mk.eta.symm)).1

/-- The third result. -/
theorem fin88 (b : Fin 8) (q : Fin 2048) :
    (out_main_v88 (done m c) : Vec Ideal S8x2048 .f32) (ix2 b q)
      = (spSt (m ((c.tc : Thread nD τ).loc main_arg0)) (pA m c) (pA' m c) (pB m c) (pB' m c) b ⟨q.val / 64, by omega⟩ ⟨q.val % 64, by omega⟩ 8192).2 :=
  (out88_ix _ b q).trans (Prod.mk.inj ((((after_end m c).st b ⟨q.val / 64, by omega⟩ ⟨q.val % 64, by omega⟩).trans (run_st m c b _ _ 8192)).trans Prod.mk.eta.symm)).2

end Cert.ReferenceIdeal.Own
-- ==== Proof.ScanEq.lean ====
/- The packed products of the kernel's rows are the plain ones, group by group, so the two layers agree entry by entry. -/
module

public import proofs.«01_k».proof.Proof.RefFin

@[expose] public section

set_option maxRecDepth 16384

noncomputable section

namespace Cert.KernelIdeal.Own

open Idealize.ShloMosaic Idealize.ShloMosaic.TcCoe Cert.KernelIdeal Cert.KernelIdeal.Gen Cert.Scan

/-- A sum over tiles of which only one is not zero. -/
theorem pick {J T : ℕ} (f : Fin J → Fin T → EReal) (j₀ : Fin J) (h : ∀ j t, j ≠ j₀ → f j t = 0) : ∑ j : Fin J, ∑ t : Fin T, f j t = ∑ t : Fin T, f j₀ t :=
  Finset.sum_eq_single j₀ (fun j _ hj => Finset.sum_eq_zero fun t _ => h j t hj) (fun hn => absurd (Finset.mem_univ _) hn)

variable (m : (ℓ : Loc nD τ sig) → Buf (Elt Ideal) ℓ) (c : Dev nD)

/-- The packed input product of a column is its group's own product. -/
theorem gin_pack (X : Vec Ideal S32x64x16 .f32) (n : Fin 8192) (b : Fin 8) (q : Fin 2048) :
    gin (vU m c) (packB X) n b q = ∑ k : Fin 16, X (ix3 ⟨q.val / 64, by omega⟩ ⟨q.val % 64, by omega⟩ k) * a0 m c (ix3 b n ⟨q.val / 64 * 16 + k.val, by omega⟩) := by
  unfold gin
  rw [Fin.sum_univ_tiles 8 16 rfl]
  rw [pick _ (⟨q.val % 512 / 64, by omega⟩ : Fin 8) (fun j t hj => by
    dsimp only
    rw [packB_ix, eye_ix, if_neg (fun h => hj (Fin.ext (by have := congrArg Fin.val h; simp only at this; show j.val = q.val % 512 / 64; omega))), mul_zero, mul_zero])]
  refine Finset.sum_congr rfl fun t _ => ?_
  dsimp only
  rw [packB_ix, eye_ix, if_pos (Fin.ext (by show (q.val % 512 / 64 * 16 + t.val) / 16 = q.val % 512 / 64; omega)), mul_one, vU_ix, mul_comm]
  refine congrArg₂ (fun x y : EReal => x * y) (congrArg X ?_) (congrArg (a0 m c) ?_)
  · exact congr (congrArg₂ ix3 (Fin.ext (by show q.val / 512 * 8 + (q.val % 512 / 64 * 16 + t.val) / 16 = q.val / 64; omega)) (Fin.ext (by show q.val % 512 % 64 = q.val % 64; omega)))
      (Fin.ext (by show (q.val % 512 / 64 * 16 + t.val) % 16 = t.val; omega))
  · exact congrArg (ix3 b n) (Fin.ext (by show 128 * (q.val / 512) + (q.val % 512 / 64 * 16 + t.val) = q.val / 64 * 16 + t.val; omega))

/-- The packed output product of a feature is its group's own product. -/
theorem gC_pack (X : Vec Ideal S32x16x64 .f32) (R : Fin 2048 → EReal) (e : Fin 512) :
    ∑ k : Fin 512, R ⟨512 * (e.val / 128) + k.val, by omega⟩ * packC X (ix3 ⟨e.val / 128, by omega⟩ k ⟨e.val % 128, by omega⟩)
      = ∑ p : Fin 64, X (ix3 ⟨e.val / 16, by omega⟩ ⟨e.val % 16, by omega⟩ p) * R ⟨e.val / 16 * 64 + p.val, by omega⟩ := by
  rw [Fin.sum_univ_tiles 8 64 rfl]
  rw [pick _ (⟨e.val % 128 / 16, by omega⟩ : Fin 8) (fun j t hj => by
    dsimp only
    rw [packC_ix, eye_ix, if_neg (fun h => hj (Fin.ext (by have := congrArg Fin.val h; simp only at this; show j.val = e.val % 128 / 16; omega))), mul_zero, mul_zero])]
  refine Finset.sum_congr rfl fun t _ => ?_
  dsimp only
  rw [packC_ix, eye_ix, if_pos (Fin.ext (by show (e.val % 128 / 16 * 64 + t.val) / 64 = e.val % 128 / 16; omega)), mul_one, mul_comm]
  refine congrArg₂ (fun x y : EReal => x * y) (congrArg X ?_) (congrArg R ?_)
  · exact congr (congrArg₂ ix3 (Fin.ext (by show e.val / 128 * 8 + (e.val % 128 / 16 * 64 + t.val) / 64 = e.val / 16; omega)) (Fin.ext (by show e.val % 128 % 16 = e.val % 16; omega)))
      (Fin.ext (by show (e.val % 128 / 16 * 64 + t.val) % 64 = t.val; omega))
  · exact Fin.ext (by show 512 * (e.val / 128) + (e.val % 128 / 16 * 64 + t.val) = e.val / 16 * 64 + t.val; omega)

/-- The states the kernel's columns run through are the layer's. -/
theorem gst_eq (b : Fin 8) (q : Fin 2048) (n : ℕ) :
    gst m c b q n = Cert.ReferenceIdeal.Own.spSt (a0 m c) (fA m c) (fA' m c) (fB m c) (fB' m c) b ⟨q.val / 64, by omega⟩ ⟨q.val % 64, by omega⟩ n := by
  unfold gst Cert.ReferenceIdeal.Own.spSt
  rw [vA_ix, vA'_ix, vZ_ix, vB_eq, vB'_eq]
  refine runC_congr _ _ _ _ _ _ (fun k _ => ?_)
  unfold gseq Cert.ReferenceIdeal.Own.spIn
  by_cases h : k < 8192
  · rw [dif_pos h, dif_pos h]
    exact congrArg₂ Prod.mk (gin_pack m c _ _ _ _) (gin_pack m c _ _ _ _)
  · rw [dif_neg h, dif_neg h]

/-- The states of a group's column, by group and state. -/
theorem gst_gp (b : Fin 8) (g : Fin 32) (p : Fin 64) (n : ℕ) :
    gst m c b ⟨g.val * 64 + p.val, by omega⟩ n = Cert.ReferenceIdeal.Own.spSt (a0 m c) (fA m c) (fA' m c) (fB m c) (fB' m c) b g p n := by
  rw [gst_eq]
  exact congrArg₂ (fun g p => Cert.ReferenceIdeal.Own.spSt (a0 m c) (fA m c) (fA' m c) (fB m c) (fB' m c) b g p n)
    (Fin.ext (by show (g.val * 64 + p.val) / 64 = g.val; omega)) (Fin.ext (by show (g.val * 64 + p.val) % 64 = p.val; omega))

/-- The rows before the gate are the layer's. -/
theorem gy_eq (n : Fin 8192) (b : Fin 8) (e : Fin 512) :
    gy (fun q => (gst m c b q (n.val + 1)).1) (fun q => (gst m c b q (n.val + 1)).2) (vU m c) (vC m c) (vC' m c) (vD m c) n b e
      = Cert.ReferenceIdeal.Own.spY (a0 m c) (fA m c) (fA' m c) (fB m c) (fB' m c) (a6 m c) (a7 m c) (a8 m c) n b e := by
  unfold gy Cert.ReferenceIdeal.Own.spY
  rw [vC_eq, vC'_eq, vD_ix, vU_ix, gC_pack (a6 m c) (fun q => (gst m c b q (n.val + 1)).1), gC_pack (a7 m c) (fun q => (gst m c b q (n.val + 1)).2)]
  simp only [gst_gp m c b ⟨e.val / 16, by omega⟩]

/-- The gated rows are the layer's. -/
theorem gout_eq (n : Fin 8192) (b : Fin 8) (e : Fin 512) :
    gout m c n b e = Cert.ReferenceIdeal.Own.spG (Cert.ReferenceIdeal.Own.spY (a0 m c) (fA m c) (fA' m c) (fB m c) (fB' m c) (a6 m c) (a7 m c) (a8 m c) n b) (a9 m c) (a10 m c) e := by
  unfold gout gate Cert.ReferenceIdeal.Own.spG
  simp only [gy_eq, vG_ix, vH_ix]

end Cert.KernelIdeal.Own
-- ==== Proof.ScanClaim.lean ====
/- The claims of the layer's recurrence: the three frames, the step from words to extended reals, and the equation. -/
module

public import proofs.«01_k».proof.Defs
public import proofs.«01_k».proof.Proof.ScanEq
public import proofs.«01_k».proof.Proof.Gen.Kernel.Frame
public import proofs.«01_k».proof.Proof.Gen.KernelIdeal.Frame
public import Idealize.ShloMosaic.Lib.Quiescent

@[expose] public section

set_option maxRecDepth 16384

noncomputable section

namespace Cert.Proof

open Idealize.ShloMosaic Idealize.SL.Sem

/-- The kernel ends with its arguments as they were and every counter at zero. -/
theorem frame_kernel : Cert.quiescent_Kernel := fun m ρ _ => Cert.Kernel.Gen.frame m ρ

/-- The kernel over extended reals ends with its arguments as they were and every counter at zero. -/
theorem frame_kernelIdeal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The two kernel programs are one text. -/
theorem preserved : Cert.preserves_Kernel_KernelIdeal := trivial

/-- The three results of the kernel's run. -/
theorem kernel_run (m : (ℓ : Loc Cert.KernelIdeal.nD Cert.KernelIdeal.τ Cert.KernelIdeal.sig) → Buf (Elt Ideal) ℓ) (c : Dev Cert.KernelIdeal.nD) :
    Cert.KernelIdeal.Own.res12 m c = fun i => Cert.ReferenceIdeal.Own.spG (Cert.ReferenceIdeal.Own.spY (Cert.KernelIdeal.Own.a0 m c) (Cert.KernelIdeal.Own.fA m c) (Cert.KernelIdeal.Own.fA' m c) (Cert.KernelIdeal.Own.fB m c) (Cert.KernelIdeal.Own.fB' m c) (Cert.KernelIdeal.Own.a6 m c) (Cert.KernelIdeal.Own.a7 m c) (Cert.KernelIdeal.Own.a8 m c) (i 0) (i 1)) (Cert.KernelIdeal.Own.a9 m c) (Cert.KernelIdeal.Own.a10 m c) (i 2) :=
  funext fun i => Cert.KernelIdeal.Own.gout_eq m c (i 0) (i 1) (i 2)

/-- Two arrays that agree at every index are equal. -/
theorem of_ix3 (f g : Vec Ideal Cert.ReferenceIdeal.S8192x8x512 .f32) (h : ∀ n b e, f (ix3 n b e) = g (ix3 n b e)) : f = g :=
  funext fun j => by rw [eq_ix3 j]; exact h _ _ _

/-- The same, for the states' arrays. -/
theorem of_ix2 (f g : Vec Ideal Cert.ReferenceIdeal.S8x2048 .f32) (h : ∀ b q, f (ix2 b q) = g (ix2 b q)) : f = g :=
  funext fun j => by rw [eq_ix2 j]; exact h _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two runs are given the same eleven arrays. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (h : Same m m' c)
include h

/-- The factors and input matrices are the same functions of the same arrays. -/
theorem same_A : Cert.ReferenceIdeal.Own.pA m' c = Cert.KernelIdeal.Own.fA m c := by
  obtain ⟨h0, h1, h2, h3, h4, h5, _⟩ := h
  unfold Cert.ReferenceIdeal.Own.pA
  rw [h0, h1, h2, h3, h4, h5]; rfl
/-- The factor's imaginary part likewise. -/
theorem same_A' : Cert.ReferenceIdeal.Own.pA' m' c = Cert.KernelIdeal.Own.fA' m c := by
  obtain ⟨h0, h1, h2, h3, h4, h5, _⟩ := h
  unfold Cert.ReferenceIdeal.Own.pA'
  rw [h0, h1, h2, h3, h4, h5]; rfl
/-- The input matrix's real part likewise. -/
theorem same_B : Cert.ReferenceIdeal.Own.pB m' c = Cert.KernelIdeal.Own.fB m c := by
  obtain ⟨h0, h1, h2, h3, h4, h5, _⟩ := h
  unfold Cert.ReferenceIdeal.Own.pB
  rw [h0, h1, h2, h3, h4, h5]; rfl
/-- The input matrix's imaginary part likewise. -/
theorem same_B' : Cert.ReferenceIdeal.Own.pB' m' c = Cert.KernelIdeal.Own.fB' m c := by
  obtain ⟨h0, h1, h2, h3, h4, h5, _⟩ := h
  unfold Cert.ReferenceIdeal.Own.pB'
  rw [h0, h1, h2, h3, h4, h5]; rfl

/-- The gated rows of the two runs are equal. -/
theorem rows_eq : (Cert.ReferenceIdeal.Value.out_main_v86 (Cert.ReferenceIdeal.Own.done m' c) : Vec Ideal Cert.ReferenceIdeal.S8192x8x512 .f32) = Cert.KernelIdeal.Own.res12 m c := by
  refine of_ix3 _ _ fun n b e => ?_
  rw [Cert.ReferenceIdeal.Own.fin86, kernel_run, same_A m m' c h, same_A' m m' c h, same_B m m' c h, same_B' m m' c h]
  obtain ⟨h0, _, _, _, _, _, h6, h7, h8, h9, h10⟩ := h
  rw [h0, h6, h7, h8, h9, h10]
  rfl

/-- The last states' real parts are equal. -/
theorem re_eq : (Cert.ReferenceIdeal.Value.out_main_v87 (Cert.ReferenceIdeal.Own.done m' c) : Vec Ideal Cert.ReferenceIdeal.S8x2048 .f32) = Cert.KernelIdeal.Own.res13 m c := by
  refine of_ix2 _ _ fun b q => ?_
  rw [Cert.ReferenceIdeal.Own.fin87, same_A m m' c h, same_A' m m' c h, same_B m m' c h, same_B' m m' c h]
  obtain ⟨h0, _⟩ := h
  rw [h0]
  exact (congrArg Prod.fst (Cert.KernelIdeal.Own.gst_eq m c b q 8192)).symm

/-- The last states' imaginary parts are equal. -/
theorem im_eq : (Cert.ReferenceIdeal.Value.out_main_v88 (Cert.ReferenceIdeal.Own.done m' c) : Vec Ideal Cert.ReferenceIdeal.S8x2048 .f32) = Cert.KernelIdeal.Own.res14 m c := by
  refine of_ix2 _ _ fun b q => ?_
  rw [Cert.ReferenceIdeal.Own.fin88, same_A m m' c h, same_A' m m' c h, same_B m m' c h, same_B' m m' c h]
  obtain ⟨h0, _⟩ := h
  rw [h0]
  exact (congrArg Prod.snd (Cert.KernelIdeal.Own.gst_eq m c b q 8192)).symm
end

/-- The kernel's three results are the reference's. -/
theorem equal : Cert.algebraic_KernelIdeal_ReferenceIdeal := by
  intro m ρ m' ρ' _ hagree
  refine ⟨fun c => Cert.KernelIdeal.Own.res12 m c, fun c => Cert.KernelIdeal.Own.res13 m c, fun c => Cert.KernelIdeal.Own.res14 m c, ?_, ?_⟩
  · refine (θ_run Cert.KernelIdeal.defs _ _).mono (fun _ h c => ?_) (Cert.KernelIdeal.Value.run_blocks (F := Ideal) m ρ)
    exact ⟨(h c).1.trans (Cert.KernelIdeal.Own.fin12 m c), (h c).2.1.trans (Cert.KernelIdeal.Own.fin13 m c), (h c).2.2.1.trans (Cert.KernelIdeal.Own.fin14 m c), (h c).2.2.2⟩
  · refine (θ_run Cert.ReferenceIdeal.defs _ _).mono (fun _ h c => ?_) (Cert.ReferenceIdeal.Value.run (F := Ideal) m' ρ')
    have hc := h c
    rw [Cert.ReferenceIdeal.Own.done_eq] at hc
    exact ⟨hc.1.trans (rows_eq m m' c (hagree c)), hc.2.1.trans (re_eq m m' c (hagree c)), hc.2.2.1.trans (im_eq m m' c (hagree c)), hc.2.2.2⟩

end Cert.Proof
-- ==== Proof.MergeArr.lean ====
/- What the merging call leaves in its result array: every row's input plus the two gated products. -/
module

public import Idealize.ShloMosaic.Lib.Pointwise
public import Idealize.ShloMosaic.Lib.Pipeline.ValueKit
public import proofs.«01_k».proof.Proof.Gen.MergeIdeal.Value

@[expose] public section

set_option maxRecDepth 65536

noncomputable section

namespace Cert.MergeIdeal.Own

open Idealize.ShloMosaic Idealize.ShloMosaic.TcCoe Cert.MergeIdeal Cert.MergeIdeal.Gen Cert.MergeIdeal.Value

/-- A value times its logistic. -/
def silu (x : EReal) : EReal := x * Ideal.logistic x

/-- Row `n`, feature `e` of the merge, of flat rows and the two halves of the output matrix. -/
def mrg (x : Vec Ideal S65536x1024 .f32) (a s g h : Vec Ideal S65536x512 .f32) (wa ws : Vec Ideal S512x1024 .bf16)
    (n : Fin 65536) (e : Fin 1024) : EReal :=
  x (ix2 n e) + (∑ k : Fin 512, (a (ix2 n k) * silu (g (ix2 n k))) * wa (ix2 k e))
    + (∑ k : Fin 512, (s (ix2 n k) * silu (h (ix2 n k))) * ws (ix2 k e))

/-- The body's payload at an index. -/
theorem pay1_ix (v0 v2 v8 v10 : Vec Ideal S512x512 .f32) (v16 : Vec Ideal S512x1024 .f32) (v18 v22 : Vec Ideal S512x1024 .bf16)
    (r : Fin 512) (e : Fin 1024) :
    k0_pay1 (F := Ideal) v0 v2 v8 v10 v16 v18 v22 (ix2 r e)
      = v16 (ix2 r e) + (∑ k : Fin 512, (v0 (ix2 r k) * silu (v2 (ix2 r k))) * v18 (ix2 k e))
        + (∑ k : Fin 512, (v8 (ix2 r k) * silu (v10 (ix2 r k))) * v22 (ix2 k e)) := by
  unfold silu
  pointwise [k0_pay1]

variable (m : (ℓ : Loc nD τ sig) → Buf (Elt Ideal) ℓ) (c : Dev nD)

/-- Which block of each window a grid point has. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ t.val < 128 := (by decide +kernel : ∀ t : Fin grid0.N, _)

/-- The result array after the run. -/
def res7 : Vec Ideal S65536x1024 .f32 := fun i =>
  mrg (V m c main_v4) (V m c main_v5) (V m c main_v6) (V m c main_v7) (V m c main_v8) (V m c main_v1) (V m c main_v3) (i 0) (i 1)

/-- The run leaves it. -/
theorem fin7 : (dats m 0 c).arrAt 7 cfg0.N = res7 m c := by
  refine (dats m 0 c).arrAt_eq_of_covers 7 _ (by decide +kernel) fun t hf y => ?_
  blk_simp
  rw [after0_7]
  frame_out
  obtain ⟨r, e, rfl⟩ : ∃ (r : Fin 512) (e : Fin 1024), y = ix2 r e := ⟨y 0, y 1, eq_ix2 y⟩
  refine (pay1_ix _ _ _ _ _ _ _ r e).trans ?_
  unfold res7 mrg silu
  blk_point [iblk, idx t]

end Cert.MergeIdeal.Own
-- ==== Proof.MergeRef.lean ====
/- What the merge's plain program returns, entry by entry. -/
module

public import proofs.«01_k».proof.Proof.MergeArr
public import proofs.«01_k».proof.Proof.Gen.MergeRefIdeal.Run

@[expose] public section

set_option maxRecDepth 65536

noncomputable section

namespace Cert.MergeRefIdeal.Own

open Idealize.ShloMosaic Idealize.ShloMosaic.TcCoe Cert.MergeRefIdeal Cert.MergeRefIdeal.Gen

/-- The gated rows of one of the two branches. -/
def gated (a g : FVec Ideal S8x8192x512 .f32) : FVec Ideal S8x8192x512 .f32 :=
  mulf a (mulf g (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf g)))))

/-- The two branches side by side. -/
def both (a s g h : FVec Ideal S8x8192x512 .f32) : FVec Ideal S8x8192x1024 .f32 :=
  concatenate S8x8192x1024 2 [⟨S8x8192x512, gated a g⟩, ⟨S8x8192x512, gated s h⟩] concatenates_S8x8192x512_S8x8192x512_S8x8192x1024_d2

/-- The rows the plain program returns. -/
def refM (x : FVec Ideal S8x8192x1024 .f32) (a s g h : FVec Ideal S8x8192x512 .f32) (w : FVec Ideal S1024x1024 .f32) : FVec Ideal S65536x1024 .f32 :=
  shapeCast _ (addf x (Host.dotGeneral (F := Ideal) dot_S8x8192x1024_S1024x1024_S8x8192x1024_2_0_01_1_n_n none (both a s g h) w)) shapeCasts_S8x8192x1024_S65536x1024

/-- A gated entry. -/
theorem gated_ix (a g : FVec Ideal S8x8192x512 .f32) (b : Fin 8) (l : Fin 8192) (k : Fin 512) :
    gated a g (ix3 b l k) = a (ix3 b l k) * Cert.MergeIdeal.Own.silu (g (ix3 b l k)) := by
  unfold Cert.MergeIdeal.Own.silu Ideal.logistic
  pointwise [gated]

/-- An entry of the first half. -/
theorem both_lo (a s g h : FVec Ideal S8x8192x512 .f32) (b : Fin 8) (l : Fin 8192) (k : Fin 512) :
    both a s g h (ix3 b l ⟨k.val, by omega⟩) = gated a g (ix3 b l k) := by
  pointwise [both]

/-- An entry of the second half. -/
theorem both_hi (a s g h : FVec Ideal S8x8192x512 .f32) (b : Fin 8) (l : Fin 8192) (k : Fin 512) :
    both a s g h (ix3 b l ⟨512 + k.val, by omega⟩) = gated s h (ix3 b l k) := by
  pointwise [both]

/-- An entry of the returned rows. -/
theorem refM_ix (x : FVec Ideal S8x8192x1024 .f32) (a s g h : FVec Ideal S8x8192x512 .f32) (w : FVec Ideal S1024x1024 .f32) (n : Fin 65536) (e : Fin 1024) :
    refM x a s g h w (ix2 n e) = x (ix3 ⟨n.val / 8192, by omega⟩ ⟨n.val % 8192, by omega⟩ e)
      + ∑ k : Fin 1024, both a s g h (ix3 ⟨n.val / 8192, by omega⟩ ⟨n.val % 8192, by omega⟩ k) * w (ix2 k e) := by
  pointwise [refM]

end Cert.MergeRefIdeal.Own
-- ==== Proof.MergeClaim.lean ====
/- The claims of the merge: the three frames, the step from words to extended reals, and the equation. -/
module

public import proofs.«01_k».proof.Defs
public import proofs.«01_k».proof.Proof.MergeRef
public import proofs.«01_k».proof.Proof.Gen.Merge.Frame
public import proofs.«01_k».proof.Proof.Gen.MergeIdeal.Frame
public import Idealize.ShloMosaic.Lib.Quiescent

@[expose] public section

set_option maxRecDepth 65536

noncomputable section

namespace Cert.Proof.MergePart

open Idealize.ShloMosaic Idealize.ShloMosaic.TcCoe Idealize.SL.Sem Cert.MergeIdeal Cert.MergeIdeal.Gen

/-- The merge ends with its arguments as they were and every counter at zero. -/
theorem frame_kernel : Cert.quiescent_Merge := fun m ρ _ => Cert.Merge.Gen.frame m ρ

/-- The merge over extended reals ends with its arguments as they were and every counter at zero. -/
theorem frame_ideal : Cert.quiescent_MergeIdeal := fun m ρ _ => Cert.MergeIdeal.Gen.frame m ρ

/-- So does its plain program. -/
theorem frame_reference : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The two kernel programs are one text. -/
theorem preserved : Cert.preserves_Merge_MergeIdeal := trivial

variable (m : (ℓ : Loc nD τ sig) → Buf (Elt Ideal) ℓ) (c : Dev nD)

/-- The result of the plain program of the kernel's arguments. -/
def plain : Vec Ideal S65536x1024 .f32 :=
  Cert.MergeRefIdeal.Own.refM (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The flat rows of the layer's input. -/
theorem row0 (n : Fin 65536) (e : Fin 1024) : (V m c main_v4 : Vec Ideal S65536x1024 .f32) (ix2 n e)
    = (m ((c.tc : Thread nD τ).loc main_arg0) : Vec Ideal S8x8192x1024 .f32) (ix3 ⟨n.val / 8192, by omega⟩ ⟨n.val % 8192, by omega⟩ e) := by
  entry_read
  pointwise
/-- The flat rows of the attention's output. -/
theorem row1 (n : Fin 65536) (k : Fin 512) : (V m c main_v5 : Vec Ideal S65536x512 .f32) (ix2 n k)
    = (m ((c.tc : Thread nD τ).loc main_arg1) : Vec Ideal S8x8192x512 .f32) (ix3 ⟨n.val / 8192, by omega⟩ ⟨n.val % 8192, by omega⟩ k) := by
  entry_read
  pointwise
/-- The flat rows of the recurrence's output. -/
theorem row2 (n : Fin 65536) (k : Fin 512) : (V m c main_v6 : Vec Ideal S65536x512 .f32) (ix2 n k)
    = (m ((c.tc : Thread nD τ).loc main_arg2) : Vec Ideal S8x8192x512 .f32) (ix3 ⟨n.val / 8192, by omega⟩ ⟨n.val % 8192, by omega⟩ k) := by
  entry_read
  pointwise
/-- The flat rows of the attention's gate. -/
theorem row3 (n : Fin 65536) (k : Fin 512) : (V m c main_v7 : Vec Ideal S65536x512 .f32) (ix2 n k)
    = (m ((c.tc : Thread nD τ).loc main_arg3) : Vec Ideal S8x8192x512 .f32) (ix3 ⟨n.val / 8192, by omega⟩ ⟨n.val % 8192, by omega⟩ k) := by
  entry_read
  pointwise
/-- The flat rows of the recurrence's gate. -/
theorem row4 (n : Fin 65536) (k : Fin 512) : (V m c main_v8 : Vec Ideal S65536x512 .f32) (ix2 n k)
    = (m ((c.tc : Thread nD τ).loc main_arg4) : Vec Ideal S8x8192x512 .f32) (ix3 ⟨n.val / 8192, by omega⟩ ⟨n.val % 8192, by omega⟩ k) := by
  entry_read
  pointwise
/-- The upper half of the output matrix. -/
theorem row5 (k : Fin 512) (e : Fin 1024) : (V m c main_v1 : Vec Ideal S512x1024 .bf16) (ix2 k e)
    = (m ((c.tc : Thread nD τ).loc main_arg5) : Vec Ideal S1024x1024 .f32) (ix2 ⟨k.val, by omega⟩ e) := by
  entry_read
  pointwise
/-- The lower half of the output matrix. -/
theorem row6 (k : Fin 512) (e : Fin 1024) : (V m c main_v3 : Vec Ideal S512x1024 .bf16) (ix2 k e)
    = (m ((c.tc : Thread nD τ).loc main_arg5) : Vec Ideal S1024x1024 .f32) (ix2 ⟨512 + k.val, by omega⟩ e) := by
  entry_read
  pointwise

/-- The kernel's array is the plain program's. -/
theorem res_eq : Cert.MergeIdeal.Own.res7 m c = plain m c := by
  refine funext fun j => ?_
  obtain ⟨n, e, rfl⟩ : ∃ (n : Fin 65536) (e : Fin 1024), j = ix2 n e := ⟨j 0, j 1, eq_ix2 j⟩
  refine Eq.trans ?_ (Cert.MergeRefIdeal.Own.refM_ix _ _ _ _ _ _ n e).symm
  rw [Fin.sum_univ_two_halves 512 512 rfl, ← add_assoc]
  refine congrArg₂ (· + ·) (congrArg₂ (· + ·) (row0 m c n e) (Finset.sum_congr rfl fun k _ => ?_)) (Finset.sum_congr rfl fun k _ => ?_)
  · refine congrArg₂ (· * ·) (Eq.trans ?_ ((Cert.MergeRefIdeal.Own.both_lo _ _ _ _ _ _ k).trans (Cert.MergeRefIdeal.Own.gated_ix _ _ _ _ k)).symm) (row5 m c k e)
    exact congrArg₂ (fun u v => u * Cert.MergeIdeal.Own.silu v) (row1 m c n k) (row3 m c n k)
  · refine congrArg₂ (· * ·) (Eq.trans ?_ ((Cert.MergeRefIdeal.Own.both_hi _ _ _ _ _ _ k).trans (Cert.MergeRefIdeal.Own.gated_ix _ _ _ _ k)).symm) (row6 m c k e)
    exact congrArg₂ (fun u v => u * Cert.MergeIdeal.Own.silu v) (row2 m c n k) (row4 m c n k)

/-- The merge's result is its plain program's. -/
theorem equal : Cert.algebraic_MergeIdeal_MergeRefIdeal := by
  intro m ρ m' ρ' _ hagree
  refine ⟨fun c => plain m c, ?_, ?_⟩
  · refine (θ_run Cert.MergeIdeal.defs _ _).mono (fun _ h c => ?_) (Cert.MergeIdeal.Value.run_blocks (F := Ideal) m ρ)
    exact ⟨(h c).1.trans ((Cert.MergeIdeal.Own.fin7 m c).trans (res_eq m c)), (h c).2⟩
  · refine (θ_run Cert.MergeRefIdeal.defs _ _).mono (fun _ h c => ?_) (Cert.MergeRefIdeal.Value.run (F := Ideal) m' ρ')
    refine ⟨(h c).1.trans ?_, (h c).2⟩
    obtain ⟨h0, h1, h2, h3, h4, h5⟩ := hagree c
    rw [h0, h1, h2, h3, h4, h5]
    rfl

end Cert.Proof.MergePart
-- ==== Proof.ProjPay.lean ====
/- The body of the projection's call, entry by entry: the normed row, its products with the packed matrix, the heads' norm. -/
module

public import Idealize.ShloMosaic.Lib.Pointwise
public import Idealize.ShloMosaic.Lib.Pipeline.ValueKit
public import proofs.«01_k».proof.Proof.Gen.ProjIdeal.Value

@[expose] public section

set_option maxRecDepth 65536

noncomputable section

namespace Cert.ProjIdeal.Own

open Idealize.ShloMosaic Idealize.ShloMosaic.TcCoe Cert.ProjIdeal Cert.ProjIdeal.Gen Cert.ProjIdeal.Value

/-- Entry `d` of a normed row. -/
def hnv (x g : Fin 1024 → EReal) (d : Fin 1024) : EReal :=
  x d * Ideal.rsqrt (Ideal.div (∑ k, x k * x k) (Ideal.ofBits .f32 0x44800000#32) + Ideal.ofBits .f32 0x358637BD#32) * g d

/-- The product of a normed row with a column. -/
def prj (x g w : Fin 1024 → EReal) : EReal := ∑ k, hnv x g k * w k

/-- Entry `e` of a row of heads as the call norms it: the squares in two parts, summed by a matrix `o`. -/
def knorm (z : Fin 512 → EReal) (o : Fin 512 → Fin 512 → EReal) (g : Fin 512 → EReal) (e : Fin 512) : EReal :=
  z e * Ideal.rsqrt (((∑ j, (z j * z j) * o j e) + ∑ j, (z j * z j - z j * z j) * o j e) * Ideal.ofBits .f32 0x3C800000#32
    + Ideal.ofBits .f32 0x358637BD#32) * g e

/-- The normed rows. -/
theorem pay1_ix (x : Vec Ideal S512x1024 .f32) (g : Vec Ideal S1x1024 .f32) (r : Fin 512) (d : Fin 1024) :
    k0_pay1 (F := Ideal) x g (ix2 r d) = hnv (fun k => x (ix2 r k)) (fun k => g (ix2 0 k)) d := by
  unfold hnv
  pointwise [k0_pay1]

/-- The normed keys. -/
theorem pay5_ix (v : FVec Ideal S512x1024 .bf16) (o : FVec Ideal S512x512 .bf16) (w : Vec Ideal S1024x512 .bf16) (g : Vec Ideal S1x512 .f32) (r e : Fin 512) :
    k0_pay5 (F := Ideal) v o w g (ix2 r e) = knorm (fun j => ∑ k : Fin 1024, v (ix2 r k) * w (ix2 k j)) (fun j e => o (ix2 j e)) (fun j => g (ix2 0 j)) e := by
  unfold knorm
  pointwise [k0_pay5]

/-- The same, in the half-width result. -/
theorem pay6_ix (v : FVec Ideal S512x1024 .bf16) (o : FVec Ideal S512x512 .bf16) (w : Vec Ideal S1024x512 .bf16) (g : Vec Ideal S1x512 .f32) (r e : Fin 512) :
    k0_pay6 (F := Ideal) v o w g (ix2 r e) = knorm (fun j => ∑ k : Fin 1024, v (ix2 r k) * w (ix2 k j)) (fun j e => o (ix2 j e)) (fun j => g (ix2 0 j)) e :=
  Eq.trans (by unfold k0_pay6; rfl) (pay5_ix v o w g r e)

/-- The normed queries before their scale. -/
theorem pay3_ix (x : Vec Ideal S512x1024 .f32) (n : Vec Ideal S1x1024 .f32) (o : Vec Ideal S512x512 .bf16) (w : Vec Ideal S1024x512 .bf16) (g : Vec Ideal S1x512 .f32) (r e : Fin 512) :
    k0_pay3 (F := Ideal) x n o w g (ix2 r e) = knorm (fun j => ∑ k : Fin 1024, k0_pay1 (F := Ideal) x n (ix2 r k) * w (ix2 k j)) (fun j e => o (ix2 j e)) (fun j => g (ix2 0 j)) e := by
  unfold knorm
  pointwise [k0_pay3, k0_pay2]

/-- The queries' scale. -/
theorem pay4_ix (q : FVec Ideal S512x512 .f32) (s : EReal) (r e : Fin 512) : k0_pay4 (F := Ideal) q s (ix2 r e) = q (ix2 r e) * s := by
  pointwise [k0_pay4]

/-- The product of the rows with a group of 512 columns. -/
theorem pay7_ix (v : FVec Ideal S512x1024 .bf16) (w : Vec Ideal S1024x512 .bf16) (r e : Fin 512) :
    k0_pay7 (F := Ideal) v w (ix2 r e) = ∑ k : Fin 1024, v (ix2 r k) * w (ix2 k e) := by
  pointwise [k0_pay7]
/-- The same, in the half-width result. -/
theorem pay8_ix (v : FVec Ideal S512x1024 .bf16) (w : Vec Ideal S1024x512 .bf16) (r e : Fin 512) :
    k0_pay8 (F := Ideal) v w (ix2 r e) = ∑ k : Fin 1024, v (ix2 r k) * w (ix2 k e) := by
  pointwise [k0_pay8, k0_pay7]
/-- The same, of the attention's gate. -/
theorem pay9_ix (v : FVec Ideal S512x1024 .bf16) (w : Vec Ideal S1024x512 .bf16) (r e : Fin 512) :
    k0_pay9 (F := Ideal) v w (ix2 r e) = ∑ k : Fin 1024, v (ix2 r k) * w (ix2 k e) := by
  pointwise [k0_pay9]
/-- The index queries, scaled. -/
theorem pay10_ix (v : FVec Ideal S512x1024 .bf16) (w : Vec Ideal S1024x256 .bf16) (r : Fin 512) (e : Fin 256) :
    k0_pay10 (F := Ideal) v w (ix2 r e) = (∑ k : Fin 1024, v (ix2 r k) * w (ix2 k e)) * Ideal.ofBits .f32 0x3E000000#32 := by
  pointwise [k0_pay10]
/-- The index keys and weights. -/
theorem pay11_ix (v : FVec Ideal S512x1024 .bf16) (w : Vec Ideal S1024x128 .bf16) (r : Fin 512) (e : Fin 128) :
    k0_pay11 (F := Ideal) v w (ix2 r e) = ∑ k : Fin 1024, v (ix2 r k) * w (ix2 k e) := by
  pointwise [k0_pay11]
/-- The same, in the half-width result. -/
theorem pay12_ix (v : FVec Ideal S512x1024 .bf16) (w : Vec Ideal S1024x128 .bf16) (r : Fin 512) (e : Fin 128) :
    k0_pay12 (F := Ideal) v w (ix2 r e) = ∑ k : Fin 1024, v (ix2 r k) * w (ix2 k e) := by
  pointwise [k0_pay12, k0_pay11]
/-- The recurrence's input. -/
theorem pay13_ix (v : FVec Ideal S512x1024 .bf16) (w : Vec Ideal S1024x512 .bf16) (r e : Fin 512) :
    k0_pay13 (F := Ideal) v w (ix2 r e) = ∑ k : Fin 1024, v (ix2 r k) * w (ix2 k e) := by
  pointwise [k0_pay13]
/-- The recurrence's gate. -/
theorem pay14_ix (v : FVec Ideal S512x1024 .bf16) (w : Vec Ideal S1024x512 .bf16) (r e : Fin 512) :
    k0_pay14 (F := Ideal) v w (ix2 r e) = ∑ k : Fin 1024, v (ix2 r k) * w (ix2 k e) := by
  pointwise [k0_pay14]

end Cert.ProjIdeal.Own
-- ==== Proof.ProjArr.lean ====
/- What the projection's call leaves in its eleven result arrays, of the arrays it was launched over. -/
module

public import proofs.«01_k».proof.Proof.ProjPay

@[expose] public section

set_option maxRecDepth 65536

noncomputable section

namespace Cert.ProjIdeal.Own

open Idealize.ShloMosaic Idealize.ShloMosaic.TcCoe Cert.ProjIdeal Cert.ProjIdeal.Gen Cert.ProjIdeal.Value

variable (m : (ℓ : Loc nD τ sig) → Buf (Elt Ideal) ℓ) (c : Dev nD)

/-- Which block of each window a grid point has. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ t.val < 128 := (by decide +kernel : ∀ t : Fin grid0.N, _)

/-- The launched rows. -/
def lx (n : Fin 65536) (k : Fin 1024) : EReal := (V m c main_v23 : Vec Ideal S65536x1024 .f32) (ix2 n k)
/-- The norm's weights. -/
def ln (k : Fin 1024) : EReal := (V m c main_v14 : Vec Ideal S1x1024 .f32) (ix2 0 k)
/-- The packed matrix. -/
def lw (k : Fin 1024) (e : Fin 3456) : EReal := (V m c main_v4 : Vec Ideal S1024x3456 .bf16) (ix2 k e)
/-- The matrix that sums a head's squares. -/
def lo (j e : Fin 512) : EReal := (V m c main_v13 : Vec Ideal S512x512 .bf16) (ix2 j e)
/-- The queries' weights. -/
def lq (j : Fin 512) : EReal := (V m c main_v18 : Vec Ideal S1x512 .f32) (ix2 0 j)
/-- The keys' weights. -/
def lk (j : Fin 512) : EReal := (V m c main_v22 : Vec Ideal S1x512 .f32) (ix2 0 j)

/-- Entry `e` of row `n` of the packed projection. -/
def lz (n : Fin 65536) (e : Fin 3456) : EReal := prj (lx m c n) (ln m c) (fun k => lw m c k e)

/-- The keys. -/
def resK (n : Fin 65536) (e : Fin 512) : EReal := knorm (fun j => lz m c n ⟨512 + j.val, by omega⟩) (lo m c) (lk m c) e
/-- The queries, scaled. -/
def resQ (n : Fin 65536) (e : Fin 512) : EReal :=
  knorm (fun j => lz m c n ⟨0 + j.val, by omega⟩) (lo m c) (lq m c) e * Ideal.ofBits .f32 0x3E000000#32

/-- The values. -/
def resV (n : Fin 65536) (e : Fin 512) : EReal := lz m c n ⟨1024 + e.val, by omega⟩
/-- The index keys and weights. -/
def resKW (n : Fin 65536) (e : Fin 128) : EReal := lz m c n ⟨2304 + e.val, by omega⟩
/-- The attention's gate. -/
def resGA (n : Fin 65536) (e : Fin 512) : EReal := lz m c n ⟨1536 + e.val, by omega⟩
/-- The recurrence's input. -/
def resU (n : Fin 65536) (e : Fin 512) : EReal := lz m c n ⟨2432 + e.val, by omega⟩
/-- The recurrence's gate. -/
def resGS (n : Fin 65536) (e : Fin 512) : EReal := lz m c n ⟨2944 + e.val, by omega⟩
/-- The index queries, scaled. -/
def resQI (n : Fin 65536) (e : Fin 256) : EReal := lz m c n ⟨2048 + e.val, by omega⟩ * Ideal.ofBits .f32 0x3E000000#32

/-- The row of the arrays that row `r` of point `t`'s blocks is. -/
def at' (t : Fin cfg0.N) (r : Fin 512) : Fin 65536 := ⟨512 * t.val + r.val, by have := (idx t).2.2.2.2.2.2.2.2.2.2.2.2.2.2.2.2.2; omega⟩

/-- Where the six input windows' blocks lie. -/
theorem in_idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] := by
  obtain ⟨h0, h1, h2, h3, h4, h5, _⟩ := idx t
  exact ⟨h0, h1, h2, h3, h4, h5⟩

/-- A launched row's block. -/
theorem row_at (t : Fin cfg0.N) (r : Fin 512) (k : Fin 1024) :
    (iblk m c 0 t : Vec Ideal S512x1024 .f32) (ix2 r k) = lx m c (at' t r) k := by
  have hi := (in_idx t).1
  unfold iblk lx
  rw [View.read_apply]
  refine congrArg (V m c main_v23) (funext fun a => Fin.ext ?_)
  fin_cases a
  · show win0_0.index t 0 * 512 + 1 * r.val = 512 * t.val + r.val; rw [hi]; show t.val * 512 + 1 * r.val = _; omega
  · show win0_0.index t 1 * 1024 + 1 * k.val = k.val; rw [hi]; show 0 * 1024 + 1 * k.val = _; omega
/-- Window 1's block is its whole array, at every point. -/
theorem whole1 (t : Fin cfg0.N) : (iblk m c 1 t : Vec Ideal S1x1024 .f32) = V m c main_v14 := by
  have hi := (in_idx t).2.1
  unfold iblk
  funext j
  rw [View.read_apply]
  refine congrArg (V m c main_v14) (funext fun a => Fin.ext ?_)
  fin_cases a
  · show win0_1.index t 0 * 1 + 1 * (j 0).val = (j 0).val; rw [hi]; show 0 * 1 + 1 * (j 0).val = _; omega
  · show win0_1.index t 1 * 1024 + 1 * (j 1).val = (j 1).val; rw [hi]; show 0 * 1024 + 1 * (j 1).val = _; omega
/-- Window 2's block is its whole array, at every point. -/
theorem whole2 (t : Fin cfg0.N) : (iblk m c 2 t : Vec Ideal S1024x3456 .bf16) = V m c main_v4 := by
  have hi := (in_idx t).2.2.1
  unfold iblk
  funext j
  rw [View.read_apply]
  refine congrArg (V m c main_v4) (funext fun a => Fin.ext ?_)
  fin_cases a
  · show win0_2.index t 0 * 1024 + 1 * (j 0).val = (j 0).val; rw [hi]; show 0 * 1024 + 1 * (j 0).val = _; omega
  · show win0_2.index t 1 * 3456 + 1 * (j 1).val = (j 1).val; rw [hi]; show 0 * 3456 + 1 * (j 1).val = _; omega
/-- Window 3's block is its whole array, at every point. -/
theorem whole3 (t : Fin cfg0.N) : (iblk m c 3 t : Vec Ideal S512x512 .bf16) = V m c main_v13 := by
  have hi := (in_idx t).2.2.2.1
  unfold iblk
  funext j
  rw [View.read_apply]
  refine congrArg (V m c main_v13) (funext fun a => Fin.ext ?_)
  fin_cases a
  · show win0_3.index t 0 * 512 + 1 * (j 0).val = (j 0).val; rw [hi]; show 0 * 512 + 1 * (j 0).val = _; omega
  · show win0_3.index t 1 * 512 + 1 * (j 1).val = (j 1).val; rw [hi]; show 0 * 512 + 1 * (j 1).val = _; omega
/-- Window 4's block is its whole array, at every point. -/
theorem whole4 (t : Fin cfg0.N) : (iblk m c 4 t : Vec Ideal S1x512 .f32) = V m c main_v18 := by
  have hi := (in_idx t).2.2.2.2.1
  unfold iblk
  funext j
  rw [View.read_apply]
  refine congrArg (V m c main_v18) (funext fun a => Fin.ext ?_)
  fin_cases a
  · show win0_4.index t 0 * 1 + 1 * (j 0).val = (j 0).val; rw [hi]; show 0 * 1 + 1 * (j 0).val = _; omega
  · show win0_4.index t 1 * 512 + 1 * (j 1).val = (j 1).val; rw [hi]; show 0 * 512 + 1 * (j 1).val = _; omega
/-- Window 5's block is its whole array, at every point. -/
theorem whole5 (t : Fin cfg0.N) : (iblk m c 5 t : Vec Ideal S1x512 .f32) = V m c main_v22 := by
  have hi := (in_idx t).2.2.2.2.2
  unfold iblk
  funext j
  rw [View.read_apply]
  refine congrArg (V m c main_v22) (funext fun a => Fin.ext ?_)
  fin_cases a
  · show win0_5.index t 0 * 1 + 1 * (j 0).val = (j 0).val; rw [hi]; show 0 * 1 + 1 * (j 0).val = _; omega
  · show win0_5.index t 1 * 512 + 1 * (j 1).val = (j 1).val; rw [hi]; show 0 * 512 + 1 * (j 1).val = _; omega

/-- What the body loads of a launched row. -/
theorem blk0 (t : Fin cfg0.N) (r : Fin 512) (k : Fin 1024) : View.ld (iblk m c 0 t) r0_0 (ix2 r k) = lx m c (at' t r) k := by
  refine Eq.trans (congrArg (iblk m c 0 t) (funext fun a => Fin.ext ?_)) (row_at m c t r k)
  fin_cases a
  · show 0 + 1 * r.val = r.val; omega
  · show 0 + 1 * k.val = k.val; omega
/-- What the body loads of window 1. -/
theorem blk1 (t : Fin cfg0.N) (k : Fin 1024) : View.ld (iblk m c 1 t) r0_1 (ix2 0 k) = ln m c k := by
  refine (congrArg (fun X => View.ld X r0_1 (ix2 0 k)) (whole1 m c t)).trans (congrArg (V m c main_v14) (funext fun a => Fin.ext ?_))
  fin_cases a
  · show 0 + 1 * 0 = 0; omega
  · show 0 + 1 * k.val = k.val; omega
/-- What the body loads of window 3. -/
theorem blk3 (t : Fin cfg0.N) (j e : Fin 512) : View.ld (iblk m c 3 t) r0_2 (ix2 j e) = lo m c j e := by
  refine (congrArg (fun X => View.ld X r0_2 (ix2 j e)) (whole3 m c t)).trans (congrArg (V m c main_v13) (funext fun a => Fin.ext ?_))
  fin_cases a
  · show 0 + 1 * j.val = j.val; omega
  · show 0 + 1 * e.val = e.val; omega
/-- What the body loads of window 4. -/
theorem blk4 (t : Fin cfg0.N) (j : Fin 512) : View.ld (iblk m c 4 t) r0_4 (ix2 0 j) = lq m c j := by
  refine (congrArg (fun X => View.ld X r0_4 (ix2 0 j)) (whole4 m c t)).trans (congrArg (V m c main_v18) (funext fun a => Fin.ext ?_))
  fin_cases a
  · show 0 + 1 * 0 = 0; omega
  · show 0 + 1 * j.val = j.val; omega
/-- What the body loads of window 5. -/
theorem blk5 (t : Fin cfg0.N) (j : Fin 512) : View.ld (iblk m c 5 t) r0_4 (ix2 0 j) = lk m c j := by
  refine (congrArg (fun X => View.ld X r0_4 (ix2 0 j)) (whole5 m c t)).trans (congrArg (V m c main_v22) (funext fun a => Fin.ext ?_))
  fin_cases a
  · show 0 + 1 * 0 = 0; omega
  · show 0 + 1 * j.val = j.val; omega
/-- The 512 packed columns from 0. -/
theorem col3 (t : Fin cfg0.N) (k : Fin 1024) (e : Fin 512) : View.ld (iblk m c 2 t) r0_3 (ix2 k e) = lw m c k ⟨0 + e.val, by omega⟩ := by
  refine (congrArg (fun X => View.ld X r0_3 (ix2 k e)) (whole2 m c t)).trans (congrArg (V m c main_v4) (funext fun a => Fin.ext ?_))
  fin_cases a
  · show 0 + 1 * k.val = k.val; omega
  · show 0 + 1 * e.val = 0 + e.val; omega
/-- The 512 packed columns from 512. -/
theorem col5 (t : Fin cfg0.N) (k : Fin 1024) (e : Fin 512) : View.ld (iblk m c 2 t) r0_5 (ix2 k e) = lw m c k ⟨512 + e.val, by omega⟩ := by
  refine (congrArg (fun X => View.ld X r0_5 (ix2 k e)) (whole2 m c t)).trans (congrArg (V m c main_v4) (funext fun a => Fin.ext ?_))
  fin_cases a
  · show 0 + 1 * k.val = k.val; omega
  · show 512 + 1 * e.val = 512 + e.val; omega
/-- The 512 packed columns from 1024. -/
theorem col6 (t : Fin cfg0.N) (k : Fin 1024) (e : Fin 512) : View.ld (iblk m c 2 t) r0_6 (ix2 k e) = lw m c k ⟨1024 + e.val, by omega⟩ := by
  refine (congrArg (fun X => View.ld X r0_6 (ix2 k e)) (whole2 m c t)).trans (congrArg (V m c main_v4) (funext fun a => Fin.ext ?_))
  fin_cases a
  · show 0 + 1 * k.val = k.val; omega
  · show 1024 + 1 * e.val = 1024 + e.val; omega
/-- The 512 packed columns from 1536. -/
theorem col7 (t : Fin cfg0.N) (k : Fin 1024) (e : Fin 512) : View.ld (iblk m c 2 t) r0_7 (ix2 k e) = lw m c k ⟨1536 + e.val, by omega⟩ := by
  refine (congrArg (fun X => View.ld X r0_7 (ix2 k e)) (whole2 m c t)).trans (congrArg (V m c main_v4) (funext fun a => Fin.ext ?_))
  fin_cases a
  · show 0 + 1 * k.val = k.val; omega
  · show 1536 + 1 * e.val = 1536 + e.val; omega
/-- The 256 packed columns from 2048. -/
theorem col8 (t : Fin cfg0.N) (k : Fin 1024) (e : Fin 256) : View.ld (iblk m c 2 t) r0_8 (ix2 k e) = lw m c k ⟨2048 + e.val, by omega⟩ := by
  refine (congrArg (fun X => View.ld X r0_8 (ix2 k e)) (whole2 m c t)).trans (congrArg (V m c main_v4) (funext fun a => Fin.ext ?_))
  fin_cases a
  · show 0 + 1 * k.val = k.val; omega
  · show 2048 + 1 * e.val = 2048 + e.val; omega
/-- The 128 packed columns from 2304. -/
theorem col10 (t : Fin cfg0.N) (k : Fin 1024) (e : Fin 128) : View.ld (iblk m c 2 t) r0_10 (ix2 k e) = lw m c k ⟨2304 + e.val, by omega⟩ := by
  refine (congrArg (fun X => View.ld X r0_10 (ix2 k e)) (whole2 m c t)).trans (congrArg (V m c main_v4) (funext fun a => Fin.ext ?_))
  fin_cases a
  · show 0 + 1 * k.val = k.val; omega
  · show 2304 + 1 * e.val = 2304 + e.val; omega
/-- The 512 packed columns from 2432. -/
theorem col12 (t : Fin cfg0.N) (k : Fin 1024) (e : Fin 512) : View.ld (iblk m c 2 t) r0_12 (ix2 k e) = lw m c k ⟨2432 + e.val, by omega⟩ := by
  refine (congrArg (fun X => View.ld X r0_12 (ix2 k e)) (whole2 m c t)).trans (congrArg (V m c main_v4) (funext fun a => Fin.ext ?_))
  fin_cases a
  · show 0 + 1 * k.val = k.val; omega
  · show 2432 + 1 * e.val = 2432 + e.val; omega
/-- The 512 packed columns from 2944. -/
theorem col13 (t : Fin cfg0.N) (k : Fin 1024) (e : Fin 512) : View.ld (iblk m c 2 t) r0_13 (ix2 k e) = lw m c k ⟨2944 + e.val, by omega⟩ := by
  refine (congrArg (fun X => View.ld X r0_13 (ix2 k e)) (whole2 m c t)).trans (congrArg (V m c main_v4) (funext fun a => Fin.ext ?_))
  fin_cases a
  · show 0 + 1 * k.val = k.val; omega
  · show 2944 + 1 * e.val = 2944 + e.val; omega

/-- The normed rows of a point. -/
theorem norm_at (t : Fin cfg0.N) (r : Fin 512) (k : Fin 1024) :
    k0_pay1 (F := Ideal) (View.ld (iblk m c 0 t) r0_0) (View.ld (iblk m c 1 t) r0_1) (ix2 r k) = hnv (lx m c (at' t r)) (ln m c) k := by
  refine (pay1_ix _ _ r k).trans ?_
  exact congrArg₂ (fun u v => hnv u v k) (funext fun k => blk0 m c t r k) (funext fun k => blk1 m c t k)
/-- The products of a point's rows with the columns from 0. -/
theorem sum3 (t : Fin cfg0.N) (r : Fin 512) (e : Fin 512) :
    ∑ k : Fin 1024, k0_pay1 (F := Ideal) (View.ld (iblk m c 0 t) r0_0) (View.ld (iblk m c 1 t) r0_1) (ix2 r k) * View.ld (iblk m c 2 t) r0_3 (ix2 k e)
      = lz m c (at' t r) ⟨0 + e.val, by omega⟩ :=
  Finset.sum_congr rfl fun k _ => congrArg₂ (· * ·) (norm_at m c t r k) (col3 m c t k e)
/-- The products of a point's rows with the columns from 512. -/
theorem sum5 (t : Fin cfg0.N) (r : Fin 512) (e : Fin 512) :
    ∑ k : Fin 1024, k0_pay1 (F := Ideal) (View.ld (iblk m c 0 t) r0_0) (View.ld (iblk m c 1 t) r0_1) (ix2 r k) * View.ld (iblk m c 2 t) r0_5 (ix2 k e)
      = lz m c (at' t r) ⟨512 + e.val, by omega⟩ :=
  Finset.sum_congr rfl fun k _ => congrArg₂ (· * ·) (norm_at m c t r k) (col5 m c t k e)
/-- The products of a point's rows with the columns from 1024. -/
theorem sum6 (t : Fin cfg0.N) (r : Fin 512) (e : Fin 512) :
    ∑ k : Fin 1024, k0_pay1 (F := Ideal) (View.ld (iblk m c 0 t) r0_0) (View.ld (iblk m c 1 t) r0_1) (ix2 r k) * View.ld (iblk m c 2 t) r0_6 (ix2 k e)
      = lz m c (at' t r) ⟨1024 + e.val, by omega⟩ :=
  Finset.sum_congr rfl fun k _ => congrArg₂ (· * ·) (norm_at m c t r k) (col6 m c t k e)
/-- The products of a point's rows with the columns from 1536. -/
theorem sum7 (t : Fin cfg0.N) (r : Fin 512) (e : Fin 512) :
    ∑ k : Fin 1024, k0_pay1 (F := Ideal) (View.ld (iblk m c 0 t) r0_0) (View.ld (iblk m c 1 t) r0_1) (ix2 r k) * View.ld (iblk m c 2 t) r0_7 (ix2 k e)
      = lz m c (at' t r) ⟨1536 + e.val, by omega⟩ :=
  Finset.sum_congr rfl fun k _ => congrArg₂ (· * ·) (norm_at m c t r k) (col7 m c t k e)
/-- The products of a point's rows with the columns from 2048. -/
theorem sum8 (t : Fin cfg0.N) (r : Fin 512) (e : Fin 256) :
    ∑ k : Fin 1024, k0_pay1 (F := Ideal) (View.ld (iblk m c 0 t) r0_0) (View.ld (iblk m c 1 t) r0_1) (ix2 r k) * View.ld (iblk m c 2 t) r0_8 (ix2 k e)
      = lz m c (at' t r) ⟨2048 + e.val, by omega⟩ :=
  Finset.sum_congr rfl fun k _ => congrArg₂ (· * ·) (norm_at m c t r k) (col8 m c t k e)
/-- The products of a point's rows with the columns from 2304. -/
theorem sum10 (t : Fin cfg0.N) (r : Fin 512) (e : Fin 128) :
    ∑ k : Fin 1024, k0_pay1 (F := Ideal) (View.ld (iblk m c 0 t) r0_0) (View.ld (iblk m c 1 t) r0_1) (ix2 r k) * View.ld (iblk m c 2 t) r0_10 (ix2 k e)
      = lz m c (at' t r) ⟨2304 + e.val, by omega⟩ :=
  Finset.sum_congr rfl fun k _ => congrArg₂ (· * ·) (norm_at m c t r k) (col10 m c t k e)
/-- The products of a point's rows with the columns from 2432. -/
theorem sum12 (t : Fin cfg0.N) (r : Fin 512) (e : Fin 512) :
    ∑ k : Fin 1024, k0_pay1 (F := Ideal) (View.ld (iblk m c 0 t) r0_0) (View.ld (iblk m c 1 t) r0_1) (ix2 r k) * View.ld (iblk m c 2 t) r0_12 (ix2 k e)
      = lz m c (at' t r) ⟨2432 + e.val, by omega⟩ :=
  Finset.sum_congr rfl fun k _ => congrArg₂ (· * ·) (norm_at m c t r k) (col12 m c t k e)
/-- The products of a point's rows with the columns from 2944. -/
theorem sum13 (t : Fin cfg0.N) (r : Fin 512) (e : Fin 512) :
    ∑ k : Fin 1024, k0_pay1 (F := Ideal) (View.ld (iblk m c 0 t) r0_0) (View.ld (iblk m c 1 t) r0_1) (ix2 r k) * View.ld (iblk m c 2 t) r0_13 (ix2 k e)
      = lz m c (at' t r) ⟨2944 + e.val, by omega⟩ :=
  Finset.sum_congr rfl fun k _ => congrArg₂ (· * ·) (norm_at m c t r k) (col13 m c t k e)

/-- The normed keys of a point. -/
theorem keys_at (t : Fin cfg0.N) (r e : Fin 512) :
    knorm (fun j => ∑ k : Fin 1024, k0_pay1 (F := Ideal) (View.ld (iblk m c 0 t) r0_0) (View.ld (iblk m c 1 t) r0_1) (ix2 r k) * View.ld (iblk m c 2 t) r0_5 (ix2 k j))
      (fun j e => k0_pay2 (F := Ideal) (View.ld (iblk m c 3 t) r0_2) (ix2 j e)) (fun j => View.ld (iblk m c 5 t) r0_4 (ix2 0 j)) e = resK m c (at' t r) e := by
  have h2 : ∀ (o : Vec Ideal S512x512 .bf16) (j e : Fin 512), k0_pay2 (F := Ideal) o (ix2 j e) = o (ix2 j e) := by
    intro o j e
    pointwise [k0_pay2]
  unfold resK
  rw [show (fun j => ∑ k : Fin 1024, k0_pay1 (F := Ideal) (View.ld (iblk m c 0 t) r0_0) (View.ld (iblk m c 1 t) r0_1) (ix2 r k) * View.ld (iblk m c 2 t) r0_5 (ix2 k j))
      = fun j : Fin 512 => lz m c (at' t r) ⟨512 + j.val, by omega⟩ from funext fun j => sum5 m c t r j,
    show (fun j e => k0_pay2 (F := Ideal) (View.ld (iblk m c 3 t) r0_2) (ix2 j e)) = lo m c from funext fun j => funext fun e => (h2 _ j e).trans (blk3 m c t j e),
    show (fun j => View.ld (iblk m c 5 t) r0_4 (ix2 0 j)) = lk m c from funext fun j => blk5 m c t j]

/-- The normed queries of a point. -/
theorem queries_at (t : Fin cfg0.N) (r e : Fin 512) :
    knorm (fun j => ∑ k : Fin 1024, k0_pay1 (F := Ideal) (View.ld (iblk m c 0 t) r0_0) (View.ld (iblk m c 1 t) r0_1) (ix2 r k) * View.ld (iblk m c 2 t) r0_3 (ix2 k j))
      (fun j e => View.ld (iblk m c 3 t) r0_2 (ix2 j e)) (fun j => View.ld (iblk m c 4 t) r0_4 (ix2 0 j)) e * Ideal.ofBits .f32 0x3E000000#32 = resQ m c (at' t r) e := by
  unfold resQ
  rw [show (fun j => ∑ k : Fin 1024, k0_pay1 (F := Ideal) (View.ld (iblk m c 0 t) r0_0) (View.ld (iblk m c 1 t) r0_1) (ix2 r k) * View.ld (iblk m c 2 t) r0_3 (ix2 k j))
      = fun j : Fin 512 => lz m c (at' t r) ⟨0 + j.val, by omega⟩ from funext fun j => sum3 m c t r j,
    show (fun j e => View.ld (iblk m c 3 t) r0_2 (ix2 j e)) = lo m c from funext fun j => funext fun e => blk3 m c t j e,
    show (fun j => View.ld (iblk m c 4 t) r0_4 (ix2 0 j)) = lq m c from funext fun j => blk4 m c t j]

end Cert.ProjIdeal.Own
-- ==== Proof.ProjFin.lean ====
/- The eleven result arrays of the projection's run. -/
module

public import proofs.«01_k».proof.Proof.ProjArr

@[expose] public section

set_option maxRecDepth 65536

noncomputable section

namespace Cert.ProjIdeal.Own

open Idealize.ShloMosaic Idealize.ShloMosaic.TcCoe Cert.ProjIdeal Cert.ProjIdeal.Gen Cert.ProjIdeal.Value

variable (m : (ℓ : Loc nD τ sig) → Buf (Elt Ideal) ℓ) (c : Dev nD)

/-- The values leave the run in their array. -/
theorem fin7 : (dats m 0 c).arrAt 7 cfg0.N = ((fun i => resV m c (i 0) (i 1)) : Vec Ideal S65536x512 .f32) := by
  refine (dats m 0 c).arrAt_eq_of_covers 7 _ (by decide +kernel) fun t hf y => ?_
  blk_simp
  rw [after0_7]
  frame_out
  obtain ⟨r, e, rfl⟩ : ∃ (r : Fin 512) (e : Fin 512), y = ix2 r e := ⟨y 0, y 1, eq_ix2 y⟩
  refine (pay7_ix _ _ r e).trans ((sum6 m c t r e).trans ?_)
  have hi : win0_7.index t = ![t.val, 0] := by obtain ⟨h0, h1, h2, h3, h4, h5, h6, h7, h8, h9, h10, h11, h12, h13, h14, h15, h16, _⟩ := idx t; exact h7
  refine congrArg₂ (resV m c) (Fin.ext ?_) (Fin.ext ?_)
  · show _ = win0_7.index t 0 * 512 + 1 * r.val; rw [hi]; show 512 * t.val + r.val = t.val * 512 + 1 * r.val; omega
  · show _ = win0_7.index t 1 * 512 + 1 * e.val; rw [hi]; show e.val = 0 * 512 + 1 * e.val; omega

/-- The index keys and weights leave the run in their array. -/
theorem fin8 : (dats m 0 c).arrAt 8 cfg0.N = ((fun i => resKW m c (i 0) (i 1)) : Vec Ideal S65536x128 .f32) := by
  refine (dats m 0 c).arrAt_eq_of_covers 8 _ (by decide +kernel) fun t hf y => ?_
  blk_simp
  rw [after0_8]
  frame_out
  obtain ⟨r, e, rfl⟩ : ∃ (r : Fin 512) (e : Fin 128), y = ix2 r e := ⟨y 0, y 1, eq_ix2 y⟩
  refine (pay11_ix _ _ r e).trans ((sum10 m c t r e).trans ?_)
  have hi : win0_8.index t = ![t.val, 0] := by obtain ⟨h0, h1, h2, h3, h4, h5, h6, h7, h8, h9, h10, h11, h12, h13, h14, h15, h16, _⟩ := idx t; exact h8
  refine congrArg₂ (resKW m c) (Fin.ext ?_) (Fin.ext ?_)
  · show _ = win0_8.index t 0 * 512 + 1 * r.val; rw [hi]; show 512 * t.val + r.val = t.val * 512 + 1 * r.val; omega
  · show _ = win0_8.index t 1 * 128 + 1 * e.val; rw [hi]; show e.val = 0 * 128 + 1 * e.val; omega

/-- The attention's gate leave the run in their array. -/
theorem fin9 : (dats m 0 c).arrAt 9 cfg0.N = ((fun i => resGA m c (i 0) (i 1)) : Vec Ideal S65536x512 .f32) := by
  refine (dats m 0 c).arrAt_eq_of_covers 9 _ (by decide +kernel) fun t hf y => ?_
  blk_simp
  rw [after0_9]
  frame_out
  obtain ⟨r, e, rfl⟩ : ∃ (r : Fin 512) (e : Fin 512), y = ix2 r e := ⟨y 0, y 1, eq_ix2 y⟩
  refine (pay9_ix _ _ r e).trans ((sum7 m c t r e).trans ?_)
  have hi : win0_9.index t = ![t.val, 0] := by obtain ⟨h0, h1, h2, h3, h4, h5, h6, h7, h8, h9, h10, h11, h12, h13, h14, h15, h16, _⟩ := idx t; exact h9
  refine congrArg₂ (resGA m c) (Fin.ext ?_) (Fin.ext ?_)
  · show _ = win0_9.index t 0 * 512 + 1 * r.val; rw [hi]; show 512 * t.val + r.val = t.val * 512 + 1 * r.val; omega
  · show _ = win0_9.index t 1 * 512 + 1 * e.val; rw [hi]; show e.val = 0 * 512 + 1 * e.val; omega

/-- The recurrence's input leave the run in their array. -/
theorem fin10 : (dats m 0 c).arrAt 10 cfg0.N = ((fun i => resU m c (i 0) (i 1)) : Vec Ideal S65536x512 .f32) := by
  refine (dats m 0 c).arrAt_eq_of_covers 10 _ (by decide +kernel) fun t hf y => ?_
  blk_simp
  rw [after0_10]
  frame_out
  obtain ⟨r, e, rfl⟩ : ∃ (r : Fin 512) (e : Fin 512), y = ix2 r e := ⟨y 0, y 1, eq_ix2 y⟩
  refine (pay13_ix _ _ r e).trans ((sum12 m c t r e).trans ?_)
  have hi : win0_10.index t = ![t.val, 0] := by obtain ⟨h0, h1, h2, h3, h4, h5, h6, h7, h8, h9, h10, h11, h12, h13, h14, h15, h16, _⟩ := idx t; exact h10
  refine congrArg₂ (resU m c) (Fin.ext ?_) (Fin.ext ?_)
  · show _ = win0_10.index t 0 * 512 + 1 * r.val; rw [hi]; show 512 * t.val + r.val = t.val * 512 + 1 * r.val; omega
  · show _ = win0_10.index t 1 * 512 + 1 * e.val; rw [hi]; show e.val = 0 * 512 + 1 * e.val; omega

/-- The recurrence's gate leave the run in their array. -/
theorem fin11 : (dats m 0 c).arrAt 11 cfg0.N = ((fun i => resGS m c (i 0) (i 1)) : Vec Ideal S65536x512 .f32) := by
  refine (dats m 0 c).arrAt_eq_of_covers 11 _ (by decide +kernel) fun t hf y => ?_
  blk_simp
  rw [after0_11]
  frame_out
  obtain ⟨r, e, rfl⟩ : ∃ (r : Fin 512) (e : Fin 512), y = ix2 r e := ⟨y 0, y 1, eq_ix2 y⟩
  refine (pay14_ix _ _ r e).trans ((sum13 m c t r e).trans ?_)
  have hi : win0_11.index t = ![t.val, 0] := by obtain ⟨h0, h1, h2, h3, h4, h5, h6, h7, h8, h9, h10, h11, h12, h13, h14, h15, h16, _⟩ := idx t; exact h11
  refine congrArg₂ (resGS m c) (Fin.ext ?_) (Fin.ext ?_)
  · show _ = win0_11.index t 0 * 512 + 1 * r.val; rw [hi]; show 512 * t.val + r.val = t.val * 512 + 1 * r.val; omega
  · show _ = win0_11.index t 1 * 512 + 1 * e.val; rw [hi]; show e.val = 0 * 512 + 1 * e.val; omega

/-- The values at half width leave the run in their array. -/
theorem fin14 : (dats m 0 c).arrAt 14 cfg0.N = ((fun i => resV m c (i 0) (i 1)) : Vec Ideal S65536x512 .bf16) := by
  refine (dats m 0 c).arrAt_eq_of_covers 14 _ (by decide +kernel) fun t hf y => ?_
  blk_simp
  rw [after0_14]
  frame_out
  obtain ⟨r, e, rfl⟩ : ∃ (r : Fin 512) (e : Fin 512), y = ix2 r e := ⟨y 0, y 1, eq_ix2 y⟩
  refine (pay8_ix _ _ r e).trans ((sum6 m c t r e).trans ?_)
  have hi : win0_14.index t = ![t.val, 0] := by obtain ⟨h0, h1, h2, h3, h4, h5, h6, h7, h8, h9, h10, h11, h12, h13, h14, h15, h16, _⟩ := idx t; exact h14
  refine congrArg₂ (resV m c) (Fin.ext ?_) (Fin.ext ?_)
  · show _ = win0_14.index t 0 * 512 + 1 * r.val; rw [hi]; show 512 * t.val + r.val = t.val * 512 + 1 * r.val; omega
  · show _ = win0_14.index t 1 * 512 + 1 * e.val; rw [hi]; show e.val = 0 * 512 + 1 * e.val; omega

/-- The scaled index queries leave the run in their array. -/
theorem fin15 : (dats m 0 c).arrAt 15 cfg0.N = ((fun i => resQI m c (i 0) (i 1)) : Vec Ideal S65536x256 .bf16) := by
  refine (dats m 0 c).arrAt_eq_of_covers 15 _ (by decide +kernel) fun t hf y => ?_
  blk_simp
  rw [after0_15]
  frame_out
  obtain ⟨r, e, rfl⟩ : ∃ (r : Fin 512) (e : Fin 256), y = ix2 r e := ⟨y 0, y 1, eq_ix2 y⟩
  refine (pay10_ix _ _ r e).trans ((congrArg (· * _) (sum8 m c t r e)).trans ?_)
  have hi : win0_15.index t = ![t.val, 0] := by obtain ⟨h0, h1, h2, h3, h4, h5, h6, h7, h8, h9, h10, h11, h12, h13, h14, h15, h16, _⟩ := idx t; exact h15
  refine congrArg₂ (resQI m c) (Fin.ext ?_) (Fin.ext ?_)
  · show _ = win0_15.index t 0 * 512 + 1 * r.val; rw [hi]; show 512 * t.val + r.val = t.val * 512 + 1 * r.val; omega
  · show _ = win0_15.index t 1 * 256 + 1 * e.val; rw [hi]; show e.val = 0 * 256 + 1 * e.val; omega

/-- The index keys and weights at half width leave the run in their array. -/
theorem fin16 : (dats m 0 c).arrAt 16 cfg0.N = ((fun i => resKW m c (i 0) (i 1)) : Vec Ideal S65536x128 .bf16) := by
  refine (dats m 0 c).arrAt_eq_of_covers 16 _ (by decide +kernel) fun t hf y => ?_
  blk_simp
  rw [after0_16]
  frame_out
  obtain ⟨r, e, rfl⟩ : ∃ (r : Fin 512) (e : Fin 128), y = ix2 r e := ⟨y 0, y 1, eq_ix2 y⟩
  refine (pay12_ix _ _ r e).trans ((sum10 m c t r e).trans ?_)
  have hi : win0_16.index t = ![t.val, 0] := by obtain ⟨h0, h1, h2, h3, h4, h5, h6, h7, h8, h9, h10, h11, h12, h13, h14, h15, h16, _⟩ := idx t; exact h16
  refine congrArg₂ (resKW m c) (Fin.ext ?_) (Fin.ext ?_)
  · show _ = win0_16.index t 0 * 512 + 1 * r.val; rw [hi]; show 512 * t.val + r.val = t.val * 512 + 1 * r.val; omega
  · show _ = win0_16.index t 1 * 128 + 1 * e.val; rw [hi]; show e.val = 0 * 128 + 1 * e.val; omega

end Cert.ProjIdeal.Own
-- ==== Proof.ProjFin2.lean ====
/- The keys' and queries' result arrays of the projection's run. -/
module

public import proofs.«01_k».proof.Proof.ProjFin

@[expose] public section

set_option maxRecDepth 65536

noncomputable section

namespace Cert.ProjIdeal.Own

open Idealize.ShloMosaic Idealize.ShloMosaic.TcCoe Cert.ProjIdeal Cert.ProjIdeal.Gen Cert.ProjIdeal.Value

variable (m : (ℓ : Loc nD τ sig) → Buf (Elt Ideal) ℓ) (c : Dev nD)

/-- A point's normed keys, of its blocks as the body names them. -/
theorem keys_at' (t : Fin cfg0.N) (r e : Fin 512) :
    knorm (fun j => ∑ k : Fin 1024, k0_pay15 (iblk m c 0 t) (iblk m c 1 t) (iblk m c 2 t) (iblk m c 3 t) (iblk m c 4 t) (iblk m c 5 t) (ix2 r k) * View.ld (iblk m c 2 t) r0_5 (ix2 k j))
      (fun j e => k0_pay16 (iblk m c 0 t) (iblk m c 1 t) (iblk m c 2 t) (iblk m c 3 t) (iblk m c 4 t) (iblk m c 5 t) (ix2 j e)) (fun j => (iblk m c 5 t : Vec Ideal S1x512 .f32) (ix2 0 j)) e = resK m c (at' t r) e := by
  refine Eq.trans ?_ (keys_at m c t r e)
  have h : (fun j : Fin 512 => (iblk m c 5 t : Vec Ideal S1x512 .f32) (ix2 0 j)) = fun j => View.ld (iblk m c 5 t) r0_4 (ix2 0 j) :=
    funext fun j => (congrFun (whole5 m c t) (ix2 0 j)).trans (blk5 m c t j).symm
  rw [h]
  rfl

/-- A point's normed rows, of its blocks. -/
theorem norm_at' (t : Fin cfg0.N) (r : Fin 512) (k : Fin 1024) :
    k0_pay1 (F := Ideal) (iblk m c 0 t : Vec Ideal S512x1024 .f32) (iblk m c 1 t : Vec Ideal S1x1024 .f32) (ix2 r k) = hnv (lx m c (at' t r)) (ln m c) k := by
  refine (pay1_ix _ _ r k).trans ?_
  exact congrArg₂ (fun u v => hnv u v k) (funext fun k => row_at m c t r k) (funext fun k => congrFun (whole1 m c t) (ix2 0 k))

/-- A point's normed and scaled queries, of its blocks. -/
theorem queries_at' (t : Fin cfg0.N) (r e : Fin 512) :
    k0_pay3 (F := Ideal) (iblk m c 0 t : Vec Ideal S512x1024 .f32) (iblk m c 1 t : Vec Ideal S1x1024 .f32) (iblk m c 3 t : Vec Ideal S512x512 .bf16) (View.ld (iblk m c 2 t) r0_3) (iblk m c 4 t : Vec Ideal S1x512 .f32) (ix2 r e) * Ideal.ofBits .f32 0x3E000000#32 = resQ m c (at' t r) e := by
  unfold resQ
  refine congrArg (fun z => z * Ideal.ofBits .f32 0x3E000000#32) ((pay3_ix _ _ _ _ _ r e).trans ?_)
  have h1 : (fun j => ∑ k : Fin 1024, k0_pay1 (F := Ideal) (iblk m c 0 t : Vec Ideal S512x1024 .f32) (iblk m c 1 t : Vec Ideal S1x1024 .f32) (ix2 r k) * View.ld (iblk m c 2 t) r0_3 (ix2 k j))
      = fun j : Fin 512 => lz m c (at' t r) ⟨0 + j.val, by omega⟩ :=
    funext fun j => Finset.sum_congr rfl fun k _ => congrArg₂ (· * ·) (norm_at' m c t r k) (col3 m c t k j)
  have h2 : (fun j e => (iblk m c 3 t : Vec Ideal S512x512 .bf16) (ix2 j e)) = lo m c := funext fun j => funext fun e => congrFun (whole3 m c t) (ix2 j e)
  have h3 : (fun j => (iblk m c 4 t : Vec Ideal S1x512 .f32) (ix2 0 j)) = lq m c := funext fun j => congrFun (whole4 m c t) (ix2 0 j)
  rw [h1, h2, h3]

/-- The keys leave the run in their array. -/
theorem fin6 : (dats m 0 c).arrAt 6 cfg0.N = ((fun i => resK m c (i 0) (i 1)) : Vec Ideal S65536x512 .f32) := by
  refine (dats m 0 c).arrAt_eq_of_covers 6 _ (by decide +kernel) fun t hf y => ?_
  blk_simp
  rw [after0_6]
  frame_out
  obtain ⟨r, e, rfl⟩ : ∃ (r : Fin 512) (e : Fin 512), y = ix2 r e := ⟨y 0, y 1, eq_ix2 y⟩
  refine (pay5_ix _ _ _ _ r e).trans ((keys_at' m c t r e).trans ?_)
  have hi : win0_6.index t = ![t.val, 0] := by obtain ⟨h0, h1, h2, h3, h4, h5, h6, h7, h8, h9, h10, h11, h12, h13, h14, h15, h16, _⟩ := idx t; exact h6
  refine congrArg₂ (resK m c) (Fin.ext ?_) (Fin.ext ?_)
  · show _ = win0_6.index t 0 * 512 + 1 * r.val; rw [hi]; show 512 * t.val + r.val = t.val * 512 + 1 * r.val; omega
  · show _ = win0_6.index t 1 * 512 + 1 * e.val; rw [hi]; show e.val = 0 * 512 + 1 * e.val; omega

/-- The scaled queries leave the run in their array. -/
theorem fin12 : (dats m 0 c).arrAt 12 cfg0.N = ((fun i => resQ m c (i 0) (i 1)) : Vec Ideal S65536x512 .bf16) := by
  refine (dats m 0 c).arrAt_eq_of_covers 12 _ (by decide +kernel) fun t hf y => ?_
  blk_simp
  rw [after0_12]
  frame_out
  obtain ⟨r, e, rfl⟩ : ∃ (r : Fin 512) (e : Fin 512), y = ix2 r e := ⟨y 0, y 1, eq_ix2 y⟩
  refine (pay4_ix _ (Ideal.ofBits .f32 0x3E000000#32) r e).trans ?_
  refine (queries_at' m c t r e).trans ?_
  have hi : win0_12.index t = ![t.val, 0] := by obtain ⟨h0, h1, h2, h3, h4, h5, h6, h7, h8, h9, h10, h11, h12, h13, h14, h15, h16, _⟩ := idx t; exact h12
  refine congrArg₂ (resQ m c) (Fin.ext ?_) (Fin.ext ?_)
  · show _ = win0_12.index t 0 * 512 + 1 * r.val; rw [hi]; show 512 * t.val + r.val = t.val * 512 + 1 * r.val; omega
  · show _ = win0_12.index t 1 * 512 + 1 * e.val; rw [hi]; show e.val = 0 * 512 + 1 * e.val; omega

/-- The keys at half width leave the run in their array. -/
theorem fin13 : (dats m 0 c).arrAt 13 cfg0.N = ((fun i => resK m c (i 0) (i 1)) : Vec Ideal S65536x512 .bf16) := by
  refine (dats m 0 c).arrAt_eq_of_covers 13 _ (by decide +kernel) fun t hf y => ?_
  blk_simp
  rw [after0_13]
  frame_out
  obtain ⟨r, e, rfl⟩ : ∃ (r : Fin 512) (e : Fin 512), y = ix2 r e := ⟨y 0, y 1, eq_ix2 y⟩
  refine (pay6_ix _ _ _ _ r e).trans ((keys_at' m c t r e).trans ?_)
  have hi : win0_13.index t = ![t.val, 0] := by obtain ⟨h0, h1, h2, h3, h4, h5, h6, h7, h8, h9, h10, h11, h12, h13, h14, h15, h16, _⟩ := idx t; exact h13
  refine congrArg₂ (resK m c) (Fin.ext ?_) (Fin.ext ?_)
  · show _ = win0_13.index t 0 * 512 + 1 * r.val; rw [hi]; show 512 * t.val + r.val = t.val * 512 + 1 * r.val; omega
  · show _ = win0_13.index t 1 * 512 + 1 * e.val; rw [hi]; show e.val = 0 * 512 + 1 * e.val; omega

end Cert.ProjIdeal.Own
-- ==== Proof.ProjHost.lean ====
/- What the projection's host part prepares, entry by entry: the rows, the packed matrix, the head sums, the weights. -/
module

public import proofs.«01_k».proof.Proof.ProjArr

@[expose] public section

set_option maxRecDepth 65536

noncomputable section

namespace Cert.ProjIdeal.Own

open Idealize.ShloMosaic Idealize.ShloMosaic.TcCoe Cert.ProjIdeal Cert.ProjIdeal.Gen Cert.ProjIdeal.Value

/-- The identity matrix over the heads. -/
def heads : FVec Ideal S8x8 .f32 :=
  uitofp .f32 (cmpi .eq (addi (iotaInDim S8x8 32 0) (broadcastInDim S8x8 ![] bcast_S_S8x8 (constantI S_ 32 0#32))) (iotaInDim S8x8 32 1))

/-- The head matrix has one on its diagonal and zero elsewhere. -/
theorem heads_ix (a b : Fin 8) : heads (ix2 a b) = if a = b then 1 else 0 := by
  unfold heads
  pointwise
  have h : ∀ a b : Fin 8, IntOp.cmpi CmpIPredicate.eq (IntOp.addi (BitVec.ofNat 32 a.val) 0#32) (BitVec.ofNat 32 b.val) = if a = b then 1#1 else 0#1 := by decide
  rw [h a b]
  split
  · show (((1#1 : BitVec 1).toNat : ℝ) : EReal) = 1
    simp
  · show (((0#1 : BitVec 1).toNat : ℝ) : EReal) = 0
    simp

/-- Every head's square of ones, the rest zero. -/
def spread : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 heads))
    (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant S_ .f32 0x3F800000#32))))) shapeCasts_S8x64x8x64_S512x512) bitsLt_bf16_f32

/-- Entry of the head squares. -/
theorem spread_ix (j e : Fin 512) : spread (ix2 j e) = if j.val / 64 = e.val / 64 then 1 else 0 := by
  have h : spread (ix2 j e) = heads (ix2 ⟨j.val / 64, by omega⟩ ⟨e.val / 64, by omega⟩) * 1 := by
    unfold spread
    pointwise
  rw [h, heads_ix, mul_one]
  exact if_congr (by simp [Fin.ext_iff]) rfl rfl

/-- The packed matrix of a matrix. -/
def pack (W : FVec Ideal S1024x3396 .f32) : FVec Ideal S1024x3456 .bf16 :=
  truncf .bf16 (concatenate S1024x3456 1 [⟨S1024x2372, extractStridedSlice S1024x2372 ![0, 0] W slices_S1024x3396_S1024x2372_0_0⟩,
    ⟨S1024x60, broadcastInDim S1024x60 ![] bcast_S_S1024x60 (constant S_ .f32 0x00000000#32)⟩,
    ⟨S1024x1024, extractStridedSlice S1024x1024 ![0, 2372] W slices_S1024x3396_S1024x1024_0_2372⟩]
    concatenates_S1024x2372_S1024x60_S1024x1024_S1024x3456_d1) bitsLt_bf16_f32

/-- Its columns before the gap. -/
theorem pack_lo (W : FVec Ideal S1024x3396 .f32) (k : Fin 1024) (e : Fin 3456) (h : e.val < 2372) :
    pack W (ix2 k e) = W (ix2 k ⟨e.val, by omega⟩) := by
  unfold pack
  pointwise
  rw [dif_pos h]
/-- The gap's columns. -/
theorem pack_gap (W : FVec Ideal S1024x3396 .f32) (k : Fin 1024) (e : Fin 3456) (h : 2372 ≤ e.val) (h' : e.val < 2432) :
    pack W (ix2 k e) = 0 := by
  unfold pack
  pointwise
  rw [dif_neg (by omega), dif_pos (by omega)]
/-- Its columns after the gap. -/
theorem pack_hi (W : FVec Ideal S1024x3396 .f32) (k : Fin 1024) (e : Fin 3456) (h : 2432 ≤ e.val) :
    pack W (ix2 k e) = W (ix2 k ⟨2372 + (e.val - 2432), by omega⟩) := by
  unfold pack
  pointwise
  rw [dif_neg (by omega), dif_neg (by omega)]
  exact congrArg (fun i => W (ix2 k i)) (Fin.ext (by show 2372 + (e.val - 2372 - 60) = 2372 + (e.val - 2432); omega))

variable (m : (ℓ : Loc nD τ sig) → Buf (Elt Ideal) ℓ) (c : Dev nD)

/-- The layer's input. -/
def b0 : FVec Ideal S8x8192x1024 .f32 := m ((c.tc : Thread nD τ).loc main_arg0)
/-- The norm's weights. -/
def b1 : FVec Ideal S1024 .f32 := m ((c.tc : Thread nD τ).loc main_arg1)
/-- The projection's matrix. -/
def b2 : FVec Ideal S1024x3396 .f32 := m ((c.tc : Thread nD τ).loc main_arg2)
/-- The queries' weights. -/
def b3 : FVec Ideal S64 .f32 := m ((c.tc : Thread nD τ).loc main_arg3)
/-- The keys' weights. -/
def b4 : FVec Ideal S64 .f32 := m ((c.tc : Thread nD τ).loc main_arg4)

/-- The launched head squares are those. -/
theorem lo_eq (j e : Fin 512) : lo m c j e = if j.val / 64 = e.val / 64 then 1 else 0 := by
  refine Eq.trans ?_ (spread_ix j e)
  unfold lo
  refine congrFun ?_ (ix2 j e)
  entry_read
  rfl
/-- The launched matrix is the packed one. -/
theorem lw_eq (k : Fin 1024) (e : Fin 3456) : lw m c k e = pack (b2 m c) (ix2 k e) := by
  unfold lw
  refine congrFun ?_ (ix2 k e)
  entry_read
  rfl
/-- The rows laid flat. -/
def flat (x : FVec Ideal S8x8192x1024 .f32) : FVec Ideal S65536x1024 .f32 := shapeCast S65536x1024 x shapeCasts_S8x8192x1024_S65536x1024
/-- An entry of the flat rows. -/
theorem flat_ix (x : FVec Ideal S8x8192x1024 .f32) (n : Fin 65536) (k : Fin 1024) :
    flat x (ix2 n k) = x (ix3 ⟨n.val / 8192, by omega⟩ ⟨n.val % 8192, by omega⟩ k) := by
  unfold flat
  pointwise
/-- The norm's weights as a row. -/
def wide (g : FVec Ideal S1024 .f32) : FVec Ideal S1x1024 .f32 := shapeCast S1x1024 g shapeCasts_S1024_S1x1024
/-- An entry of that row. -/
theorem wide_ix (g : FVec Ideal S1024 .f32) (k : Fin 1024) : wide g (ix2 0 k) = g (ix1 k) := by
  unfold wide
  pointwise
/-- A head's weights repeated for every head. -/
def rep (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512
/-- An entry of the repeated weights. -/
theorem rep_ix (g : FVec Ideal S64 .f32) (j : Fin 512) : rep g (ix2 0 j) = g (ix1 ⟨j.val % 64, by omega⟩) := by
  unfold rep
  pointwise

/-- The launched rows. -/
theorem lx_eq (n : Fin 65536) (k : Fin 1024) : lx m c n k = b0 m c (ix3 ⟨n.val / 8192, by omega⟩ ⟨n.val % 8192, by omega⟩ k) := by
  refine Eq.trans ?_ (flat_ix (b0 m c) n k)
  unfold lx
  refine congrFun ?_ (ix2 n k)
  entry_read
  rfl
/-- The launched norm weights. -/
theorem ln_eq (k : Fin 1024) : ln m c k = b1 m c (ix1 k) := by
  refine Eq.trans ?_ (wide_ix (b1 m c) k)
  unfold ln
  refine congrFun ?_ (ix2 0 k)
  entry_read
  rfl
/-- The launched query weights. -/
theorem lq_eq (j : Fin 512) : lq m c j = b3 m c (ix1 ⟨j.val % 64, by omega⟩) := by
  refine Eq.trans ?_ (rep_ix (b3 m c) j)
  unfold lq
  refine congrFun ?_ (ix2 0 j)
  entry_read
  rfl
/-- The launched key weights. -/
theorem lk_eq (j : Fin 512) : lk m c j = b4 m c (ix1 ⟨j.val % 64, by omega⟩) := by
  refine Eq.trans ?_ (rep_ix (b4 m c) j)
  unfold lk
  refine congrFun ?_ (ix2 0 j)
  entry_read
  rfl

end Cert.ProjIdeal.Own
-- ==== Proof.ProjRef.lean ====
/- What the projection's plain program returns, entry by entry. -/
module

public import proofs.«01_k».proof.Proof.ProjFin2
public import proofs.«01_k».proof.Proof.Gen.ProjRefIdeal.Run

@[expose] public section

set_option maxRecDepth 65536

noncomputable section

namespace Cert.ProjRefIdeal.Own

open Idealize.ShloMosaic Idealize.ShloMosaic.TcCoe Cert.ProjRefIdeal Cert.ProjRefIdeal.Gen Cert.ProjIdeal.Own

/-- The normed rows. -/
def refN (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

/-- The projection. -/
def refZ (x : FVec Ideal S8x8192x1024 .f32) (g : FVec Ideal S1024 .f32) (w : FVec Ideal S1024x3396 .f32) : FVec Ideal S8x8192x3396 .f32 :=
  Host.dotGeneral (F := Ideal) dot_S8x8192x1024_S1024x3396_S8x8192x3396_2_0_01_1_n_n none (refN x g) w

/-- The norm of the eight heads of a row. -/
def refH (s : FVec Ideal S8x8192x512 .f32) (g : FVec Ideal S64 .f32) : FVec Ideal S8x8192x8x64 .f32 :=
  mulf (mulf (shapeCast _ s shapeCasts_S8x8192x512_S8x8192x8x64) (broadcastInDim S8x8192x8x64 ![0, 1, 2, 3] bcast_S8x8192x8x1_S8x8192x8x64_0_1_2_3 (Host.rsqrt (addf (Host.divf (broadcastInDim S8x8192x8x1 ![0, 1, 2] bcast_S8x8192x8_S8x8192x8x1_0_1_2 (Host.reduceAdd (mulf (shapeCast _ s shapeCasts_S8x8192x512_S8x8192x8x64) (shapeCast _ s shapeCasts_S8x8192x512_S8x8192x8x64)) (constant S_ .f32 0x00000000#32) reducesTo_S8x8192x8x64_S8x8192x8_d3 h_S_)) (broadcastInDim S8x8192x8x1 ![] bcast_S_S8x8192x8x1 (constant S_ .f32 0x42800000#32))) (broadcastInDim S8x8192x8x1 ![] bcast_S_S8x8192x8x1 (constant S_ .f32 0x358637BD#32)))))) (broadcastInDim S8x8192x8x64 ![0, 1, 2, 3] bcast_S1x1x1x64_S8x8192x8x64_0_1_2_3 (broadcastInDim S1x1x1x64 ![3] bcast_S64_S1x1x1x64_3 g))

/-- Entry `d` of a normed head. -/
def hd (z g : Fin 64 → EReal) (d : Fin 64) : EReal :=
  z d * Ideal.rsqrt (Ideal.div (∑ k, z k * z k) (Ideal.ofBits .f32 0x42800000#32) + Ideal.ofBits .f32 0x358637BD#32) * g d

/-- The keys, of the projection. -/
def refK (Z : FVec Ideal S8x8192x3396 .f32) (g : FVec Ideal S64 .f32) : FVec Ideal S65536x512 .f32 :=
  shapeCast _ (refH (extractStridedSlice S8x8192x512 ![0, 0, 512] Z slices_S8x8192x3396_S8x8192x512_0_0_512) g) shapeCasts_S8x8192x8x64_S65536x512

/-- The scaled queries, of the projection. -/
def refQ (Z : FVec Ideal S8x8192x3396 .f32) (g : FVec Ideal S64 .f32) : FVec Ideal S65536x512 .f32 :=
  shapeCast _ (mulf (refH (extractStridedSlice S8x8192x512 ![0, 0, 0] Z slices_S8x8192x3396_S8x8192x512_0_0_0) g) (broadcastInDim S8x8192x8x64 ![] bcast_S_S8x8192x8x64 (constant S_ .f32 0x3E000000#32))) shapeCasts_S8x8192x8x64_S65536x512

/-- The index keys and weights, of the projection. -/
def refKW (Z : FVec Ideal S8x8192x3396 .f32) : FVec Ideal S65536x128 .f32 :=
  shapeCast _ (concatenate S8x8192x128 2 [⟨S8x8192x64, extractStridedSlice S8x8192x64 ![0, 0, 2304] Z slices_S8x8192x3396_S8x8192x64_0_0_2304⟩, ⟨S8x8192x4, extractStridedSlice S8x8192x4 ![0, 0, 2368] Z slices_S8x8192x3396_S8x8192x4_0_0_2368⟩, ⟨S8x8192x60, (broadcastInDim S8x8192x60 ![] bcast_S_S8x8192x60 (constant (F := Ideal) S_ .f32 0x00000000#32) : FVec Ideal S8x8192x60 .f32)⟩] concatenates_S8x8192x64_S8x8192x4_S8x8192x60_S8x8192x128_d2) shapeCasts_S8x8192x128_S65536x128

/-- The scaled index queries, of the projection. -/
def refQI (Z : FVec Ideal S8x8192x3396 .f32) : FVec Ideal S65536x256 .f32 :=
  shapeCast _ (mulf (extractStridedSlice S8x8192x256 ![0, 0, 2048] Z slices_S8x8192x3396_S8x8192x256_0_0_2048) (broadcastInDim S8x8192x256 ![] bcast_S_S8x8192x256 (constant S_ .f32 0x3E000000#32))) shapeCasts_S8x8192x256_S65536x256

/-- The values, of the projection. -/
def refV (Z : FVec Ideal S8x8192x3396 .f32) : FVec Ideal S65536x512 .f32 :=
  shapeCast _ (extractStridedSlice S8x8192x512 ![0, 0, 1024] Z slices_S8x8192x3396_S8x8192x512_0_0_1024) shapeCasts_S8x8192x512_S65536x512

/-- The attention's gate, of the projection. -/
def refGA (Z : FVec Ideal S8x8192x3396 .f32) : FVec Ideal S65536x512 .f32 :=
  shapeCast _ (extractStridedSlice S8x8192x512 ![0, 0, 1536] Z slices_S8x8192x3396_S8x8192x512_0_0_1536) shapeCasts_S8x8192x512_S65536x512

/-- The recurrence's input, of the projection. -/
def refU (Z : FVec Ideal S8x8192x3396 .f32) : FVec Ideal S65536x512 .f32 :=
  shapeCast _ (extractStridedSlice S8x8192x512 ![0, 0, 2372] Z slices_S8x8192x3396_S8x8192x512_0_0_2372) shapeCasts_S8x8192x512_S65536x512

/-- The recurrence's gate, of the projection. -/
def refGS (Z : FVec Ideal S8x8192x3396 .f32) : FVec Ideal S65536x512 .f32 :=
  shapeCast _ (extractStridedSlice S8x8192x512 ![0, 0, 2884] Z slices_S8x8192x3396_S8x8192x512_0_0_2884) shapeCasts_S8x8192x512_S65536x512

/-- An entry of the normed rows. -/
theorem refN_ix (x : FVec Ideal S8x8192x1024 .f32) (g : FVec Ideal S1024 .f32) (b : Fin 8) (l : Fin 8192) (d : Fin 1024) :
    refN x g (ix3 b l d) = hnv (fun k => x (ix3 b l k)) (fun k => g (ix1 k)) d := by
  unfold hnv
  pointwise [refN]

/-- An entry of the projection. -/
theorem refZ_ix (x : FVec Ideal S8x8192x1024 .f32) (g : FVec Ideal S1024 .f32) (w : FVec Ideal S1024x3396 .f32) (b : Fin 8) (l : Fin 8192) (e : Fin 3396) :
    refZ x g w (ix3 b l e) = prj (fun k => x (ix3 b l k)) (fun k => g (ix1 k)) (fun k => w (ix2 k e)) := by
  have h : refZ x g w (ix3 b l e) = ∑ k : Fin 1024, refN x g (ix3 b l k) * w (ix2 k e) := by
    pointwise [refZ]
  rw [h]
  exact Finset.sum_congr rfl fun k _ => congrArg (fun z => z * w (ix2 k e)) (refN_ix x g b l k)

/-- An entry of a normed head. -/
theorem refH_ix (s : FVec Ideal S8x8192x512 .f32) (g : FVec Ideal S64 .f32) (b : Fin 8) (l : Fin 8192) (h : Fin 8) (d : Fin 64) :
    refH s g (ix4 b l h d) = hd (fun k => s (ix3 b l ⟨h.val * 64 + k.val, by omega⟩)) (fun k => g (ix1 k)) d := by
  unfold hd
  pointwise [refH]

/-- A row's slice from 0. -/
theorem sl0 (Z : FVec Ideal S8x8192x3396 .f32) (b : Fin 8) (l : Fin 8192) (e : Fin 512) :
    (extractStridedSlice S8x8192x512 ![0, 0, 0] Z slices_S8x8192x3396_S8x8192x512_0_0_0 : FVec Ideal S8x8192x512 .f32) (ix3 b l e) = Z (ix3 b l ⟨0 + e.val, by omega⟩) := by
  pointwise
/-- A row's slice from 512. -/
theorem sl512 (Z : FVec Ideal S8x8192x3396 .f32) (b : Fin 8) (l : Fin 8192) (e : Fin 512) :
    (extractStridedSlice S8x8192x512 ![0, 0, 512] Z slices_S8x8192x3396_S8x8192x512_0_0_512 : FVec Ideal S8x8192x512 .f32) (ix3 b l e) = Z (ix3 b l ⟨512 + e.val, by omega⟩) := by
  pointwise

/-- An entry of the keys. -/
theorem refK_ix (Z : FVec Ideal S8x8192x3396 .f32) (g : FVec Ideal S64 .f32) (n : Fin 65536) (e : Fin 512) :
    refK Z g (ix2 n e) = hd (fun k => Z (ix3 ⟨n.val / 8192, by omega⟩ ⟨n.val % 8192, by omega⟩ ⟨512 + (e.val / 64 * 64 + k.val), by omega⟩)) (fun k => g (ix1 k)) ⟨e.val % 64, by omega⟩ := by
  have h : refK Z g (ix2 n e) = refH (extractStridedSlice S8x8192x512 ![0, 0, 512] Z slices_S8x8192x3396_S8x8192x512_0_0_512) g (ix4 ⟨n.val / 8192, by omega⟩ ⟨n.val % 8192, by omega⟩ ⟨e.val / 64, by omega⟩ ⟨e.val % 64, by omega⟩) := by
    pointwise [refK]
  rw [h, refH_ix]
  exact congrArg (fun z => hd z _ _) (funext fun k => sl512 Z _ _ _)

/-- An entry of the scaled queries. -/
theorem refQ_ix (Z : FVec Ideal S8x8192x3396 .f32) (g : FVec Ideal S64 .f32) (n : Fin 65536) (e : Fin 512) :
    refQ Z g (ix2 n e) = hd (fun k => Z (ix3 ⟨n.val / 8192, by omega⟩ ⟨n.val % 8192, by omega⟩ ⟨0 + (e.val / 64 * 64 + k.val), by omega⟩)) (fun k => g (ix1 k)) ⟨e.val % 64, by omega⟩ * Ideal.ofBits .f32 0x3E000000#32 := by
  have h : refQ Z g (ix2 n e) = refH (extractStridedSlice S8x8192x512 ![0, 0, 0] Z slices_S8x8192x3396_S8x8192x512_0_0_0) g (ix4 ⟨n.val / 8192, by omega⟩ ⟨n.val % 8192, by omega⟩ ⟨e.val / 64, by omega⟩ ⟨e.val % 64, by omega⟩) * Ideal.ofBits .f32 0x3E000000#32 := by
    pointwise [refQ]
  rw [h, refH_ix]
  exact congrArg (fun z => hd z _ _ * _) (funext fun k => sl0 Z _ _ _)

/-- An entry of the scaled index queries. -/
theorem refQI_ix (Z : FVec Ideal S8x8192x3396 .f32) (n : Fin 65536) (e : Fin 256) :
    refQI Z (ix2 n e) = Z (ix3 ⟨n.val / 8192, by omega⟩ ⟨n.val % 8192, by omega⟩ ⟨2048 + e.val, by omega⟩) * Ideal.ofBits .f32 0x3E000000#32 := by
  pointwise [refQI]

/-- An entry of the index keys and weights: the first 68 are the projection's, the rest zero. -/
theorem refKW_ix (Z : FVec Ideal S8x8192x3396 .f32) (n : Fin 65536) (e : Fin 128) :
    refKW Z (ix2 n e) = if h : e.val < 68 then Z (ix3 ⟨n.val / 8192, by omega⟩ ⟨n.val % 8192, by omega⟩ ⟨2304 + e.val, by omega⟩) else 0 := by
  pointwise [refKW]
  by_cases h : e.val < 64
  · rw [dif_pos h, dif_pos (by omega)]
  · by_cases h' : e.val - 64 < 4
    · rw [dif_neg h, dif_pos h', dif_pos (by omega)]
      refine congrArg (fun q => Z (ix3 _ _ q)) (Fin.ext ?_)
      show 2368 + (e.val - 64) = 2304 + e.val
      omega
    · rw [dif_neg h, dif_neg h', dif_neg (by omega)]

/-- An entry of the values. -/
theorem refV_ix (Z : FVec Ideal S8x8192x3396 .f32) (n : Fin 65536) (e : Fin 512) : refV Z (ix2 n e) = Z (ix3 ⟨n.val / 8192, by omega⟩ ⟨n.val % 8192, by omega⟩ ⟨1024 + e.val, by omega⟩) := by
  pointwise [refV]

/-- An entry of the attention's gate. -/
theorem refGA_ix (Z : FVec Ideal S8x8192x3396 .f32) (n : Fin 65536) (e : Fin 512) : refGA Z (ix2 n e) = Z (ix3 ⟨n.val / 8192, by omega⟩ ⟨n.val % 8192, by omega⟩ ⟨1536 + e.val, by omega⟩) := by
  pointwise [refGA]

/-- An entry of the recurrence's input. -/
theorem refU_ix (Z : FVec Ideal S8x8192x3396 .f32) (n : Fin 65536) (e : Fin 512) : refU Z (ix2 n e) = Z (ix3 ⟨n.val / 8192, by omega⟩ ⟨n.val % 8192, by omega⟩ ⟨2372 + e.val, by omega⟩) := by
  pointwise [refU]

/-- An entry of the recurrence's gate. -/
theorem refGS_ix (Z : FVec Ideal S8x8192x3396 .f32) (n : Fin 65536) (e : Fin 512) : refGS Z (ix2 n e) = Z (ix3 ⟨n.val / 8192, by omega⟩ ⟨n.val % 8192, by omega⟩ ⟨2884 + e.val, by omega⟩) := by
  pointwise [refGS]

end Cert.ProjRefIdeal.Own
-- ==== Proof.ProjMath.lean ====
/- The projection's mathematics: a product of a normed row with finite weights is finite, and a finite row's head norm is the same
   however its squares are summed. -/
module

public import proofs.«01_k».proof.Proof.ProjRef

@[expose] public section

set_option maxRecDepth 65536

noncomputable section

namespace Cert.ProjIdeal.Own

open Idealize.ShloMosaic Cert.ProjRefIdeal.Own

/-- The row length as a word is 1024. -/
theorem word_1024 : Ideal.ofBits .f32 0x44800000#32 = ((1024 : ℝ) : EReal) := by
  simp [Ideal.ofBits, Ideal.ieee, -EReal.coe_mul]; norm_num
/-- The head length as a word is 64. -/
theorem word_64 : Ideal.ofBits .f32 0x42800000#32 = ((64 : ℝ) : EReal) := by
  simp [Ideal.ofBits, Ideal.ieee, -EReal.coe_mul]; norm_num
/-- The head length's inverse as a word is one 64th. -/
theorem word_64th : Ideal.ofBits .f32 0x3C800000#32 = ((1 / 64 : ℝ) : EReal) := by
  simp [Ideal.ofBits, Ideal.ieee, -EReal.coe_mul]; norm_num
/-- The norm's small term is a positive real. -/
theorem word_small : ∃ r : ℝ, 0 < r ∧ Ideal.ofBits .f32 0x358637BD#32 = (r : EReal) := by
  refine ⟨8796093 / 8796093022208, by norm_num, ?_⟩
  simp [Ideal.ofBits, Ideal.ieee, -EReal.coe_mul]; norm_num

/-- A value is a real. -/
def Fin' (a : EReal) : Prop := ∃ r : ℝ, a = (r : EReal)

/-- A value that is not an infinity is a real. -/
theorem fin_of_ne {a : EReal} (h1 : a ≠ ⊤) (h2 : a ≠ ⊥) : Fin' a := ⟨a.toReal, (EReal.coe_toReal h1 h2).symm⟩
/-- A product of reals is a real. -/
theorem fin_mul {a b : EReal} : Fin' a → Fin' b → Fin' (a * b) := by
  rintro ⟨r, rfl⟩ ⟨s, rfl⟩
  exact ⟨r * s, (EReal.coe_mul r s).symm⟩
/-- A finite sum of reals is the sum of the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
/-- A finite sum of reals is a real. -/
theorem fin_sum {ι : Type} [Fintype ι] (f : ι → EReal) (h : ∀ i, Fin' (f i)) : Fin' (∑ i, f i) := by
  choose y hy using h
  exact ⟨∑ i, y i, (Finset.sum_congr rfl fun i _ => hy i).trans (sum_coe _ y)⟩
/-- A square is not negative. -/
theorem sq_nonneg' (a : EReal) : 0 ≤ a * a := by
  induction a with
  | bot => simp
  | top => simp
  | coe r => exact_mod_cast mul_self_nonneg r
/-- An infinity's square is the upper infinity. -/
theorem sq_inf {a : EReal} (h : ¬ Fin' a) : a * a = ⊤ := by
  induction a with
  | bot => simp
  | top => simp
  | coe r => exact absurd ⟨r, rfl⟩ h

/-- A row's normed entry is a real, whatever the row, when the weight is a real. -/
theorem hnv_fin (x g : Fin 1024 → EReal) (d : Fin 1024) (hg : Fin' (g d)) : Fin' (hnv x g d) := by
  obtain ⟨ε, hε, e⟩ := word_small
  unfold hnv
  rw [word_1024, e, Ideal.div_coe (by norm_num)]
  by_cases hx : ∀ k, Fin' (x k)
  · refine fin_mul (fin_mul (hx d) ?_) hg
    choose y hy using hx
    have hs : ∑ k, x k * x k = ((∑ k, y k * y k : ℝ) : EReal) := by
      rw [← sum_coe]
      exact Finset.sum_congr rfl fun k _ => by rw [hy k, EReal.coe_mul]
    have h0 : 0 ≤ ∑ k, y k * y k := Finset.sum_nonneg fun k _ => mul_self_nonneg _
    have hp : 0 < (∑ k, y k * y k) * (1 / 1024) + ε := by positivity
    rw [hs, ← EReal.coe_mul, ← EReal.coe_add, Ideal.rsqrt_coe, if_neg (not_lt.2 hp.le), if_neg hp.ne']
    exact ⟨_, rfl⟩
  · obtain ⟨k, hk⟩ := not_forall.1 hx
    have hs : ∑ k, x k * x k = ⊤ := top_le_iff.1 ((sq_inf hk).symm.le.trans
      (Finset.single_le_sum (f := fun k => x k * x k) (fun i _ => sq_nonneg' (x i)) (Finset.mem_univ k)))
    rw [hs, EReal.top_mul_coe_of_pos (by norm_num), EReal.top_add_coe, Ideal.rsqrt_top, mul_zero, zero_mul]
    exact ⟨0, rfl⟩

/-- An entry of the projection is a real when the weights are. -/
theorem prj_fin (x g w : Fin 1024 → EReal) (hg : ∀ k, Fin' (g k)) (hw : ∀ k, Fin' (w k)) : Fin' (prj x g w) :=
  fin_sum _ fun k => fin_mul (hnv_fin x g k (hg k)) (hw k)

/-- A column of zeros gives zero. -/
theorem prj_zero (x g : Fin 1024 → EReal) : prj x g (fun _ => 0) = 0 := by
  unfold prj
  simp

/-- The sum over a row of heads of what one head keeps is the sum over that head. -/
theorem pick (f : Fin 512 → EReal) (e : Fin 512) :
    ∑ j : Fin 512, f j * (if j.val / 64 = e.val / 64 then 1 else 0) = ∑ k : Fin 64, f ⟨e.val / 64 * 64 + k.val, by omega⟩ := by
  rw [Fin.sum_univ_tiles 8 64 rfl]
  rw [Finset.sum_eq_single (⟨e.val / 64, by omega⟩ : Fin 8)]
  · refine Finset.sum_congr rfl fun k _ => ?_
    rw [if_pos (show (e.val / 64 * 64 + k.val) / 64 = e.val / 64 by omega), mul_one]
  · intro j _ hj
    refine Finset.sum_eq_zero fun k _ => ?_
    rw [if_neg (fun h => hj (Fin.ext (show j.val = e.val / 64 by have : (j.val * 64 + k.val) / 64 = e.val / 64 := h; omega))), mul_zero]
  · exact fun h => absurd (Finset.mem_univ _) h

/-- A finite row's head norm is the plain one. -/
theorem knorm_eq (z : Fin 512 → EReal) (o : Fin 512 → Fin 512 → EReal) (g : Fin 512 → EReal) (g' : Fin 64 → EReal) (e : Fin 512)
    (hz : ∀ j, Fin' (z j)) (ho : ∀ j e, o j e = if j.val / 64 = e.val / 64 then 1 else 0)
    (hg : ∀ j : Fin 512, g j = g' ⟨j.val % 64, by omega⟩) :
    knorm z o g e = hd (fun k => z ⟨e.val / 64 * 64 + k.val, by omega⟩) g' ⟨e.val % 64, by omega⟩ := by
  unfold knorm hd
  have h0 : ∑ j, (z j * z j - z j * z j) * o j e = 0 := Finset.sum_eq_zero fun j _ => by
    obtain ⟨r, hr⟩ := hz j
    rw [hr, ← EReal.coe_mul, ← EReal.coe_sub, sub_self, EReal.coe_zero, zero_mul]
  have h1 : ∑ j, (z j * z j) * o j e = ∑ k : Fin 64, z ⟨e.val / 64 * 64 + k.val, by omega⟩ * z ⟨e.val / 64 * 64 + k.val, by omega⟩ := by
    rw [← pick (fun j => z j * z j) e]
    exact Finset.sum_congr rfl fun j _ => by rw [ho]
  rw [h0, h1, add_zero, hg e, word_64, Ideal.div_coe (by norm_num), word_64th]
  refine congrArg₂ (· * ·) (congrArg₂ (· * ·) (congrArg z (Fin.ext ?_)) rfl) rfl
  show e.val = e.val / 64 * 64 + e.val % 64
  omega

end Cert.ProjIdeal.Own
-- ==== Proof.ProjEq.lean ====
/- The projection's eleven arrays are the plain program's. -/
module

public import proofs.«01_k».proof.Proof.ProjFin2
public import proofs.«01_k».proof.Proof.ProjHost
public import proofs.«01_k».proof.Proof.ProjMath

@[expose] public section

set_option maxRecDepth 65536

noncomputable section

namespace Cert.ProjIdeal.Own

open Idealize.ShloMosaic Idealize.ShloMosaic.TcCoe Cert.ProjIdeal Cert.ProjIdeal.Gen Cert.ProjIdeal.Value Cert.ProjRefIdeal.Own

variable (m : (ℓ : Loc nD τ sig) → Buf (Elt Ideal) ℓ) (c : Dev nD)

/-- The plain projection of the call's arguments. -/
def Z : FVec Ideal Cert.ProjRefIdeal.S8x8192x3396 .f32 := refZ (b0 m c) (b1 m c) (b2 m c)

/-- A packed entry is the product of the normed row with the packed column. -/
theorem lz_eq (n : Fin 65536) (e : Fin 3456) : lz m c n e
    = prj (fun k => b0 m c (ix3 ⟨n.val / 8192, by omega⟩ ⟨n.val % 8192, by omega⟩ k)) (fun k => b1 m c (ix1 k)) (fun k => pack (b2 m c) (ix2 k e)) := by
  unfold lz
  rw [show lx m c n = _ from funext fun k => lx_eq m c n k, show ln m c = _ from funext fun k => ln_eq m c k]
  rw [show (fun k => lw m c k e) = _ from funext fun k => lw_eq m c k e]

/-- Before the gap a packed entry is the plain one. -/
theorem lz_lo (n : Fin 65536) (e : Fin 3456) (h : e.val < 2372) :
    lz m c n e = Z m c (ix3 ⟨n.val / 8192, by omega⟩ ⟨n.val % 8192, by omega⟩ ⟨e.val, by omega⟩) := by
  refine (lz_eq m c n e).trans (Eq.trans ?_ (refZ_ix _ _ _ _ _ _).symm)
  exact congrArg (prj _ _) (funext fun k => pack_lo (b2 m c) k e h)
/-- In the gap a packed entry is zero. -/
theorem lz_gap (n : Fin 65536) (e : Fin 3456) (h : 2372 ≤ e.val) (h' : e.val < 2432) : lz m c n e = 0 := by
  refine (lz_eq m c n e).trans (Eq.trans ?_ (prj_zero (fun k => b0 m c (ix3 ⟨n.val / 8192, by omega⟩ ⟨n.val % 8192, by omega⟩ k)) (fun k => b1 m c (ix1 k))))
  exact congrArg (prj _ _) (funext fun k => pack_gap (b2 m c) k e h h')
/-- After the gap a packed entry is the plain one of sixty columns before. -/
theorem lz_hi (n : Fin 65536) (e : Fin 3456) (h : 2432 ≤ e.val) :
    lz m c n e = Z m c (ix3 ⟨n.val / 8192, by omega⟩ ⟨n.val % 8192, by omega⟩ ⟨2372 + (e.val - 2432), by omega⟩) := by
  refine (lz_eq m c n e).trans (Eq.trans ?_ (refZ_ix _ _ _ _ _ _).symm)
  exact congrArg (prj _ _) (funext fun k => pack_hi (b2 m c) k e h)

/-- With finite weights a packed entry before the gap is a real. -/
theorem lz_fin (hg : ∀ k : Fin 1024, Fin' (b1 m c (ix1 k))) (hw : ∀ (k : Fin 1024) (e : Fin 3396), Fin' (b2 m c (ix2 k e)))
    (n : Fin 65536) (e : Fin 3456) (h : e.val < 2372) : Fin' (lz m c n e) := by
  rw [lz_eq]
  refine prj_fin _ _ _ hg fun k => ?_
  rw [pack_lo (b2 m c) k e h]
  exact hw k _

/-- The keys are the plain program's, when the weights are finite. -/
theorem resK_eq (hg : ∀ k : Fin 1024, Fin' (b1 m c (ix1 k))) (hw : ∀ (k : Fin 1024) (e : Fin 3396), Fin' (b2 m c (ix2 k e))) :
    ((fun i => resK m c (i 0) (i 1)) : Vec Ideal S65536x512 .f32) = refK (Z m c) (b4 m c) := by
  refine funext fun i => ?_
  obtain ⟨n, e, rfl⟩ : ∃ (n : Fin 65536) (e : Fin 512), i = ix2 n e := ⟨i 0, i 1, eq_ix2 i⟩
  refine Eq.trans ?_ (refK_ix _ _ n e).symm
  refine (knorm_eq _ _ _ (fun k => b4 m c (ix1 k)) e (fun j => lz_fin m c hg hw n _ (by show 512 + j.val < 2372; omega)) (lo_eq m c) (lk_eq m c)).trans ?_
  exact congrArg (fun z => hd z _ _) (funext fun k => lz_lo m c n ⟨512 + (e.val / 64 * 64 + k.val), by omega⟩ (by show 512 + (e.val / 64 * 64 + k.val) < 2372; omega))
/-- The scaled queries are the plain program's, when the weights are finite. -/
theorem resQ_eq (hg : ∀ k : Fin 1024, Fin' (b1 m c (ix1 k))) (hw : ∀ (k : Fin 1024) (e : Fin 3396), Fin' (b2 m c (ix2 k e))) :
    ((fun i => resQ m c (i 0) (i 1)) : Vec Ideal S65536x512 .f32) = refQ (Z m c) (b3 m c) := by
  refine funext fun i => ?_
  obtain ⟨n, e, rfl⟩ : ∃ (n : Fin 65536) (e : Fin 512), i = ix2 n e := ⟨i 0, i 1, eq_ix2 i⟩
  refine Eq.trans ?_ (refQ_ix _ _ n e).symm
  refine congrArg₂ (· * ·) ?_ rfl
  refine (knorm_eq _ _ _ (fun k => b3 m c (ix1 k)) e (fun j => lz_fin m c hg hw n _ (by show 0 + j.val < 2372; omega)) (lo_eq m c) (lq_eq m c)).trans ?_
  exact congrArg (fun z => hd z _ _) (funext fun k => lz_lo m c n ⟨0 + (e.val / 64 * 64 + k.val), by omega⟩ (by show 0 + (e.val / 64 * 64 + k.val) < 2372; omega))
/-- The values are the plain program's. -/
theorem resV_eq : ((fun i => resV m c (i 0) (i 1)) : Vec Ideal S65536x512 .f32) = refV (Z m c) := by
  refine funext fun i => ?_
  obtain ⟨n, e, rfl⟩ : ∃ (n : Fin 65536) (e : Fin 512), i = ix2 n e := ⟨i 0, i 1, eq_ix2 i⟩
  exact (lz_lo m c n ⟨1024 + e.val, by omega⟩ (by show 1024 + e.val < 2372; omega)).trans (refV_ix _ n e).symm
/-- The attention's gate is the plain program's. -/
theorem resGA_eq : ((fun i => resGA m c (i 0) (i 1)) : Vec Ideal S65536x512 .f32) = refGA (Z m c) := by
  refine funext fun i => ?_
  obtain ⟨n, e, rfl⟩ : ∃ (n : Fin 65536) (e : Fin 512), i = ix2 n e := ⟨i 0, i 1, eq_ix2 i⟩
  exact (lz_lo m c n ⟨1536 + e.val, by omega⟩ (by show 1536 + e.val < 2372; omega)).trans (refGA_ix _ n e).symm
/-- The index keys and weights are the plain program's. -/
theorem resKW_eq : ((fun i => resKW m c (i 0) (i 1)) : Vec Ideal S65536x128 .f32) = refKW (Z m c) := by
  refine funext fun i => ?_
  obtain ⟨n, e, rfl⟩ : ∃ (n : Fin 65536) (e : Fin 128), i = ix2 n e := ⟨i 0, i 1, eq_ix2 i⟩
  refine Eq.trans ?_ (refKW_ix _ n e).symm
  by_cases h : e.val < 68
  · rw [dif_pos h]
    exact lz_lo m c n ⟨2304 + e.val, by omega⟩ (by show 2304 + e.val < 2372; omega)
  · rw [dif_neg h]
    exact lz_gap m c n ⟨2304 + e.val, by omega⟩ (by show 2372 ≤ 2304 + e.val; omega) (by show 2304 + e.val < 2432; omega)
/-- The scaled index queries are the plain program's. -/
theorem resQI_eq : ((fun i => resQI m c (i 0) (i 1)) : Vec Ideal S65536x256 .f32) = refQI (Z m c) := by
  refine funext fun i => ?_
  obtain ⟨n, e, rfl⟩ : ∃ (n : Fin 65536) (e : Fin 256), i = ix2 n e := ⟨i 0, i 1, eq_ix2 i⟩
  refine Eq.trans ?_ (refQI_ix _ n e).symm
  exact congrArg₂ (· * ·) (lz_lo m c n ⟨2048 + e.val, by omega⟩ (by show 2048 + e.val < 2372; omega)) rfl
/-- The recurrence's input is the plain program's. -/
theorem resU_eq : ((fun i => resU m c (i 0) (i 1)) : Vec Ideal S65536x512 .f32) = refU (Z m c) := by
  refine funext fun i => ?_
  obtain ⟨n, e, rfl⟩ : ∃ (n : Fin 65536) (e : Fin 512), i = ix2 n e := ⟨i 0, i 1, eq_ix2 i⟩
  refine (lz_hi m c n ⟨2432 + e.val, by omega⟩ (by show 2432 ≤ 2432 + e.val; omega)).trans (Eq.trans ?_ (refU_ix _ n e).symm)
  exact congrArg (fun k => Z m c (ix3 _ _ k)) (Fin.ext (by show 2372 + (2432 + e.val - 2432) = 2372 + e.val; omega))
/-- The recurrence's gate is the plain program's. -/
theorem resGS_eq : ((fun i => resGS m c (i 0) (i 1)) : Vec Ideal S65536x512 .f32) = refGS (Z m c) := by
  refine funext fun i => ?_
  obtain ⟨n, e, rfl⟩ : ∃ (n : Fin 65536) (e : Fin 512), i = ix2 n e := ⟨i 0, i 1, eq_ix2 i⟩
  refine (lz_hi m c n ⟨2944 + e.val, by omega⟩ (by show 2432 ≤ 2944 + e.val; omega)).trans (Eq.trans ?_ (refGS_ix _ n e).symm)
  exact congrArg (fun k => Z m c (ix3 _ _ k)) (Fin.ext (by show 2372 + (2944 + e.val - 2432) = 2884 + e.val; omega))

end Cert.ProjIdeal.Own
-- ==== Proof.ProjPre.lean ====
/- What the precondition says: the norm's weights and the projection's matrix are finite. -/
module

public import proofs.«01_k».proof.Pre_weights_finite
public import proofs.«01_k».proof.Proof.ProjMath
public import Idealize.ShloMosaic.Lib.ReduceAll

@[expose] public section

set_option maxRecDepth 65536

noncomputable section

namespace Cert.Pre_weights_finite.Own

open Idealize.ShloMosaic Cert.Pre_weights_finite Cert.ProjIdeal.Own

/-- The shape relations the predicate's operations take. -/
instance facts : Cert.Pre_weights_finite.Facts where
  bcast_S_S1024 := by decide
  reducesTo_S1024_S_d0 := by decide
  h_S_ := by decide
  bcast_S_S1024x3396 := by decide
  reducesTo_S1024x3396_S_d0_1 := by decide

/-- The word the predicate compares with is the upper infinity. -/
theorem word_top : Ideal.ofBits .f32 0x7F800000#32 = ⊤ := by
  simp [Ideal.ofBits, Ideal.ieee]

/-- A value whose absolute value is below the upper infinity is a real. -/
theorem fin_of_lt {a : EReal} (h : Ideal.cmp .olt (max a (-a)) (Ideal.ofBits .f32 0x7F800000#32) = 1#1) : Fin' a := by
  rw [word_top] at h
  have h' : max a (-a) < ⊤ := by
    by_contra hn
    have : Ideal.cmp .olt (max a (-a)) ⊤ = 0#1 := by
      show BitVec.ofBool (decide (max a (-a) < ⊤)) = 0#1
      rw [decide_eq_false hn]
      rfl
    rw [this] at h
    exact absurd h (by decide)
  refine fin_of_ne (fun e => ?_) (fun e => ?_)
  · rw [e] at h'
    simp at h'
  · rw [e] at h'
    simp at h'

/-- Under the predicate every weight of the norm and every entry of the matrix is a real. -/
theorem finite (x : FVec Ideal S8x8192x1024 .f32) (g : FVec Ideal S1024 .f32) (w : FVec Ideal S1024x3396 .f32) (p q : FVec Ideal S64 .f32)
    (h : fn (F := Ideal) x g w p q = fun _ => 1#1) : (∀ k : Fin 1024, Fin' (g (ix1 k))) ∧ ∀ (k : Fin 1024) (e : Fin 3396), Fin' (w (ix2 k e)) := by
  have : Subsingleton S_.Idx := ⟨fun a b => funext fun i => i.elim0⟩
  obtain ⟨h1, h2⟩ := IntOp.andi_eq_one.1 (congrFun h (fun i => i.elim0))
  exact ⟨fun k => fin_of_lt (Host.reduce_andi_all _ _ _ _ _ h1 (ix1 k)), fun k e => fin_of_lt (Host.reduce_andi_all _ _ _ _ _ h2 (ix2 k e))⟩

end Cert.Pre_weights_finite.Own
-- ==== Proof.ProjClaim.lean ====
/- The claims of the projection: the frames, the step from words to extended reals, and the equation under finite weights. -/
module

public import proofs.«01_k».proof.Defs
public import proofs.«01_k».proof.Proof.ProjEq
public import proofs.«01_k».proof.Proof.ProjPre
public import proofs.«01_k».proof.Proof.Gen.Proj.Frame
public import proofs.«01_k».proof.Proof.Gen.ProjIdeal.Frame
public import Idealize.ShloMosaic.Lib.Quiescent

@[expose] public section

set_option maxRecDepth 65536

noncomputable section

namespace Cert.Proof.ProjPart

open Idealize.ShloMosaic Idealize.ShloMosaic.TcCoe Idealize.SL.Sem Cert.ProjIdeal Cert.ProjIdeal.Gen Cert.ProjIdeal.Own Cert.ProjRefIdeal.Own

/-- The projection ends with its arguments as they were and every counter at zero. -/
theorem frame_kernel : Cert.quiescent_Proj := fun m ρ _ => Cert.Proj.Gen.frame m ρ

/-- The projection over extended reals ends with its arguments as they were and every counter at zero. -/
theorem frame_ideal : Cert.quiescent_ProjIdeal := fun m ρ _ => Cert.ProjIdeal.Gen.frame m ρ

/-- In particular when the weights are finite. -/
theorem frame_ideal_finite : Cert.quiescent_ProjIdeal_pre_weights_finite := fun m ρ _ => Cert.ProjIdeal.Gen.frame m ρ

/-- So does its plain program. -/
theorem frame_reference : Cert.quiescent_ProjRefIdeal := fun m ρ _ =>
  (θ_run Cert.ProjRefIdeal.defs _ _).mono (fun r h => ⟨fun c => (h c).2.2.2.2.2.2.2.2.2.2.2,
      Idealize.ShloMosaic.sem_eq_zero_of_no_sems (by decide) r.2⟩)
    (Cert.ProjRefIdeal.Value.run (F := Ideal) m ρ)

/-- In particular when the weights are finite. -/
theorem frame_reference_finite : Cert.quiescent_ProjRefIdeal_pre_weights_finite := fun m ρ _ => frame_reference m ρ trivial

/-- The two kernel programs are one text. -/
theorem preserved : Cert.preserves_Proj_ProjIdeal := trivial

variable (m : (ℓ : Loc nD τ sig) → Buf (Elt Ideal) ℓ) (c : Dev nD)

/-- The keys. -/
def vK : Vec Ideal S65536x512 .f32 := refK (Z m c) (b4 m c)
/-- The values. -/
def vV : Vec Ideal S65536x512 .f32 := refV (Z m c)
/-- The index keys and weights. -/
def vKW : Vec Ideal S65536x128 .f32 := refKW (Z m c)
/-- The attention's gate. -/
def vGA : Vec Ideal S65536x512 .f32 := refGA (Z m c)
/-- The recurrence's input. -/
def vU : Vec Ideal S65536x512 .f32 := refU (Z m c)
/-- The recurrence's gate. -/
def vGS : Vec Ideal S65536x512 .f32 := refGS (Z m c)
/-- The scaled queries, rounded. -/
def rQ : Vec Ideal S65536x512 .bf16 := truncf .bf16 (refQ (Z m c) (b3 m c)) (by decide)
/-- The keys, rounded. -/
def rK : Vec Ideal S65536x512 .bf16 := truncf .bf16 (refK (Z m c) (b4 m c)) (by decide)
/-- The values, rounded. -/
def rV : Vec Ideal S65536x512 .bf16 := truncf .bf16 (refV (Z m c)) (by decide)
/-- The scaled index queries, rounded. -/
def rQI : Vec Ideal S65536x256 .bf16 := truncf .bf16 (refQI (Z m c)) (by decide)
/-- The index keys and weights, rounded. -/
def rKW : Vec Ideal S65536x128 .bf16 := truncf .bf16 (refKW (Z m c)) (by decide)

/-- The weights of the norm and the matrix are finite. -/
def Good : Prop := (∀ k : Fin 1024, Fin' (b1 m c (ix1 k))) ∧ ∀ (k : Fin 1024) (e : Fin 3396), Fin' (b2 m c (ix2 k e))

/-- Result array 1 of the call. -/
theorem arr6 (h : Good m c) : (dats m 0 c).arrAt 6 cfg0.N = vK m c := (fin6 m c).trans (resK_eq m c h.1 h.2)
/-- Result array 2 of the call. -/
theorem arr7 : (dats m 0 c).arrAt 7 cfg0.N = vV m c := (fin7 m c).trans (resV_eq m c)
/-- Result array 3 of the call. -/
theorem arr8 : (dats m 0 c).arrAt 8 cfg0.N = vKW m c := (fin8 m c).trans (resKW_eq m c)
/-- Result array 4 of the call. -/
theorem arr9 : (dats m 0 c).arrAt 9 cfg0.N = vGA m c := (fin9 m c).trans (resGA_eq m c)
/-- Result array 5 of the call. -/
theorem arr10 : (dats m 0 c).arrAt 10 cfg0.N = vU m c := (fin10 m c).trans (resU_eq m c)
/-- Result array 6 of the call. -/
theorem arr11 : (dats m 0 c).arrAt 11 cfg0.N = vGS m c := (fin11 m c).trans (resGS_eq m c)
/-- Result array 7 of the call. -/
theorem arr12 (h : Good m c) : (dats m 0 c).arrAt 12 cfg0.N = rQ m c := (fin12 m c).trans (resQ_eq m c h.1 h.2)
/-- Result array 8 of the call. -/
theorem arr13 (h : Good m c) : (dats m 0 c).arrAt 13 cfg0.N = rK m c := (fin13 m c).trans (resK_eq m c h.1 h.2)
/-- Result array 9 of the call. -/
theorem arr14 : (dats m 0 c).arrAt 14 cfg0.N = rV m c := (fin14 m c).trans (resV_eq m c)
/-- Result array 10 of the call. -/
theorem arr15 : (dats m 0 c).arrAt 15 cfg0.N = rQI m c := (fin15 m c).trans (resQI_eq m c)
/-- Result array 11 of the call. -/
theorem arr16 : (dats m 0 c).arrAt 16 cfg0.N = rKW m c := (fin16 m c).trans (resKW_eq m c)

/-- When the weights are finite, the projection's eleven results are its plain program's. -/
theorem equal : Cert.algebraic_ProjIdeal_ProjRefIdeal_pre_weights_finite := by
  intro m ρ m' ρ' hpre hagree
  have hfin : ∀ c : Dev nD, Good m c := fun c => Cert.Pre_weights_finite.Own.finite _ _ _ _ _ (hpre c)
  refine ⟨fun c => vK m c, fun c => vV m c, fun c => vKW m c, fun c => vGA m c, fun c => vU m c, fun c => vGS m c,
    fun c => rQ m c, fun c => rK m c, fun c => rV m c, fun c => rQI m c, fun c => rKW m c, ?_, ?_⟩
  · refine (θ_run Cert.ProjIdeal.defs _ _).mono (fun _ h c => ?_) (Cert.ProjIdeal.Value.run_blocks (F := Ideal) m ρ)
    obtain ⟨h6, h7, h8, h9, h10, h11, h12, h13, h14, h15, h16, hk⟩ := h c
    have hf := hfin c
    exact ⟨h6.trans (arr6 m c hf), h7.trans (arr7 m c), h8.trans (arr8 m c), h9.trans (arr9 m c), h10.trans (arr10 m c), h11.trans (arr11 m c),
      h12.trans (arr12 m c hf), h13.trans (arr13 m c hf), h14.trans (arr14 m c), h15.trans (arr15 m c), h16.trans (arr16 m c), hk⟩
  · refine (θ_run Cert.ProjRefIdeal.defs _ _).mono (fun _ h c => ?_) (Cert.ProjRefIdeal.Value.run (F := Ideal) m' ρ')
    obtain ⟨e0, e1, e2, e3, e4⟩ := hagree c
    obtain ⟨h0, h1, h2, h3, h4, h5, h6, h7, h8, h9, h10, hk⟩ := h c
    have hZ : refZ (m' ((c.tc : Thread Cert.ProjRefIdeal.nD Cert.ProjRefIdeal.τ).loc Cert.ProjRefIdeal.main_arg0))
        (m' ((c.tc : Thread Cert.ProjRefIdeal.nD Cert.ProjRefIdeal.τ).loc Cert.ProjRefIdeal.main_arg1))
        (m' ((c.tc : Thread Cert.ProjRefIdeal.nD Cert.ProjRefIdeal.τ).loc Cert.ProjRefIdeal.main_arg2)) = Z m c := by
      rw [e0, e1, e2]
      rfl
    exact ⟨h0.trans (congrArg₂ refK hZ e4), h1.trans (congrArg refV hZ), h2.trans (congrArg refKW hZ), h3.trans (congrArg refGA hZ),
      h4.trans (congrArg refU hZ), h5.trans (congrArg refGS hZ), h6.trans (congrArg₂ (fun z q => truncf .bf16 (refQ z q) (by decide)) hZ e3),
      h7.trans (congrArg₂ (fun z q => truncf .bf16 (refK z q) (by decide)) hZ e4), h8.trans (congrArg (fun z => truncf .bf16 (refV z) (by decide)) hZ),
      h9.trans (congrArg (fun z => truncf .bf16 (refQI z) (by decide)) hZ), h10.trans (congrArg (fun z => truncf .bf16 (refKW z) (by decide)) hZ), hk⟩

end Cert.Proof.ProjPart
-- ==== Proof.MergeSArr.lean ====
/- What the merging call leaves in its result array: every row's input plus the two gated products. -/
module

public import proofs.«01_k».proof.Proof.MergeArr
public import Idealize.ShloMosaic.Lib.Pointwise
public import Idealize.ShloMosaic.Lib.Pipeline.ValueKit
public import proofs.«01_k».proof.Proof.Gen.MergeSIdeal.Value

@[expose] public section

set_option maxRecDepth 65536

noncomputable section

namespace Cert.MergeSIdeal.Own

open Idealize.ShloMosaic Idealize.ShloMosaic.TcCoe Cert.MergeSIdeal Cert.MergeSIdeal.Gen Cert.MergeSIdeal.Value

/-- Row `n`, feature `e` of the sample's merge, of flat rows and the two halves of the output matrix. -/
def mrg (x : Vec Ideal S1024x1024 .f32) (a s g h : Vec Ideal S1024x512 .f32) (wa ws : Vec Ideal S512x1024 .bf16)
    (n : Fin 1024) (e : Fin 1024) : EReal :=
  x (ix2 n e) + (∑ k : Fin 512, (a (ix2 n k) * Cert.MergeIdeal.Own.silu (g (ix2 n k))) * wa (ix2 k e))
    + (∑ k : Fin 512, (s (ix2 n k) * Cert.MergeIdeal.Own.silu (h (ix2 n k))) * ws (ix2 k e))

/-- The body's payload at an index. -/
theorem pay1_ix (v0 v2 v8 v10 : Vec Ideal S256x512 .f32) (v16 : Vec Ideal S256x1024 .f32) (v18 v22 : Vec Ideal S512x1024 .bf16)
    (r : Fin 256) (e : Fin 1024) :
    k0_pay1 (F := Ideal) v0 v2 v8 v10 v16 v18 v22 (ix2 r e)
      = v16 (ix2 r e) + (∑ k : Fin 512, (v0 (ix2 r k) * Cert.MergeIdeal.Own.silu (v2 (ix2 r k))) * v18 (ix2 k e))
        + (∑ k : Fin 512, (v8 (ix2 r k) * Cert.MergeIdeal.Own.silu (v10 (ix2 r k))) * v22 (ix2 k e)) := by
  unfold Cert.MergeIdeal.Own.silu
  pointwise [k0_pay1]

variable (m : (ℓ : Loc nD τ sig) → Buf (Elt Ideal) ℓ) (c : Dev nD)

/-- Which block of each window a grid point has. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ t.val < 4 := (by decide +kernel : ∀ t : Fin grid0.N, _)

/-- The result array after the run. -/
def res7 : Vec Ideal S1024x1024 .f32 := fun i =>
  mrg (V m c main_v4) (V m c main_v5) (V m c main_v6) (V m c main_v7) (V m c main_v8) (V m c main_v1) (V m c main_v3) (i 0) (i 1)

/-- The run leaves it. -/
theorem fin7 : (dats m 0 c).arrAt 7 cfg0.N = res7 m c := by
  refine (dats m 0 c).arrAt_eq_of_covers 7 _ (by decide +kernel) fun t hf y => ?_
  blk_simp
  rw [after0_7]
  frame_out
  obtain ⟨r, e, rfl⟩ : ∃ (r : Fin 256) (e : Fin 1024), y = ix2 r e := ⟨y 0, y 1, eq_ix2 y⟩
  refine (pay1_ix _ _ _ _ _ _ _ r e).trans ?_
  unfold res7 mrg Cert.MergeIdeal.Own.silu
  blk_point [iblk, idx t]

end Cert.MergeSIdeal.Own
-- ==== Proof.MergeSRef.lean ====
/- What the sample's merge's plain program returns, entry by entry. -/
module

public import proofs.«01_k».proof.Proof.MergeSArr
public import proofs.«01_k».proof.Proof.Gen.MergeSRefIdeal.Run

@[expose] public section

set_option maxRecDepth 65536

noncomputable section

namespace Cert.MergeSRefIdeal.Own

open Idealize.ShloMosaic Idealize.ShloMosaic.TcCoe Cert.MergeSRefIdeal Cert.MergeSRefIdeal.Gen

/-- The gated rows of one of the two branches. -/
def gated (a g : FVec Ideal S128x8x512 .f32) : FVec Ideal S128x8x512 .f32 :=
  mulf a (mulf g (Host.divf (broadcastInDim S128x8x512 ![] bcast_S_S128x8x512 (constant S_ .f32 0x3F800000#32)) (addf (broadcastInDim S128x8x512 ![] bcast_S_S128x8x512 (constant S_ .f32 0x3F800000#32)) (Host.exp (Host.negf g)))))

/-- The two branches side by side. -/
def both (a s g h : FVec Ideal S128x8x512 .f32) : FVec Ideal S128x8x1024 .f32 :=
  concatenate S128x8x1024 2 [⟨S128x8x512, gated a g⟩, ⟨S128x8x512, gated s h⟩] concatenates_S128x8x512_S128x8x512_S128x8x1024_d2

/-- The rows the plain program returns. -/
def refM (x : FVec Ideal S128x8x1024 .f32) (a s g h : FVec Ideal S128x8x512 .f32) (w : FVec Ideal S1024x1024 .f32) : FVec Ideal S1024x1024 .f32 :=
  shapeCast _ (addf x (Host.dotGeneral (F := Ideal) dot_S128x8x1024_S1024x1024_S128x8x1024_2_0_01_1_n_n none (both a s g h) w)) shapeCasts_S128x8x1024_S1024x1024

/-- A gated entry. -/
theorem gated_ix (a g : FVec Ideal S128x8x512 .f32) (b : Fin 128) (l : Fin 8) (k : Fin 512) :
    gated a g (ix3 b l k) = a (ix3 b l k) * Cert.MergeIdeal.Own.silu (g (ix3 b l k)) := by
  unfold Cert.MergeIdeal.Own.silu Ideal.logistic
  pointwise [gated]

/-- An entry of the first half. -/
theorem both_lo (a s g h : FVec Ideal S128x8x512 .f32) (b : Fin 128) (l : Fin 8) (k : Fin 512) :
    both a s g h (ix3 b l ⟨k.val, by omega⟩) = gated a g (ix3 b l k) := by
  pointwise [both]

/-- An entry of the second half. -/
theorem both_hi (a s g h : FVec Ideal S128x8x512 .f32) (b : Fin 128) (l : Fin 8) (k : Fin 512) :
    both a s g h (ix3 b l ⟨512 + k.val, by omega⟩) = gated s h (ix3 b l k) := by
  pointwise [both]

/-- An entry of the returned rows. -/
theorem refM_ix (x : FVec Ideal S128x8x1024 .f32) (a s g h : FVec Ideal S128x8x512 .f32) (w : FVec Ideal S1024x1024 .f32) (n : Fin 1024) (e : Fin 1024) :
    refM x a s g h w (ix2 n e) = x (ix3 ⟨n.val / 8, by omega⟩ ⟨n.val % 8, by omega⟩ e)
      + ∑ k : Fin 1024, both a s g h (ix3 ⟨n.val / 8, by omega⟩ ⟨n.val % 8, by omega⟩ k) * w (ix2 k e) := by
  pointwise [refM]

end Cert.MergeSRefIdeal.Own
-- ==== Proof.MergeSClaim.lean ====
/- The claims of the sample's merge: the three frames, the step from words to extended reals, and the equation. -/
module

public import proofs.«01_k».proof.Defs
public import proofs.«01_k».proof.Proof.MergeSRef
public import proofs.«01_k».proof.Proof.Gen.MergeS.Frame
public import proofs.«01_k».proof.Proof.Gen.MergeSIdeal.Frame
public import Idealize.ShloMosaic.Lib.Quiescent

@[expose] public section

set_option maxRecDepth 65536

noncomputable section

namespace Cert.Proof.MergeSPart

open Idealize.ShloMosaic Idealize.ShloMosaic.TcCoe Idealize.SL.Sem Cert.MergeSIdeal Cert.MergeSIdeal.Gen

/-- The sample's merge ends with its arguments as they were and every counter at zero. -/
theorem frame_kernel : Cert.quiescent_MergeS := fun m ρ _ => Cert.MergeS.Gen.frame m ρ

/-- The sample's merge over extended reals ends with its arguments as they were and every counter at zero. -/
theorem frame_ideal : Cert.quiescent_MergeSIdeal := fun m ρ _ => Cert.MergeSIdeal.Gen.frame m ρ

/-- So does its plain program. -/
theorem frame_reference : Cert.quiescent_MergeSRefIdeal := fun m ρ _ =>
  (θ_run Cert.MergeSRefIdeal.defs _ _).mono (fun r h => ⟨fun c => (h c).2,
      Idealize.ShloMosaic.sem_eq_zero_of_no_sems (by decide) r.2⟩)
    (Cert.MergeSRefIdeal.Value.run (F := Ideal) m ρ)

/-- The two kernel programs are one text. -/
theorem preserved : Cert.preserves_MergeS_MergeSIdeal := trivial

variable (m : (ℓ : Loc nD τ sig) → Buf (Elt Ideal) ℓ) (c : Dev nD)

/-- The result of the plain program of the kernel's arguments. -/
def plain : Vec Ideal S1024x1024 .f32 :=
  Cert.MergeSRefIdeal.Own.refM (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The flat rows of the layer's input. -/
theorem row0 (n : Fin 1024) (e : Fin 1024) : (V m c main_v4 : Vec Ideal S1024x1024 .f32) (ix2 n e)
    = (m ((c.tc : Thread nD τ).loc main_arg0) : Vec Ideal S128x8x1024 .f32) (ix3 ⟨n.val / 8, by omega⟩ ⟨n.val % 8, by omega⟩ e) := by
  entry_read
  pointwise
/-- The flat rows of the attention's output. -/
theorem row1 (n : Fin 1024) (k : Fin 512) : (V m c main_v5 : Vec Ideal S1024x512 .f32) (ix2 n k)
    = (m ((c.tc : Thread nD τ).loc main_arg1) : Vec Ideal S128x8x512 .f32) (ix3 ⟨n.val / 8, by omega⟩ ⟨n.val % 8, by omega⟩ k) := by
  entry_read
  pointwise
/-- The flat rows of the recurrence's output. -/
theorem row2 (n : Fin 1024) (k : Fin 512) : (V m c main_v6 : Vec Ideal S1024x512 .f32) (ix2 n k)
    = (m ((c.tc : Thread nD τ).loc main_arg2) : Vec Ideal S128x8x512 .f32) (ix3 ⟨n.val / 8, by omega⟩ ⟨n.val % 8, by omega⟩ k) := by
  entry_read
  pointwise
/-- The flat rows of the attention's gate. -/
theorem row3 (n : Fin 1024) (k : Fin 512) : (V m c main_v7 : Vec Ideal S1024x512 .f32) (ix2 n k)
    = (m ((c.tc : Thread nD τ).loc main_arg3) : Vec Ideal S128x8x512 .f32) (ix3 ⟨n.val / 8, by omega⟩ ⟨n.val % 8, by omega⟩ k) := by
  entry_read
  pointwise
/-- The flat rows of the recurrence's gate. -/
theorem row4 (n : Fin 1024) (k : Fin 512) : (V m c main_v8 : Vec Ideal S1024x512 .f32) (ix2 n k)
    = (m ((c.tc : Thread nD τ).loc main_arg4) : Vec Ideal S128x8x512 .f32) (ix3 ⟨n.val / 8, by omega⟩ ⟨n.val % 8, by omega⟩ k) := by
  entry_read
  pointwise
/-- The upper half of the output matrix. -/
theorem row5 (k : Fin 512) (e : Fin 1024) : (V m c main_v1 : Vec Ideal S512x1024 .bf16) (ix2 k e)
    = (m ((c.tc : Thread nD τ).loc main_arg5) : Vec Ideal S1024x1024 .f32) (ix2 ⟨k.val, by omega⟩ e) := by
  entry_read
  pointwise
/-- The lower half of the output matrix. -/
theorem row6 (k : Fin 512) (e : Fin 1024) : (V m c main_v3 : Vec Ideal S512x1024 .bf16) (ix2 k e)
    = (m ((c.tc : Thread nD τ).loc main_arg5) : Vec Ideal S1024x1024 .f32) (ix2 ⟨512 + k.val, by omega⟩ e) := by
  entry_read
  pointwise

/-- The kernel's array is the plain program's. -/
theorem res_eq : Cert.MergeSIdeal.Own.res7 m c = plain m c := by
  refine funext fun j => ?_
  obtain ⟨n, e, rfl⟩ : ∃ (n : Fin 1024) (e : Fin 1024), j = ix2 n e := ⟨j 0, j 1, eq_ix2 j⟩
  refine Eq.trans ?_ (Cert.MergeSRefIdeal.Own.refM_ix _ _ _ _ _ _ n e).symm
  rw [Fin.sum_univ_two_halves 512 512 rfl, ← add_assoc]
  refine congrArg₂ (· + ·) (congrArg₂ (· + ·) (row0 m c n e) (Finset.sum_congr rfl fun k _ => ?_)) (Finset.sum_congr rfl fun k _ => ?_)
  · refine congrArg₂ (· * ·) (Eq.trans ?_ ((Cert.MergeSRefIdeal.Own.both_lo _ _ _ _ _ _ k).trans (Cert.MergeSRefIdeal.Own.gated_ix _ _ _ _ k)).symm) (row5 m c k e)
    exact congrArg₂ (fun u v => u * Cert.MergeIdeal.Own.silu v) (row1 m c n k) (row3 m c n k)
  · refine congrArg₂ (· * ·) (Eq.trans ?_ ((Cert.MergeSRefIdeal.Own.both_hi _ _ _ _ _ _ k).trans (Cert.MergeSRefIdeal.Own.gated_ix _ _ _ _ k)).symm) (row6 m c k e)
    exact congrArg₂ (fun u v => u * Cert.MergeIdeal.Own.silu v) (row2 m c n k) (row4 m c n k)

/-- The sample's merge's result is its plain program's. -/
theorem equal : Cert.algebraic_MergeSIdeal_MergeSRefIdeal := by
  intro m ρ m' ρ' _ hagree
  refine ⟨fun c => plain m c, ?_, ?_⟩
  · refine (θ_run Cert.MergeSIdeal.defs _ _).mono (fun _ h c => ?_) (Cert.MergeSIdeal.Value.run_blocks (F := Ideal) m ρ)
    exact ⟨(h c).1.trans ((Cert.MergeSIdeal.Own.fin7 m c).trans (res_eq m c)), (h c).2⟩
  · refine (θ_run Cert.MergeSRefIdeal.defs _ _).mono (fun _ h c => ?_) (Cert.MergeSRefIdeal.Value.run (F := Ideal) m' ρ')
    refine ⟨(h c).1.trans ?_, (h c).2⟩
    obtain ⟨h0, h1, h2, h3, h4, h5⟩ := hagree c
    rw [h0, h1, h2, h3, h4, h5]
    rfl

end Cert.Proof.MergeSPart
-- ==== Proof.ProjSPay.lean ====
/- The body of the sample call of the projection, entry by entry: every product is taken in three parts, high by high, low by high, high by low. -/
module

public import Idealize.ShloMosaic.Lib.Pointwise
public import Idealize.ShloMosaic.Lib.Pipeline.ValueKit
public import proofs.«01_k».proof.Proof.Gen.ProjSIdeal.Value
public import proofs.«01_k».proof.Proof.ProjMath

@[expose] public section

set_option maxRecDepth 65536

noncomputable section

namespace Cert.ProjSIdeal.Own

open Idealize.ShloMosaic Idealize.ShloMosaic.TcCoe Cert.ProjSIdeal Cert.ProjSIdeal.Gen Cert.ProjSIdeal.Value
open Cert.ProjIdeal.Own (hnv prj knorm Fin' hnv_fin fin_mul fin_sum prj_fin prj_zero knorm_eq)
open Cert.ProjRefIdeal.Own (hd)

/-- A product in three parts: `p` and `q` are the row's parts, `a`, `b` and `d` the column's. -/
def tri (p q a b d : Fin 1024 → EReal) : EReal := ((∑ k, p k * a k) + ∑ k, q k * b k) + ∑ k, p k * d k

/-- The normed rows, rounded. -/
theorem pay5_ix (x : Vec Ideal S256x1024 .f32) (g : Vec Ideal S1x1024 .f32) (r : Fin 256) (d : Fin 1024) :
    k0_pay5 (F := Ideal) x g (ix2 r d) = hnv (fun k => x (ix2 r k)) (fun k => g (ix2 0 k)) d := by
  unfold hnv
  pointwise [k0_pay5, k0_pay4]

/-- What the rounding left of them. -/
theorem pay6_ix (x : Vec Ideal S256x1024 .f32) (g : Vec Ideal S1x1024 .f32) (r : Fin 256) (d : Fin 1024) :
    k0_pay6 (F := Ideal) x g (ix2 r d) = hnv (fun k => x (ix2 r k)) (fun k => g (ix2 0 k)) d - hnv (fun k => x (ix2 r k)) (fun k => g (ix2 0 k)) d := by
  unfold hnv
  pointwise [k0_pay6, k0_pay5, k0_pay4]

/-- The squares' matrix is passed on. -/
theorem pay7_ix (o : Vec Ideal S512x512 .bf16) (j e : Fin 512) : k0_pay7 (F := Ideal) o (ix2 j e) = o (ix2 j e) := by
  pointwise [k0_pay7]

/-- The queries' product. -/
theorem pay8_ix (x : Vec Ideal S256x1024 .f32) (g : Vec Ideal S1x1024 .f32) (a b d : Vec Ideal S1024x512 .bf16) (r : Fin 256) (e : Fin 512) :
    k0_pay8 (F := Ideal) x g a b d (ix2 r e) = tri (fun k => k0_pay5 (F := Ideal) x g (ix2 r k)) (fun k => k0_pay6 (F := Ideal) x g (ix2 r k))
      (fun k => a (ix2 k e)) (fun k => b (ix2 k e)) (fun k => d (ix2 k e)) := by
  unfold tri
  pointwise [k0_pay8]

/-- The queries' weights are passed on. -/
theorem pay9_ix (g : Vec Ideal S1x512 .f32) (e : Fin 512) : k0_pay9 (F := Ideal) g (ix2 0 e) = g (ix2 0 e) := by
  pointwise [k0_pay9]
/-- The keys' weights are passed on. -/
theorem pay15_ix (g : Vec Ideal S1x512 .f32) (e : Fin 512) : k0_pay15 (F := Ideal) g (ix2 0 e) = g (ix2 0 e) := by
  pointwise [k0_pay15]

/-- The queries' squares, rounded. -/
theorem pay11_ix (x : Vec Ideal S256x1024 .f32) (g : Vec Ideal S1x1024 .f32) (a b d : Vec Ideal S1024x512 .bf16) (r : Fin 256) (e : Fin 512) :
    k0_pay11 (F := Ideal) x g a b d (ix2 r e) = k0_pay8 (F := Ideal) x g a b d (ix2 r e) * k0_pay8 (F := Ideal) x g a b d (ix2 r e) := by
  pointwise [k0_pay11, k0_pay10]
/-- What the rounding left of them. -/
theorem pay12_ix (x : Vec Ideal S256x1024 .f32) (g : Vec Ideal S1x1024 .f32) (a b d : Vec Ideal S1024x512 .bf16) (r : Fin 256) (e : Fin 512) :
    k0_pay12 (F := Ideal) x g a b d (ix2 r e) = k0_pay8 (F := Ideal) x g a b d (ix2 r e) * k0_pay8 (F := Ideal) x g a b d (ix2 r e)
      - k0_pay8 (F := Ideal) x g a b d (ix2 r e) * k0_pay8 (F := Ideal) x g a b d (ix2 r e) := by
  pointwise [k0_pay12, k0_pay11, k0_pay10]

/-- The scaled queries, of their product and its squares' two parts. -/
theorem pay13_ix (o : FVec Ideal S512x512 .bf16) (z : FVec Ideal S256x512 .f32) (g : FVec Ideal S1x512 .f32) (s : FVec Ideal S256x512 .bf16) (d : FVec Ideal S256x512 .f32)
    (r : Fin 256) (e : Fin 512) : k0_pay13 (F := Ideal) o z g s d (ix2 r e)
      = z (ix2 r e) * Ideal.rsqrt (((∑ j : Fin 512, s (ix2 r j) * o (ix2 j e)) + ∑ j : Fin 512, d (ix2 r j) * o (ix2 j e)) * Ideal.ofBits .f32 0x3C800000#32
        + Ideal.ofBits .f32 0x358637BD#32) * g (ix2 0 e) * Ideal.ofBits .f32 0x3E000000#32 := by
  pointwise [k0_pay13]

/-- The sums of the keys' squares. -/
theorem pay16_ix (v l : FVec Ideal S256x1024 .bf16) (o : FVec Ideal S512x512 .bf16) (a b d : Vec Ideal S1024x512 .bf16) (r : Fin 256) (e : Fin 512) :
    k0_pay16 (F := Ideal) v l o a b d (ix2 r e)
      = (∑ j : Fin 512, (k0_pay14 (F := Ideal) v l a b d (ix2 r j) * k0_pay14 (F := Ideal) v l a b d (ix2 r j)) * o (ix2 j e))
        + ∑ j : Fin 512, (k0_pay14 (F := Ideal) v l a b d (ix2 r j) * k0_pay14 (F := Ideal) v l a b d (ix2 r j)
          - k0_pay14 (F := Ideal) v l a b d (ix2 r j) * k0_pay14 (F := Ideal) v l a b d (ix2 r j)) * o (ix2 j e) := by
  pointwise [k0_pay16]

/-- The inverse of the head length, everywhere. -/
theorem pay17_ix (r : Fin 256) (e : Fin 512) : k0_pay17 (F := Ideal) (ix2 r e) = Ideal.ofBits .f32 0x3C800000#32 := by
  pointwise [k0_pay17]

/-- The normed keys, of their product and its squares' sums. -/
theorem pay18_ix (z : FVec Ideal S256x512 .f32) (g : FVec Ideal S1x512 .f32) (s t : FVec Ideal S256x512 .f32) (r : Fin 256) (e : Fin 512) :
    k0_pay18 (F := Ideal) z g s t (ix2 r e) = z (ix2 r e) * Ideal.rsqrt (s (ix2 r e) * t (ix2 r e) + Ideal.ofBits .f32 0x358637BD#32) * g (ix2 0 e) := by
  pointwise [k0_pay18]
/-- The same, in the half-width result. -/
theorem pay19_ix (z : FVec Ideal S256x512 .f32) (g : FVec Ideal S1x512 .f32) (s t : FVec Ideal S256x512 .f32) (r : Fin 256) (e : Fin 512) :
    k0_pay19 (F := Ideal) z g s t (ix2 r e) = z (ix2 r e) * Ideal.rsqrt (s (ix2 r e) * t (ix2 r e) + Ideal.ofBits .f32 0x358637BD#32) * g (ix2 0 e) := by
  pointwise [k0_pay19, k0_pay18]

/-- The recurrence's input. -/
theorem pay2_ix (v l : FVec Ideal S256x1024 .bf16) (a b d : Vec Ideal S1024x512 .bf16) (r : Fin 256) (e : Fin 512) :
    k0_pay2 (F := Ideal) v l a b d (ix2 r e) = tri (fun k => v (ix2 r k)) (fun k => l (ix2 r k)) (fun k => a (ix2 k e)) (fun k => b (ix2 k e)) (fun k => d (ix2 k e)) := by
  unfold tri
  pointwise [k0_pay2]

/-- The recurrence's gate. -/
theorem pay3_ix (v l : FVec Ideal S256x1024 .bf16) (a b d : Vec Ideal S1024x512 .bf16) (r : Fin 256) (e : Fin 512) :
    k0_pay3 (F := Ideal) v l a b d (ix2 r e) = tri (fun k => v (ix2 r k)) (fun k => l (ix2 r k)) (fun k => a (ix2 k e)) (fun k => b (ix2 k e)) (fun k => d (ix2 k e)) := by
  unfold tri
  pointwise [k0_pay3]

/-- The keys' product. -/
theorem pay14_ix (v l : FVec Ideal S256x1024 .bf16) (a b d : Vec Ideal S1024x512 .bf16) (r : Fin 256) (e : Fin 512) :
    k0_pay14 (F := Ideal) v l a b d (ix2 r e) = tri (fun k => v (ix2 r k)) (fun k => l (ix2 r k)) (fun k => a (ix2 k e)) (fun k => b (ix2 k e)) (fun k => d (ix2 k e)) := by
  unfold tri
  pointwise [k0_pay14]

/-- The values. -/
theorem pay20_ix (v l : FVec Ideal S256x1024 .bf16) (a b d : Vec Ideal S1024x512 .bf16) (r : Fin 256) (e : Fin 512) :
    k0_pay20 (F := Ideal) v l a b d (ix2 r e) = tri (fun k => v (ix2 r k)) (fun k => l (ix2 r k)) (fun k => a (ix2 k e)) (fun k => b (ix2 k e)) (fun k => d (ix2 k e)) := by
  unfold tri
  pointwise [k0_pay20]

/-- The values in the half-width result. -/
theorem pay21_ix (v l : FVec Ideal S256x1024 .bf16) (a b d : Vec Ideal S1024x512 .bf16) (r : Fin 256) (e : Fin 512) :
    k0_pay21 (F := Ideal) v l a b d (ix2 r e) = tri (fun k => v (ix2 r k)) (fun k => l (ix2 r k)) (fun k => a (ix2 k e)) (fun k => b (ix2 k e)) (fun k => d (ix2 k e)) := by
  unfold tri
  pointwise [k0_pay21, k0_pay20]

/-- The index queries, scaled. -/
theorem pay24_ix (v l : FVec Ideal S256x1024 .bf16) (a b d : Vec Ideal S1024x256 .bf16) (r : Fin 256) (e : Fin 256) :
    k0_pay24 (F := Ideal) v l a b d (ix2 r e) = tri (fun k => v (ix2 r k)) (fun k => l (ix2 r k)) (fun k => a (ix2 k e)) (fun k => b (ix2 k e)) (fun k => d (ix2 k e)) * Ideal.ofBits .f32 0x3E000000#32 := by
  unfold tri
  pointwise [k0_pay24]

/-- The index keys and weights. -/
theorem pay25_ix (v l : FVec Ideal S256x1024 .bf16) (a b d : Vec Ideal S1024x128 .bf16) (r : Fin 256) (e : Fin 128) :
    k0_pay25 (F := Ideal) v l a b d (ix2 r e) = tri (fun k => v (ix2 r k)) (fun k => l (ix2 r k)) (fun k => a (ix2 k e)) (fun k => b (ix2 k e)) (fun k => d (ix2 k e)) := by
  unfold tri
  pointwise [k0_pay25]

/-- The attention's gate. -/
theorem pay23_ix (v l : FVec Ideal S256x1024 .bf16) (a b d : Vec Ideal S1024x512 .bf16) (r : Fin 256) (e : Fin 512) :
    k0_pay23 (F := Ideal) v (k0_pay22 (F := Ideal) v l a b) d (ix2 r e) = tri (fun k => v (ix2 r k)) (fun k => l (ix2 r k)) (fun k => a (ix2 k e)) (fun k => b (ix2 k e)) (fun k => d (ix2 k e)) := by
  unfold tri
  pointwise [k0_pay23, k0_pay22]

/-- The half-width index keys and weights are the full ones. -/
theorem pay1_ix (v : FVec Ideal S256x128 .f32) (r : Fin 256) (e : Fin 128) : k0_pay1 (F := Ideal) v (ix2 r e) = v (ix2 r e) := by
  pointwise [k0_pay1]

end Cert.ProjSIdeal.Own
-- ==== Proof.ProjSArr.lean ====
/- What the sample call of the projection leaves in its eleven result arrays, of the arrays it was launched over. -/
module

public import proofs.«01_k».proof.Proof.ProjSPay

@[expose] public section

set_option maxRecDepth 65536

noncomputable section

namespace Cert.ProjSIdeal.Own

open Idealize.ShloMosaic Idealize.ShloMosaic.TcCoe Cert.ProjSIdeal Cert.ProjSIdeal.Gen Cert.ProjSIdeal.Value
open Cert.ProjIdeal.Own (hnv prj knorm Fin' hnv_fin fin_mul fin_sum prj_fin prj_zero knorm_eq)
open Cert.ProjRefIdeal.Own (hd)

variable (m : (ℓ : Loc nD τ sig) → Buf (Elt Ideal) ℓ) (c : Dev nD)

/-- Which block of each window a grid point has. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ t.val < 4 := (by decide +kernel : ∀ t : Fin grid0.N, _)

/-- The launched rows. -/
def lx (n : Fin 1024) (k : Fin 1024) : EReal := (V m c main_v26 : Vec Ideal S1024x1024 .f32) (ix2 n k)
/-- The norm's weights. -/
def ln (k : Fin 1024) : EReal := (V m c main_v17 : Vec Ideal S1x1024 .f32) (ix2 0 k)
/-- The packed matrix. -/
def lw (k : Fin 1024) (e : Fin 3456) : EReal := (V m c main_v4 : Vec Ideal S1024x3456 .bf16) (ix2 k e)
/-- What rounding left of the packed matrix. -/
def ll (k : Fin 1024) (e : Fin 3456) : EReal := (V m c main_v7 : Vec Ideal S1024x3456 .bf16) (ix2 k e)
/-- The matrix that sums a head's squares. -/
def lo (j e : Fin 512) : EReal := (V m c main_v16 : Vec Ideal S512x512 .bf16) (ix2 j e)
/-- The queries' weights. -/
def lq (j : Fin 512) : EReal := (V m c main_v21 : Vec Ideal S1x512 .f32) (ix2 0 j)
/-- The keys' weights. -/
def lk (j : Fin 512) : EReal := (V m c main_v25 : Vec Ideal S1x512 .f32) (ix2 0 j)

/-- Entry `e` of row `n` of the packed projection, taken in three parts. -/
def lz (n : Fin 1024) (e : Fin 3456) : EReal :=
  tri (hnv (lx m c n) (ln m c)) (fun k => hnv (lx m c n) (ln m c) k - hnv (lx m c n) (ln m c) k) (fun k => lw m c k e) (fun k => lw m c k e) (fun k => ll m c k e)

/-- The keys. -/
def resK (n : Fin 1024) (e : Fin 512) : EReal := knorm (fun j => lz m c n ⟨512 + j.val, by omega⟩) (lo m c) (lk m c) e
/-- The queries, scaled. -/
def resQ (n : Fin 1024) (e : Fin 512) : EReal :=
  knorm (fun j => lz m c n ⟨0 + j.val, by omega⟩) (lo m c) (lq m c) e * Ideal.ofBits .f32 0x3E000000#32

/-- The values. -/
def resV (n : Fin 1024) (e : Fin 512) : EReal := lz m c n ⟨1024 + e.val, by omega⟩
/-- The index keys and weights. -/
def resKW (n : Fin 1024) (e : Fin 128) : EReal := lz m c n ⟨2304 + e.val, by omega⟩
/-- The attention's gate. -/
def resGA (n : Fin 1024) (e : Fin 512) : EReal := lz m c n ⟨1536 + e.val, by omega⟩
/-- The recurrence's input. -/
def resU (n : Fin 1024) (e : Fin 512) : EReal := lz m c n ⟨2432 + e.val, by omega⟩
/-- The recurrence's gate. -/
def resGS (n : Fin 1024) (e : Fin 512) : EReal := lz m c n ⟨2944 + e.val, by omega⟩
/-- The index queries, scaled. -/
def resQI (n : Fin 1024) (e : Fin 256) : EReal := lz m c n ⟨2048 + e.val, by omega⟩ * Ideal.ofBits .f32 0x3E000000#32

/-- The row of the arrays that row `r` of point `t`'s blocks is. -/
def at' (t : Fin cfg0.N) (r : Fin 256) : Fin 1024 := ⟨256 * t.val + r.val, by have := (idx t).2.2.2.2.2.2.2.2.2.2.2.2.2.2.2.2.2.2; omega⟩

/-- Where the seven input windows' blocks lie. -/
theorem in_idx (t : Fin cfg0.N) : win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] := by
  obtain ⟨h0, h1, h2, h3, h4, h5, h6, _⟩ := idx t
  exact ⟨h0, h1, h2, h3, h4, h5, h6⟩

/-- A launched row's block. -/
theorem row_at (t : Fin cfg0.N) (r : Fin 256) (k : Fin 1024) :
    (iblk m c 0 t : Vec Ideal S256x1024 .f32) (ix2 r k) = lx m c (at' t r) k := by
  have hi := (in_idx t).1
  unfold iblk lx
  rw [View.read_apply]
  refine congrArg (V m c main_v26) (funext fun a => Fin.ext ?_)
  fin_cases a
  · show win0_0.index t 0 * 256 + 1 * r.val = 256 * t.val + r.val; rw [hi]; show t.val * 256 + 1 * r.val = _; omega
  · show win0_0.index t 1 * 1024 + 1 * k.val = k.val; rw [hi]; show 0 * 1024 + 1 * k.val = _; omega
/-- Window 1's block is its whole array, at every point. -/
theorem whole1 (t : Fin cfg0.N) : (iblk m c 1 t : Vec Ideal S1x1024 .f32) = V m c main_v17 := by
  have hi := (in_idx t).2.1
  unfold iblk
  funext j
  rw [View.read_apply]
  refine congrArg (V m c main_v17) (funext fun a => Fin.ext ?_)
  fin_cases a
  · show win0_1.index t 0 * 1 + 1 * (j 0).val = (j 0).val; rw [hi]; show 0 * 1 + 1 * (j 0).val = _; omega
  · show win0_1.index t 1 * 1024 + 1 * (j 1).val = (j 1).val; rw [hi]; show 0 * 1024 + 1 * (j 1).val = _; omega
/-- Window 2's block is its whole array, at every point. -/
theorem whole2 (t : Fin cfg0.N) : (iblk m c 2 t : Vec Ideal S1024x3456 .bf16) = V m c main_v4 := by
  have hi := (in_idx t).2.2.1
  unfold iblk
  funext j
  rw [View.read_apply]
  refine congrArg (V m c main_v4) (funext fun a => Fin.ext ?_)
  fin_cases a
  · show win0_2.index t 0 * 1024 + 1 * (j 0).val = (j 0).val; rw [hi]; show 0 * 1024 + 1 * (j 0).val = _; omega
  · show win0_2.index t 1 * 3456 + 1 * (j 1).val = (j 1).val; rw [hi]; show 0 * 3456 + 1 * (j 1).val = _; omega
/-- Window 3's block is its whole array, at every point. -/
theorem whole3 (t : Fin cfg0.N) : (iblk m c 3 t : Vec Ideal S1024x3456 .bf16) = V m c main_v7 := by
  have hi := (in_idx t).2.2.2.1
  unfold iblk
  funext j
  rw [View.read_apply]
  refine congrArg (V m c main_v7) (funext fun a => Fin.ext ?_)
  fin_cases a
  · show win0_3.index t 0 * 1024 + 1 * (j 0).val = (j 0).val; rw [hi]; show 0 * 1024 + 1 * (j 0).val = _; omega
  · show win0_3.index t 1 * 3456 + 1 * (j 1).val = (j 1).val; rw [hi]; show 0 * 3456 + 1 * (j 1).val = _; omega
/-- Window 4's block is its whole array, at every point. -/
theorem whole4 (t : Fin cfg0.N) : (iblk m c 4 t : Vec Ideal S512x512 .bf16) = V m c main_v16 := by
  have hi := (in_idx t).2.2.2.2.1
  unfold iblk
  funext j
  rw [View.read_apply]
  refine congrArg (V m c main_v16) (funext fun a => Fin.ext ?_)
  fin_cases a
  · show win0_4.index t 0 * 512 + 1 * (j 0).val = (j 0).val; rw [hi]; show 0 * 512 + 1 * (j 0).val = _; omega
  · show win0_4.index t 1 * 512 + 1 * (j 1).val = (j 1).val; rw [hi]; show 0 * 512 + 1 * (j 1).val = _; omega
/-- Window 5's block is its whole array, at every point. -/
theorem whole5 (t : Fin cfg0.N) : (iblk m c 5 t : Vec Ideal S1x512 .f32) = V m c main_v21 := by
  have hi := (in_idx t).2.2.2.2.2.1
  unfold iblk
  funext j
  rw [View.read_apply]
  refine congrArg (V m c main_v21) (funext fun a => Fin.ext ?_)
  fin_cases a
  · show win0_5.index t 0 * 1 + 1 * (j 0).val = (j 0).val; rw [hi]; show 0 * 1 + 1 * (j 0).val = _; omega
  · show win0_5.index t 1 * 512 + 1 * (j 1).val = (j 1).val; rw [hi]; show 0 * 512 + 1 * (j 1).val = _; omega
/-- Window 6's block is its whole array, at every point. -/
theorem whole6 (t : Fin cfg0.N) : (iblk m c 6 t : Vec Ideal S1x512 .f32) = V m c main_v25 := by
  have hi := (in_idx t).2.2.2.2.2.2
  unfold iblk
  funext j
  rw [View.read_apply]
  refine congrArg (V m c main_v25) (funext fun a => Fin.ext ?_)
  fin_cases a
  · show win0_6.index t 0 * 1 + 1 * (j 0).val = (j 0).val; rw [hi]; show 0 * 1 + 1 * (j 0).val = _; omega
  · show win0_6.index t 1 * 512 + 1 * (j 1).val = (j 1).val; rw [hi]; show 0 * 512 + 1 * (j 1).val = _; omega

/-- What the body loads of a launched row. -/
theorem blk0 (t : Fin cfg0.N) (r : Fin 256) (k : Fin 1024) : View.ld (iblk m c 0 t) r0_0 (ix2 r k) = lx m c (at' t r) k := by
  refine Eq.trans (congrArg (iblk m c 0 t) (funext fun a => Fin.ext ?_)) (row_at m c t r k)
  fin_cases a
  · show 0 + 1 * r.val = r.val; omega
  · show 0 + 1 * k.val = k.val; omega
/-- What the body loads of window 1. -/
theorem blk1 (t : Fin cfg0.N) (k : Fin 1024) : View.ld (iblk m c 1 t) r0_1 (ix2 0 k) = ln m c k := by
  refine (congrArg (fun X => View.ld X r0_1 (ix2 0 k)) (whole1 m c t)).trans (congrArg (V m c main_v17) (funext fun a => Fin.ext ?_))
  fin_cases a
  · show 0 + 1 * 0 = 0; omega
  · show 0 + 1 * k.val = k.val; omega
/-- What the body loads of window 5. -/
theorem blk5 (t : Fin cfg0.N) (k : Fin 512) : View.ld (iblk m c 5 t) r0_4 (ix2 0 k) = lq m c k := by
  refine (congrArg (fun X => View.ld X r0_4 (ix2 0 k)) (whole5 m c t)).trans (congrArg (V m c main_v21) (funext fun a => Fin.ext ?_))
  fin_cases a
  · show 0 + 1 * 0 = 0; omega
  · show 0 + 1 * k.val = k.val; omega
/-- What the body loads of window 6. -/
theorem blk6 (t : Fin cfg0.N) (k : Fin 512) : View.ld (iblk m c 6 t) r0_4 (ix2 0 k) = lk m c k := by
  refine (congrArg (fun X => View.ld X r0_4 (ix2 0 k)) (whole6 m c t)).trans (congrArg (V m c main_v25) (funext fun a => Fin.ext ?_))
  fin_cases a
  · show 0 + 1 * 0 = 0; omega
  · show 0 + 1 * k.val = k.val; omega
/-- What the body loads of window 4. -/
theorem blk4 (t : Fin cfg0.N) (j e : Fin 512) : View.ld (iblk m c 4 t) r0_2 (ix2 j e) = lo m c j e := by
  refine (congrArg (fun X => View.ld X r0_2 (ix2 j e)) (whole4 m c t)).trans (congrArg (V m c main_v16) (funext fun a => Fin.ext ?_))
  fin_cases a
  · show 0 + 1 * j.val = j.val; omega
  · show 0 + 1 * e.val = e.val; omega

/-- The normed rows of a point, rounded. -/
theorem hi_at (t : Fin cfg0.N) (r : Fin 256) (k : Fin 1024) : k0_pay26 (iblk m c 0 t) (iblk m c 1 t) (iblk m c 2 t) (iblk m c 3 t) (iblk m c 4 t) (iblk m c 5 t) (iblk m c 6 t) (ix2 r k) = hnv (lx m c (at' t r)) (ln m c) k := by
  refine Eq.trans (by unfold k0_pay26; rfl) ((pay5_ix (View.ld (iblk m c 0 t) r0_0) (View.ld (iblk m c 1 t) r0_1) r k).trans ?_)
  exact congrArg₂ (fun u v => hnv u v k) (funext fun k => blk0 m c t r k) (funext fun k => blk1 m c t k)
/-- What the rounding left of them. -/
theorem lo_at (t : Fin cfg0.N) (r : Fin 256) (k : Fin 1024) :
    k0_pay27 (iblk m c 0 t) (iblk m c 1 t) (iblk m c 2 t) (iblk m c 3 t) (iblk m c 4 t) (iblk m c 5 t) (iblk m c 6 t) (ix2 r k) = hnv (lx m c (at' t r)) (ln m c) k - hnv (lx m c (at' t r)) (ln m c) k := by
  refine Eq.trans (by unfold k0_pay27; rfl) ((pay6_ix (View.ld (iblk m c 0 t) r0_0) (View.ld (iblk m c 1 t) r0_1) r k).trans ?_)
  exact congrArg₂ (fun u v => hnv u v k - hnv u v k) (funext fun k => blk0 m c t r k) (funext fun k => blk1 m c t k)
/-- The normed rows, of the blocks themselves. -/
theorem hi_at' (t : Fin cfg0.N) (r : Fin 256) (k : Fin 1024) :
    k0_pay5 (F := Ideal) (iblk m c 0 t : Vec Ideal S256x1024 .f32) (iblk m c 1 t : Vec Ideal S1x1024 .f32) (ix2 r k) = hnv (lx m c (at' t r)) (ln m c) k := by
  refine (pay5_ix _ _ r k).trans ?_
  exact congrArg₂ (fun u v => hnv u v k) (funext fun k => row_at m c t r k) (funext fun k => congrFun (whole1 m c t) (ix2 0 k))
/-- What the rounding left of them, of the blocks themselves. -/
theorem lo_at' (t : Fin cfg0.N) (r : Fin 256) (k : Fin 1024) :
    k0_pay6 (F := Ideal) (iblk m c 0 t : Vec Ideal S256x1024 .f32) (iblk m c 1 t : Vec Ideal S1x1024 .f32) (ix2 r k) = hnv (lx m c (at' t r)) (ln m c) k - hnv (lx m c (at' t r)) (ln m c) k := by
  refine (pay6_ix _ _ r k).trans ?_
  exact congrArg₂ (fun u v => hnv u v k - hnv u v k) (funext fun k => row_at m c t r k) (funext fun k => congrFun (whole1 m c t) (ix2 0 k))

/-- A product in three parts, part by part. -/
theorem tri_congr {p p' q q' a a' b b' d d' : Fin 1024 → EReal} (hp : ∀ k, p k = p' k) (hq : ∀ k, q k = q' k) (ha : ∀ k, a k = a' k) (hb : ∀ k, b k = b' k) (hd : ∀ k, d k = d' k) :
    tri p q a b d = tri p' q' a' b' d' := by
  rw [funext hp, funext hq, funext ha, funext hb, funext hd]

/-- The 512 columns from 0 of the packed matrix. -/
theorem col3 (t : Fin cfg0.N) (k : Fin 1024) (e : Fin 512) : View.ld (iblk m c 2 t) r0_3 (ix2 k e) = lw m c k ⟨0 + e.val, by omega⟩ := by
  refine (congrArg (fun X => View.ld X r0_3 (ix2 k e)) (whole2 m c t)).trans (congrArg (V m c main_v4) (funext fun a => Fin.ext ?_))
  fin_cases a
  · show 0 + 1 * k.val = k.val; omega
  · show 0 + 1 * e.val = 0 + e.val; omega
/-- The 512 columns from 0 of the packed matrix's rest. -/
theorem low3 (t : Fin cfg0.N) (k : Fin 1024) (e : Fin 512) : View.ld (iblk m c 3 t) r0_3 (ix2 k e) = ll m c k ⟨0 + e.val, by omega⟩ := by
  refine (congrArg (fun X => View.ld X r0_3 (ix2 k e)) (whole3 m c t)).trans (congrArg (V m c main_v7) (funext fun a => Fin.ext ?_))
  fin_cases a
  · show 0 + 1 * k.val = k.val; omega
  · show 0 + 1 * e.val = 0 + e.val; omega
/-- The products of a point's rows with those columns. -/
theorem sum3 (t : Fin cfg0.N) (r : Fin 256) (e : Fin 512) :
    tri (fun k => k0_pay5 (F := Ideal) (iblk m c 0 t : Vec Ideal S256x1024 .f32) (iblk m c 1 t : Vec Ideal S1x1024 .f32) (ix2 r k)) (fun k => k0_pay6 (F := Ideal) (iblk m c 0 t : Vec Ideal S256x1024 .f32) (iblk m c 1 t : Vec Ideal S1x1024 .f32) (ix2 r k))
      (fun k => View.ld (iblk m c 2 t) r0_3 (ix2 k e)) (fun k => View.ld (iblk m c 2 t) r0_3 (ix2 k e)) (fun k => View.ld (iblk m c 3 t) r0_3 (ix2 k e))
      = lz m c (at' t r) ⟨0 + e.val, by omega⟩ :=
  tri_congr (fun k => hi_at' m c t r k) (fun k => lo_at' m c t r k) (fun k => col3 m c t k e) (fun k => col3 m c t k e) (fun k => low3 m c t k e)
/-- The 512 columns from 512 of the packed matrix. -/
theorem col6 (t : Fin cfg0.N) (k : Fin 1024) (e : Fin 512) : View.ld (iblk m c 2 t) r0_6 (ix2 k e) = lw m c k ⟨512 + e.val, by omega⟩ := by
  refine (congrArg (fun X => View.ld X r0_6 (ix2 k e)) (whole2 m c t)).trans (congrArg (V m c main_v4) (funext fun a => Fin.ext ?_))
  fin_cases a
  · show 0 + 1 * k.val = k.val; omega
  · show 512 + 1 * e.val = 512 + e.val; omega
/-- The 512 columns from 512 of the packed matrix's rest. -/
theorem low6 (t : Fin cfg0.N) (k : Fin 1024) (e : Fin 512) : View.ld (iblk m c 3 t) r0_6 (ix2 k e) = ll m c k ⟨512 + e.val, by omega⟩ := by
  refine (congrArg (fun X => View.ld X r0_6 (ix2 k e)) (whole3 m c t)).trans (congrArg (V m c main_v7) (funext fun a => Fin.ext ?_))
  fin_cases a
  · show 0 + 1 * k.val = k.val; omega
  · show 512 + 1 * e.val = 512 + e.val; omega
/-- The products of a point's rows with those columns. -/
theorem sum6 (t : Fin cfg0.N) (r : Fin 256) (e : Fin 512) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_6 (ix2 k e)) (fun k => View.ld (iblk m c 2 t) r0_6 (ix2 k e)) (fun k => View.ld (iblk m c 3 t) r0_6 (ix2 k e))
      = lz m c (at' t r) ⟨512 + e.val, by omega⟩ :=
  tri_congr (fun k => hi_at m c t r k) (fun k => lo_at m c t r k) (fun k => col6 m c t k e) (fun k => col6 m c t k e) (fun k => low6 m c t k e)
/-- The 512 columns from 1024 of the packed matrix. -/
theorem col7 (t : Fin cfg0.N) (k : Fin 1024) (e : Fin 512) : View.ld (iblk m c 2 t) r0_7 (ix2 k e) = lw m c k ⟨1024 + e.val, by omega⟩ := by
  refine (congrArg (fun X => View.ld X r0_7 (ix2 k e)) (whole2 m c t)).trans (congrArg (V m c main_v4) (funext fun a => Fin.ext ?_))
  fin_cases a
  · show 0 + 1 * k.val = k.val; omega
  · show 1024 + 1 * e.val = 1024 + e.val; omega
/-- The 512 columns from 1024 of the packed matrix's rest. -/
theorem low7 (t : Fin cfg0.N) (k : Fin 1024) (e : Fin 512) : View.ld (iblk m c 3 t) r0_7 (ix2 k e) = ll m c k ⟨1024 + e.val, by omega⟩ := by
  refine (congrArg (fun X => View.ld X r0_7 (ix2 k e)) (whole3 m c t)).trans (congrArg (V m c main_v7) (funext fun a => Fin.ext ?_))
  fin_cases a
  · show 0 + 1 * k.val = k.val; omega
  · show 1024 + 1 * e.val = 1024 + e.val; omega
/-- The products of a point's rows with those columns. -/
theorem sum7 (t : Fin cfg0.N) (r : Fin 256) (e : Fin 512) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_7 (ix2 k e)) (fun k => View.ld (iblk m c 2 t) r0_7 (ix2 k e)) (fun k => View.ld (iblk m c 3 t) r0_7 (ix2 k e))
      = lz m c (at' t r) ⟨1024 + e.val, by omega⟩ :=
  tri_congr (fun k => hi_at m c t r k) (fun k => lo_at m c t r k) (fun k => col7 m c t k e) (fun k => col7 m c t k e) (fun k => low7 m c t k e)
/-- The 512 columns from 1536 of the packed matrix. -/
theorem col8 (t : Fin cfg0.N) (k : Fin 1024) (e : Fin 512) : View.ld (iblk m c 2 t) r0_8 (ix2 k e) = lw m c k ⟨1536 + e.val, by omega⟩ := by
  refine (congrArg (fun X => View.ld X r0_8 (ix2 k e)) (whole2 m c t)).trans (congrArg (V m c main_v4) (funext fun a => Fin.ext ?_))
  fin_cases a
  · show 0 + 1 * k.val = k.val; omega
  · show 1536 + 1 * e.val = 1536 + e.val; omega
/-- The 512 columns from 1536 of the packed matrix's rest. -/
theorem low8 (t : Fin cfg0.N) (k : Fin 1024) (e : Fin 512) : View.ld (iblk m c 3 t) r0_8 (ix2 k e) = ll m c k ⟨1536 + e.val, by omega⟩ := by
  refine (congrArg (fun X => View.ld X r0_8 (ix2 k e)) (whole3 m c t)).trans (congrArg (V m c main_v7) (funext fun a => Fin.ext ?_))
  fin_cases a
  · show 0 + 1 * k.val = k.val; omega
  · show 1536 + 1 * e.val = 1536 + e.val; omega
/-- The products of a point's rows with those columns. -/
theorem sum8 (t : Fin cfg0.N) (r : Fin 256) (e : Fin 512) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_8 (ix2 k e)) (fun k => View.ld (iblk m c 2 t) r0_8 (ix2 k e)) (fun k => View.ld (iblk m c 3 t) r0_8 (ix2 k e))
      = lz m c (at' t r) ⟨1536 + e.val, by omega⟩ :=
  tri_congr (fun k => hi_at m c t r k) (fun k => lo_at m c t r k) (fun k => col8 m c t k e) (fun k => col8 m c t k e) (fun k => low8 m c t k e)
/-- The 256 columns from 2048 of the packed matrix. -/
theorem col9 (t : Fin cfg0.N) (k : Fin 1024) (e : Fin 256) : View.ld (iblk m c 2 t) r0_9 (ix2 k e) = lw m c k ⟨2048 + e.val, by omega⟩ := by
  refine (congrArg (fun X => View.ld X r0_9 (ix2 k e)) (whole2 m c t)).trans (congrArg (V m c main_v4) (funext fun a => Fin.ext ?_))
  fin_cases a
  · show 0 + 1 * k.val = k.val; omega
  · show 2048 + 1 * e.val = 2048 + e.val; omega
/-- The 256 columns from 2048 of the packed matrix's rest. -/
theorem low9 (t : Fin cfg0.N) (k : Fin 1024) (e : Fin 256) : View.ld (iblk m c 3 t) r0_9 (ix2 k e) = ll m c k ⟨2048 + e.val, by omega⟩ := by
  refine (congrArg (fun X => View.ld X r0_9 (ix2 k e)) (whole3 m c t)).trans (congrArg (V m c main_v7) (funext fun a => Fin.ext ?_))
  fin_cases a
  · show 0 + 1 * k.val = k.val; omega
  · show 2048 + 1 * e.val = 2048 + e.val; omega
/-- The products of a point's rows with those columns. -/
theorem sum9 (t : Fin cfg0.N) (r : Fin 256) (e : Fin 256) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_9 (ix2 k e)) (fun k => View.ld (iblk m c 2 t) r0_9 (ix2 k e)) (fun k => View.ld (iblk m c 3 t) r0_9 (ix2 k e))
      = lz m c (at' t r) ⟨2048 + e.val, by omega⟩ :=
  tri_congr (fun k => hi_at m c t r k) (fun k => lo_at m c t r k) (fun k => col9 m c t k e) (fun k => col9 m c t k e) (fun k => low9 m c t k e)
/-- The 128 columns from 2304 of the packed matrix. -/
theorem col11 (t : Fin cfg0.N) (k : Fin 1024) (e : Fin 128) : View.ld (iblk m c 2 t) r0_11 (ix2 k e) = lw m c k ⟨2304 + e.val, by omega⟩ := by
  refine (congrArg (fun X => View.ld X r0_11 (ix2 k e)) (whole2 m c t)).trans (congrArg (V m c main_v4) (funext fun a => Fin.ext ?_))
  fin_cases a
  · show 0 + 1 * k.val = k.val; omega
  · show 2304 + 1 * e.val = 2304 + e.val; omega
/-- The 128 columns from 2304 of the packed matrix's rest. -/
theorem low11 (t : Fin cfg0.N) (k : Fin 1024) (e : Fin 128) : View.ld (iblk m c 3 t) r0_11 (ix2 k e) = ll m c k ⟨2304 + e.val, by omega⟩ := by
  refine (congrArg (fun X => View.ld X r0_11 (ix2 k e)) (whole3 m c t)).trans (congrArg (V m c main_v7) (funext fun a => Fin.ext ?_))
  fin_cases a
  · show 0 + 1 * k.val = k.val; omega
  · show 2304 + 1 * e.val = 2304 + e.val; omega
/-- The products of a point's rows with those columns. -/
theorem sum11 (t : Fin cfg0.N) (r : Fin 256) (e : Fin 128) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_11 (ix2 k e)) (fun k => View.ld (iblk m c 2 t) r0_11 (ix2 k e)) (fun k => View.ld (iblk m c 3 t) r0_11 (ix2 k e))
      = lz m c (at' t r) ⟨2304 + e.val, by omega⟩ :=
  tri_congr (fun k => hi_at m c t r k) (fun k => lo_at m c t r k) (fun k => col11 m c t k e) (fun k => col11 m c t k e) (fun k => low11 m c t k e)
/-- The 512 columns from 2432 of the packed matrix. -/
theorem col13 (t : Fin cfg0.N) (k : Fin 1024) (e : Fin 512) : View.ld (iblk m c 2 t) r0_13 (ix2 k e) = lw m c k ⟨2432 + e.val, by omega⟩ := by
  refine (congrArg (fun X => View.ld X r0_13 (ix2 k e)) (whole2 m c t)).trans (congrArg (V m c main_v4) (funext fun a => Fin.ext ?_))
  fin_cases a
  · show 0 + 1 * k.val = k.val; omega
  · show 2432 + 1 * e.val = 2432 + e.val; omega
/-- The 512 columns from 2432 of the packed matrix's rest. -/
theorem low13 (t : Fin cfg0.N) (k : Fin 1024) (e : Fin 512) : View.ld (iblk m c 3 t) r0_13 (ix2 k e) = ll m c k ⟨2432 + e.val, by omega⟩ := by
  refine (congrArg (fun X => View.ld X r0_13 (ix2 k e)) (whole3 m c t)).trans (congrArg (V m c main_v7) (funext fun a => Fin.ext ?_))
  fin_cases a
  · show 0 + 1 * k.val = k.val; omega
  · show 2432 + 1 * e.val = 2432 + e.val; omega
/-- The products of a point's rows with those columns. -/
theorem sum13 (t : Fin cfg0.N) (r : Fin 256) (e : Fin 512) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_13 (ix2 k e)) (fun k => View.ld (iblk m c 2 t) r0_13 (ix2 k e)) (fun k => View.ld (iblk m c 3 t) r0_13 (ix2 k e))
      = lz m c (at' t r) ⟨2432 + e.val, by omega⟩ :=
  tri_congr (fun k => hi_at m c t r k) (fun k => lo_at m c t r k) (fun k => col13 m c t k e) (fun k => col13 m c t k e) (fun k => low13 m c t k e)
/-- The 512 columns from 2944 of the packed matrix. -/
theorem col14 (t : Fin cfg0.N) (k : Fin 1024) (e : Fin 512) : View.ld (iblk m c 2 t) r0_14 (ix2 k e) = lw m c k ⟨2944 + e.val, by omega⟩ := by
  refine (congrArg (fun X => View.ld X r0_14 (ix2 k e)) (whole2 m c t)).trans (congrArg (V m c main_v4) (funext fun a => Fin.ext ?_))
  fin_cases a
  · show 0 + 1 * k.val = k.val; omega
  · show 2944 + 1 * e.val = 2944 + e.val; omega
/-- The 512 columns from 2944 of the packed matrix's rest. -/
theorem low14 (t : Fin cfg0.N) (k : Fin 1024) (e : Fin 512) : View.ld (iblk m c 3 t) r0_14 (ix2 k e) = ll m c k ⟨2944 + e.val, by omega⟩ := by
  refine (congrArg (fun X => View.ld X r0_14 (ix2 k e)) (whole3 m c t)).trans (congrArg (V m c main_v7) (funext fun a => Fin.ext ?_))
  fin_cases a
  · show 0 + 1 * k.val = k.val; omega
  · show 2944 + 1 * e.val = 2944 + e.val; omega
/-- The products of a point's rows with those columns. -/
theorem sum14 (t : Fin cfg0.N) (r : Fin 256) (e : Fin 512) :
    tri (fun k => k0_pay26 (iblk m c 0 t) (iblk m c 1 t) (iblk m c 2 t) (iblk m c 3 t) (iblk m c 4 t) (iblk m c 5 t) (iblk m c 6 t) (ix2 r k)) (fun k => k0_pay27 (iblk m c 0 t) (iblk m c 1 t) (iblk m c 2 t) (iblk m c 3 t) (iblk m c 4 t) (iblk m c 5 t) (iblk m c 6 t) (ix2 r k))
      (fun k => View.ld (iblk m c 2 t) r0_14 (ix2 k e)) (fun k => View.ld (iblk m c 2 t) r0_14 (ix2 k e)) (fun k => View.ld (iblk m c 3 t) r0_14 (ix2 k e))
      = lz m c (at' t r) ⟨2944 + e.val, by omega⟩ :=
  tri_congr (fun k => hi_at m c t r k) (fun k => lo_at m c t r k) (fun k => col14 m c t k e) (fun k => col14 m c t k e) (fun k => low14 m c t k e)

/-- The keys' product at a point. -/
theorem z_at (t : Fin cfg0.N) (r : Fin 256) (e : Fin 512) : k0_pay29 (iblk m c 0 t) (iblk m c 1 t) (iblk m c 2 t) (iblk m c 3 t) (iblk m c 4 t) (iblk m c 5 t) (iblk m c 6 t) (ix2 r e) = lz m c (at' t r) ⟨512 + e.val, by omega⟩ :=
  Eq.trans (by unfold k0_pay29; rfl) ((pay14_ix (k0_pay26 (iblk m c 0 t) (iblk m c 1 t) (iblk m c 2 t) (iblk m c 3 t) (iblk m c 4 t) (iblk m c 5 t) (iblk m c 6 t)) (k0_pay27 (iblk m c 0 t) (iblk m c 1 t) (iblk m c 2 t) (iblk m c 3 t) (iblk m c 4 t) (iblk m c 5 t) (iblk m c 6 t))
    (View.ld (iblk m c 2 t) r0_6) (View.ld (iblk m c 2 t) r0_6) (View.ld (iblk m c 3 t) r0_6) r e).trans (sum6 m c t r e))
/-- The keys' weights at a point. -/
theorem g_at (t : Fin cfg0.N) (e : Fin 512) : k0_pay30 (iblk m c 0 t) (iblk m c 1 t) (iblk m c 2 t) (iblk m c 3 t) (iblk m c 4 t) (iblk m c 5 t) (iblk m c 6 t) (ix2 0 e) = lk m c e :=
  Eq.trans (by unfold k0_pay30; rfl) ((pay15_ix (View.ld (iblk m c 6 t) r0_4) e).trans (blk6 m c t e))
/-- The squares' matrix at a point. -/
theorem o_at (t : Fin cfg0.N) (j e : Fin 512) : k0_pay28 (iblk m c 0 t) (iblk m c 1 t) (iblk m c 2 t) (iblk m c 3 t) (iblk m c 4 t) (iblk m c 5 t) (iblk m c 6 t) (ix2 j e) = lo m c j e :=
  Eq.trans (by unfold k0_pay28; rfl) ((pay7_ix (View.ld (iblk m c 4 t) r0_2) j e).trans (blk4 m c t j e))
/-- The sums of the keys' squares at a point. -/
theorem s_at (t : Fin cfg0.N) (r : Fin 256) (e : Fin 512) : k0_pay31 (iblk m c 0 t) (iblk m c 1 t) (iblk m c 2 t) (iblk m c 3 t) (iblk m c 4 t) (iblk m c 5 t) (iblk m c 6 t) (ix2 r e)
    = (∑ j : Fin 512, (lz m c (at' t r) ⟨512 + j.val, by omega⟩ * lz m c (at' t r) ⟨512 + j.val, by omega⟩) * lo m c j e)
      + ∑ j : Fin 512, (lz m c (at' t r) ⟨512 + j.val, by omega⟩ * lz m c (at' t r) ⟨512 + j.val, by omega⟩
        - lz m c (at' t r) ⟨512 + j.val, by omega⟩ * lz m c (at' t r) ⟨512 + j.val, by omega⟩) * lo m c j e := by
  have hz : ∀ j : Fin 512, k0_pay14 (F := Ideal) (k0_pay26 (iblk m c 0 t) (iblk m c 1 t) (iblk m c 2 t) (iblk m c 3 t) (iblk m c 4 t) (iblk m c 5 t) (iblk m c 6 t)) (k0_pay27 (iblk m c 0 t) (iblk m c 1 t) (iblk m c 2 t) (iblk m c 3 t) (iblk m c 4 t) (iblk m c 5 t) (iblk m c 6 t))
      (View.ld (iblk m c 2 t) r0_6) (View.ld (iblk m c 2 t) r0_6) (View.ld (iblk m c 3 t) r0_6) (ix2 r j) = lz m c (at' t r) ⟨512 + j.val, by omega⟩ :=
    fun j => (pay14_ix _ _ _ _ _ r j).trans (sum6 m c t r j)
  refine Eq.trans (by unfold k0_pay31; rfl) ((pay16_ix (k0_pay26 (iblk m c 0 t) (iblk m c 1 t) (iblk m c 2 t) (iblk m c 3 t) (iblk m c 4 t) (iblk m c 5 t) (iblk m c 6 t)) (k0_pay27 (iblk m c 0 t) (iblk m c 1 t) (iblk m c 2 t) (iblk m c 3 t) (iblk m c 4 t) (iblk m c 5 t) (iblk m c 6 t))
    (k0_pay28 (iblk m c 0 t) (iblk m c 1 t) (iblk m c 2 t) (iblk m c 3 t) (iblk m c 4 t) (iblk m c 5 t) (iblk m c 6 t)) (View.ld (iblk m c 2 t) r0_6) (View.ld (iblk m c 2 t) r0_6) (View.ld (iblk m c 3 t) r0_6) r e).trans ?_)
  exact congrArg₂ (· + ·) (Finset.sum_congr rfl fun j _ => by rw [hz j, o_at]) (Finset.sum_congr rfl fun j _ => by rw [hz j, o_at])
/-- The inverse of the head length at a point. -/
theorem c_at (t : Fin cfg0.N) (r : Fin 256) (e : Fin 512) : k0_pay32 (iblk m c 0 t) (iblk m c 1 t) (iblk m c 2 t) (iblk m c 3 t) (iblk m c 4 t) (iblk m c 5 t) (iblk m c 6 t) (ix2 r e) = Ideal.ofBits .f32 0x3C800000#32 :=
  Eq.trans (by unfold k0_pay32; rfl) (pay17_ix r e)

/-- The normed keys of a point. -/
theorem keys_at (t : Fin cfg0.N) (r : Fin 256) (e : Fin 512) :
    k0_pay29 (iblk m c 0 t) (iblk m c 1 t) (iblk m c 2 t) (iblk m c 3 t) (iblk m c 4 t) (iblk m c 5 t) (iblk m c 6 t) (ix2 r e) * Ideal.rsqrt (k0_pay31 (iblk m c 0 t) (iblk m c 1 t) (iblk m c 2 t) (iblk m c 3 t) (iblk m c 4 t) (iblk m c 5 t) (iblk m c 6 t) (ix2 r e)
        * k0_pay32 (iblk m c 0 t) (iblk m c 1 t) (iblk m c 2 t) (iblk m c 3 t) (iblk m c 4 t) (iblk m c 5 t) (iblk m c 6 t) (ix2 r e) + Ideal.ofBits .f32 0x358637BD#32)
      * k0_pay30 (iblk m c 0 t) (iblk m c 1 t) (iblk m c 2 t) (iblk m c 3 t) (iblk m c 4 t) (iblk m c 5 t) (iblk m c 6 t) (ix2 0 e) = resK m c (at' t r) e := by
  rw [z_at, s_at, c_at, g_at]
  rfl

/-- The queries' product of a point, of its blocks. -/
def qz (t : Fin cfg0.N) : FVec Ideal S256x512 .f32 :=
  k0_pay8 (F := Ideal) (iblk m c 0 t : Vec Ideal S256x1024 .f32) (iblk m c 1 t : Vec Ideal S1x1024 .f32) (View.ld (iblk m c 2 t) r0_3) (View.ld (iblk m c 2 t) r0_3) (View.ld (iblk m c 3 t) r0_3)
/-- An entry of it. -/
theorem qz_at (t : Fin cfg0.N) (r : Fin 256) (e : Fin 512) : qz m c t (ix2 r e) = lz m c (at' t r) ⟨0 + e.val, by omega⟩ :=
  (pay8_ix _ _ _ _ _ r e).trans (sum3 m c t r e)

/-- The normed and scaled queries of a point. -/
theorem queries_at (t : Fin cfg0.N) (r : Fin 256) (e : Fin 512) :
    k0_pay13 (F := Ideal) (k0_pay28 (iblk m c 0 t) (iblk m c 1 t) (iblk m c 2 t) (iblk m c 3 t) (iblk m c 4 t) (iblk m c 5 t) (iblk m c 6 t))
      (k0_pay8 (F := Ideal) (iblk m c 0 t : Vec Ideal S256x1024 .f32) (iblk m c 1 t : Vec Ideal S1x1024 .f32) (View.ld (iblk m c 2 t) r0_3) (View.ld (iblk m c 2 t) r0_3) (View.ld (iblk m c 3 t) r0_3))
      (k0_pay9 (F := Ideal) (iblk m c 5 t : Vec Ideal S1x512 .f32))
      (k0_pay11 (F := Ideal) (iblk m c 0 t : Vec Ideal S256x1024 .f32) (iblk m c 1 t : Vec Ideal S1x1024 .f32) (View.ld (iblk m c 2 t) r0_3) (View.ld (iblk m c 2 t) r0_3) (View.ld (iblk m c 3 t) r0_3))
      (k0_pay12 (F := Ideal) (iblk m c 0 t : Vec Ideal S256x1024 .f32) (iblk m c 1 t : Vec Ideal S1x1024 .f32) (View.ld (iblk m c 2 t) r0_3) (View.ld (iblk m c 2 t) r0_3) (View.ld (iblk m c 3 t) r0_3))
      (ix2 r e) = resQ m c (at' t r) e := by
  refine (pay13_ix _ _ _ _ _ r e).trans ?_
  have hg : k0_pay9 (F := Ideal) (iblk m c 5 t : Vec Ideal S1x512 .f32) (ix2 0 e) = lq m c e := (pay9_ix _ e).trans (congrFun (whole5 m c t) (ix2 0 e))
  have h11 : ∀ j : Fin 512, k0_pay11 (F := Ideal) (iblk m c 0 t : Vec Ideal S256x1024 .f32) (iblk m c 1 t : Vec Ideal S1x1024 .f32) (View.ld (iblk m c 2 t) r0_3) (View.ld (iblk m c 2 t) r0_3) (View.ld (iblk m c 3 t) r0_3) (ix2 r j)
      = lz m c (at' t r) ⟨0 + j.val, by omega⟩ * lz m c (at' t r) ⟨0 + j.val, by omega⟩ :=
    fun j => (pay11_ix _ _ _ _ _ r j).trans (congrArg (fun z => z * z) (qz_at m c t r j))
  have h12 : ∀ j : Fin 512, k0_pay12 (F := Ideal) (iblk m c 0 t : Vec Ideal S256x1024 .f32) (iblk m c 1 t : Vec Ideal S1x1024 .f32) (View.ld (iblk m c 2 t) r0_3) (View.ld (iblk m c 2 t) r0_3) (View.ld (iblk m c 3 t) r0_3) (ix2 r j)
      = lz m c (at' t r) ⟨0 + j.val, by omega⟩ * lz m c (at' t r) ⟨0 + j.val, by omega⟩ - lz m c (at' t r) ⟨0 + j.val, by omega⟩ * lz m c (at' t r) ⟨0 + j.val, by omega⟩ :=
    fun j => (pay12_ix _ _ _ _ _ r j).trans (congrArg (fun z => z * z - z * z) (qz_at m c t r j))
  unfold resQ knorm
  refine congrArg₂ (· * ·) (congrArg₂ (· * ·) (congrArg₂ (· * ·) (qz_at m c t r e) (congrArg Ideal.rsqrt (congrArg₂ (· + ·) (congrArg₂ (· * ·) ?_ rfl) rfl))) hg) rfl
  exact congrArg₂ (· + ·) (Finset.sum_congr rfl fun j _ => congrArg₂ (· * ·) (h11 j) (o_at m c t j e)) (Finset.sum_congr rfl fun j _ => congrArg₂ (· * ·) (h12 j) (o_at m c t j e))

end Cert.ProjSIdeal.Own
-- ==== Proof.ProjSFin.lean ====
/- The eleven result arrays of the sample run of the projection. -/
module

public import proofs.«01_k».proof.Proof.ProjSArr

@[expose] public section

set_option maxRecDepth 65536

noncomputable section

namespace Cert.ProjSIdeal.Own

open Idealize.ShloMosaic Idealize.ShloMosaic.TcCoe Cert.ProjSIdeal Cert.ProjSIdeal.Gen Cert.ProjSIdeal.Value
open Cert.ProjIdeal.Own (hnv prj knorm Fin' hnv_fin fin_mul fin_sum prj_fin prj_zero knorm_eq)
open Cert.ProjRefIdeal.Own (hd)

variable (m : (ℓ : Loc nD τ sig) → Buf (Elt Ideal) ℓ) (c : Dev nD)

/-- The index keys and weights of a point. -/
theorem kw_at (t : Fin cfg0.N) (r : Fin 256) (e : Fin 128) : k0_pay33 (iblk m c 0 t) (iblk m c 1 t) (iblk m c 2 t) (iblk m c 3 t) (iblk m c 4 t) (iblk m c 5 t) (iblk m c 6 t) (ix2 r e) = resKW m c (at' t r) e :=
  ((Eq.trans (by unfold k0_pay33; rfl) (pay25_ix (k0_pay26 (iblk m c 0 t) (iblk m c 1 t) (iblk m c 2 t) (iblk m c 3 t) (iblk m c 4 t) (iblk m c 5 t) (iblk m c 6 t)) (k0_pay27 (iblk m c 0 t) (iblk m c 1 t) (iblk m c 2 t) (iblk m c 3 t) (iblk m c 4 t) (iblk m c 5 t) (iblk m c 6 t)) (View.ld (iblk m c 2 t) r0_11) (View.ld (iblk m c 2 t) r0_11) (View.ld (iblk m c 3 t) r0_11) r e)).trans (sum11 m c t r e))

/-- The keys are in their array after the run. -/
theorem fin7 : (dats m 0 c).arrAt 7 cfg0.N = ((fun i => resK m c (i 0) (i 1)) : Vec Ideal S1024x512 .f32) := by
  refine (dats m 0 c).arrAt_eq_of_covers 7 _ (by decide +kernel) fun t hf y => ?_
  blk_simp
  rw [after0_7]
  frame_out
  obtain ⟨r, e, rfl⟩ : ∃ (r : Fin 256) (e : Fin 512), y = ix2 r e := ⟨y 0, y 1, eq_ix2 y⟩
  refine ((pay18_ix _ _ _ _ r e).trans (keys_at m c t r e)).trans ?_
  have hi : win0_7.index t = ![t.val, 0] := by obtain ⟨h0, h1, h2, h3, h4, h5, h6, h7, h8, h9, h10, h11, h12, h13, h14, h15, h16, h17, _⟩ := idx t; exact h7
  refine congrArg₂ (resK m c) (Fin.ext ?_) (Fin.ext ?_)
  · show _ = win0_7.index t 0 * 256 + 1 * r.val; rw [hi]; show 256 * t.val + r.val = t.val * 256 + 1 * r.val; omega
  · show _ = win0_7.index t 1 * 512 + 1 * e.val; rw [hi]; show e.val = 0 * 512 + 1 * e.val; omega

/-- The values are in their array after the run. -/
theorem fin8 : (dats m 0 c).arrAt 8 cfg0.N = ((fun i => resV m c (i 0) (i 1)) : Vec Ideal S1024x512 .f32) := by
  refine (dats m 0 c).arrAt_eq_of_covers 8 _ (by decide +kernel) fun t hf y => ?_
  blk_simp
  rw [after0_8]
  frame_out
  obtain ⟨r, e, rfl⟩ : ∃ (r : Fin 256) (e : Fin 512), y = ix2 r e := ⟨y 0, y 1, eq_ix2 y⟩
  refine ((pay20_ix _ _ _ _ _ r e).trans (sum7 m c t r e)).trans ?_
  have hi : win0_8.index t = ![t.val, 0] := by obtain ⟨h0, h1, h2, h3, h4, h5, h6, h7, h8, h9, h10, h11, h12, h13, h14, h15, h16, h17, _⟩ := idx t; exact h8
  refine congrArg₂ (resV m c) (Fin.ext ?_) (Fin.ext ?_)
  · show _ = win0_8.index t 0 * 256 + 1 * r.val; rw [hi]; show 256 * t.val + r.val = t.val * 256 + 1 * r.val; omega
  · show _ = win0_8.index t 1 * 512 + 1 * e.val; rw [hi]; show e.val = 0 * 512 + 1 * e.val; omega

/-- The index keys and weights are in their array after the run. -/
theorem fin9 : (dats m 0 c).arrAt 9 cfg0.N = ((fun i => resKW m c (i 0) (i 1)) : Vec Ideal S1024x128 .f32) := by
  refine (dats m 0 c).arrAt_eq_of_covers 9 _ (by decide +kernel) fun t hf y => ?_
  blk_simp
  rw [after0_9]
  frame_out
  obtain ⟨r, e, rfl⟩ : ∃ (r : Fin 256) (e : Fin 128), y = ix2 r e := ⟨y 0, y 1, eq_ix2 y⟩
  refine (kw_at m c t r e).trans ?_
  have hi : win0_9.index t = ![t.val, 0] := by obtain ⟨h0, h1, h2, h3, h4, h5, h6, h7, h8, h9, h10, h11, h12, h13, h14, h15, h16, h17, _⟩ := idx t; exact h9
  refine congrArg₂ (resKW m c) (Fin.ext ?_) (Fin.ext ?_)
  · show _ = win0_9.index t 0 * 256 + 1 * r.val; rw [hi]; show 256 * t.val + r.val = t.val * 256 + 1 * r.val; omega
  · show _ = win0_9.index t 1 * 128 + 1 * e.val; rw [hi]; show e.val = 0 * 128 + 1 * e.val; omega

/-- The attention's gates are in their array after the run. -/
theorem fin10 : (dats m 0 c).arrAt 10 cfg0.N = ((fun i => resGA m c (i 0) (i 1)) : Vec Ideal S1024x512 .f32) := by
  refine (dats m 0 c).arrAt_eq_of_covers 10 _ (by decide +kernel) fun t hf y => ?_
  blk_simp
  rw [after0_10]
  frame_out
  obtain ⟨r, e, rfl⟩ : ∃ (r : Fin 256) (e : Fin 512), y = ix2 r e := ⟨y 0, y 1, eq_ix2 y⟩
  refine ((pay23_ix _ _ _ _ _ r e).trans (sum8 m c t r e)).trans ?_
  have hi : win0_10.index t = ![t.val, 0] := by obtain ⟨h0, h1, h2, h3, h4, h5, h6, h7, h8, h9, h10, h11, h12, h13, h14, h15, h16, h17, _⟩ := idx t; exact h10
  refine congrArg₂ (resGA m c) (Fin.ext ?_) (Fin.ext ?_)
  · show _ = win0_10.index t 0 * 256 + 1 * r.val; rw [hi]; show 256 * t.val + r.val = t.val * 256 + 1 * r.val; omega
  · show _ = win0_10.index t 1 * 512 + 1 * e.val; rw [hi]; show e.val = 0 * 512 + 1 * e.val; omega

/-- The recurrence's inputs are in their array after the run. -/
theorem fin11 : (dats m 0 c).arrAt 11 cfg0.N = ((fun i => resU m c (i 0) (i 1)) : Vec Ideal S1024x512 .f32) := by
  refine (dats m 0 c).arrAt_eq_of_covers 11 _ (by decide +kernel) fun t hf y => ?_
  blk_simp
  rw [after0_11]
  frame_out
  obtain ⟨r, e, rfl⟩ : ∃ (r : Fin 256) (e : Fin 512), y = ix2 r e := ⟨y 0, y 1, eq_ix2 y⟩
  refine ((pay2_ix _ _ _ _ _ r e).trans (sum13 m c t r e)).trans ?_
  have hi : win0_11.index t = ![t.val, 0] := by obtain ⟨h0, h1, h2, h3, h4, h5, h6, h7, h8, h9, h10, h11, h12, h13, h14, h15, h16, h17, _⟩ := idx t; exact h11
  refine congrArg₂ (resU m c) (Fin.ext ?_) (Fin.ext ?_)
  · show _ = win0_11.index t 0 * 256 + 1 * r.val; rw [hi]; show 256 * t.val + r.val = t.val * 256 + 1 * r.val; omega
  · show _ = win0_11.index t 1 * 512 + 1 * e.val; rw [hi]; show e.val = 0 * 512 + 1 * e.val; omega

/-- The recurrence's gates are in their array after the run. -/
theorem fin12 : (dats m 0 c).arrAt 12 cfg0.N = ((fun i => resGS m c (i 0) (i 1)) : Vec Ideal S1024x512 .f32) := by
  refine (dats m 0 c).arrAt_eq_of_covers 12 _ (by decide +kernel) fun t hf y => ?_
  blk_simp
  rw [after0_12]
  frame_out
  obtain ⟨r, e, rfl⟩ : ∃ (r : Fin 256) (e : Fin 512), y = ix2 r e := ⟨y 0, y 1, eq_ix2 y⟩
  refine ((pay3_ix _ _ _ _ _ r e).trans (sum14 m c t r e)).trans ?_
  have hi : win0_12.index t = ![t.val, 0] := by obtain ⟨h0, h1, h2, h3, h4, h5, h6, h7, h8, h9, h10, h11, h12, h13, h14, h15, h16, h17, _⟩ := idx t; exact h12
  refine congrArg₂ (resGS m c) (Fin.ext ?_) (Fin.ext ?_)
  · show _ = win0_12.index t 0 * 256 + 1 * r.val; rw [hi]; show 256 * t.val + r.val = t.val * 256 + 1 * r.val; omega
  · show _ = win0_12.index t 1 * 512 + 1 * e.val; rw [hi]; show e.val = 0 * 512 + 1 * e.val; omega

/-- The scaled queries are in their array after the run. -/
theorem fin13 : (dats m 0 c).arrAt 13 cfg0.N = ((fun i => resQ m c (i 0) (i 1)) : Vec Ideal S1024x512 .bf16) := by
  refine (dats m 0 c).arrAt_eq_of_covers 13 _ (by decide +kernel) fun t hf y => ?_
  blk_simp
  rw [after0_13]
  frame_out
  obtain ⟨r, e, rfl⟩ : ∃ (r : Fin 256) (e : Fin 512), y = ix2 r e := ⟨y 0, y 1, eq_ix2 y⟩
  refine (queries_at m c t r e).trans ?_
  have hi : win0_13.index t = ![t.val, 0] := by obtain ⟨h0, h1, h2, h3, h4, h5, h6, h7, h8, h9, h10, h11, h12, h13, h14, h15, h16, h17, _⟩ := idx t; exact h13
  refine congrArg₂ (resQ m c) (Fin.ext ?_) (Fin.ext ?_)
  · show _ = win0_13.index t 0 * 256 + 1 * r.val; rw [hi]; show 256 * t.val + r.val = t.val * 256 + 1 * r.val; omega
  · show _ = win0_13.index t 1 * 512 + 1 * e.val; rw [hi]; show e.val = 0 * 512 + 1 * e.val; omega

/-- The keys at half width are in their array after the run. -/
theorem fin14 : (dats m 0 c).arrAt 14 cfg0.N = ((fun i => resK m c (i 0) (i 1)) : Vec Ideal S1024x512 .bf16) := by
  refine (dats m 0 c).arrAt_eq_of_covers 14 _ (by decide +kernel) fun t hf y => ?_
  blk_simp
  rw [after0_14]
  frame_out
  obtain ⟨r, e, rfl⟩ : ∃ (r : Fin 256) (e : Fin 512), y = ix2 r e := ⟨y 0, y 1, eq_ix2 y⟩
  refine ((pay19_ix _ _ _ _ r e).trans (keys_at m c t r e)).trans ?_
  have hi : win0_14.index t = ![t.val, 0] := by obtain ⟨h0, h1, h2, h3, h4, h5, h6, h7, h8, h9, h10, h11, h12, h13, h14, h15, h16, h17, _⟩ := idx t; exact h14
  refine congrArg₂ (resK m c) (Fin.ext ?_) (Fin.ext ?_)
  · show _ = win0_14.index t 0 * 256 + 1 * r.val; rw [hi]; show 256 * t.val + r.val = t.val * 256 + 1 * r.val; omega
  · show _ = win0_14.index t 1 * 512 + 1 * e.val; rw [hi]; show e.val = 0 * 512 + 1 * e.val; omega

/-- The values at half width are in their array after the run. -/
theorem fin15 : (dats m 0 c).arrAt 15 cfg0.N = ((fun i => resV m c (i 0) (i 1)) : Vec Ideal S1024x512 .bf16) := by
  refine (dats m 0 c).arrAt_eq_of_covers 15 _ (by decide +kernel) fun t hf y => ?_
  blk_simp
  rw [after0_15]
  frame_out
  obtain ⟨r, e, rfl⟩ : ∃ (r : Fin 256) (e : Fin 512), y = ix2 r e := ⟨y 0, y 1, eq_ix2 y⟩
  refine ((pay21_ix _ _ _ _ _ r e).trans (sum7 m c t r e)).trans ?_
  have hi : win0_15.index t = ![t.val, 0] := by obtain ⟨h0, h1, h2, h3, h4, h5, h6, h7, h8, h9, h10, h11, h12, h13, h14, h15, h16, h17, _⟩ := idx t; exact h15
  refine congrArg₂ (resV m c) (Fin.ext ?_) (Fin.ext ?_)
  · show _ = win0_15.index t 0 * 256 + 1 * r.val; rw [hi]; show 256 * t.val + r.val = t.val * 256 + 1 * r.val; omega
  · show _ = win0_15.index t 1 * 512 + 1 * e.val; rw [hi]; show e.val = 0 * 512 + 1 * e.val; omega

/-- The scaled index queries are in their array after the run. -/
theorem fin16 : (dats m 0 c).arrAt 16 cfg0.N = ((fun i => resQI m c (i 0) (i 1)) : Vec Ideal S1024x256 .bf16) := by
  refine (dats m 0 c).arrAt_eq_of_covers 16 _ (by decide +kernel) fun t hf y => ?_
  blk_simp
  rw [after0_16]
  frame_out
  obtain ⟨r, e, rfl⟩ : ∃ (r : Fin 256) (e : Fin 256), y = ix2 r e := ⟨y 0, y 1, eq_ix2 y⟩
  refine ((pay24_ix _ _ _ _ _ r e).trans (congrArg (· * _) (sum9 m c t r e))).trans ?_
  have hi : win0_16.index t = ![t.val, 0] := by obtain ⟨h0, h1, h2, h3, h4, h5, h6, h7, h8, h9, h10, h11, h12, h13, h14, h15, h16, h17, _⟩ := idx t; exact h16
  refine congrArg₂ (resQI m c) (Fin.ext ?_) (Fin.ext ?_)
  · show _ = win0_16.index t 0 * 256 + 1 * r.val; rw [hi]; show 256 * t.val + r.val = t.val * 256 + 1 * r.val; omega
  · show _ = win0_16.index t 1 * 256 + 1 * e.val; rw [hi]; show e.val = 0 * 256 + 1 * e.val; omega

/-- The index keys and weights at half width are in their array after the run. -/
theorem fin17 : (dats m 0 c).arrAt 17 cfg0.N = ((fun i => resKW m c (i 0) (i 1)) : Vec Ideal S1024x128 .bf16) := by
  refine (dats m 0 c).arrAt_eq_of_covers 17 _ (by decide +kernel) fun t hf y => ?_
  blk_simp
  rw [after0_17]
  frame_out
  obtain ⟨r, e, rfl⟩ : ∃ (r : Fin 256) (e : Fin 128), y = ix2 r e := ⟨y 0, y 1, eq_ix2 y⟩
  refine ((pay1_ix _ r e).trans (kw_at m c t r e)).trans ?_
  have hi : win0_17.index t = ![t.val, 0] := by obtain ⟨h0, h1, h2, h3, h4, h5, h6, h7, h8, h9, h10, h11, h12, h13, h14, h15, h16, h17, _⟩ := idx t; exact h17
  refine congrArg₂ (resKW m c) (Fin.ext ?_) (Fin.ext ?_)
  · show _ = win0_17.index t 0 * 256 + 1 * r.val; rw [hi]; show 256 * t.val + r.val = t.val * 256 + 1 * r.val; omega
  · show _ = win0_17.index t 1 * 128 + 1 * e.val; rw [hi]; show e.val = 0 * 128 + 1 * e.val; omega

end Cert.ProjSIdeal.Own
-- ==== Proof.ProjSHost.lean ====
/- What the host part of the sample's projection prepares, entry by entry: the rows, the packed matrix, the head sums, the weights. -/
module

public import proofs.«01_k».proof.Proof.ProjSArr

@[expose] public section

set_option maxRecDepth 65536

noncomputable section

namespace Cert.ProjSIdeal.Own

open Idealize.ShloMosaic Idealize.ShloMosaic.TcCoe Cert.ProjSIdeal Cert.ProjSIdeal.Gen Cert.ProjSIdeal.Value
open Cert.ProjIdeal.Own (hnv prj knorm Fin' hnv_fin fin_mul fin_sum prj_fin prj_zero knorm_eq)
open Cert.ProjRefIdeal.Own (hd)

/-- The identity matrix over the heads. -/
def heads : FVec Ideal S8x8 .f32 :=
  uitofp .f32 (cmpi .eq (addi (iotaInDim S8x8 32 0) (broadcastInDim S8x8 ![] bcast_S_S8x8 (constantI S_ 32 0#32))) (iotaInDim S8x8 32 1))

/-- The head matrix has one on its diagonal and zero elsewhere. -/
theorem heads_ix (a b : Fin 8) : heads (ix2 a b) = if a = b then 1 else 0 := by
  unfold heads
  pointwise
  have h : ∀ a b : Fin 8, IntOp.cmpi CmpIPredicate.eq (IntOp.addi (BitVec.ofNat 32 a.val) 0#32) (BitVec.ofNat 32 b.val) = if a = b then 1#1 else 0#1 := by decide
  rw [h a b]
  split
  · show (((1#1 : BitVec 1).toNat : ℝ) : EReal) = 1
    simp
  · show (((0#1 : BitVec 1).toNat : ℝ) : EReal) = 0
    simp

/-- Every head's square of ones, the rest zero. -/
def spread : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 heads))
    (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant S_ .f32 0x3F800000#32))))) shapeCasts_S8x64x8x64_S512x512) bitsLt_bf16_f32

/-- Entry of the head squares. -/
theorem spread_ix (j e : Fin 512) : spread (ix2 j e) = if j.val / 64 = e.val / 64 then 1 else 0 := by
  have h : spread (ix2 j e) = heads (ix2 ⟨j.val / 64, by omega⟩ ⟨e.val / 64, by omega⟩) * 1 := by
    unfold spread
    pointwise
  rw [h, heads_ix, mul_one]
  exact if_congr (by simp [Fin.ext_iff]) rfl rfl

/-- The packed matrix of a matrix. -/
def pack (W : FVec Ideal S1024x3396 .f32) : FVec Ideal S1024x3456 .bf16 :=
  truncf .bf16 (concatenate S1024x3456 1 [⟨S1024x2372, extractStridedSlice S1024x2372 ![0, 0] W slices_S1024x3396_S1024x2372_0_0⟩,
    ⟨S1024x60, broadcastInDim S1024x60 ![] bcast_S_S1024x60 (constant S_ .f32 0x00000000#32)⟩,
    ⟨S1024x1024, extractStridedSlice S1024x1024 ![0, 2372] W slices_S1024x3396_S1024x1024_0_2372⟩]
    concatenates_S1024x2372_S1024x60_S1024x1024_S1024x3456_d1) bitsLt_bf16_f32

/-- Its columns before the gap. -/
theorem pack_lo (W : FVec Ideal S1024x3396 .f32) (k : Fin 1024) (e : Fin 3456) (h : e.val < 2372) :
    pack W (ix2 k e) = W (ix2 k ⟨e.val, by omega⟩) := by
  unfold pack
  pointwise
  rw [dif_pos h]
/-- The gap's columns. -/
theorem pack_gap (W : FVec Ideal S1024x3396 .f32) (k : Fin 1024) (e : Fin 3456) (h : 2372 ≤ e.val) (h' : e.val < 2432) :
    pack W (ix2 k e) = 0 := by
  unfold pack
  pointwise
  rw [dif_neg (by omega), dif_pos (by omega)]
/-- Its columns after the gap. -/
theorem pack_hi (W : FVec Ideal S1024x3396 .f32) (k : Fin 1024) (e : Fin 3456) (h : 2432 ≤ e.val) :
    pack W (ix2 k e) = W (ix2 k ⟨2372 + (e.val - 2432), by omega⟩) := by
  unfold pack
  pointwise
  rw [dif_neg (by omega), dif_neg (by omega)]
  exact congrArg (fun i => W (ix2 k i)) (Fin.ext (by show 2372 + (e.val - 2372 - 60) = 2372 + (e.val - 2432); omega))

/-- What rounding leaves of the packed matrix. -/
def rest (W : FVec Ideal S1024x3396 .f32) : FVec Ideal S1024x3456 .bf16 :=
  truncf .bf16 (subf (concatenate S1024x3456 1 [⟨S1024x2372, extractStridedSlice S1024x2372 ![0, 0] W slices_S1024x3396_S1024x2372_0_0⟩,
    ⟨S1024x60, broadcastInDim S1024x60 ![] bcast_S_S1024x60 (constant S_ .f32 0x00000000#32)⟩,
    ⟨S1024x1024, extractStridedSlice S1024x1024 ![0, 2372] W slices_S1024x3396_S1024x1024_0_2372⟩]
    concatenates_S1024x2372_S1024x60_S1024x1024_S1024x3456_d1) (extf .f32 (pack W) bitsLt_bf16_f32)) bitsLt_bf16_f32

/-- An entry of it. -/
theorem rest_ix (W : FVec Ideal S1024x3396 .f32) (k : Fin 1024) (e : Fin 3456) : rest W (ix2 k e) = pack W (ix2 k e) - pack W (ix2 k e) := by
  unfold rest pack
  rfl

variable (m : (ℓ : Loc nD τ sig) → Buf (Elt Ideal) ℓ) (c : Dev nD)

/-- The layer's input. -/
def b0 : FVec Ideal S128x8x1024 .f32 := m ((c.tc : Thread nD τ).loc main_arg0)
/-- The norm's weights. -/
def b1 : FVec Ideal S1024 .f32 := m ((c.tc : Thread nD τ).loc main_arg1)
/-- The projection's matrix. -/
def b2 : FVec Ideal S1024x3396 .f32 := m ((c.tc : Thread nD τ).loc main_arg2)
/-- The queries' weights. -/
def b3 : FVec Ideal S64 .f32 := m ((c.tc : Thread nD τ).loc main_arg3)
/-- The keys' weights. -/
def b4 : FVec Ideal S64 .f32 := m ((c.tc : Thread nD τ).loc main_arg4)

/-- The launched head squares are those. -/
theorem lo_eq (j e : Fin 512) : lo m c j e = if j.val / 64 = e.val / 64 then 1 else 0 := by
  refine Eq.trans ?_ (spread_ix j e)
  unfold lo
  refine congrFun ?_ (ix2 j e)
  entry_read
  rfl
/-- The launched matrix is the packed one. -/
theorem lw_eq (k : Fin 1024) (e : Fin 3456) : lw m c k e = pack (b2 m c) (ix2 k e) := by
  unfold lw
  refine congrFun ?_ (ix2 k e)
  entry_read
  rfl
/-- The launched rest is what the packed matrix loses to itself. -/
theorem ll_eq (k : Fin 1024) (e : Fin 3456) : ll m c k e = pack (b2 m c) (ix2 k e) - pack (b2 m c) (ix2 k e) := by
  unfold ll
  refine (congrFun (g := rest (b2 m c)) ?_ (ix2 k e)).trans (rest_ix (b2 m c) k e)
  entry_read
  rfl
/-- The rows laid flat. -/
def flat (x : FVec Ideal S128x8x1024 .f32) : FVec Ideal S1024x1024 .f32 := shapeCast S1024x1024 x shapeCasts_S128x8x1024_S1024x1024
/-- An entry of the flat rows. -/
theorem flat_ix (x : FVec Ideal S128x8x1024 .f32) (n : Fin 1024) (k : Fin 1024) :
    flat x (ix2 n k) = x (ix3 ⟨n.val / 8, by omega⟩ ⟨n.val % 8, by omega⟩ k) := by
  unfold flat
  pointwise
/-- The norm's weights as a row. -/
def wide (g : FVec Ideal S1024 .f32) : FVec Ideal S1x1024 .f32 := shapeCast S1x1024 g shapeCasts_S1024_S1x1024
/-- An entry of that row. -/
theorem wide_ix (g : FVec Ideal S1024 .f32) (k : Fin 1024) : wide g (ix2 0 k) = g (ix1 k) := by
  unfold wide
  pointwise
/-- A head's weights repeated for every head. -/
def rep (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512
/-- An entry of the repeated weights. -/
theorem rep_ix (g : FVec Ideal S64 .f32) (j : Fin 512) : rep g (ix2 0 j) = g (ix1 ⟨j.val % 64, by omega⟩) := by
  unfold rep
  pointwise

/-- The launched rows. -/
theorem lx_eq (n : Fin 1024) (k : Fin 1024) : lx m c n k = b0 m c (ix3 ⟨n.val / 8, by omega⟩ ⟨n.val % 8, by omega⟩ k) := by
  refine Eq.trans ?_ (flat_ix (b0 m c) n k)
  unfold lx
  refine congrFun ?_ (ix2 n k)
  entry_read
  rfl
/-- The launched norm weights. -/
theorem ln_eq (k : Fin 1024) : ln m c k = b1 m c (ix1 k) := by
  refine Eq.trans ?_ (wide_ix (b1 m c) k)
  unfold ln
  refine congrFun ?_ (ix2 0 k)
  entry_read
  rfl
/-- The launched query weights. -/
theorem lq_eq (j : Fin 512) : lq m c j = b3 m c (ix1 ⟨j.val % 64, by omega⟩) := by
  refine Eq.trans ?_ (rep_ix (b3 m c) j)
  unfold lq
  refine congrFun ?_ (ix2 0 j)
  entry_read
  rfl
/-- The launched key weights. -/
theorem lk_eq (j : Fin 512) : lk m c j = b4 m c (ix1 ⟨j.val % 64, by omega⟩) := by
  refine Eq.trans ?_ (rep_ix (b4 m c) j)
  unfold lk
  refine congrFun ?_ (ix2 0 j)
  entry_read
  rfl

end Cert.ProjSIdeal.Own
-- ==== Proof.ProjSRef.lean ====
/- What the sample's plain projection returns, entry by entry. -/
module

public import proofs.«01_k».proof.Proof.ProjMath
public import proofs.«01_k».proof.Proof.Gen.ProjSRefIdeal.Run

@[expose] public section

set_option maxRecDepth 65536

noncomputable section

namespace Cert.ProjSRefIdeal.Own

open Idealize.ShloMosaic Idealize.ShloMosaic.TcCoe Cert.ProjSRefIdeal Cert.ProjSRefIdeal.Gen
open Cert.ProjIdeal.Own (hnv prj knorm Fin' hnv_fin fin_mul fin_sum prj_fin prj_zero knorm_eq)
open Cert.ProjRefIdeal.Own (hd)

/-- The normed rows. -/
def refN (x : FVec Ideal S128x8x1024 .f32) (g : FVec Ideal S1024 .f32) : FVec Ideal S128x8x1024 .f32 :=
  mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))

/-- The projection. -/
def refZ (x : FVec Ideal S128x8x1024 .f32) (g : FVec Ideal S1024 .f32) (w : FVec Ideal S1024x3396 .f32) : FVec Ideal S128x8x3396 .f32 :=
  Host.dotGeneral (F := Ideal) dot_S128x8x1024_S1024x3396_S128x8x3396_2_0_01_1_n_n none (refN x g) w

/-- The norm of the eight heads of a row. -/
def refH (s : FVec Ideal S128x8x512 .f32) (g : FVec Ideal S64 .f32) : FVec Ideal S128x8x8x64 .f32 :=
  mulf (mulf (shapeCast _ s shapeCasts_S128x8x512_S128x8x8x64) (broadcastInDim S128x8x8x64 ![0, 1, 2, 3] bcast_S128x8x8x1_S128x8x8x64_0_1_2_3 (Host.rsqrt (addf (Host.divf (broadcastInDim S128x8x8x1 ![0, 1, 2] bcast_S128x8x8_S128x8x8x1_0_1_2 (Host.reduceAdd (mulf (shapeCast _ s shapeCasts_S128x8x512_S128x8x8x64) (shapeCast _ s shapeCasts_S128x8x512_S128x8x8x64)) (constant S_ .f32 0x00000000#32) reducesTo_S128x8x8x64_S128x8x8_d3 h_S_)) (broadcastInDim S128x8x8x1 ![] bcast_S_S128x8x8x1 (constant S_ .f32 0x42800000#32))) (broadcastInDim S128x8x8x1 ![] bcast_S_S128x8x8x1 (constant S_ .f32 0x358637BD#32)))))) (broadcastInDim S128x8x8x64 ![0, 1, 2, 3] bcast_S1x1x1x64_S128x8x8x64_0_1_2_3 (broadcastInDim S1x1x1x64 ![3] bcast_S64_S1x1x1x64_3 g))

/-- The keys, of the projection. -/
def refK (Z : FVec Ideal S128x8x3396 .f32) (g : FVec Ideal S64 .f32) : FVec Ideal S1024x512 .f32 :=
  shapeCast _ (refH (extractStridedSlice S128x8x512 ![0, 0, 512] Z slices_S128x8x3396_S128x8x512_0_0_512) g) shapeCasts_S128x8x8x64_S1024x512

/-- The scaled queries, of the projection. -/
def refQ (Z : FVec Ideal S128x8x3396 .f32) (g : FVec Ideal S64 .f32) : FVec Ideal S1024x512 .f32 :=
  shapeCast _ (mulf (refH (extractStridedSlice S128x8x512 ![0, 0, 0] Z slices_S128x8x3396_S128x8x512_0_0_0) g) (broadcastInDim S128x8x8x64 ![] bcast_S_S128x8x8x64 (constant S_ .f32 0x3E000000#32))) shapeCasts_S128x8x8x64_S1024x512

/-- The index keys and weights, of the projection. -/
def refKW (Z : FVec Ideal S128x8x3396 .f32) : FVec Ideal S1024x128 .f32 :=
  shapeCast _ (concatenate S128x8x128 2 [⟨S128x8x64, extractStridedSlice S128x8x64 ![0, 0, 2304] Z slices_S128x8x3396_S128x8x64_0_0_2304⟩, ⟨S128x8x4, extractStridedSlice S128x8x4 ![0, 0, 2368] Z slices_S128x8x3396_S128x8x4_0_0_2368⟩, ⟨S128x8x60, (broadcastInDim S128x8x60 ![] bcast_S_S128x8x60 (constant (F := Ideal) S_ .f32 0x00000000#32) : FVec Ideal S128x8x60 .f32)⟩] concatenates_S128x8x64_S128x8x4_S128x8x60_S128x8x128_d2) shapeCasts_S128x8x128_S1024x128

/-- The scaled index queries, of the projection. -/
def refQI (Z : FVec Ideal S128x8x3396 .f32) : FVec Ideal S1024x256 .f32 :=
  shapeCast _ (mulf (extractStridedSlice S128x8x256 ![0, 0, 2048] Z slices_S128x8x3396_S128x8x256_0_0_2048) (broadcastInDim S128x8x256 ![] bcast_S_S128x8x256 (constant S_ .f32 0x3E000000#32))) shapeCasts_S128x8x256_S1024x256

/-- The values, of the projection. -/
def refV (Z : FVec Ideal S128x8x3396 .f32) : FVec Ideal S1024x512 .f32 :=
  shapeCast _ (extractStridedSlice S128x8x512 ![0, 0, 1024] Z slices_S128x8x3396_S128x8x512_0_0_1024) shapeCasts_S128x8x512_S1024x512

/-- The attention's gate, of the projection. -/
def refGA (Z : FVec Ideal S128x8x3396 .f32) : FVec Ideal S1024x512 .f32 :=
  shapeCast _ (extractStridedSlice S128x8x512 ![0, 0, 1536] Z slices_S128x8x3396_S128x8x512_0_0_1536) shapeCasts_S128x8x512_S1024x512

/-- The recurrence's input, of the projection. -/
def refU (Z : FVec Ideal S128x8x3396 .f32) : FVec Ideal S1024x512 .f32 :=
  shapeCast _ (extractStridedSlice S128x8x512 ![0, 0, 2372] Z slices_S128x8x3396_S128x8x512_0_0_2372) shapeCasts_S128x8x512_S1024x512

/-- The recurrence's gate, of the projection. -/
def refGS (Z : FVec Ideal S128x8x3396 .f32) : FVec Ideal S1024x512 .f32 :=
  shapeCast _ (extractStridedSlice S128x8x512 ![0, 0, 2884] Z slices_S128x8x3396_S128x8x512_0_0_2884) shapeCasts_S128x8x512_S1024x512

/-- An entry of the normed rows. -/
theorem refN_ix (x : FVec Ideal S128x8x1024 .f32) (g : FVec Ideal S1024 .f32) (b : Fin 128) (l : Fin 8) (d : Fin 1024) :
    refN x g (ix3 b l d) = hnv (fun k => x (ix3 b l k)) (fun k => g (ix1 k)) d := by
  unfold hnv
  pointwise [refN]

/-- An entry of the projection. -/
theorem refZ_ix (x : FVec Ideal S128x8x1024 .f32) (g : FVec Ideal S1024 .f32) (w : FVec Ideal S1024x3396 .f32) (b : Fin 128) (l : Fin 8) (e : Fin 3396) :
    refZ x g w (ix3 b l e) = prj (fun k => x (ix3 b l k)) (fun k => g (ix1 k)) (fun k => w (ix2 k e)) := by
  have h : refZ x g w (ix3 b l e) = ∑ k : Fin 1024, refN x g (ix3 b l k) * w (ix2 k e) := by
    pointwise [refZ]
  rw [h]
  exact Finset.sum_congr rfl fun k _ => congrArg (fun z => z * w (ix2 k e)) (refN_ix x g b l k)

/-- An entry of a normed head. -/
theorem refH_ix (s : FVec Ideal S128x8x512 .f32) (g : FVec Ideal S64 .f32) (b : Fin 128) (l : Fin 8) (h : Fin 8) (d : Fin 64) :
    refH s g (ix4 b l h d) = hd (fun k => s (ix3 b l ⟨h.val * 64 + k.val, by omega⟩)) (fun k => g (ix1 k)) d := by
  unfold hd
  pointwise [refH]

/-- A row's slice from 0. -/
theorem sl0 (Z : FVec Ideal S128x8x3396 .f32) (b : Fin 128) (l : Fin 8) (e : Fin 512) :
    (extractStridedSlice S128x8x512 ![0, 0, 0] Z slices_S128x8x3396_S128x8x512_0_0_0 : FVec Ideal S128x8x512 .f32) (ix3 b l e) = Z (ix3 b l ⟨0 + e.val, by omega⟩) := by
  pointwise
/-- A row's slice from 512. -/
theorem sl512 (Z : FVec Ideal S128x8x3396 .f32) (b : Fin 128) (l : Fin 8) (e : Fin 512) :
    (extractStridedSlice S128x8x512 ![0, 0, 512] Z slices_S128x8x3396_S128x8x512_0_0_512 : FVec Ideal S128x8x512 .f32) (ix3 b l e) = Z (ix3 b l ⟨512 + e.val, by omega⟩) := by
  pointwise

/-- An entry of the keys. -/
theorem refK_ix (Z : FVec Ideal S128x8x3396 .f32) (g : FVec Ideal S64 .f32) (n : Fin 1024) (e : Fin 512) :
    refK Z g (ix2 n e) = hd (fun k => Z (ix3 ⟨n.val / 8, by omega⟩ ⟨n.val % 8, by omega⟩ ⟨512 + (e.val / 64 * 64 + k.val), by omega⟩)) (fun k => g (ix1 k)) ⟨e.val % 64, by omega⟩ := by
  have h : refK Z g (ix2 n e) = refH (extractStridedSlice S128x8x512 ![0, 0, 512] Z slices_S128x8x3396_S128x8x512_0_0_512) g (ix4 ⟨n.val / 8, by omega⟩ ⟨n.val % 8, by omega⟩ ⟨e.val / 64, by omega⟩ ⟨e.val % 64, by omega⟩) := by
    pointwise [refK]
  rw [h, refH_ix]
  exact congrArg (fun z => hd z _ _) (funext fun k => sl512 Z _ _ _)

/-- An entry of the scaled queries. -/
theorem refQ_ix (Z : FVec Ideal S128x8x3396 .f32) (g : FVec Ideal S64 .f32) (n : Fin 1024) (e : Fin 512) :
    refQ Z g (ix2 n e) = hd (fun k => Z (ix3 ⟨n.val / 8, by omega⟩ ⟨n.val % 8, by omega⟩ ⟨0 + (e.val / 64 * 64 + k.val), by omega⟩)) (fun k => g (ix1 k)) ⟨e.val % 64, by omega⟩ * Ideal.ofBits .f32 0x3E000000#32 := by
  have h : refQ Z g (ix2 n e) = refH (extractStridedSlice S128x8x512 ![0, 0, 0] Z slices_S128x8x3396_S128x8x512_0_0_0) g (ix4 ⟨n.val / 8, by omega⟩ ⟨n.val % 8, by omega⟩ ⟨e.val / 64, by omega⟩ ⟨e.val % 64, by omega⟩) * Ideal.ofBits .f32 0x3E000000#32 := by
    pointwise [refQ]
  rw [h, refH_ix]
  exact congrArg (fun z => hd z _ _ * _) (funext fun k => sl0 Z _ _ _)

/-- An entry of the scaled index queries. -/
theorem refQI_ix (Z : FVec Ideal S128x8x3396 .f32) (n : Fin 1024) (e : Fin 256) :
    refQI Z (ix2 n e) = Z (ix3 ⟨n.val / 8, by omega⟩ ⟨n.val % 8, by omega⟩ ⟨2048 + e.val, by omega⟩) * Ideal.ofBits .f32 0x3E000000#32 := by
  pointwise [refQI]

/-- An entry of the index keys and weights: the first 68 are the projection's, the rest zero. -/
theorem refKW_ix (Z : FVec Ideal S128x8x3396 .f32) (n : Fin 1024) (e : Fin 128) :
    refKW Z (ix2 n e) = if h : e.val < 68 then Z (ix3 ⟨n.val / 8, by omega⟩ ⟨n.val % 8, by omega⟩ ⟨2304 + e.val, by omega⟩) else 0 := by
  pointwise [refKW]
  by_cases h : e.val < 64
  · rw [dif_pos h, dif_pos (by omega)]
  · by_cases h' : e.val - 64 < 4
    · rw [dif_neg h, dif_pos h', dif_pos (by omega)]
      refine congrArg (fun q => Z (ix3 _ _ q)) (Fin.ext ?_)
      show 2368 + (e.val - 64) = 2304 + e.val
      omega
    · rw [dif_neg h, dif_neg h', dif_neg (by omega)]

/-- An entry of the values. -/
theorem refV_ix (Z : FVec Ideal S128x8x3396 .f32) (n : Fin 1024) (e : Fin 512) : refV Z (ix2 n e) = Z (ix3 ⟨n.val / 8, by omega⟩ ⟨n.val % 8, by omega⟩ ⟨1024 + e.val, by omega⟩) := by
  pointwise [refV]

/-- An entry of the attention's gate. -/
theorem refGA_ix (Z : FVec Ideal S128x8x3396 .f32) (n : Fin 1024) (e : Fin 512) : refGA Z (ix2 n e) = Z (ix3 ⟨n.val / 8, by omega⟩ ⟨n.val % 8, by omega⟩ ⟨1536 + e.val, by omega⟩) := by
  pointwise [refGA]

/-- An entry of the recurrence's input. -/
theorem refU_ix (Z : FVec Ideal S128x8x3396 .f32) (n : Fin 1024) (e : Fin 512) : refU Z (ix2 n e) = Z (ix3 ⟨n.val / 8, by omega⟩ ⟨n.val % 8, by omega⟩ ⟨2372 + e.val, by omega⟩) := by
  pointwise [refU]

/-- An entry of the recurrence's gate. -/
theorem refGS_ix (Z : FVec Ideal S128x8x3396 .f32) (n : Fin 1024) (e : Fin 512) : refGS Z (ix2 n e) = Z (ix3 ⟨n.val / 8, by omega⟩ ⟨n.val % 8, by omega⟩ ⟨2884 + e.val, by omega⟩) := by
  pointwise [refGS]

end Cert.ProjSRefIdeal.Own
-- ==== Proof.ProjSEq.lean ====
/- The eleven arrays of the sample's projection are the plain program's. -/
module

public import proofs.«01_k».proof.Proof.ProjSFin
public import proofs.«01_k».proof.Proof.ProjSHost
public import proofs.«01_k».proof.Proof.ProjSRef

@[expose] public section

set_option maxRecDepth 65536

noncomputable section

namespace Cert.ProjSIdeal.Own

open Idealize.ShloMosaic Idealize.ShloMosaic.TcCoe Cert.ProjSIdeal Cert.ProjSIdeal.Gen Cert.ProjSIdeal.Value Cert.ProjSRefIdeal.Own
open Cert.ProjIdeal.Own (hnv prj knorm Fin' hnv_fin fin_mul fin_sum prj_fin prj_zero knorm_eq)
open Cert.ProjRefIdeal.Own (hd)

variable (m : (ℓ : Loc nD τ sig) → Buf (Elt Ideal) ℓ) (c : Dev nD)

/-- The plain projection of the call's arguments. -/
def Z : FVec Ideal Cert.ProjSRefIdeal.S128x8x3396 .f32 := refZ (b0 m c) (b1 m c) (b2 m c)

/-- A real loses nothing to itself. -/
theorem fin_sub {a : EReal} (h : Fin' a) : a - a = 0 := by
  obtain ⟨r, rfl⟩ := h
  rw [← EReal.coe_sub, sub_self, EReal.coe_zero]

/-- Of a real row and a real column, with the parts that rounding leaves, the product in three parts is the product. -/
theorem tri_eq (p w : Fin 1024 → EReal) (hp : ∀ k, Fin' (p k)) (hw : ∀ k, Fin' (w k)) :
    tri p (fun k => p k - p k) w w (fun k => w k - w k) = ∑ k, p k * w k := by
  unfold tri
  rw [Finset.sum_eq_zero (f := fun k => (p k - p k) * w k) fun k _ => by rw [fin_sub (hp k), zero_mul],
    Finset.sum_eq_zero (f := fun k => p k * (w k - w k)) fun k _ => by rw [fin_sub (hw k), mul_zero], add_zero, add_zero]

/-- With a finite matrix the packed one is finite. -/
theorem pack_fin (W : FVec Ideal S1024x3396 .f32) (hw : ∀ (k : Fin 1024) (e : Fin 3396), Fin' (W (ix2 k e))) (k : Fin 1024) (e : Fin 3456) :
    Fin' (pack W (ix2 k e)) := by
  by_cases h : e.val < 2372
  · rw [pack_lo W k e h]
    exact hw k _
  · by_cases h' : e.val < 2432
    · rw [pack_gap W k e (by omega) h']
      exact ⟨0, rfl⟩
    · rw [pack_hi W k e (by omega)]
      exact hw k _

/-- With finite weights a packed entry is the product of the normed row with the packed column. -/
theorem lz_eq (hg : ∀ k : Fin 1024, Fin' (b1 m c (ix1 k))) (hw : ∀ (k : Fin 1024) (e : Fin 3396), Fin' (b2 m c (ix2 k e)))
    (n : Fin 1024) (e : Fin 3456) : lz m c n e
    = prj (fun k => b0 m c (ix3 ⟨n.val / 8, by omega⟩ ⟨n.val % 8, by omega⟩ k)) (fun k => b1 m c (ix1 k)) (fun k => pack (b2 m c) (ix2 k e)) := by
  unfold lz
  rw [show lx m c n = _ from funext fun k => lx_eq m c n k, show ln m c = _ from funext fun k => ln_eq m c k]
  rw [show (fun k => lw m c k e) = _ from funext fun k => lw_eq m c k e, show (fun k => ll m c k e) = _ from funext fun k => ll_eq m c k e]
  exact tri_eq _ _ (fun k => hnv_fin _ _ k (hg k)) fun k => pack_fin (b2 m c) hw k e

/-- Before the gap a packed entry is the plain one. -/
theorem lz_lo (hg : ∀ k : Fin 1024, Fin' (b1 m c (ix1 k))) (hw : ∀ (k : Fin 1024) (e : Fin 3396), Fin' (b2 m c (ix2 k e)))
    (n : Fin 1024) (e : Fin 3456) (h : e.val < 2372) :
    lz m c n e = Z m c (ix3 ⟨n.val / 8, by omega⟩ ⟨n.val % 8, by omega⟩ ⟨e.val, by omega⟩) := by
  refine (lz_eq m c hg hw n e).trans (Eq.trans ?_ (refZ_ix _ _ _ _ _ _).symm)
  exact congrArg (prj _ _) (funext fun k => pack_lo (b2 m c) k e h)
/-- In the gap a packed entry is zero. -/
theorem lz_gap (hg : ∀ k : Fin 1024, Fin' (b1 m c (ix1 k))) (hw : ∀ (k : Fin 1024) (e : Fin 3396), Fin' (b2 m c (ix2 k e)))
    (n : Fin 1024) (e : Fin 3456) (h : 2372 ≤ e.val) (h' : e.val < 2432) : lz m c n e = 0 := by
  refine (lz_eq m c hg hw n e).trans (Eq.trans ?_ (prj_zero (fun k => b0 m c (ix3 ⟨n.val / 8, by omega⟩ ⟨n.val % 8, by omega⟩ k)) (fun k => b1 m c (ix1 k))))
  exact congrArg (prj _ _) (funext fun k => pack_gap (b2 m c) k e h h')
/-- After the gap a packed entry is the plain one of sixty columns before. -/
theorem lz_hi (hg : ∀ k : Fin 1024, Fin' (b1 m c (ix1 k))) (hw : ∀ (k : Fin 1024) (e : Fin 3396), Fin' (b2 m c (ix2 k e)))
    (n : Fin 1024) (e : Fin 3456) (h : 2432 ≤ e.val) :
    lz m c n e = Z m c (ix3 ⟨n.val / 8, by omega⟩ ⟨n.val % 8, by omega⟩ ⟨2372 + (e.val - 2432), by omega⟩) := by
  refine (lz_eq m c hg hw n e).trans (Eq.trans ?_ (refZ_ix _ _ _ _ _ _).symm)
  exact congrArg (prj _ _) (funext fun k => pack_hi (b2 m c) k e h)

/-- With finite weights a packed entry before the gap is a real. -/
theorem lz_fin (hg : ∀ k : Fin 1024, Fin' (b1 m c (ix1 k))) (hw : ∀ (k : Fin 1024) (e : Fin 3396), Fin' (b2 m c (ix2 k e)))
    (n : Fin 1024) (e : Fin 3456) (h : e.val < 2372) : Fin' (lz m c n e) := by
  rw [lz_eq m c hg hw]
  refine prj_fin _ _ _ hg fun k => ?_
  rw [pack_lo (b2 m c) k e h]
  exact hw k _

/-- The keys are the plain program's, when the weights are finite. -/
theorem resK_eq (hg : ∀ k : Fin 1024, Fin' (b1 m c (ix1 k))) (hw : ∀ (k : Fin 1024) (e : Fin 3396), Fin' (b2 m c (ix2 k e))) :
    ((fun i => resK m c (i 0) (i 1)) : Vec Ideal S1024x512 .f32) = refK (Z m c) (b4 m c) := by
  refine funext fun i => ?_
  obtain ⟨n, e, rfl⟩ : ∃ (n : Fin 1024) (e : Fin 512), i = ix2 n e := ⟨i 0, i 1, eq_ix2 i⟩
  refine Eq.trans ?_ (refK_ix _ _ n e).symm
  refine (knorm_eq _ _ _ (fun k => b4 m c (ix1 k)) e (fun j => lz_fin m c hg hw n _ (by show 512 + j.val < 2372; omega)) (lo_eq m c) (lk_eq m c)).trans ?_
  exact congrArg (fun z => hd z _ _) (funext fun k => lz_lo m c hg hw n ⟨512 + (e.val / 64 * 64 + k.val), by omega⟩ (by show 512 + (e.val / 64 * 64 + k.val) < 2372; omega))
/-- The scaled queries are the plain program's, when the weights are finite. -/
theorem resQ_eq (hg : ∀ k : Fin 1024, Fin' (b1 m c (ix1 k))) (hw : ∀ (k : Fin 1024) (e : Fin 3396), Fin' (b2 m c (ix2 k e))) :
    ((fun i => resQ m c (i 0) (i 1)) : Vec Ideal S1024x512 .f32) = refQ (Z m c) (b3 m c) := by
  refine funext fun i => ?_
  obtain ⟨n, e, rfl⟩ : ∃ (n : Fin 1024) (e : Fin 512), i = ix2 n e := ⟨i 0, i 1, eq_ix2 i⟩
  refine Eq.trans ?_ (refQ_ix _ _ n e).symm
  refine congrArg₂ (· * ·) ?_ rfl
  refine (knorm_eq _ _ _ (fun k => b3 m c (ix1 k)) e (fun j => lz_fin m c hg hw n _ (by show 0 + j.val < 2372; omega)) (lo_eq m c) (lq_eq m c)).trans ?_
  exact congrArg (fun z => hd z _ _) (funext fun k => lz_lo m c hg hw n ⟨0 + (e.val / 64 * 64 + k.val), by omega⟩ (by show 0 + (e.val / 64 * 64 + k.val) < 2372; omega))
/-- The values are the plain program's, when the weights are finite. -/
theorem resV_eq (hg : ∀ k : Fin 1024, Fin' (b1 m c (ix1 k))) (hw : ∀ (k : Fin 1024) (e : Fin 3396), Fin' (b2 m c (ix2 k e))) :
    ((fun i => resV m c (i 0) (i 1)) : Vec Ideal S1024x512 .f32) = refV (Z m c) := by
  refine funext fun i => ?_
  obtain ⟨n, e, rfl⟩ : ∃ (n : Fin 1024) (e : Fin 512), i = ix2 n e := ⟨i 0, i 1, eq_ix2 i⟩
  exact (lz_lo m c hg hw n ⟨1024 + e.val, by omega⟩ (by show 1024 + e.val < 2372; omega)).trans (refV_ix _ n e).symm
/-- The attention's gate is the plain program's, when the weights are finite. -/
theorem resGA_eq (hg : ∀ k : Fin 1024, Fin' (b1 m c (ix1 k))) (hw : ∀ (k : Fin 1024) (e : Fin 3396), Fin' (b2 m c (ix2 k e))) :
    ((fun i => resGA m c (i 0) (i 1)) : Vec Ideal S1024x512 .f32) = refGA (Z m c) := by
  refine funext fun i => ?_
  obtain ⟨n, e, rfl⟩ : ∃ (n : Fin 1024) (e : Fin 512), i = ix2 n e := ⟨i 0, i 1, eq_ix2 i⟩
  exact (lz_lo m c hg hw n ⟨1536 + e.val, by omega⟩ (by show 1536 + e.val < 2372; omega)).trans (refGA_ix _ n e).symm
/-- The index keys and weights are the plain program's, when the weights are finite. -/
theorem resKW_eq (hg : ∀ k : Fin 1024, Fin' (b1 m c (ix1 k))) (hw : ∀ (k : Fin 1024) (e : Fin 3396), Fin' (b2 m c (ix2 k e))) :
    ((fun i => resKW m c (i 0) (i 1)) : Vec Ideal S1024x128 .f32) = refKW (Z m c) := by
  refine funext fun i => ?_
  obtain ⟨n, e, rfl⟩ : ∃ (n : Fin 1024) (e : Fin 128), i = ix2 n e := ⟨i 0, i 1, eq_ix2 i⟩
  refine Eq.trans ?_ (refKW_ix _ n e).symm
  by_cases h : e.val < 68
  · rw [dif_pos h]
    exact lz_lo m c hg hw n ⟨2304 + e.val, by omega⟩ (by show 2304 + e.val < 2372; omega)
  · rw [dif_neg h]
    exact lz_gap m c hg hw n ⟨2304 + e.val, by omega⟩ (by show 2372 ≤ 2304 + e.val; omega) (by show 2304 + e.val < 2432; omega)
/-- The scaled index queries are the plain program's, when the weights are finite. -/
theorem resQI_eq (hg : ∀ k : Fin 1024, Fin' (b1 m c (ix1 k))) (hw : ∀ (k : Fin 1024) (e : Fin 3396), Fin' (b2 m c (ix2 k e))) :
    ((fun i => resQI m c (i 0) (i 1)) : Vec Ideal S1024x256 .f32) = refQI (Z m c) := by
  refine funext fun i => ?_
  obtain ⟨n, e, rfl⟩ : ∃ (n : Fin 1024) (e : Fin 256), i = ix2 n e := ⟨i 0, i 1, eq_ix2 i⟩
  refine Eq.trans ?_ (refQI_ix _ n e).symm
  exact congrArg₂ (· * ·) (lz_lo m c hg hw n ⟨2048 + e.val, by omega⟩ (by show 2048 + e.val < 2372; omega)) rfl
/-- The recurrence's input is the plain program's, when the weights are finite. -/
theorem resU_eq (hg : ∀ k : Fin 1024, Fin' (b1 m c (ix1 k))) (hw : ∀ (k : Fin 1024) (e : Fin 3396), Fin' (b2 m c (ix2 k e))) :
    ((fun i => resU m c (i 0) (i 1)) : Vec Ideal S1024x512 .f32) = refU (Z m c) := by
  refine funext fun i => ?_
  obtain ⟨n, e, rfl⟩ : ∃ (n : Fin 1024) (e : Fin 512), i = ix2 n e := ⟨i 0, i 1, eq_ix2 i⟩
  refine (lz_hi m c hg hw n ⟨2432 + e.val, by omega⟩ (by show 2432 ≤ 2432 + e.val; omega)).trans (Eq.trans ?_ (refU_ix _ n e).symm)
  exact congrArg (fun k => Z m c (ix3 _ _ k)) (Fin.ext (by show 2372 + (2432 + e.val - 2432) = 2372 + e.val; omega))
/-- The recurrence's gate is the plain program's, when the weights are finite. -/
theorem resGS_eq (hg : ∀ k : Fin 1024, Fin' (b1 m c (ix1 k))) (hw : ∀ (k : Fin 1024) (e : Fin 3396), Fin' (b2 m c (ix2 k e))) :
    ((fun i => resGS m c (i 0) (i 1)) : Vec Ideal S1024x512 .f32) = refGS (Z m c) := by
  refine funext fun i => ?_
  obtain ⟨n, e, rfl⟩ : ∃ (n : Fin 1024) (e : Fin 512), i = ix2 n e := ⟨i 0, i 1, eq_ix2 i⟩
  refine (lz_hi m c hg hw n ⟨2944 + e.val, by omega⟩ (by show 2432 ≤ 2944 + e.val; omega)).trans (Eq.trans ?_ (refGS_ix _ n e).symm)
  exact congrArg (fun k => Z m c (ix3 _ _ k)) (Fin.ext (by show 2372 + (2944 + e.val - 2432) = 2884 + e.val; omega))

end Cert.ProjSIdeal.Own
-- ==== Proof.ProjSPre.lean ====
/- What the sample's precondition says: the norm's weights and the projection's matrix are finite. -/
module

public import proofs.«01_k».proof.Pre_sample_weights_finite
public import proofs.«01_k».proof.Proof.ProjPre
public import Idealize.ShloMosaic.Lib.ReduceAll

@[expose] public section

set_option maxRecDepth 65536

noncomputable section

namespace Cert.Pre_sample_weights_finite.Own

open Idealize.ShloMosaic Cert.Pre_sample_weights_finite
open Cert.ProjIdeal.Own (Fin')
open Cert.Pre_weights_finite.Own (fin_of_lt)

/-- The shape relations the predicate's operations take. -/
instance facts : Cert.Pre_sample_weights_finite.Facts where
  bcast_S_S1024 := by decide
  reducesTo_S1024_S_d0 := by decide
  h_S_ := by decide
  bcast_S_S1024x3396 := by decide
  reducesTo_S1024x3396_S_d0_1 := by decide

/-- Under the predicate every weight of the norm and every entry of the matrix is a real. -/
theorem finite (x : FVec Ideal S128x8x1024 .f32) (g : FVec Ideal S1024 .f32) (w : FVec Ideal S1024x3396 .f32) (p q : FVec Ideal S64 .f32)
    (h : fn (F := Ideal) x g w p q = fun _ => 1#1) : (∀ k : Fin 1024, Fin' (g (ix1 k))) ∧ ∀ (k : Fin 1024) (e : Fin 3396), Fin' (w (ix2 k e)) := by
  have : Subsingleton S_.Idx := ⟨fun a b => funext fun i => i.elim0⟩
  obtain ⟨h1, h2⟩ := IntOp.andi_eq_one.1 (congrFun h (fun i => i.elim0))
  exact ⟨fun k => fin_of_lt (Host.reduce_andi_all _ _ _ _ _ h1 (ix1 k)), fun k e => fin_of_lt (Host.reduce_andi_all _ _ _ _ _ h2 (ix2 k e))⟩

end Cert.Pre_sample_weights_finite.Own
-- ==== Proof.ProjSClaim.lean ====
/- The claims of the sample's projection: the frames, the step from words to extended reals, and the equation under finite weights. -/
module

public import proofs.«01_k».proof.Defs
public import proofs.«01_k».proof.Proof.ProjSEq
public import proofs.«01_k».proof.Proof.ProjSPre
public import proofs.«01_k».proof.Proof.Gen.ProjS.Frame
public import proofs.«01_k».proof.Proof.Gen.ProjSIdeal.Frame
public import Idealize.ShloMosaic.Lib.Quiescent

@[expose] public section

set_option maxRecDepth 65536

noncomputable section

namespace Cert.Proof.ProjSPart

open Idealize.ShloMosaic Idealize.ShloMosaic.TcCoe Idealize.SL.Sem Cert.ProjSIdeal Cert.ProjSIdeal.Gen Cert.ProjSIdeal.Own Cert.ProjSRefIdeal.Own
open Cert.ProjIdeal.Own (Fin')

/-- The projection ends with its arguments as they were and every counter at zero. -/
theorem frame_kernel : Cert.quiescent_ProjS := fun m ρ _ => Cert.ProjS.Gen.frame m ρ

/-- The projection over extended reals ends with its arguments as they were and every counter at zero. -/
theorem frame_ideal : Cert.quiescent_ProjSIdeal := fun m ρ _ => Cert.ProjSIdeal.Gen.frame m ρ

/-- In particular when the weights are finite. -/
theorem frame_ideal_finite : Cert.quiescent_ProjSIdeal_pre_sample_weights_finite := fun m ρ _ => Cert.ProjSIdeal.Gen.frame m ρ

/-- So does its plain program. -/
theorem frame_reference : Cert.quiescent_ProjSRefIdeal := fun m ρ _ =>
  (θ_run Cert.ProjSRefIdeal.defs _ _).mono (fun r h => ⟨fun c => (h c).2.2.2.2.2.2.2.2.2.2.2,
      Idealize.ShloMosaic.sem_eq_zero_of_no_sems (by decide) r.2⟩)
    (Cert.ProjSRefIdeal.Value.run (F := Ideal) m ρ)

/-- In particular when the weights are finite. -/
theorem frame_reference_finite : Cert.quiescent_ProjSRefIdeal_pre_sample_weights_finite := fun m ρ _ => frame_reference m ρ trivial

/-- The two kernel programs are one text. -/
theorem preserved : Cert.preserves_ProjS_ProjSIdeal := trivial

variable (m : (ℓ : Loc nD τ sig) → Buf (Elt Ideal) ℓ) (c : Dev nD)

/-- The plain scaled queries, rounded. -/
def tQ (z : FVec Ideal Cert.ProjSRefIdeal.S128x8x3396 .f32) (q : FVec Ideal Cert.ProjSRefIdeal.S64 .f32) : FVec Ideal Cert.ProjSRefIdeal.S1024x512 .bf16 :=
  truncf .bf16 (refQ z q) (by decide)
/-- The plain keys, rounded. -/
def tK (z : FVec Ideal Cert.ProjSRefIdeal.S128x8x3396 .f32) (q : FVec Ideal Cert.ProjSRefIdeal.S64 .f32) : FVec Ideal Cert.ProjSRefIdeal.S1024x512 .bf16 :=
  truncf .bf16 (refK z q) (by decide)
/-- The plain values, rounded. -/
def tV (z : FVec Ideal Cert.ProjSRefIdeal.S128x8x3396 .f32) : FVec Ideal Cert.ProjSRefIdeal.S1024x512 .bf16 :=
  truncf .bf16 (refV z) (by decide)
/-- The plain scaled index queries, rounded. -/
def tQI (z : FVec Ideal Cert.ProjSRefIdeal.S128x8x3396 .f32) : FVec Ideal Cert.ProjSRefIdeal.S1024x256 .bf16 :=
  truncf .bf16 (refQI z) (by decide)
/-- The plain index keys and weights, rounded. -/
def tKW (z : FVec Ideal Cert.ProjSRefIdeal.S128x8x3396 .f32) : FVec Ideal Cert.ProjSRefIdeal.S1024x128 .bf16 :=
  truncf .bf16 (refKW z) (by decide)
/-- The keys. -/
def vK : Vec Ideal S1024x512 .f32 := refK (Z m c) (b4 m c)
/-- The values. -/
def vV : Vec Ideal S1024x512 .f32 := refV (Z m c)
/-- The index keys and weights. -/
def vKW : Vec Ideal S1024x128 .f32 := refKW (Z m c)
/-- The attention's gate. -/
def vGA : Vec Ideal S1024x512 .f32 := refGA (Z m c)
/-- The recurrence's input. -/
def vU : Vec Ideal S1024x512 .f32 := refU (Z m c)
/-- The recurrence's gate. -/
def vGS : Vec Ideal S1024x512 .f32 := refGS (Z m c)
/-- The scaled queries, rounded. -/
def rQ : Vec Ideal S1024x512 .bf16 := tQ (Z m c) (b3 m c)
/-- The keys, rounded. -/
def rK : Vec Ideal S1024x512 .bf16 := tK (Z m c) (b4 m c)
/-- The values, rounded. -/
def rV : Vec Ideal S1024x512 .bf16 := tV (Z m c)
/-- The scaled index queries, rounded. -/
def rQI : Vec Ideal S1024x256 .bf16 := tQI (Z m c)
/-- The index keys and weights, rounded. -/
def rKW : Vec Ideal S1024x128 .bf16 := tKW (Z m c)

/-- The weights of the norm and the matrix are finite. -/
def Good : Prop := (∀ k : Fin 1024, Fin' (b1 m c (ix1 k))) ∧ ∀ (k : Fin 1024) (e : Fin 3396), Fin' (b2 m c (ix2 k e))

/-- Result array 1 of the call. -/
theorem arr7 (h : Good m c) : (dats m 0 c).arrAt 7 cfg0.N = vK m c := (fin7 m c).trans (resK_eq m c h.1 h.2)
/-- Result array 2 of the call. -/
theorem arr8 (h : Good m c) : (dats m 0 c).arrAt 8 cfg0.N = vV m c := (fin8 m c).trans (resV_eq m c h.1 h.2)
/-- Result array 3 of the call. -/
theorem arr9 (h : Good m c) : (dats m 0 c).arrAt 9 cfg0.N = vKW m c := (fin9 m c).trans (resKW_eq m c h.1 h.2)
/-- Result array 4 of the call. -/
theorem arr10 (h : Good m c) : (dats m 0 c).arrAt 10 cfg0.N = vGA m c := (fin10 m c).trans (resGA_eq m c h.1 h.2)
/-- Result array 5 of the call. -/
theorem arr11 (h : Good m c) : (dats m 0 c).arrAt 11 cfg0.N = vU m c := (fin11 m c).trans (resU_eq m c h.1 h.2)
/-- Result array 6 of the call. -/
theorem arr12 (h : Good m c) : (dats m 0 c).arrAt 12 cfg0.N = vGS m c := (fin12 m c).trans (resGS_eq m c h.1 h.2)
/-- Result array 7 of the call. -/
theorem arr13 (h : Good m c) : (dats m 0 c).arrAt 13 cfg0.N = rQ m c := (fin13 m c).trans (resQ_eq m c h.1 h.2)
/-- Result array 8 of the call. -/
theorem arr14 (h : Good m c) : (dats m 0 c).arrAt 14 cfg0.N = rK m c := (fin14 m c).trans (resK_eq m c h.1 h.2)
/-- Result array 9 of the call. -/
theorem arr15 (h : Good m c) : (dats m 0 c).arrAt 15 cfg0.N = rV m c := (fin15 m c).trans (resV_eq m c h.1 h.2)
/-- Result array 10 of the call. -/
theorem arr16 (h : Good m c) : (dats m 0 c).arrAt 16 cfg0.N = rQI m c := (fin16 m c).trans (resQI_eq m c h.1 h.2)
/-- Result array 11 of the call. -/
theorem arr17 (h : Good m c) : (dats m 0 c).arrAt 17 cfg0.N = rKW m c := (fin17 m c).trans (resKW_eq m c h.1 h.2)

set_option maxHeartbeats 1000000 in
/-- When the weights are finite, the eleven results of the sample's projection are its plain program's. -/
theorem equal : Cert.algebraic_ProjSIdeal_ProjSRefIdeal_pre_sample_weights_finite := by
  intro m ρ m' ρ' hpre hagree
  have hfin : ∀ c : Dev nD, Good m c := fun c => Cert.Pre_sample_weights_finite.Own.finite _ _ _ _ _ (hpre c)
  refine ⟨fun c => vK m c, fun c => vV m c, fun c => vKW m c, fun c => vGA m c, fun c => vU m c, fun c => vGS m c,
    fun c => rQ m c, fun c => rK m c, fun c => rV m c, fun c => rQI m c, fun c => rKW m c, ?_, ?_⟩
  · refine (θ_run Cert.ProjSIdeal.defs _ _).mono (fun _ h c => ?_) (Cert.ProjSIdeal.Value.run_blocks (F := Ideal) m ρ)
    obtain ⟨h7, h8, h9, h10, h11, h12, h13, h14, h15, h16, h17, hk⟩ := h c
    have hf := hfin c
    exact ⟨h7.trans (arr7 m c hf), h8.trans (arr8 m c hf), h9.trans (arr9 m c hf), h10.trans (arr10 m c hf), h11.trans (arr11 m c hf), h12.trans (arr12 m c hf), h13.trans (arr13 m c hf), h14.trans (arr14 m c hf), h15.trans (arr15 m c hf), h16.trans (arr16 m c hf), h17.trans (arr17 m c hf), hk⟩
  · refine (θ_run Cert.ProjSRefIdeal.defs _ _).mono (fun _ h c => ?_) (Cert.ProjSRefIdeal.Value.run (F := Ideal) m' ρ')
    obtain ⟨e0, e1, e2, e3, e4⟩ := hagree c
    obtain ⟨h0, h1, h2, h3, h4, h5, h6, h7, h8, h9, h10, hk⟩ := h c
    have hZ : refZ (m' ((c.tc : Thread Cert.ProjSRefIdeal.nD Cert.ProjSRefIdeal.τ).loc Cert.ProjSRefIdeal.main_arg0))
        (m' ((c.tc : Thread Cert.ProjSRefIdeal.nD Cert.ProjSRefIdeal.τ).loc Cert.ProjSRefIdeal.main_arg1))
        (m' ((c.tc : Thread Cert.ProjSRefIdeal.nD Cert.ProjSRefIdeal.τ).loc Cert.ProjSRefIdeal.main_arg2)) = Z m c := by
      rw [e0, e1, e2]
      rfl
    exact ⟨h0.trans (congrArg₂ refK hZ e4), h1.trans (congrArg refV hZ), h2.trans (congrArg refKW hZ), h3.trans (congrArg refGA hZ),
      h4.trans (congrArg refU hZ), h5.trans (congrArg refGS hZ), h6.trans (congrArg₂ tQ hZ e3),
      h7.trans (congrArg₂ tK hZ e4), h8.trans (congrArg tV hZ),
      h9.trans (congrArg tQI hZ), h10.trans (congrArg tKW hZ), hk⟩

end Cert.Proof.ProjSPart
-- ==== Proof.ScanSClaim.lean ====
/- The claims of the sample's recurrence: the three frames, and the step from words to extended reals. -/
module

public import proofs.«01_k».proof.Defs
public import proofs.«01_k».proof.Proof.Gen.ScanS.Frame
public import proofs.«01_k».proof.Proof.Gen.ScanSIdeal.Frame
public import proofs.«01_k».proof.Proof.Gen.ScanSRefIdeal.Run
public import Idealize.ShloMosaic.Lib.Quiescent

@[expose] public section

noncomputable section

namespace Cert.Proof.ScanSPart

open Idealize.ShloMosaic Idealize.SL.Sem

/-- The sample's recurrence ends with its arguments as they were and every counter at zero. -/
theorem frame_kernel : Cert.quiescent_ScanS := fun m ρ _ => Cert.ScanS.Gen.frame m ρ

/-- The sample's recurrence over extended reals ends with its arguments as they were and every counter at zero. -/
theorem frame_ideal : Cert.quiescent_ScanSIdeal := fun m ρ _ => Cert.ScanSIdeal.Gen.frame m ρ

/-- So does its plain program. -/
theorem frame_reference : Cert.quiescent_ScanSRefIdeal := fun m ρ _ =>
  (θ_run Cert.ScanSRefIdeal.defs _ _).mono (fun r h => ⟨fun c => (h c).2.2,
      Idealize.ShloMosaic.sem_eq_zero_of_no_sems (by decide) r.2⟩)
    (Cert.ScanSRefIdeal.Value.run (F := Ideal) m ρ)

/-- The two kernel programs are one text. -/
theorem preserved : Cert.preserves_ScanS_ScanSIdeal := trivial

end Cert.Proof.ScanSPart

end
-- ==== Proof.lean ====
module

public import proofs.«01_k».proof.Defs
public import proofs.«01_k».proof.Proof.Gen.ScanS
public import proofs.«01_k».proof.Proof.Gen.ScanS.Skeleton
public import proofs.«01_k».proof.Proof.Gen.ScanS.Loops
public import proofs.«01_k».proof.Proof.Gen.ScanS.Launch
public import proofs.«01_k».proof.Proof.Gen.ScanS.Points
public import proofs.«01_k».proof.Proof.Gen.ScanS.Frame
public import proofs.«01_k».proof.Proof.Gen.ScanSIdeal
public import proofs.«01_k».proof.Proof.Gen.ScanSIdeal.Skeleton
public import proofs.«01_k».proof.Proof.Gen.ScanSIdeal.Loops
public import proofs.«01_k».proof.Proof.Gen.ScanSIdeal.Launch
public import proofs.«01_k».proof.Proof.Gen.ScanSIdeal.Points
public import proofs.«01_k».proof.Proof.Gen.ScanSIdeal.Frame
public import proofs.«01_k».proof.Proof.Gen.ScanSIdeal.Value
public import proofs.«01_k».proof.Proof.Gen.ScanSRefIdeal
public import proofs.«01_k».proof.Proof.Gen.ScanSRefIdeal.Run
public import proofs.«01_k».proof.Proof.Gen.ScanSRefIdeal.Step
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSIdeal.Value
public import proofs.«01_k».proof.Proof.Gen.ProjSRefIdeal
public import proofs.«01_k».proof.Proof.Gen.ProjSRefIdeal.Run
public import proofs.«01_k».proof.Proof.Gen.MergeS
public import proofs.«01_k».proof.Proof.Gen.MergeS.Skeleton
public import proofs.«01_k».proof.Proof.Gen.MergeS.Launch
public import proofs.«01_k».proof.Proof.Gen.MergeS.Points
public import proofs.«01_k».proof.Proof.Gen.MergeS.Frame
public import proofs.«01_k».proof.Proof.Gen.MergeSIdeal
public import proofs.«01_k».proof.Proof.Gen.MergeSIdeal.Skeleton
public import proofs.«01_k».proof.Proof.Gen.MergeSIdeal.Launch
public import proofs.«01_k».proof.Proof.Gen.MergeSIdeal.Points
public import proofs.«01_k».proof.Proof.Gen.MergeSIdeal.Frame
public import proofs.«01_k».proof.Proof.Gen.MergeSIdeal.Value
public import proofs.«01_k».proof.Proof.Gen.MergeSRefIdeal
public import proofs.«01_k».proof.Proof.Gen.MergeSRefIdeal.Run
public import proofs.«01_k».proof.Proof.ScanClaim
public import proofs.«01_k».proof.Proof.MergeClaim
public import proofs.«01_k».proof.Proof.ProjClaim
public import proofs.«01_k».proof.Proof.MergeSClaim
public import proofs.«01_k».proof.Proof.ProjSClaim
public import proofs.«01_k».proof.Proof.ScanSClaim
public import Idealize.ShloMosaic.Adequacy
public import Idealize.ShloMosaic.Init

@[expose] public section

noncomputable section

namespace Cert.Proof

open Idealize.ShloMosaic Idealize.SL.Sem Cert.Kernel

/-- All the claims: the scan's, the prompt's and the sample's projection and merge, and the frames of the sample's scan. -/
theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Merge.Gen.facts, Cert.MergeIdeal.Gen.facts, Cert.MergeRefIdeal.Gen.facts,
  Cert.MergeS.Gen.facts, Cert.MergeSIdeal.Gen.facts, Cert.MergeSRefIdeal.Gen.facts,
  Cert.ProjS.Gen.facts, Cert.ProjSIdeal.Gen.facts, Cert.ProjSRefIdeal.Gen.facts,
  Cert.ScanS.Gen.facts, Cert.ScanSIdeal.Gen.facts, Cert.ScanSRefIdeal.Gen.facts, Cert.Pre_weights_finite.Own.facts, Cert.Pre_sample_weights_finite.Own.facts,
  frame_kernel, frame_kernelIdeal, frame_reference,
  ProjPart.frame_kernel, ProjPart.frame_ideal, ProjPart.frame_ideal_finite, ProjPart.frame_reference, ProjPart.frame_reference_finite,
  MergePart.frame_kernel, MergePart.frame_ideal, MergePart.frame_reference,
  MergeSPart.frame_kernel, MergeSPart.frame_ideal, MergeSPart.frame_reference,
  ProjSPart.frame_kernel, ProjSPart.frame_ideal, ProjSPart.frame_ideal_finite, ProjSPart.frame_reference, ProjSPart.frame_reference_finite,
  ScanSPart.frame_kernel, ScanSPart.frame_ideal, ScanSPart.frame_reference,
  preserved, equal, ProjPart.preserved, ProjPart.equal, MergePart.preserved, MergePart.equal,
  MergeSPart.preserved, MergeSPart.equal, ProjSPart.preserved, ProjSPart.equal,
  ScanSPart.preserved⟩

end Cert.Proof

end
